-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v62) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v80) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v33_0)) (v1 : (c : Dev Cert.Kernel5Ideal.nD) → Buf (Elt Ideal) ((c.tc : Thread Cert.Kernel5Ideal.nD Cert.Kernel5Ideal.τ).loc Cert.Kernel5Ideal.main_v33_1)) (v2 : (c : Dev Cert.Kernel5Ideal.nD) → Buf (Elt Ideal) ((c.tc : Thread Cert.Kernel5Ideal.nD Cert.Kernel5Ideal.τ).loc Cert.Kernel5Ideal.main_v33_2)) (v3 : (c : Dev Cert.Kernel5Ideal.nD) → Buf (Elt Ideal) ((c.tc : Thread Cert.Kernel5Ideal.nD Cert.Kernel5Ideal.τ).loc Cert.Kernel5Ideal.main_v33_3)) (v4 : (c : Dev Cert.Kernel5Ideal.nD) → Buf (Elt Ideal) ((c.tc : Thread Cert.Kernel5Ideal.nD Cert.Kernel5Ideal.τ).loc Cert.Kernel5Ideal.main_v33_4)) (v5 : (c : Dev Cert.Kernel5Ideal.nD) → Buf (Elt Ideal) ((c.tc : Thread Cert.Kernel5Ideal.nD Cert.Kernel5Ideal.τ).loc Cert.Kernel5Ideal.main_v33_5)) (v6 : (c : Dev Cert.Kernel5Ideal.nD) → Buf (Elt Ideal) ((c.tc : Thread Cert.Kernel5Ideal.nD Cert.Kernel5Ideal.τ).loc Cert.Kernel5Ideal.main_v33_6)) (v7 : (c : Dev Cert.Kernel5Ideal.nD) → Buf (Elt Ideal) ((c.tc : Thread Cert.Kernel5Ideal.nD Cert.Kernel5Ideal.τ).loc Cert.Kernel5Ideal.main_v33_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v33_0) = v0 c
          ∧ r.2.mem ((c.tc : Thread Cert.Kernel5Ideal.nD Cert.Kernel5Ideal.τ).loc Cert.Kernel5Ideal.main_v33_1) = v1 c
          ∧ r.2.mem ((c.tc : Thread Cert.Kernel5Ideal.nD Cert.Kernel5Ideal.τ).loc Cert.Kernel5Ideal.main_v33_2) = v2 c
          ∧ r.2.mem ((c.tc : Thread Cert.Kernel5Ideal.nD Cert.Kernel5Ideal.τ).loc Cert.Kernel5Ideal.main_v33_3) = v3 c
          ∧ r.2.mem ((c.tc : Thread Cert.Kernel5Ideal.nD Cert.Kernel5Ideal.τ).loc Cert.Kernel5Ideal.main_v33_4) = v4 c
          ∧ r.2.mem ((c.tc : Thread Cert.Kernel5Ideal.nD Cert.Kernel5Ideal.τ).loc Cert.Kernel5Ideal.main_v33_5) = v5 c
          ∧ r.2.mem ((c.tc : Thread Cert.Kernel5Ideal.nD Cert.Kernel5Ideal.τ).loc Cert.Kernel5Ideal.main_v33_6) = v6 c
          ∧ r.2.mem ((c.tc : Thread Cert.Kernel5Ideal.nD Cert.Kernel5Ideal.τ).loc Cert.Kernel5Ideal.main_v33_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_v52) = v1 c
          ∧ r.2.mem ((c.tc : Thread Cert.Reference5Ideal.nD Cert.Reference5Ideal.τ).loc Cert.Reference5Ideal.main_v59) = v2 c
          ∧ r.2.mem ((c.tc : Thread Cert.Reference5Ideal.nD Cert.Reference5Ideal.τ).loc Cert.Reference5Ideal.main_v66) = v3 c
          ∧ r.2.mem ((c.tc : Thread Cert.Reference5Ideal.nD Cert.Reference5Ideal.τ).loc Cert.Reference5Ideal.main_v117) = v4 c
          ∧ r.2.mem ((c.tc : Thread Cert.Reference5Ideal.nD Cert.Reference5Ideal.τ).loc Cert.Reference5Ideal.main_v126) = v5 c
          ∧ r.2.mem ((c.tc : Thread Cert.Reference5Ideal.nD Cert.Reference5Ideal.τ).loc Cert.Reference5Ideal.main_v165) = v6 c
          ∧ r.2.mem ((c.tc : Thread Cert.Reference5Ideal.nD Cert.Reference5Ideal.τ).loc Cert.Reference5Ideal.main_v174) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x16x64x16384 : Shape := ⟨4, ![2, 16, 64, 16384]⟩
abbrev S2x64x16384 : Shape := ⟨3, ![2, 64, 16384]⟩
abbrev S2x4x1024x256 : Shape := ⟨4, ![2, 4, 1024, 256]⟩
abbrev S2x4x80x1024 : Shape := ⟨4, ![2, 4, 80, 1024]⟩
abbrev S2x4x16384x256 : Shape := ⟨4, ![2, 4, 16384, 256]⟩
abbrev S2x4x32x80x512 : Shape := ⟨5, ![2, 4, 32, 80, 512]⟩
abbrev S2x4x16384x128 : Shape := ⟨4, ![2, 4, 16384, 128]⟩
abbrev S2x4x128x80x128 : Shape := ⟨5, ![2, 4, 128, 80, 128]⟩
abbrev S2x16384x1024 : Shape := ⟨3, ![2, 16384, 1024]⟩
abbrev S1x4x64x256 : Shape := ⟨4, ![1, 4, 64, 256]⟩
abbrev S1x16x256 : Shape := ⟨3, ![1, 16, 256]⟩
abbrev S1x1x1024x256 : Shape := ⟨4, ![1, 1, 1024, 256]⟩
abbrev S1x1x80x1024 : Shape := ⟨4, ![1, 1, 80, 1024]⟩
abbrev S1x1x16384x256 : Shape := ⟨4, ![1, 1, 16384, 256]⟩
abbrev S1x1x32x80x512 : Shape := ⟨5, ![1, 1, 32, 80, 512]⟩
abbrev S1x1x16384x128 : Shape := ⟨4, ![1, 1, 16384, 128]⟩
abbrev S1x1x128x80x128 : Shape := ⟨5, ![1, 1, 128, 80, 128]⟩
abbrev S1x256x256 : Shape := ⟨3, ![1, 256, 256]⟩
abbrev S2x256x1024 : Shape := ⟨3, ![2, 256, 1024]⟩
abbrev S1024x1024 : Shape := ⟨2, ![1024, 1024]⟩
abbrev S2x1024x128 : Shape := ⟨3, ![2, 1024, 128]⟩
abbrev S2x512x1024 : Shape := ⟨3, ![2, 512, 1024]⟩
abbrev S1x1x64x256 : Shape := ⟨4, ![1, 1, 64, 256]⟩
abbrev S64x256 : Shape := ⟨2, ![64, 256]⟩
abbrev S64x1024 : Shape := ⟨2, ![64, 1024]⟩
abbrev S128x1024 : Shape := ⟨2, ![128, 1024]⟩
abbrev S1x1024 : Shape := ⟨2, ![1, 1024]⟩
abbrev S1x256 : Shape := ⟨2, ![1, 256]⟩
abbrev S128x256 : Shape := ⟨2, ![128, 256]⟩
abbrev S256x1024 : Shape := ⟨2, ![256, 1024]⟩
abbrev S32x1 : Shape := ⟨2, ![32, 1]⟩
abbrev S128x1 : Shape := ⟨2, ![128, 1]⟩
abbrev S1x1x128x128 : Shape := ⟨4, ![1, 1, 128, 128]⟩
abbrev S128x128 : Shape := ⟨2, ![128, 128]⟩
abbrev S768x128 : Shape := ⟨2, ![768, 128]⟩
abbrev S768x1024 : Shape := ⟨2, ![768, 1024]⟩
abbrev S1x1x1x80x128 : Shape := ⟨5, ![1, 1, 1, 80, 128]⟩
abbrev S80x128 : Shape := ⟨2, ![80, 128]⟩
abbrev S1024 : Shape := ⟨1, ![1024]⟩
abbrev S80x768 : Shape := ⟨2, ![80, 768]⟩
abbrev S80x1024 : Shape := ⟨2, ![80, 1024]⟩
abbrev S1024x256 : Shape := ⟨2, ![1024, 256]⟩
abbrev S32x1024 : Shape := ⟨2, ![32, 1024]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S256x256 : Shape := ⟨2, ![256, 256]⟩
abbrev S256x1 : Shape := ⟨2, ![256, 1]⟩
abbrev S256 : Shape := ⟨1, ![256]⟩
abbrev S1x256x1024 : Shape := ⟨3, ![1, 256, 1024]⟩
abbrev S1x1x896x256 : Shape := ⟨4, ![1, 1, 896, 256]⟩
abbrev S896x256 : Shape := ⟨2, ![896, 256]⟩
abbrev S896x1024 : Shape := ⟨2, ![896, 1024]⟩
abbrev S1x1x80x896 : Shape := ⟨4, ![1, 1, 80, 896]⟩
abbrev S80x896 : Shape := ⟨2, ![80, 896]⟩
abbrev S896x128 : Shape := ⟨2, ![896, 128]⟩
abbrev S1x896x128 : Shape := ⟨3, ![1, 896, 128]⟩
abbrev S1x224x128 : Shape := ⟨3, ![1, 224, 128]⟩
abbrev S224x128 : Shape := ⟨2, ![224, 128]⟩
abbrev S224x256 : Shape := ⟨2, ![224, 256]⟩
abbrev S224x1 : Shape := ⟨2, ![224, 1]⟩
abbrev S32x256 : Shape := ⟨2, ![32, 256]⟩
abbrev S1x1x768x256 : Shape := ⟨4, ![1, 1, 768, 256]⟩
abbrev S768x256 : Shape := ⟨2, ![768, 256]⟩
abbrev S1x1x80x768 : Shape := ⟨4, ![1, 1, 80, 768]⟩
abbrev S1x768x128 : Shape := ⟨3, ![1, 768, 128]⟩
abbrev S1x192x128 : Shape := ⟨3, ![1, 192, 128]⟩
abbrev S192x128 : Shape := ⟨2, ![192, 128]⟩
abbrev S192x256 : Shape := ⟨2, ![192, 256]⟩
abbrev S192x1 : Shape := ⟨2, ![192, 1]⟩
abbrev S1x1x640x256 : Shape := ⟨4, ![1, 1, 640, 256]⟩
abbrev S640x256 : Shape := ⟨2, ![640, 256]⟩
abbrev S640x1024 : Shape := ⟨2, ![640, 1024]⟩
abbrev S1x1x80x640 : Shape := ⟨4, ![1, 1, 80, 640]⟩
abbrev S80x640 : Shape := ⟨2, ![80, 640]⟩
abbrev S640x128 : Shape := ⟨2, ![640, 128]⟩
abbrev S1x640x128 : Shape := ⟨3, ![1, 640, 128]⟩
abbrev S1x160x128 : Shape := ⟨3, ![1, 160, 128]⟩
abbrev S160x128 : Shape := ⟨2, ![160, 128]⟩
abbrev S160x256 : Shape := ⟨2, ![160, 256]⟩
abbrev S160x1 : Shape := ⟨2, ![160, 1]⟩
abbrev S96x256 : Shape := ⟨2, ![96, 256]⟩
abbrev S1x1x512x256 : Shape := ⟨4, ![1, 1, 512, 256]⟩
abbrev S512x256 : Shape := ⟨2, ![512, 256]⟩
abbrev S512x1024 : Shape := ⟨2, ![512, 1024]⟩
abbrev S1x1x80x512 : Shape := ⟨4, ![1, 1, 80, 512]⟩
abbrev S80x512 : Shape := ⟨2, ![80, 512]⟩
abbrev S512x128 : Shape := ⟨2, ![512, 128]⟩
abbrev S1x512x128 : Shape := ⟨3, ![1, 512, 128]⟩
abbrev S1x128x128 : Shape := ⟨3, ![1, 128, 128]⟩
abbrev S1x1x384x256 : Shape := ⟨4, ![1, 1, 384, 256]⟩
abbrev S384x256 : Shape := ⟨2, ![384, 256]⟩
abbrev S384x1024 : Shape := ⟨2, ![384, 1024]⟩
abbrev S1x1x80x384 : Shape := ⟨4, ![1, 1, 80, 384]⟩
abbrev S80x384 : Shape := ⟨2, ![80, 384]⟩
abbrev S384x128 : Shape := ⟨2, ![384, 128]⟩
abbrev S1x384x128 : Shape := ⟨3, ![1, 384, 128]⟩
abbrev S1x96x128 : Shape := ⟨3, ![1, 96, 128]⟩
abbrev S96x128 : Shape := ⟨2, ![96, 128]⟩
abbrev S96x1 : Shape := ⟨2, ![96, 1]⟩
abbrev S1x1x256x256 : Shape := ⟨4, ![1, 1, 256, 256]⟩
abbrev S1x1x80x256 : Shape := ⟨4, ![1, 1, 80, 256]⟩
abbrev S80x256 : Shape := ⟨2, ![80, 256]⟩
abbrev S1x64x128 : Shape := ⟨3, ![1, 64, 128]⟩
abbrev S64x128 : Shape := ⟨2, ![64, 128]⟩
abbrev S64x1 : Shape := ⟨2, ![64, 1]⟩
abbrev S1x1x128x256 : Shape := ⟨4, ![1, 1, 128, 256]⟩
abbrev S1x1x80x128 : Shape := ⟨4, ![1, 1, 80, 128]⟩
abbrev S1x32x128 : Shape := ⟨3, ![1, 32, 128]⟩
abbrev S32x128 : Shape := ⟨2, ![32, 128]⟩
abbrev S1x512x1024 : Shape := ⟨3, ![1, 512, 1024]⟩
abbrev S1x1x1x80x512 : Shape := ⟨5, ![1, 1, 1, 80, 512]⟩
abbrev S512x1 : Shape := ⟨2, ![512, 1]⟩
abbrev S16x256 : Shape := ⟨2, ![16, 256]⟩

abbrev nBuf : Space → Nat
  | .hbm => 9
  | .vmem => 17
  | .smem => 0
  | _ => 0

abbrev bufTy : (tb : Table) → Fin (tcTables nBuf tb) → BufTy
  | .hbm, ⟨0, _⟩ => ⟨S2x16x64x16384, .bf16⟩
  | .hbm, ⟨1, _⟩ => ⟨S2x64x16384, .f32⟩
  | .hbm, ⟨2, _⟩ => ⟨S2x4x1024x256, .bf16⟩
  | .hbm, ⟨3, _⟩ => ⟨S2x4x80x1024, .bf16⟩
  | .hbm, ⟨4, _⟩ => ⟨S2x4x16384x256, .bf16⟩
  | .hbm, ⟨5, _⟩ => ⟨S2x4x32x80x512, .bf16⟩
  | .hbm, ⟨6, _⟩ => ⟨S2x4x16384x128, .bf16⟩
  | .hbm, ⟨7, _⟩ => ⟨S2x4x128x80x128, .bf16⟩
  | .hbm, ⟨8, _⟩ => ⟨S2x16384x1024, .f32⟩
  | .local _ .vmem, ⟨0, _⟩ => ⟨S1x4x64x256, .bf16⟩
  | .local _ .vmem, ⟨1, _⟩ => ⟨S1x4x64x256, .bf16⟩
  | .local _ .vmem, ⟨2, _⟩ => ⟨S1x16x256, .f32⟩
  | .local _ .vmem, ⟨3, _⟩ => ⟨S1x16x256, .f32⟩
  | .local _ .vmem, ⟨4, _⟩ => ⟨S1x1x1024x256, .bf16⟩
  | .local _ .vmem, ⟨5, _⟩ => ⟨S1x1x1024x256, .bf16⟩
  | .local _ .vmem, ⟨6, _⟩ => ⟨S1x1x80x1024, .bf16⟩
  | .local _ .vmem, ⟨7, _⟩ => ⟨S1x1x16384x256, .bf16⟩
  | .local _ .vmem, ⟨8, _⟩ => ⟨S1x1x32x80x512, .bf16⟩
  | .local _ .vmem, ⟨9, _⟩ => ⟨S1x1x16384x128, .bf16⟩
  | .local _ .vmem, ⟨10, _⟩ => ⟨S1x1x128x80x128, .bf16⟩
  | .local _ .vmem, ⟨11, _⟩ => ⟨S1x256x256, .f32⟩
  | .local _ .vmem, ⟨12, _⟩ => ⟨S1x256x256, .f32⟩
  | .local _ .vmem, ⟨13, _⟩ => ⟨S2x256x1024, .bf16⟩
  | .local _ .vmem, ⟨14, _⟩ => ⟨S1024x1024, .f32⟩
  | .local _ .vmem, ⟨15, _⟩ => ⟨S2x1024x128, .f32⟩
  | .local _ .vmem, ⟨16, _⟩ => ⟨S2x512x1024, .f32⟩
  | _, _ => ⟨S2x16x64x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 4, 64], ![false, false, false]⟩

def k0_mult1 (i : grid0.Coords) : BitVec 32 :=
  let arg2 : BitVec 32 := BitVec.ofNat 32 (i 2).val
  let c1_i32_24 : BitVec 32 := 1#32
  let v67 : BitVec 32 := Scalar.subi arg2 c1_i32_24
  let c0_i32_25 : BitVec 32 := 0#32
  let v68 : BitVec 32 := Scalar.maxsi v67 c0_i32_25
  let c16_i32 : BitVec 32 := 16#32
  let v69 : BitVec 32 := Scalar.muli v68 c16_i32
  v69
def k0_mult2 (i : grid0.Coords) : BitVec 32 :=
  let arg2 : BitVec 32 := BitVec.ofNat 32 (i 2).val
  let c1_i32_26 : BitVec 32 := 1#32
  let v75 : BitVec 32 := Scalar.addi arg2 c1_i32_26
  let c2_i32 : BitVec 32 := 2#32
  let v76 : BitVec 32 := Scalar.muli v75 c2_i32
  let c6_i32 : BitVec 32 := 6#32
  let v77 : BitVec 32 := Scalar.subi v76 c6_i32
  let c0_i32_27 : BitVec 32 := 0#32
  let v78 : BitVec 32 := Scalar.addi v77 c0_i32_27
  let c0_i32_28 : BitVec 32 := 0#32
  let v79 : BitVec 32 := Scalar.maxsi v78 c0_i32_28
  let c128_i32 : BitVec 32 := 128#32
  let v90 : BitVec 32 := Scalar.muli v79 c128_i32
  v90
def k0_off1 (i : grid0.Coords) (c0_i32_27 : BitVec 32) : Fin 4 → Nat :=
  let c0_36 : Index := 0#32
  let c0_37 : Index := 0#32
  let arg2 : BitVec 32 := BitVec.ofNat 32 (i 2).val
  let c1_i32_26 : BitVec 32 := 1#32
  let v75 : BitVec 32 := Scalar.addi arg2 c1_i32_26
  let c2_i32 : BitVec 32 := 2#32
  let v76 : BitVec 32 := Scalar.muli v75 c2_i32
  let c6_i32 : BitVec 32 := 6#32
  let v77 : BitVec 32 := Scalar.subi v76 c6_i32
  let v78 : BitVec 32 := Scalar.addi v77 c0_i32_27
  let c0_i32_28 : BitVec 32 := 0#32
  let v79 : BitVec 32 := Scalar.maxsi v78 c0_i32_28
  let c128_i32 : BitVec 32 := 128#32
  let v90 : BitVec 32 := Scalar.muli v79 c128_i32
  let v91 : BitVec 32 := v90
  let v92 : Index := Scalar.indexCast v91
  let c0_38 : Index := 0#32
  ![0, 0, v92.toNat, 0]
def k0_mult3 (i : grid0.Coords) : BitVec 32 :=
  let arg2 : BitVec 32 := BitVec.ofNat 32 (i 2).val
  let c1_i32_26 : BitVec 32 := 1#32
  let v75 : BitVec 32 := Scalar.addi arg2 c1_i32_26
  let c2_i32 : BitVec 32 := 2#32
  let v76 : BitVec 32 := Scalar.muli v75 c2_i32
  let c6_i32 : BitVec 32 := 6#32
  let v77 : BitVec 32 := Scalar.subi v76 c6_i32
  let c1_i32_29 : BitVec 32 := 1#32
  let v80 : BitVec 32 := Scalar.addi v77 c1_i32_29
  let c0_i32_30 : BitVec 32 := 0#32
  let v81 : BitVec 32 := Scalar.maxsi v80 c0_i32_30
  let c128_i32_39 : BitVec 32 := 128#32
  let v95 : BitVec 32 := Scalar.muli v81 c128_i32_39
  v95
def k0_mult4 (i : grid0.Coords) : BitVec 32 :=
  let arg2 : BitVec 32 := BitVec.ofNat 32 (i 2).val
  let c1_i32_26 : BitVec 32 := 1#32
  let v75 : BitVec 32 := Scalar.addi arg2 c1_i32_26
  let c2_i32 : BitVec 32 := 2#32
  let v76 : BitVec 32 := Scalar.muli v75 c2_i32
  let c6_i32 : BitVec 32 := 6#32
  let v77 : BitVec 32 := Scalar.subi v76 c6_i32
  let c2_i32_31 : BitVec 32 := 2#32
  let v82 : BitVec 32 := Scalar.addi v77 c2_i32_31
  let c0_i32_32 : BitVec 32 := 0#32
  let v83 : BitVec 32 := Scalar.maxsi v82 c0_i32_32
  let c128_i32_43 : BitVec 32 := 128#32
  let v100 : BitVec 32 := Scalar.muli v83 c128_i32_43
  v100
def k0_mult5 (i : grid0.Coords) : BitVec 32 :=
  let arg2 : BitVec 32 := BitVec.ofNat 32 (i 2).val
  let c1_i32_26 : BitVec 32 := 1#32
  let v75 : BitVec 32 := Scalar.addi arg2 c1_i32_26
  let c2_i32 : BitVec 32 := 2#32
  let v76 : BitVec 32 := Scalar.muli v75 c2_i32
  let c6_i32 : BitVec 32 := 6#32
  let v77 : BitVec 32 := Scalar.subi v76 c6_i32
  let c3_i32 : BitVec 32 := 3#32
  let v84 : BitVec 32 := Scalar.addi v77 c3_i32
  let c0_i32_33 : BitVec 32 := 0#32
  let v85 : BitVec 32 := Scalar.maxsi v84 c0_i32_33
  let c128_i32_47 : BitVec 32 := 128#32
  let v105 : BitVec 32 := Scalar.muli v85 c128_i32_47
  v105
def k0_mult6 (i : grid0.Coords) : BitVec 32 :=
  let arg2 : BitVec 32 := BitVec.ofNat 32 (i 2).val
  let c1_i32_26 : BitVec 32 := 1#32
  let v75 : BitVec 32 := Scalar.addi arg2 c1_i32_26
  let c2_i32 : BitVec 32 := 2#32
  let v76 : BitVec 32 := Scalar.muli v75 c2_i32
  let c6_i32 : BitVec 32 := 6#32
  let v77 : BitVec 32 := Scalar.subi v76 c6_i32
  let c4_i32 : BitVec 32 := 4#32
  let v86 : BitVec 32 := Scalar.addi v77 c4_i32
  let c0_i32_34 : BitVec 32 := 0#32
  let v87 : BitVec 32 := Scalar.maxsi v86 c0_i32_34
  let c128_i32_51 : BitVec 32 := 128#32
  let v110 : BitVec 32 := Scalar.muli v87 c128_i32_51
  v110
def k0_mult7 (i : grid0.Coords) : BitVec 32 :=
  let arg2 : BitVec 32 := BitVec.ofNat 32 (i 2).val
  let c1_i32_26 : BitVec 32 := 1#32
  let v75 : BitVec 32 := Scalar.addi arg2 c1_i32_26
  let c2_i32 : BitVec 32 := 2#32
  let v76 : BitVec 32 := Scalar.muli v75 c2_i32
  let c6_i32 : BitVec 32 := 6#32
  let v77 : BitVec 32 := Scalar.subi v76 c6_i32
  let c5_i32 : BitVec 32 := 5#32
  let v88 : BitVec 32 := Scalar.addi v77 c5_i32
  let c0_i32_35 : BitVec 32 := 0#32
  let v89 : BitVec 32 := Scalar.maxsi v88 c0_i32_35
  let c128_i32_55 : BitVec 32 := 128#32
  let v115 : BitVec 32 := Scalar.muli v89 c128_i32_55
  v115
def k0_off2 (i : grid0.Coords) (c0_i32_27 : BitVec 32) : Fin 5 → Nat :=
  let c0_63 : Index := 0#32
  let c0_64 : Index := 0#32
  let arg2 : BitVec 32 := BitVec.ofNat 32 (i 2).val
  let c1_i32_26 : BitVec 32 := 1#32
  let v75 : BitVec 32 := Scalar.addi arg2 c1_i32_26
  let c2_i32 : BitVec 32 := 2#32
  let v76 : BitVec 32 := Scalar.muli v75 c2_i32
  let c6_i32 : BitVec 32 := 6#32
  let v77 : BitVec 32 := Scalar.subi v76 c6_i32
  let v78 : BitVec 32 := Scalar.addi v77 c0_i32_27
  let c0_i32_28 : BitVec 32 := 0#32
  let v79 : BitVec 32 := Scalar.maxsi v78 c0_i32_28
  let v136 : Index := Scalar.indexCast v79
  let c0_65 : Index := 0#32
  let c0_66 : Index := 0#32
  ![0, 0, v136.toNat, 0, 0]
def k0_cond1 (i : grid0.Coords) : BitVec 1 :=
  let arg2 : BitVec 32 := BitVec.ofNat 32 (i 2).val
  let c0_i32_114 : BitVec 32 := 0#32
  let v251 : BitVec 1 := Scalar.cmpi .sgt arg2 c0_i32_114
  let v252 : BitVec 32 := Scalar.extui v251
  let c0_i32_115 : BitVec 32 := 0#32
  let v253 : BitVec 1 := Scalar.cmpi .slt arg2 c0_i32_115
  let v254 : BitVec 32 := Scalar.extui v253
  let v255 : BitVec 32 := Scalar.subi v252 v254
  let c8_i32 : BitVec 32 := 8#32
  let c0_i32_116 : BitVec 32 := 0#32
  let v256 : BitVec 1 := Scalar.cmpi .sgt c8_i32 c0_i32_116
  let v257 : BitVec 32 := Scalar.extui v256
  let c0_i32_117 : BitVec 32 := 0#32
  let v258 : BitVec 1 := Scalar.cmpi .slt c8_i32 c0_i32_117
  let v259 : BitVec 32 := Scalar.extui v258
  let v260 : BitVec 32 := Scalar.subi v257 v259
  let v261 : BitVec 1 := Scalar.cmpi .ne v255 v260
  let v262 : BitVec 32 := Scalar.remsi arg2 c8_i32
  let c0_i32_118 : BitVec 32 := 0#32
  let v263 : BitVec 1 := Scalar.cmpi .ne v262 c0_i32_118
  let v264 : BitVec 1 := Scalar.andi v261 v263
  let v250 : BitVec 32 := Scalar.divsi arg2 c8_i32
  let c1_i32_119 : BitVec 32 := 1#32
  let v265 : BitVec 32 := Scalar.subi v250 c1_i32_119
  let v266 : BitVec 32 := Scalar.select v264 v265 v250
  let c0_i32_120 : BitVec 32 := 0#32
  let v267 : BitVec 32 := Scalar.maxsi v266 c0_i32_120
  let c7_i32 : BitVec 32 := 7#32
  let v268 : BitVec 32 := Scalar.minsi v267 c7_i32
  let c0_i32_121 : BitVec 32 := 0#32
  let v269 : BitVec 1 := Scalar.cmpi .ne v268 c0_i32_121
  v269

def k0_cond2 (i : grid0.Coords) : BitVec 1 :=
  let arg2 : BitVec 32 := BitVec.ofNat 32 (i 2).val
  let c0_i32_114 : BitVec 32 := 0#32
  let v251 : BitVec 1 := Scalar.cmpi .sgt arg2 c0_i32_114
  let v252 : BitVec 32 := Scalar.extui v251
  let c0_i32_115 : BitVec 32 := 0#32
  let v253 : BitVec 1 := Scalar.cmpi .slt arg2 c0_i32_115
  let v254 : BitVec 32 := Scalar.extui v253
  let v255 : BitVec 32 := Scalar.subi v252 v254
  let c8_i32 : BitVec 32 := 8#32
  let c0_i32_116 : BitVec 32 := 0#32
  let v256 : BitVec 1 := Scalar.cmpi .sgt c8_i32 c0_i32_116
  let v257 : BitVec 32 := Scalar.extui v256
  let c0_i32_117 : BitVec 32 := 0#32
  let v258 : BitVec 1 := Scalar.cmpi .slt c8_i32 c0_i32_117
  let v259 : BitVec 32 := Scalar.extui v258
  let v260 : BitVec 32 := Scalar.subi v257 v259
  let v261 : BitVec 1 := Scalar.cmpi .ne v255 v260
  let v262 : BitVec 32 := Scalar.remsi arg2 c8_i32
  let c0_i32_118 : BitVec 32 := 0#32
  let v263 : BitVec 1 := Scalar.cmpi .ne v262 c0_i32_118
  let v264 : BitVec 1 := Scalar.andi v261 v263
  let v250 : BitVec 32 := Scalar.divsi arg2 c8_i32
  let c1_i32_119 : BitVec 32 := 1#32
  let v265 : BitVec 32 := Scalar.subi v250 c1_i32_119
  let v266 : BitVec 32 := Scalar.select v264 v265 v250
  let c0_i32_120 : BitVec 32 := 0#32
  let v267 : BitVec 32 := Scalar.maxsi v266 c0_i32_120
  let c7_i32 : BitVec 32 := 7#32
  let v268 : BitVec 32 := Scalar.minsi v267 c7_i32
  let c1_i32_193 : BitVec 32 := 1#32
  let v469 : BitVec 32 := Scalar.subi v268 c1_i32_193
  let c0_i32_194 : BitVec 32 := 0#32
  let v470 : BitVec 1 := Scalar.cmpi .ne v469 c0_i32_194
  v470

def k0_cond3 (i : grid0.Coords) : BitVec 1 :=
  let arg2 : BitVec 32 := BitVec.ofNat 32 (i 2).val
  let c0_i32_114 : BitVec 32 := 0#32
  let v251 : BitVec 1 := Scalar.cmpi .sgt arg2 c0_i32_114
  let v252 : BitVec 32 := Scalar.extui v251
  let c0_i32_115 : BitVec 32 := 0#32
  let v253 : BitVec 1 := Scalar.cmpi .slt arg2 c0_i32_115
  let v254 : BitVec 32 := Scalar.extui v253
  let v255 : BitVec 32 := Scalar.subi v252 v254
  let c8_i32 : BitVec 32 := 8#32
  let c0_i32_116 : BitVec 32 := 0#32
  let v256 : BitVec 1 := Scalar.cmpi .sgt c8_i32 c0_i32_116
  let v257 : BitVec 32 := Scalar.extui v256
  let c0_i32_117 : BitVec 32 := 0#32
  let v258 : BitVec 1 := Scalar.cmpi .slt c8_i32 c0_i32_117
  let v259 : BitVec 32 := Scalar.extui v258
  let v260 : BitVec 32 := Scalar.subi v257 v259
  let v261 : BitVec 1 := Scalar.cmpi .ne v255 v260
  let v262 : BitVec 32 := Scalar.remsi arg2 c8_i32
  let c0_i32_118 : BitVec 32 := 0#32
  let v263 : BitVec 1 := Scalar.cmpi .ne v262 c0_i32_118
  let v264 : BitVec 1 := Scalar.andi v261 v263
  let v250 : BitVec 32 := Scalar.divsi arg2 c8_i32
  let c1_i32_119 : BitVec 32 := 1#32
  let v265 : BitVec 32 := Scalar.subi v250 c1_i32_119
  let v266 : BitVec 32 := Scalar.select v264 v265 v250
  let c0_i32_120 : BitVec 32 := 0#32
  let v267 : BitVec 32 := Scalar.maxsi v266 c0_i32_120
  let c7_i32 : BitVec 32 := 7#32
  let v268 : BitVec 32 := Scalar.minsi v267 c7_i32
  let c1_i32_193 : BitVec 32 := 1#32
  let v469 : BitVec 32 := Scalar.subi v268 c1_i32_193
  let c1_i32_195 : BitVec 32 := 1#32
  let v472 : BitVec 32 := Scalar.subi v469 c1_i32_195
  let c0_i32_196 : BitVec 32 := 0#32
  let v473 : BitVec 1 := Scalar.cmpi .ne v472 c0_i32_196
  v473

def k0_cond4 (i : grid0.Coords) : BitVec 1 :=
  let arg2 : BitVec 32 := BitVec.ofNat 32 (i 2).val
  let c0_i32_114 : BitVec 32 := 0#32
  let v251 : BitVec 1 := Scalar.cmpi .sgt arg2 c0_i32_114
  let v252 : BitVec 32 := Scalar.extui v251
  let c0_i32_115 : BitVec 32 := 0#32
  let v253 : BitVec 1 := Scalar.cmpi .slt arg2 c0_i32_115
  let v254 : BitVec 32 := Scalar.extui v253
  let v255 : BitVec 32 := Scalar.subi v252 v254
  let c8_i32 : BitVec 32 := 8#32
  let c0_i32_116 : BitVec 32 := 0#32
  let v256 : BitVec 1 := Scalar.cmpi .sgt c8_i32 c0_i32_116
  let v257 : BitVec 32 := Scalar.extui v256
  let c0_i32_117 : BitVec 32 := 0#32
  let v258 : BitVec 1 := Scalar.cmpi .slt c8_i32 c0_i32_117
  let v259 : BitVec 32 := Scalar.extui v258
  let v260 : BitVec 32 := Scalar.subi v257 v259
  let v261 : BitVec 1 := Scalar.cmpi .ne v255 v260
  let v262 : BitVec 32 := Scalar.remsi arg2 c8_i32
  let c0_i32_118 : BitVec 32 := 0#32
  let v263 : BitVec 1 := Scalar.cmpi .ne v262 c0_i32_118
  let v264 : BitVec 1 := Scalar.andi v261 v263
  let v250 : BitVec 32 := Scalar.divsi arg2 c8_i32
  let c1_i32_119 : BitVec 32 := 1#32
  let v265 : BitVec 32 := Scalar.subi v250 c1_i32_119
  let v266 : BitVec 32 := Scalar.select v264 v265 v250
  let c0_i32_120 : BitVec 32 := 0#32
  let v267 : BitVec 32 := Scalar.maxsi v266 c0_i32_120
  let c7_i32 : BitVec 32 := 7#32
  let v268 : BitVec 32 := Scalar.minsi v267 c7_i32
  let c1_i32_193 : BitVec 32 := 1#32
  let v469 : BitVec 32 := Scalar.subi v268 c1_i32_193
  let c1_i32_195 : BitVec 32 := 1#32
  let v472 : BitVec 32 := Scalar.subi v469 c1_i32_195
  let c1_i32_197 : BitVec 32 := 1#32
  let v475 : BitVec 32 := Scalar.subi v472 c1_i32_197
  let c0_i32_198 : BitVec 32 := 0#32
  let v476 : BitVec 1 := Scalar.cmpi .ne v475 c0_i32_198
  v476

def k0_cond5 (i : grid0.Coords) : BitVec 1 :=
  let arg2 : BitVec 32 := BitVec.ofNat 32 (i 2).val
  let c0_i32_114 : BitVec 32 := 0#32
  let v251 : BitVec 1 := Scalar.cmpi .sgt arg2 c0_i32_114
  let v252 : BitVec 32 := Scalar.extui v251
  let c0_i32_115 : BitVec 32 := 0#32
  let v253 : BitVec 1 := Scalar.cmpi .slt arg2 c0_i32_115
  let v254 : BitVec 32 := Scalar.extui v253
  let v255 : BitVec 32 := Scalar.subi v252 v254
  let c8_i32 : BitVec 32 := 8#32
  let c0_i32_116 : BitVec 32 := 0#32
  let v256 : BitVec 1 := Scalar.cmpi .sgt c8_i32 c0_i32_116
  let v257 : BitVec 32 := Scalar.extui v256
  let c0_i32_117 : BitVec 32 := 0#32
  let v258 : BitVec 1 := Scalar.cmpi .slt c8_i32 c0_i32_117
  let v259 : BitVec 32 := Scalar.extui v258
  let v260 : BitVec 32 := Scalar.subi v257 v259
  let v261 : BitVec 1 := Scalar.cmpi .ne v255 v260
  let v262 : BitVec 32 := Scalar.remsi arg2 c8_i32
  let c0_i32_118 : BitVec 32 := 0#32
  let v263 : BitVec 1 := Scalar.cmpi .ne v262 c0_i32_118
  let v264 : BitVec 1 := Scalar.andi v261 v263
  let v250 : BitVec 32 := Scalar.divsi arg2 c8_i32
  let c1_i32_119 : BitVec 32 := 1#32
  let v265 : BitVec 32 := Scalar.subi v250 c1_i32_119
  let v266 : BitVec 32 := Scalar.select v264 v265 v250
  let c0_i32_120 : BitVec 32 := 0#32
  let v267 : BitVec 32 := Scalar.maxsi v266 c0_i32_120
  let c7_i32 : BitVec 32 := 7#32
  let v268 : BitVec 32 := Scalar.minsi v267 c7_i32
  let c1_i32_193 : BitVec 32 := 1#32
  let v469 : BitVec 32 := Scalar.subi v268 c1_i32_193
  let c1_i32_195 : BitVec 32 := 1#32
  let v472 : BitVec 32 := Scalar.subi v469 c1_i32_195
  let c1_i32_197 : BitVec 32 := 1#32
  let v475 : BitVec 32 := Scalar.subi v472 c1_i32_197
  let c1_i32_199 : BitVec 32 := 1#32
  let v478 : BitVec 32 := Scalar.subi v475 c1_i32_199
  let c0_i32_200 : BitVec 32 := 0#32
  let v479 : BitVec 1 := Scalar.cmpi .ne v478 c0_i32_200
  v479

def k0_cond6 (i : grid0.Coords) : BitVec 1 :=
  let arg2 : BitVec 32 := BitVec.ofNat 32 (i 2).val
  let c0_i32_114 : BitVec 32 := 0#32
  let v251 : BitVec 1 := Scalar.cmpi .sgt arg2 c0_i32_114
  let v252 : BitVec 32 := Scalar.extui v251
  let c0_i32_115 : BitVec 32 := 0#32
  let v253 : BitVec 1 := Scalar.cmpi .slt arg2 c0_i32_115
  let v254 : BitVec 32 := Scalar.extui v253
  let v255 : BitVec 32 := Scalar.subi v252 v254
  let c8_i32 : BitVec 32 := 8#32
  let c0_i32_116 : BitVec 32 := 0#32
  let v256 : BitVec 1 := Scalar.cmpi .sgt c8_i32 c0_i32_116
  let v257 : BitVec 32 := Scalar.extui v256
  let c0_i32_117 : BitVec 32 := 0#32
  let v258 : BitVec 1 := Scalar.cmpi .slt c8_i32 c0_i32_117
  let v259 : BitVec 32 := Scalar.extui v258
  let v260 : BitVec 32 := Scalar.subi v257 v259
  let v261 : BitVec 1 := Scalar.cmpi .ne v255 v260
  let v262 : BitVec 32 := Scalar.remsi arg2 c8_i32
  let c0_i32_118 : BitVec 32 := 0#32
  let v263 : BitVec 1 := Scalar.cmpi .ne v262 c0_i32_118
  let v264 : BitVec 1 := Scalar.andi v261 v263
  let v250 : BitVec 32 := Scalar.divsi arg2 c8_i32
  let c1_i32_119 : BitVec 32 := 1#32
  let v265 : BitVec 32 := Scalar.subi v250 c1_i32_119
  let v266 : BitVec 32 := Scalar.select v264 v265 v250
  let c0_i32_120 : BitVec 32 := 0#32
  let v267 : BitVec 32 := Scalar.maxsi v266 c0_i32_120
  let c7_i32 : BitVec 32 := 7#32
  let v268 : BitVec 32 := Scalar.minsi v267 c7_i32
  let c1_i32_193 : BitVec 32 := 1#32
  let v469 : BitVec 32 := Scalar.subi v268 c1_i32_193
  let c1_i32_195 : BitVec 32 := 1#32
  let v472 : BitVec 32 := Scalar.subi v469 c1_i32_195
  let c1_i32_197 : BitVec 32 := 1#32
  let v475 : BitVec 32 := Scalar.subi v472 c1_i32_197
  let c1_i32_199 : BitVec 32 := 1#32
  let v478 : BitVec 32 := Scalar.subi v475 c1_i32_199
  let c1_i32_201 : BitVec 32 := 1#32
  let v481 : BitVec 32 := Scalar.subi v478 c1_i32_201
  let c0_i32_202 : BitVec 32 := 0#32
  let v482 : BitVec 1 := Scalar.cmpi .ne v481 c0_i32_202
  v482

def k0_cond7 (i : grid0.Coords) : BitVec 1 :=
  let arg2 : BitVec 32 := BitVec.ofNat 32 (i 2).val
  let c0_i32_114 : BitVec 32 := 0#32
  let v251 : BitVec 1 := Scalar.cmpi .sgt arg2 c0_i32_114
  let v252 : BitVec 32 := Scalar.extui v251
  let c0_i32_115 : BitVec 32 := 0#32
  let v253 : BitVec 1 := Scalar.cmpi .slt arg2 c0_i32_115
  let v254 : BitVec 32 := Scalar.extui v253
  let v255 : BitVec 32 := Scalar.subi v252 v254
  let c8_i32 : BitVec 32 := 8#32
  let c0_i32_116 : BitVec 32 := 0#32
  let v256 : BitVec 1 := Scalar.cmpi .sgt c8_i32 c0_i32_116
  let v257 : BitVec 32 := Scalar.extui v256
  let c0_i32_117 : BitVec 32 := 0#32
  let v258 : BitVec 1 := Scalar.cmpi .slt c8_i32 c0_i32_117
  let v259 : BitVec 32 := Scalar.extui v258
  let v260 : BitVec 32 := Scalar.subi v257 v259
  let v261 : BitVec 1 := Scalar.cmpi .ne v255 v260
  let v262 : BitVec 32 := Scalar.remsi arg2 c8_i32
  let c0_i32_118 : BitVec 32 := 0#32
  let v263 : BitVec 1 := Scalar.cmpi .ne v262 c0_i32_118
  let v264 : BitVec 1 := Scalar.andi v261 v263
  let v250 : BitVec 32 := Scalar.divsi arg2 c8_i32
  let c1_i32_119 : BitVec 32 := 1#32
  let v265 : BitVec 32 := Scalar.subi v250 c1_i32_119
  let v266 : BitVec 32 := Scalar.select v264 v265 v250
  let c0_i32_120 : BitVec 32 := 0#32
  let v267 : BitVec 32 := Scalar.maxsi v266 c0_i32_120
  let c7_i32 : BitVec 32 := 7#32
  let v268 : BitVec 32 := Scalar.minsi v267 c7_i32
  let c1_i32_193 : BitVec 32 := 1#32
  let v469 : BitVec 32 := Scalar.subi v268 c1_i32_193
  let c1_i32_195 : BitVec 32 := 1#32
  let v472 : BitVec 32 := Scalar.subi v469 c1_i32_195
  let c1_i32_197 : BitVec 32 := 1#32
  let v475 : BitVec 32 := Scalar.subi v472 c1_i32_197
  let c1_i32_199 : BitVec 32 := 1#32
  let v478 : BitVec 32 := Scalar.subi v475 c1_i32_199
  let c1_i32_201 : BitVec 32 := 1#32
  let v481 : BitVec 32 := Scalar.subi v478 c1_i32_201
  let c1_i32_203 : BitVec 32 := 1#32
  let v484 : BitVec 32 := Scalar.subi v481 c1_i32_203
  let c0_i32_204 : BitVec 32 := 0#32
  let v485 : BitVec 1 := Scalar.cmpi .ne v484 c0_i32_204
  v485

def k0_off3 (i : grid0.Coords) : Fin 2 → Nat :=
  let arg2 : BitVec 32 := BitVec.ofNat 32 (i 2).val
  let c1_i32_24 : BitVec 32 := 1#32
  let v67 : BitVec 32 := Scalar.subi arg2 c1_i32_24
  let c0_i32_25 : BitVec 32 := 0#32
  let v68 : BitVec 32 := Scalar.maxsi v67 c0_i32_25
  let c16_i32 : BitVec 32 := 16#32
  let v69 : BitVec 32 := Scalar.muli v68 c16_i32
  let v70 : BitVec 32 := v69
  let v500 : Index := Scalar.indexCast v70
  let c0_213 : Index := 0#32
  ![v500.toNat, 0]
def k0_off4 (i : grid0.Coords) : Fin 2 → Nat :=
  let arg2 : BitVec 32 := BitVec.ofNat 32 (i 2).val
  let c1_i32_24 : BitVec 32 := 1#32
  let v67 : BitVec 32 := Scalar.subi arg2 c1_i32_24
  let c0_i32_25 : BitVec 32 := 0#32
  let v68 : BitVec 32 := Scalar.maxsi v67 c0_i32_25
  let c16_i32 : BitVec 32 := 16#32
  let v69 : BitVec 32 := Scalar.muli v68 c16_i32
  let v70 : BitVec 32 := v69
  let v500 : Index := Scalar.indexCast v70
  let c0_213 : Index := 0#32
  ![v500.toNat, 0]
def k0_off5 (i : grid0.Coords) : Fin 2 → Nat :=
  let arg2 : BitVec 32 := BitVec.ofNat 32 (i 2).val
  let c1_i32_24 : BitVec 32 := 1#32
  let v67 : BitVec 32 := Scalar.subi arg2 c1_i32_24
  let c0_i32_25 : BitVec 32 := 0#32
  let v68 : BitVec 32 := Scalar.maxsi v67 c0_i32_25
  let c16_i32 : BitVec 32 := 16#32
  let v69 : BitVec 32 := Scalar.muli v68 c16_i32
  let v70 : BitVec 32 := v69
  let v497 : Index := Scalar.indexCast v70
  let c0_211 : Index := 0#32
  ![v497.toNat, 0]
def k0_off6 (i : grid0.Coords) : Fin 2 → Nat :=
  let arg2 : BitVec 32 := BitVec.ofNat 32 (i 2).val
  let c1_i32_24 : BitVec 32 := 1#32
  let v67 : BitVec 32 := Scalar.subi arg2 c1_i32_24
  let c0_i32_25 : BitVec 32 := 0#32
  let v68 : BitVec 32 := Scalar.maxsi v67 c0_i32_25
  let c16_i32 : BitVec 32 := 16#32
  let v69 : BitVec 32 := Scalar.muli v68 c16_i32
  let v70 : BitVec 32 := v69
  let v494 : Index := Scalar.indexCast v70
  let c0_209 : Index := 0#32
  ![v494.toNat, 0]
def k0_off7 (i : grid0.Coords) : Fin 2 → Nat :=
  let arg2 : BitVec 32 := BitVec.ofNat 32 (i 2).val
  let c1_i32_24 : BitVec 32 := 1#32
  let v67 : BitVec 32 := Scalar.subi arg2 c1_i32_24
  let c0_i32_25 : BitVec 32 := 0#32
  let v68 : BitVec 32 := Scalar.maxsi v67 c0_i32_25
  let c16_i32 : BitVec 32 := 16#32
  let v69 : BitVec 32 := Scalar.muli v68 c16_i32
  let v70 : BitVec 32 := v69
  let v491 : Index := Scalar.indexCast v70
  let c0_207 : Index := 0#32
  ![v491.toNat, 0]
def k0_off8 (i : grid0.Coords) : Fin 2 → Nat :=
  let arg2 : BitVec 32 := BitVec.ofNat 32 (i 2).val
  let c1_i32_24 : BitVec 32 := 1#32
  let v67 : BitVec 32 := Scalar.subi arg2 c1_i32_24
  let c0_i32_25 : BitVec 32 := 0#32
  let v68 : BitVec 32 := Scalar.maxsi v67 c0_i32_25
  let c16_i32 : BitVec 32 := 16#32
  let v69 : BitVec 32 := Scalar.muli v68 c16_i32
  let v70 : BitVec 32 := v69
  let v488 : Index := Scalar.indexCast v70
  let c0_205 : Index := 0#32
  ![v488.toNat, 0]
def k0_off9 (i : grid0.Coords) : Fin 2 → Nat :=
  let arg2 : BitVec 32 := BitVec.ofNat 32 (i 2).val
  let c1_i32_24 : BitVec 32 := 1#32
  let v67 : BitVec 32 := Scalar.subi arg2 c1_i32_24
  let c0_i32_25 : BitVec 32 := 0#32
  let v68 : BitVec 32 := Scalar.maxsi v67 c0_i32_25
  let c16_i32 : BitVec 32 := 16#32
  let v69 : BitVec 32 := Scalar.muli v68 c16_i32
  let v70 : BitVec 32 := v69
  let v485 : Index := Scalar.indexCast v70
  let c0_203 : Index := 0#32
  ![v485.toNat, 0]
def k0_off10 (i : grid0.Coords) : Fin 2 → Nat :=
  let arg2 : BitVec 32 := BitVec.ofNat 32 (i 2).val
  let c1_i32_24 : BitVec 32 := 1#32
  let v67 : BitVec 32 := Scalar.subi arg2 c1_i32_24
  let c0_i32_25 : BitVec 32 := 0#32
  let v68 : BitVec 32 := Scalar.maxsi v67 c0_i32_25
  let c16_i32 : BitVec 32 := 16#32
  let v69 : BitVec 32 := Scalar.muli v68 c16_i32
  let v70 : BitVec 32 := v69
  let v482 : Index := Scalar.indexCast v70
  let c0_201 : Index := 0#32
  ![v482.toNat, 0]
def k0_mult8 : BitVec 32 :=
  let c0_i32_129 : BitVec 32 := 0#32
  c0_i32_129
@[reducible] def k0_t1_loop (i : grid0.Coords) : Scf.Loop 32 :=
  let c0_i32_150 : BitVec 32 := 0#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_144 : BitVec 32 := 0#32
  let v304 : BitVec 1 := Scalar.cmpi .sgt v287 c0_i32_144
  let v305 : BitVec 32 := Scalar.extui v304
  let c0_i32_145 : BitVec 32 := 0#32
  let v306 : BitVec 1 := Scalar.cmpi .slt v287 c0_i32_145
  let v307 : BitVec 32 := Scalar.extui v306
  let v308 : BitVec 32 := Scalar.subi v305 v307
  let c4_i32_143 : BitVec 32 := 4#32
  let c0_i32_146 : BitVec 32 := 0#32
  let v309 : BitVec 1 := Scalar.cmpi .sgt c4_i32_143 c0_i32_146
  let v310 : BitVec 32 := Scalar.extui v309
  let c0_i32_147 : BitVec 32 := 0#32
  let v311 : BitVec 1 := Scalar.cmpi .slt c4_i32_143 c0_i32_147
  let v312 : BitVec 32 := Scalar.extui v311
  let v313 : BitVec 32 := Scalar.subi v310 v312
  let v314 : BitVec 1 := Scalar.cmpi .ne v308 v313
  let v315 : BitVec 32 := Scalar.remsi v287 c4_i32_143
  let c0_i32_148 : BitVec 32 := 0#32
  let v316 : BitVec 1 := Scalar.cmpi .ne v315 c0_i32_148
  let v317 : BitVec 1 := Scalar.andi v314 v316
  let v303 : BitVec 32 := Scalar.divsi v287 c4_i32_143
  let c1_i32_149 : BitVec 32 := 1#32
  let v318 : BitVec 32 := Scalar.subi v303 c1_i32_149
  let v319 : BitVec 32 := Scalar.select v317 v318 v303
  let v320 : BitVec 32 := Scalar.subi v319 c0_i32_150
  let c1_i32_151 : BitVec 32 := 1#32
  let v322 : BitVec 32 := Scalar.divsi v320 c1_i32_151
  let v323 : BitVec 32 := Scalar.muli v322 c1_i32_151
  let v324 : BitVec 32 := Scalar.addi c0_i32_150 v323
  let c1_i32_152 : BitVec 32 := 1#32
  ⟨c0_i32_150, v324, c1_i32_152⟩
def k0_mult9 (i : grid0.Coords) (k0_t1 : Fin (k0_t1_loop i).trips) : BitVec 32 :=
  let c2_i32_195 : BitVec 32 := 2#32
  let c4_i32_193 : BitVec 32 := 4#32
  let c0_i32_150 : BitVec 32 := 0#32
  let c1_i32_152 : BitVec 32 := 1#32
  let arg16 : BitVec 32 := Scf.iv c0_i32_150 c1_i32_152 k0_t1
  let v469 : BitVec 32 := Scalar.muli c4_i32_193 arg16
  let c0_i32_194 : BitVec 32 := 0#32
  let v470 : BitVec 32 := Scalar.addi v469 c0_i32_194
  let v471 : BitVec 32 := Scalar.muli c2_i32_195 v470
  let c1_i32_196 : BitVec 32 := 1#32
  let v472 : BitVec 32 := Scalar.addi v471 c1_i32_196
  let c512_i32_197 : BitVec 32 := 512#32
  let v473 : BitVec 32 := Scalar.muli v472 c512_i32_197
  v473
def k0_off11 (i : grid0.Coords) (k0_t1 : Fin (k0_t1_loop i).trips) (c0_i32_194 : BitVec 32) (c1_i32_196 : BitVec 32) : Fin 4 → Nat :=
  let c0_198 : Index := 0#32
  let c0_199 : Index := 0#32
  let c2_i32_195 : BitVec 32 := 2#32
  let c4_i32_193 : BitVec 32 := 4#32
  let c0_i32_150 : BitVec 32 := 0#32
  let c1_i32_152 : BitVec 32 := 1#32
  let arg16 : BitVec 32 := Scf.iv c0_i32_150 c1_i32_152 k0_t1
  let v469 : BitVec 32 := Scalar.muli c4_i32_193 arg16
  let v470 : BitVec 32 := Scalar.addi v469 c0_i32_194
  let v471 : BitVec 32 := Scalar.muli c2_i32_195 v470
  let v472 : BitVec 32 := Scalar.addi v471 c1_i32_196
  let c512_i32_197 : BitVec 32 := 512#32
  let v473 : BitVec 32 := Scalar.muli v472 c512_i32_197
  let v474 : BitVec 32 := v473
  let v475 : Index := Scalar.indexCast v474
  let c0_200 : Index := 0#32
  ![0, 0, v475.toNat, 0]
def k0_off12 (i : grid0.Coords) (k0_t1 : Fin (k0_t1_loop i).trips) (c0_i32_194 : BitVec 32) (c1_i32_196 : BitVec 32) : Fin 3 → Nat :=
  let c2_i32_195 : BitVec 32 := 2#32
  let c4_i32_193 : BitVec 32 := 4#32
  let c0_i32_150 : BitVec 32 := 0#32
  let c1_i32_152 : BitVec 32 := 1#32
  let arg16 : BitVec 32 := Scf.iv c0_i32_150 c1_i32_152 k0_t1
  let v469 : BitVec 32 := Scalar.muli c4_i32_193 arg16
  let v470 : BitVec 32 := Scalar.addi v469 c0_i32_194
  let v471 : BitVec 32 := Scalar.muli c2_i32_195 v470
  let v472 : BitVec 32 := Scalar.addi v471 c1_i32_196
  let c0_i32_202 : BitVec 32 := 0#32
  let v479 : BitVec 1 := Scalar.cmpi .sgt v472 c0_i32_202
  let v480 : BitVec 32 := Scalar.extui v479
  let c0_i32_203 : BitVec 32 := 0#32
  let v481 : BitVec 1 := Scalar.cmpi .slt v472 c0_i32_203
  let v482 : BitVec 32 := Scalar.extui v481
  let v483 : BitVec 32 := Scalar.subi v480 v482
  let c16_i32_201 : BitVec 32 := 16#32
  let c0_i32_204 : BitVec 32 := 0#32
  let v484 : BitVec 1 := Scalar.cmpi .sgt c16_i32_201 c0_i32_204
  let v485 : BitVec 32 := Scalar.extui v484
  let c0_i32_205 : BitVec 32 := 0#32
  let v486 : BitVec 1 := Scalar.cmpi .slt c16_i32_201 c0_i32_205
  let v487 : BitVec 32 := Scalar.extui v486
  let v488 : BitVec 32 := Scalar.subi v485 v487
  let v489 : BitVec 1 := Scalar.cmpi .ne v483 v488
  let v490 : BitVec 32 := Scalar.remsi v472 c16_i32_201
  let c0_i32_206 : BitVec 32 := 0#32
  let v491 : BitVec 1 := Scalar.cmpi .ne v490 c0_i32_206
  let v492 : BitVec 1 := Scalar.andi v489 v491
  let v478 : BitVec 32 := Scalar.divsi v472 c16_i32_201
  let c1_i32_207 : BitVec 32 := 1#32
  let v493 : BitVec 32 := Scalar.subi v478 c1_i32_207
  let v494 : BitVec 32 := Scalar.select v492 v493 v478
  let v495 : Index := Scalar.indexCast v494
  let c0_208 : Index := 0#32
  let c0_209 : Index := 0#32
  ![v495.toNat, 0, 0]
def k0_off13 (i : grid0.Coords) (k0_t1 : Fin (k0_t1_loop i).trips) (c0_i32_194 : BitVec 32) : Fin 5 → Nat :=
  let c0_219 : Index := 0#32
  let c0_220 : Index := 0#32
  let c2_i32_215 : BitVec 32 := 2#32
  let c4_i32_193 : BitVec 32 := 4#32
  let c0_i32_150 : BitVec 32 := 0#32
  let c1_i32_152 : BitVec 32 := 1#32
  let arg16 : BitVec 32 := Scf.iv c0_i32_150 c1_i32_152 k0_t1
  let v469 : BitVec 32 := Scalar.muli c4_i32_193 arg16
  let v470 : BitVec 32 := Scalar.addi v469 c0_i32_194
  let v504 : BitVec 32 := Scalar.muli c2_i32_215 v470
  let v516 : Index := Scalar.indexCast v504
  let c0_221 : Index := 0#32
  let c0_222 : Index := 0#32
  ![0, 0, v516.toNat, 0, 0]
def k0_mult10 (i : grid0.Coords) (k0_t1 : Fin (k0_t1_loop i).trips) : BitVec 32 :=
  let c2_i32_224 : BitVec 32 := 2#32
  let c4_i32_193 : BitVec 32 := 4#32
  let c0_i32_150 : BitVec 32 := 0#32
  let c1_i32_152 : BitVec 32 := 1#32
  let arg16 : BitVec 32 := Scf.iv c0_i32_150 c1_i32_152 k0_t1
  let v469 : BitVec 32 := Scalar.muli c4_i32_193 arg16
  let c0_i32_194 : BitVec 32 := 0#32
  let v470 : BitVec 32 := Scalar.addi v469 c0_i32_194
  let v521 : BitVec 32 := Scalar.muli c2_i32_224 v470
  let c2_i32_225 : BitVec 32 := 2#32
  let v522 : BitVec 32 := Scalar.addi v521 c2_i32_225
  let c512_i32_226 : BitVec 32 := 512#32
  let v523 : BitVec 32 := Scalar.muli v522 c512_i32_226
  v523
def k0_off14 (i : grid0.Coords) (k0_t1 : Fin (k0_t1_loop i).trips) (c0_i32_194 : BitVec 32) : Fin 5 → Nat :=
  let c0_249 : Index := 0#32
  let c0_250 : Index := 0#32
  let c2_i32_244 : BitVec 32 := 2#32
  let c4_i32_193 : BitVec 32 := 4#32
  let c0_i32_150 : BitVec 32 := 0#32
  let c1_i32_152 : BitVec 32 := 1#32
  let arg16 : BitVec 32 := Scf.iv c0_i32_150 c1_i32_152 k0_t1
  let v469 : BitVec 32 := Scalar.muli c4_i32_193 arg16
  let v470 : BitVec 32 := Scalar.addi v469 c0_i32_194
  let v554 : BitVec 32 := Scalar.muli c2_i32_244 v470
  let c1_i32_245 : BitVec 32 := 1#32
  let v555 : BitVec 32 := Scalar.addi v554 c1_i32_245
  let v567 : Index := Scalar.indexCast v555
  let c0_251 : Index := 0#32
  let c0_252 : Index := 0#32
  ![0, 0, v567.toNat, 0, 0]
def k0_mult11 (i : grid0.Coords) (k0_t1 : Fin (k0_t1_loop i).trips) : BitVec 32 :=
  let c2_i32_256 : BitVec 32 := 2#32
  let c4_i32_254 : BitVec 32 := 4#32
  let c0_i32_150 : BitVec 32 := 0#32
  let c1_i32_152 : BitVec 32 := 1#32
  let arg16 : BitVec 32 := Scf.iv c0_i32_150 c1_i32_152 k0_t1
  let v572 : BitVec 32 := Scalar.muli c4_i32_254 arg16
  let c1_i32_255 : BitVec 32 := 1#32
  let v573 : BitVec 32 := Scalar.addi v572 c1_i32_255
  let v574 : BitVec 32 := Scalar.muli c2_i32_256 v573
  let c1_i32_257 : BitVec 32 := 1#32
  let v575 : BitVec 32 := Scalar.addi v574 c1_i32_257
  let c512_i32_258 : BitVec 32 := 512#32
  let v576 : BitVec 32 := Scalar.muli v575 c512_i32_258
  v576
def k0_mult12 (i : grid0.Coords) (k0_t1 : Fin (k0_t1_loop i).trips) : BitVec 32 :=
  let c2_i32_285 : BitVec 32 := 2#32
  let c4_i32_254 : BitVec 32 := 4#32
  let c0_i32_150 : BitVec 32 := 0#32
  let c1_i32_152 : BitVec 32 := 1#32
  let arg16 : BitVec 32 := Scf.iv c0_i32_150 c1_i32_152 k0_t1
  let v572 : BitVec 32 := Scalar.muli c4_i32_254 arg16
  let c1_i32_255 : BitVec 32 := 1#32
  let v573 : BitVec 32 := Scalar.addi v572 c1_i32_255
  let v624 : BitVec 32 := Scalar.muli c2_i32_285 v573
  let c2_i32_286 : BitVec 32 := 2#32
  let v625 : BitVec 32 := Scalar.addi v624 c2_i32_286
  let c512_i32_287 : BitVec 32 := 512#32
  let v626 : BitVec 32 := Scalar.muli v625 c512_i32_287
  v626
def k0_mult13 (i : grid0.Coords) (k0_t1 : Fin (k0_t1_loop i).trips) : BitVec 32 :=
  let c2_i32_317 : BitVec 32 := 2#32
  let c4_i32_315 : BitVec 32 := 4#32
  let c0_i32_150 : BitVec 32 := 0#32
  let c1_i32_152 : BitVec 32 := 1#32
  let arg16 : BitVec 32 := Scf.iv c0_i32_150 c1_i32_152 k0_t1
  let v675 : BitVec 32 := Scalar.muli c4_i32_315 arg16
  let c2_i32_316 : BitVec 32 := 2#32
  let v676 : BitVec 32 := Scalar.addi v675 c2_i32_316
  let v677 : BitVec 32 := Scalar.muli c2_i32_317 v676
  let c1_i32_318 : BitVec 32 := 1#32
  let v678 : BitVec 32 := Scalar.addi v677 c1_i32_318
  let c512_i32_319 : BitVec 32 := 512#32
  let v679 : BitVec 32 := Scalar.muli v678 c512_i32_319
  v679
def k0_mult14 (i : grid0.Coords) (k0_t1 : Fin (k0_t1_loop i).trips) : BitVec 32 :=
  let c2_i32_346 : BitVec 32 := 2#32
  let c4_i32_315 : BitVec 32 := 4#32
  let c0_i32_150 : BitVec 32 := 0#32
  let c1_i32_152 : BitVec 32 := 1#32
  let arg16 : BitVec 32 := Scf.iv c0_i32_150 c1_i32_152 k0_t1
  let v675 : BitVec 32 := Scalar.muli c4_i32_315 arg16
  let c2_i32_316 : BitVec 32 := 2#32
  let v676 : BitVec 32 := Scalar.addi v675 c2_i32_316
  let v727 : BitVec 32 := Scalar.muli c2_i32_346 v676
  let c2_i32_347 : BitVec 32 := 2#32
  let v728 : BitVec 32 := Scalar.addi v727 c2_i32_347
  let c512_i32_348 : BitVec 32 := 512#32
  let v729 : BitVec 32 := Scalar.muli v728 c512_i32_348
  v729
def k0_mult15 (i : grid0.Coords) (k0_t1 : Fin (k0_t1_loop i).trips) : BitVec 32 :=
  let c2_i32_378 : BitVec 32 := 2#32
  let c4_i32_376 : BitVec 32 := 4#32
  let c0_i32_150 : BitVec 32 := 0#32
  let c1_i32_152 : BitVec 32 := 1#32
  let arg16 : BitVec 32 := Scf.iv c0_i32_150 c1_i32_152 k0_t1
  let v778 : BitVec 32 := Scalar.muli c4_i32_376 arg16
  let c3_i32_377 : BitVec 32 := 3#32
  let v779 : BitVec 32 := Scalar.addi v778 c3_i32_377
  let v780 : BitVec 32 := Scalar.muli c2_i32_378 v779
  let c1_i32_379 : BitVec 32 := 1#32
  let v781 : BitVec 32 := Scalar.addi v780 c1_i32_379
  let c512_i32_380 : BitVec 32 := 512#32
  let v782 : BitVec 32 := Scalar.muli v781 c512_i32_380
  v782
def k0_mult16 (i : grid0.Coords) (k0_t1 : Fin (k0_t1_loop i).trips) : BitVec 32 :=
  let c2_i32_407 : BitVec 32 := 2#32
  let c4_i32_376 : BitVec 32 := 4#32
  let c0_i32_150 : BitVec 32 := 0#32
  let c1_i32_152 : BitVec 32 := 1#32
  let arg16 : BitVec 32 := Scf.iv c0_i32_150 c1_i32_152 k0_t1
  let v778 : BitVec 32 := Scalar.muli c4_i32_376 arg16
  let c3_i32_377 : BitVec 32 := 3#32
  let v779 : BitVec 32 := Scalar.addi v778 c3_i32_377
  let v830 : BitVec 32 := Scalar.muli c2_i32_407 v779
  let c2_i32_408 : BitVec 32 := 2#32
  let v831 : BitVec 32 := Scalar.addi v830 c2_i32_408
  let c512_i32_409 : BitVec 32 := 512#32
  let v832 : BitVec 32 := Scalar.muli v831 c512_i32_409
  v832
@[reducible] def k0_t2_loop (i : grid0.Coords) : Scf.Loop 32 :=
  let c0_i32_150 : BitVec 32 := 0#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_144 : BitVec 32 := 0#32
  let v304 : BitVec 1 := Scalar.cmpi .sgt v287 c0_i32_144
  let v305 : BitVec 32 := Scalar.extui v304
  let c0_i32_145 : BitVec 32 := 0#32
  let v306 : BitVec 1 := Scalar.cmpi .slt v287 c0_i32_145
  let v307 : BitVec 32 := Scalar.extui v306
  let v308 : BitVec 32 := Scalar.subi v305 v307
  let c4_i32_143 : BitVec 32 := 4#32
  let c0_i32_146 : BitVec 32 := 0#32
  let v309 : BitVec 1 := Scalar.cmpi .sgt c4_i32_143 c0_i32_146
  let v310 : BitVec 32 := Scalar.extui v309
  let c0_i32_147 : BitVec 32 := 0#32
  let v311 : BitVec 1 := Scalar.cmpi .slt c4_i32_143 c0_i32_147
  let v312 : BitVec 32 := Scalar.extui v311
  let v313 : BitVec 32 := Scalar.subi v310 v312
  let v314 : BitVec 1 := Scalar.cmpi .ne v308 v313
  let v315 : BitVec 32 := Scalar.remsi v287 c4_i32_143
  let c0_i32_148 : BitVec 32 := 0#32
  let v316 : BitVec 1 := Scalar.cmpi .ne v315 c0_i32_148
  let v317 : BitVec 1 := Scalar.andi v314 v316
  let v303 : BitVec 32 := Scalar.divsi v287 c4_i32_143
  let c1_i32_149 : BitVec 32 := 1#32
  let v318 : BitVec 32 := Scalar.subi v303 c1_i32_149
  let v319 : BitVec 32 := Scalar.select v317 v318 v303
  let v320 : BitVec 32 := Scalar.subi v319 c0_i32_150
  let c1_i32_151 : BitVec 32 := 1#32
  let v322 : BitVec 32 := Scalar.divsi v320 c1_i32_151
  let v323 : BitVec 32 := Scalar.muli v322 c1_i32_151
  let v324 : BitVec 32 := Scalar.addi c0_i32_150 v323
  let v321 : BitVec 32 := Scalar.addi c0_i32_150 v320
  let c1_i32_153 : BitVec 32 := 1#32
  ⟨v324, v321, c1_i32_153⟩
def k0_mult17 (i : grid0.Coords) (k0_t2 : Fin (k0_t2_loop i).trips) : BitVec 32 :=
  let c2_i32_195 : BitVec 32 := 2#32
  let c4_i32_193 : BitVec 32 := 4#32
  let c0_i32_150 : BitVec 32 := 0#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_144 : BitVec 32 := 0#32
  let v304 : BitVec 1 := Scalar.cmpi .sgt v287 c0_i32_144
  let v305 : BitVec 32 := Scalar.extui v304
  let c0_i32_145 : BitVec 32 := 0#32
  let v306 : BitVec 1 := Scalar.cmpi .slt v287 c0_i32_145
  let v307 : BitVec 32 := Scalar.extui v306
  let v308 : BitVec 32 := Scalar.subi v305 v307
  let c4_i32_143 : BitVec 32 := 4#32
  let c0_i32_146 : BitVec 32 := 0#32
  let v309 : BitVec 1 := Scalar.cmpi .sgt c4_i32_143 c0_i32_146
  let v310 : BitVec 32 := Scalar.extui v309
  let c0_i32_147 : BitVec 32 := 0#32
  let v311 : BitVec 1 := Scalar.cmpi .slt c4_i32_143 c0_i32_147
  let v312 : BitVec 32 := Scalar.extui v311
  let v313 : BitVec 32 := Scalar.subi v310 v312
  let v314 : BitVec 1 := Scalar.cmpi .ne v308 v313
  let v315 : BitVec 32 := Scalar.remsi v287 c4_i32_143
  let c0_i32_148 : BitVec 32 := 0#32
  let v316 : BitVec 1 := Scalar.cmpi .ne v315 c0_i32_148
  let v317 : BitVec 1 := Scalar.andi v314 v316
  let v303 : BitVec 32 := Scalar.divsi v287 c4_i32_143
  let c1_i32_149 : BitVec 32 := 1#32
  let v318 : BitVec 32 := Scalar.subi v303 c1_i32_149
  let v319 : BitVec 32 := Scalar.select v317 v318 v303
  let v320 : BitVec 32 := Scalar.subi v319 c0_i32_150
  let c1_i32_151 : BitVec 32 := 1#32
  let v322 : BitVec 32 := Scalar.divsi v320 c1_i32_151
  let v323 : BitVec 32 := Scalar.muli v322 c1_i32_151
  let v324 : BitVec 32 := Scalar.addi c0_i32_150 v323
  let c1_i32_153 : BitVec 32 := 1#32
  let arg16 : BitVec 32 := Scf.iv v324 c1_i32_153 k0_t2
  let v469 : BitVec 32 := Scalar.muli c4_i32_193 arg16
  let c0_i32_194 : BitVec 32 := 0#32
  let v470 : BitVec 32 := Scalar.addi v469 c0_i32_194
  let v471 : BitVec 32 := Scalar.muli c2_i32_195 v470
  let c1_i32_196 : BitVec 32 := 1#32
  let v472 : BitVec 32 := Scalar.addi v471 c1_i32_196
  let c512_i32_197 : BitVec 32 := 512#32
  let v473 : BitVec 32 := Scalar.muli v472 c512_i32_197
  v473
def k0_off15 (i : grid0.Coords) (k0_t2 : Fin (k0_t2_loop i).trips) (c0_i32_194 : BitVec 32) (c1_i32_196 : BitVec 32) : Fin 4 → Nat :=
  let c0_198 : Index := 0#32
  let c0_199 : Index := 0#32
  let c2_i32_195 : BitVec 32 := 2#32
  let c4_i32_193 : BitVec 32 := 4#32
  let c0_i32_150 : BitVec 32 := 0#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_144 : BitVec 32 := 0#32
  let v304 : BitVec 1 := Scalar.cmpi .sgt v287 c0_i32_144
  let v305 : BitVec 32 := Scalar.extui v304
  let c0_i32_145 : BitVec 32 := 0#32
  let v306 : BitVec 1 := Scalar.cmpi .slt v287 c0_i32_145
  let v307 : BitVec 32 := Scalar.extui v306
  let v308 : BitVec 32 := Scalar.subi v305 v307
  let c4_i32_143 : BitVec 32 := 4#32
  let c0_i32_146 : BitVec 32 := 0#32
  let v309 : BitVec 1 := Scalar.cmpi .sgt c4_i32_143 c0_i32_146
  let v310 : BitVec 32 := Scalar.extui v309
  let c0_i32_147 : BitVec 32 := 0#32
  let v311 : BitVec 1 := Scalar.cmpi .slt c4_i32_143 c0_i32_147
  let v312 : BitVec 32 := Scalar.extui v311
  let v313 : BitVec 32 := Scalar.subi v310 v312
  let v314 : BitVec 1 := Scalar.cmpi .ne v308 v313
  let v315 : BitVec 32 := Scalar.remsi v287 c4_i32_143
  let c0_i32_148 : BitVec 32 := 0#32
  let v316 : BitVec 1 := Scalar.cmpi .ne v315 c0_i32_148
  let v317 : BitVec 1 := Scalar.andi v314 v316
  let v303 : BitVec 32 := Scalar.divsi v287 c4_i32_143
  let c1_i32_149 : BitVec 32 := 1#32
  let v318 : BitVec 32 := Scalar.subi v303 c1_i32_149
  let v319 : BitVec 32 := Scalar.select v317 v318 v303
  let v320 : BitVec 32 := Scalar.subi v319 c0_i32_150
  let c1_i32_151 : BitVec 32 := 1#32
  let v322 : BitVec 32 := Scalar.divsi v320 c1_i32_151
  let v323 : BitVec 32 := Scalar.muli v322 c1_i32_151
  let v324 : BitVec 32 := Scalar.addi c0_i32_150 v323
  let c1_i32_153 : BitVec 32 := 1#32
  let arg16 : BitVec 32 := Scf.iv v324 c1_i32_153 k0_t2
  let v469 : BitVec 32 := Scalar.muli c4_i32_193 arg16
  let v470 : BitVec 32 := Scalar.addi v469 c0_i32_194
  let v471 : BitVec 32 := Scalar.muli c2_i32_195 v470
  let v472 : BitVec 32 := Scalar.addi v471 c1_i32_196
  let c512_i32_197 : BitVec 32 := 512#32
  let v473 : BitVec 32 := Scalar.muli v472 c512_i32_197
  let v474 : BitVec 32 := v473
  let v475 : Index := Scalar.indexCast v474
  let c0_200 : Index := 0#32
  ![0, 0, v475.toNat, 0]
def k0_off16 (i : grid0.Coords) (k0_t2 : Fin (k0_t2_loop i).trips) (c0_i32_194 : BitVec 32) (c1_i32_196 : BitVec 32) : Fin 3 → Nat :=
  let c2_i32_195 : BitVec 32 := 2#32
  let c4_i32_193 : BitVec 32 := 4#32
  let c0_i32_150 : BitVec 32 := 0#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_144 : BitVec 32 := 0#32
  let v304 : BitVec 1 := Scalar.cmpi .sgt v287 c0_i32_144
  let v305 : BitVec 32 := Scalar.extui v304
  let c0_i32_145 : BitVec 32 := 0#32
  let v306 : BitVec 1 := Scalar.cmpi .slt v287 c0_i32_145
  let v307 : BitVec 32 := Scalar.extui v306
  let v308 : BitVec 32 := Scalar.subi v305 v307
  let c4_i32_143 : BitVec 32 := 4#32
  let c0_i32_146 : BitVec 32 := 0#32
  let v309 : BitVec 1 := Scalar.cmpi .sgt c4_i32_143 c0_i32_146
  let v310 : BitVec 32 := Scalar.extui v309
  let c0_i32_147 : BitVec 32 := 0#32
  let v311 : BitVec 1 := Scalar.cmpi .slt c4_i32_143 c0_i32_147
  let v312 : BitVec 32 := Scalar.extui v311
  let v313 : BitVec 32 := Scalar.subi v310 v312
  let v314 : BitVec 1 := Scalar.cmpi .ne v308 v313
  let v315 : BitVec 32 := Scalar.remsi v287 c4_i32_143
  let c0_i32_148 : BitVec 32 := 0#32
  let v316 : BitVec 1 := Scalar.cmpi .ne v315 c0_i32_148
  let v317 : BitVec 1 := Scalar.andi v314 v316
  let v303 : BitVec 32 := Scalar.divsi v287 c4_i32_143
  let c1_i32_149 : BitVec 32 := 1#32
  let v318 : BitVec 32 := Scalar.subi v303 c1_i32_149
  let v319 : BitVec 32 := Scalar.select v317 v318 v303
  let v320 : BitVec 32 := Scalar.subi v319 c0_i32_150
  let c1_i32_151 : BitVec 32 := 1#32
  let v322 : BitVec 32 := Scalar.divsi v320 c1_i32_151
  let v323 : BitVec 32 := Scalar.muli v322 c1_i32_151
  let v324 : BitVec 32 := Scalar.addi c0_i32_150 v323
  let c1_i32_153 : BitVec 32 := 1#32
  let arg16 : BitVec 32 := Scf.iv v324 c1_i32_153 k0_t2
  let v469 : BitVec 32 := Scalar.muli c4_i32_193 arg16
  let v470 : BitVec 32 := Scalar.addi v469 c0_i32_194
  let v471 : BitVec 32 := Scalar.muli c2_i32_195 v470
  let v472 : BitVec 32 := Scalar.addi v471 c1_i32_196
  let c0_i32_202 : BitVec 32 := 0#32
  let v479 : BitVec 1 := Scalar.cmpi .sgt v472 c0_i32_202
  let v480 : BitVec 32 := Scalar.extui v479
  let c0_i32_203 : BitVec 32 := 0#32
  let v481 : BitVec 1 := Scalar.cmpi .slt v472 c0_i32_203
  let v482 : BitVec 32 := Scalar.extui v481
  let v483 : BitVec 32 := Scalar.subi v480 v482
  let c16_i32_201 : BitVec 32 := 16#32
  let c0_i32_204 : BitVec 32 := 0#32
  let v484 : BitVec 1 := Scalar.cmpi .sgt c16_i32_201 c0_i32_204
  let v485 : BitVec 32 := Scalar.extui v484
  let c0_i32_205 : BitVec 32 := 0#32
  let v486 : BitVec 1 := Scalar.cmpi .slt c16_i32_201 c0_i32_205
  let v487 : BitVec 32 := Scalar.extui v486
  let v488 : BitVec 32 := Scalar.subi v485 v487
  let v489 : BitVec 1 := Scalar.cmpi .ne v483 v488
  let v490 : BitVec 32 := Scalar.remsi v472 c16_i32_201
  let c0_i32_206 : BitVec 32 := 0#32
  let v491 : BitVec 1 := Scalar.cmpi .ne v490 c0_i32_206
  let v492 : BitVec 1 := Scalar.andi v489 v491
  let v478 : BitVec 32 := Scalar.divsi v472 c16_i32_201
  let c1_i32_207 : BitVec 32 := 1#32
  let v493 : BitVec 32 := Scalar.subi v478 c1_i32_207
  let v494 : BitVec 32 := Scalar.select v492 v493 v478
  let v495 : Index := Scalar.indexCast v494
  let c0_208 : Index := 0#32
  let c0_209 : Index := 0#32
  ![v495.toNat, 0, 0]
def k0_off17 (i : grid0.Coords) (k0_t2 : Fin (k0_t2_loop i).trips) (c0_i32_194 : BitVec 32) : Fin 5 → Nat :=
  let c0_219 : Index := 0#32
  let c0_220 : Index := 0#32
  let c2_i32_215 : BitVec 32 := 2#32
  let c4_i32_193 : BitVec 32 := 4#32
  let c0_i32_150 : BitVec 32 := 0#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_144 : BitVec 32 := 0#32
  let v304 : BitVec 1 := Scalar.cmpi .sgt v287 c0_i32_144
  let v305 : BitVec 32 := Scalar.extui v304
  let c0_i32_145 : BitVec 32 := 0#32
  let v306 : BitVec 1 := Scalar.cmpi .slt v287 c0_i32_145
  let v307 : BitVec 32 := Scalar.extui v306
  let v308 : BitVec 32 := Scalar.subi v305 v307
  let c4_i32_143 : BitVec 32 := 4#32
  let c0_i32_146 : BitVec 32 := 0#32
  let v309 : BitVec 1 := Scalar.cmpi .sgt c4_i32_143 c0_i32_146
  let v310 : BitVec 32 := Scalar.extui v309
  let c0_i32_147 : BitVec 32 := 0#32
  let v311 : BitVec 1 := Scalar.cmpi .slt c4_i32_143 c0_i32_147
  let v312 : BitVec 32 := Scalar.extui v311
  let v313 : BitVec 32 := Scalar.subi v310 v312
  let v314 : BitVec 1 := Scalar.cmpi .ne v308 v313
  let v315 : BitVec 32 := Scalar.remsi v287 c4_i32_143
  let c0_i32_148 : BitVec 32 := 0#32
  let v316 : BitVec 1 := Scalar.cmpi .ne v315 c0_i32_148
  let v317 : BitVec 1 := Scalar.andi v314 v316
  let v303 : BitVec 32 := Scalar.divsi v287 c4_i32_143
  let c1_i32_149 : BitVec 32 := 1#32
  let v318 : BitVec 32 := Scalar.subi v303 c1_i32_149
  let v319 : BitVec 32 := Scalar.select v317 v318 v303
  let v320 : BitVec 32 := Scalar.subi v319 c0_i32_150
  let c1_i32_151 : BitVec 32 := 1#32
  let v322 : BitVec 32 := Scalar.divsi v320 c1_i32_151
  let v323 : BitVec 32 := Scalar.muli v322 c1_i32_151
  let v324 : BitVec 32 := Scalar.addi c0_i32_150 v323
  let c1_i32_153 : BitVec 32 := 1#32
  let arg16 : BitVec 32 := Scf.iv v324 c1_i32_153 k0_t2
  let v469 : BitVec 32 := Scalar.muli c4_i32_193 arg16
  let v470 : BitVec 32 := Scalar.addi v469 c0_i32_194
  let v504 : BitVec 32 := Scalar.muli c2_i32_215 v470
  let v516 : Index := Scalar.indexCast v504
  let c0_221 : Index := 0#32
  let c0_222 : Index := 0#32
  ![0, 0, v516.toNat, 0, 0]
def k0_mult18 (i : grid0.Coords) (k0_t2 : Fin (k0_t2_loop i).trips) : BitVec 32 :=
  let c2_i32_224 : BitVec 32 := 2#32
  let c4_i32_193 : BitVec 32 := 4#32
  let c0_i32_150 : BitVec 32 := 0#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_144 : BitVec 32 := 0#32
  let v304 : BitVec 1 := Scalar.cmpi .sgt v287 c0_i32_144
  let v305 : BitVec 32 := Scalar.extui v304
  let c0_i32_145 : BitVec 32 := 0#32
  let v306 : BitVec 1 := Scalar.cmpi .slt v287 c0_i32_145
  let v307 : BitVec 32 := Scalar.extui v306
  let v308 : BitVec 32 := Scalar.subi v305 v307
  let c4_i32_143 : BitVec 32 := 4#32
  let c0_i32_146 : BitVec 32 := 0#32
  let v309 : BitVec 1 := Scalar.cmpi .sgt c4_i32_143 c0_i32_146
  let v310 : BitVec 32 := Scalar.extui v309
  let c0_i32_147 : BitVec 32 := 0#32
  let v311 : BitVec 1 := Scalar.cmpi .slt c4_i32_143 c0_i32_147
  let v312 : BitVec 32 := Scalar.extui v311
  let v313 : BitVec 32 := Scalar.subi v310 v312
  let v314 : BitVec 1 := Scalar.cmpi .ne v308 v313
  let v315 : BitVec 32 := Scalar.remsi v287 c4_i32_143
  let c0_i32_148 : BitVec 32 := 0#32
  let v316 : BitVec 1 := Scalar.cmpi .ne v315 c0_i32_148
  let v317 : BitVec 1 := Scalar.andi v314 v316
  let v303 : BitVec 32 := Scalar.divsi v287 c4_i32_143
  let c1_i32_149 : BitVec 32 := 1#32
  let v318 : BitVec 32 := Scalar.subi v303 c1_i32_149
  let v319 : BitVec 32 := Scalar.select v317 v318 v303
  let v320 : BitVec 32 := Scalar.subi v319 c0_i32_150
  let c1_i32_151 : BitVec 32 := 1#32
  let v322 : BitVec 32 := Scalar.divsi v320 c1_i32_151
  let v323 : BitVec 32 := Scalar.muli v322 c1_i32_151
  let v324 : BitVec 32 := Scalar.addi c0_i32_150 v323
  let c1_i32_153 : BitVec 32 := 1#32
  let arg16 : BitVec 32 := Scf.iv v324 c1_i32_153 k0_t2
  let v469 : BitVec 32 := Scalar.muli c4_i32_193 arg16
  let c0_i32_194 : BitVec 32 := 0#32
  let v470 : BitVec 32 := Scalar.addi v469 c0_i32_194
  let v521 : BitVec 32 := Scalar.muli c2_i32_224 v470
  let c2_i32_225 : BitVec 32 := 2#32
  let v522 : BitVec 32 := Scalar.addi v521 c2_i32_225
  let c512_i32_226 : BitVec 32 := 512#32
  let v523 : BitVec 32 := Scalar.muli v522 c512_i32_226
  v523
def k0_off18 (i : grid0.Coords) (k0_t2 : Fin (k0_t2_loop i).trips) (c0_i32_194 : BitVec 32) : Fin 5 → Nat :=
  let c0_249 : Index := 0#32
  let c0_250 : Index := 0#32
  let c2_i32_244 : BitVec 32 := 2#32
  let c4_i32_193 : BitVec 32 := 4#32
  let c0_i32_150 : BitVec 32 := 0#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_144 : BitVec 32 := 0#32
  let v304 : BitVec 1 := Scalar.cmpi .sgt v287 c0_i32_144
  let v305 : BitVec 32 := Scalar.extui v304
  let c0_i32_145 : BitVec 32 := 0#32
  let v306 : BitVec 1 := Scalar.cmpi .slt v287 c0_i32_145
  let v307 : BitVec 32 := Scalar.extui v306
  let v308 : BitVec 32 := Scalar.subi v305 v307
  let c4_i32_143 : BitVec 32 := 4#32
  let c0_i32_146 : BitVec 32 := 0#32
  let v309 : BitVec 1 := Scalar.cmpi .sgt c4_i32_143 c0_i32_146
  let v310 : BitVec 32 := Scalar.extui v309
  let c0_i32_147 : BitVec 32 := 0#32
  let v311 : BitVec 1 := Scalar.cmpi .slt c4_i32_143 c0_i32_147
  let v312 : BitVec 32 := Scalar.extui v311
  let v313 : BitVec 32 := Scalar.subi v310 v312
  let v314 : BitVec 1 := Scalar.cmpi .ne v308 v313
  let v315 : BitVec 32 := Scalar.remsi v287 c4_i32_143
  let c0_i32_148 : BitVec 32 := 0#32
  let v316 : BitVec 1 := Scalar.cmpi .ne v315 c0_i32_148
  let v317 : BitVec 1 := Scalar.andi v314 v316
  let v303 : BitVec 32 := Scalar.divsi v287 c4_i32_143
  let c1_i32_149 : BitVec 32 := 1#32
  let v318 : BitVec 32 := Scalar.subi v303 c1_i32_149
  let v319 : BitVec 32 := Scalar.select v317 v318 v303
  let v320 : BitVec 32 := Scalar.subi v319 c0_i32_150
  let c1_i32_151 : BitVec 32 := 1#32
  let v322 : BitVec 32 := Scalar.divsi v320 c1_i32_151
  let v323 : BitVec 32 := Scalar.muli v322 c1_i32_151
  let v324 : BitVec 32 := Scalar.addi c0_i32_150 v323
  let c1_i32_153 : BitVec 32 := 1#32
  let arg16 : BitVec 32 := Scf.iv v324 c1_i32_153 k0_t2
  let v469 : BitVec 32 := Scalar.muli c4_i32_193 arg16
  let v470 : BitVec 32 := Scalar.addi v469 c0_i32_194
  let v554 : BitVec 32 := Scalar.muli c2_i32_244 v470
  let c1_i32_245 : BitVec 32 := 1#32
  let v555 : BitVec 32 := Scalar.addi v554 c1_i32_245
  let v567 : Index := Scalar.indexCast v555
  let c0_251 : Index := 0#32
  let c0_252 : Index := 0#32
  ![0, 0, v567.toNat, 0, 0]
def k0_mult19 (i : grid0.Coords) (k0_t2 : Fin (k0_t2_loop i).trips) : BitVec 32 :=
  let c2_i32_256 : BitVec 32 := 2#32
  let c4_i32_254 : BitVec 32 := 4#32
  let c0_i32_150 : BitVec 32 := 0#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_144 : BitVec 32 := 0#32
  let v304 : BitVec 1 := Scalar.cmpi .sgt v287 c0_i32_144
  let v305 : BitVec 32 := Scalar.extui v304
  let c0_i32_145 : BitVec 32 := 0#32
  let v306 : BitVec 1 := Scalar.cmpi .slt v287 c0_i32_145
  let v307 : BitVec 32 := Scalar.extui v306
  let v308 : BitVec 32 := Scalar.subi v305 v307
  let c4_i32_143 : BitVec 32 := 4#32
  let c0_i32_146 : BitVec 32 := 0#32
  let v309 : BitVec 1 := Scalar.cmpi .sgt c4_i32_143 c0_i32_146
  let v310 : BitVec 32 := Scalar.extui v309
  let c0_i32_147 : BitVec 32 := 0#32
  let v311 : BitVec 1 := Scalar.cmpi .slt c4_i32_143 c0_i32_147
  let v312 : BitVec 32 := Scalar.extui v311
  let v313 : BitVec 32 := Scalar.subi v310 v312
  let v314 : BitVec 1 := Scalar.cmpi .ne v308 v313
  let v315 : BitVec 32 := Scalar.remsi v287 c4_i32_143
  let c0_i32_148 : BitVec 32 := 0#32
  let v316 : BitVec 1 := Scalar.cmpi .ne v315 c0_i32_148
  let v317 : BitVec 1 := Scalar.andi v314 v316
  let v303 : BitVec 32 := Scalar.divsi v287 c4_i32_143
  let c1_i32_149 : BitVec 32 := 1#32
  let v318 : BitVec 32 := Scalar.subi v303 c1_i32_149
  let v319 : BitVec 32 := Scalar.select v317 v318 v303
  let v320 : BitVec 32 := Scalar.subi v319 c0_i32_150
  let c1_i32_151 : BitVec 32 := 1#32
  let v322 : BitVec 32 := Scalar.divsi v320 c1_i32_151
  let v323 : BitVec 32 := Scalar.muli v322 c1_i32_151
  let v324 : BitVec 32 := Scalar.addi c0_i32_150 v323
  let c1_i32_153 : BitVec 32 := 1#32
  let arg16 : BitVec 32 := Scf.iv v324 c1_i32_153 k0_t2
  let v572 : BitVec 32 := Scalar.muli c4_i32_254 arg16
  let c1_i32_255 : BitVec 32 := 1#32
  let v573 : BitVec 32 := Scalar.addi v572 c1_i32_255
  let v574 : BitVec 32 := Scalar.muli c2_i32_256 v573
  let c1_i32_257 : BitVec 32 := 1#32
  let v575 : BitVec 32 := Scalar.addi v574 c1_i32_257
  let c512_i32_258 : BitVec 32 := 512#32
  let v576 : BitVec 32 := Scalar.muli v575 c512_i32_258
  v576
def k0_mult20 (i : grid0.Coords) (k0_t2 : Fin (k0_t2_loop i).trips) : BitVec 32 :=
  let c2_i32_285 : BitVec 32 := 2#32
  let c4_i32_254 : BitVec 32 := 4#32
  let c0_i32_150 : BitVec 32 := 0#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_144 : BitVec 32 := 0#32
  let v304 : BitVec 1 := Scalar.cmpi .sgt v287 c0_i32_144
  let v305 : BitVec 32 := Scalar.extui v304
  let c0_i32_145 : BitVec 32 := 0#32
  let v306 : BitVec 1 := Scalar.cmpi .slt v287 c0_i32_145
  let v307 : BitVec 32 := Scalar.extui v306
  let v308 : BitVec 32 := Scalar.subi v305 v307
  let c4_i32_143 : BitVec 32 := 4#32
  let c0_i32_146 : BitVec 32 := 0#32
  let v309 : BitVec 1 := Scalar.cmpi .sgt c4_i32_143 c0_i32_146
  let v310 : BitVec 32 := Scalar.extui v309
  let c0_i32_147 : BitVec 32 := 0#32
  let v311 : BitVec 1 := Scalar.cmpi .slt c4_i32_143 c0_i32_147
  let v312 : BitVec 32 := Scalar.extui v311
  let v313 : BitVec 32 := Scalar.subi v310 v312
  let v314 : BitVec 1 := Scalar.cmpi .ne v308 v313
  let v315 : BitVec 32 := Scalar.remsi v287 c4_i32_143
  let c0_i32_148 : BitVec 32 := 0#32
  let v316 : BitVec 1 := Scalar.cmpi .ne v315 c0_i32_148
  let v317 : BitVec 1 := Scalar.andi v314 v316
  let v303 : BitVec 32 := Scalar.divsi v287 c4_i32_143
  let c1_i32_149 : BitVec 32 := 1#32
  let v318 : BitVec 32 := Scalar.subi v303 c1_i32_149
  let v319 : BitVec 32 := Scalar.select v317 v318 v303
  let v320 : BitVec 32 := Scalar.subi v319 c0_i32_150
  let c1_i32_151 : BitVec 32 := 1#32
  let v322 : BitVec 32 := Scalar.divsi v320 c1_i32_151
  let v323 : BitVec 32 := Scalar.muli v322 c1_i32_151
  let v324 : BitVec 32 := Scalar.addi c0_i32_150 v323
  let c1_i32_153 : BitVec 32 := 1#32
  let arg16 : BitVec 32 := Scf.iv v324 c1_i32_153 k0_t2
  let v572 : BitVec 32 := Scalar.muli c4_i32_254 arg16
  let c1_i32_255 : BitVec 32 := 1#32
  let v573 : BitVec 32 := Scalar.addi v572 c1_i32_255
  let v624 : BitVec 32 := Scalar.muli c2_i32_285 v573
  let c2_i32_286 : BitVec 32 := 2#32
  let v625 : BitVec 32 := Scalar.addi v624 c2_i32_286
  let c512_i32_287 : BitVec 32 := 512#32
  let v626 : BitVec 32 := Scalar.muli v625 c512_i32_287
  v626
def k0_mult21 (i : grid0.Coords) (k0_t2 : Fin (k0_t2_loop i).trips) : BitVec 32 :=
  let c2_i32_317 : BitVec 32 := 2#32
  let c4_i32_315 : BitVec 32 := 4#32
  let c0_i32_150 : BitVec 32 := 0#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_144 : BitVec 32 := 0#32
  let v304 : BitVec 1 := Scalar.cmpi .sgt v287 c0_i32_144
  let v305 : BitVec 32 := Scalar.extui v304
  let c0_i32_145 : BitVec 32 := 0#32
  let v306 : BitVec 1 := Scalar.cmpi .slt v287 c0_i32_145
  let v307 : BitVec 32 := Scalar.extui v306
  let v308 : BitVec 32 := Scalar.subi v305 v307
  let c4_i32_143 : BitVec 32 := 4#32
  let c0_i32_146 : BitVec 32 := 0#32
  let v309 : BitVec 1 := Scalar.cmpi .sgt c4_i32_143 c0_i32_146
  let v310 : BitVec 32 := Scalar.extui v309
  let c0_i32_147 : BitVec 32 := 0#32
  let v311 : BitVec 1 := Scalar.cmpi .slt c4_i32_143 c0_i32_147
  let v312 : BitVec 32 := Scalar.extui v311
  let v313 : BitVec 32 := Scalar.subi v310 v312
  let v314 : BitVec 1 := Scalar.cmpi .ne v308 v313
  let v315 : BitVec 32 := Scalar.remsi v287 c4_i32_143
  let c0_i32_148 : BitVec 32 := 0#32
  let v316 : BitVec 1 := Scalar.cmpi .ne v315 c0_i32_148
  let v317 : BitVec 1 := Scalar.andi v314 v316
  let v303 : BitVec 32 := Scalar.divsi v287 c4_i32_143
  let c1_i32_149 : BitVec 32 := 1#32
  let v318 : BitVec 32 := Scalar.subi v303 c1_i32_149
  let v319 : BitVec 32 := Scalar.select v317 v318 v303
  let v320 : BitVec 32 := Scalar.subi v319 c0_i32_150
  let c1_i32_151 : BitVec 32 := 1#32
  let v322 : BitVec 32 := Scalar.divsi v320 c1_i32_151
  let v323 : BitVec 32 := Scalar.muli v322 c1_i32_151
  let v324 : BitVec 32 := Scalar.addi c0_i32_150 v323
  let c1_i32_153 : BitVec 32 := 1#32
  let arg16 : BitVec 32 := Scf.iv v324 c1_i32_153 k0_t2
  let v675 : BitVec 32 := Scalar.muli c4_i32_315 arg16
  let c2_i32_316 : BitVec 32 := 2#32
  let v676 : BitVec 32 := Scalar.addi v675 c2_i32_316
  let v677 : BitVec 32 := Scalar.muli c2_i32_317 v676
  let c1_i32_318 : BitVec 32 := 1#32
  let v678 : BitVec 32 := Scalar.addi v677 c1_i32_318
  let c512_i32_319 : BitVec 32 := 512#32
  let v679 : BitVec 32 := Scalar.muli v678 c512_i32_319
  v679
def k0_mult22 (i : grid0.Coords) (k0_t2 : Fin (k0_t2_loop i).trips) : BitVec 32 :=
  let c2_i32_346 : BitVec 32 := 2#32
  let c4_i32_315 : BitVec 32 := 4#32
  let c0_i32_150 : BitVec 32 := 0#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_144 : BitVec 32 := 0#32
  let v304 : BitVec 1 := Scalar.cmpi .sgt v287 c0_i32_144
  let v305 : BitVec 32 := Scalar.extui v304
  let c0_i32_145 : BitVec 32 := 0#32
  let v306 : BitVec 1 := Scalar.cmpi .slt v287 c0_i32_145
  let v307 : BitVec 32 := Scalar.extui v306
  let v308 : BitVec 32 := Scalar.subi v305 v307
  let c4_i32_143 : BitVec 32 := 4#32
  let c0_i32_146 : BitVec 32 := 0#32
  let v309 : BitVec 1 := Scalar.cmpi .sgt c4_i32_143 c0_i32_146
  let v310 : BitVec 32 := Scalar.extui v309
  let c0_i32_147 : BitVec 32 := 0#32
  let v311 : BitVec 1 := Scalar.cmpi .slt c4_i32_143 c0_i32_147
  let v312 : BitVec 32 := Scalar.extui v311
  let v313 : BitVec 32 := Scalar.subi v310 v312
  let v314 : BitVec 1 := Scalar.cmpi .ne v308 v313
  let v315 : BitVec 32 := Scalar.remsi v287 c4_i32_143
  let c0_i32_148 : BitVec 32 := 0#32
  let v316 : BitVec 1 := Scalar.cmpi .ne v315 c0_i32_148
  let v317 : BitVec 1 := Scalar.andi v314 v316
  let v303 : BitVec 32 := Scalar.divsi v287 c4_i32_143
  let c1_i32_149 : BitVec 32 := 1#32
  let v318 : BitVec 32 := Scalar.subi v303 c1_i32_149
  let v319 : BitVec 32 := Scalar.select v317 v318 v303
  let v320 : BitVec 32 := Scalar.subi v319 c0_i32_150
  let c1_i32_151 : BitVec 32 := 1#32
  let v322 : BitVec 32 := Scalar.divsi v320 c1_i32_151
  let v323 : BitVec 32 := Scalar.muli v322 c1_i32_151
  let v324 : BitVec 32 := Scalar.addi c0_i32_150 v323
  let c1_i32_153 : BitVec 32 := 1#32
  let arg16 : BitVec 32 := Scf.iv v324 c1_i32_153 k0_t2
  let v675 : BitVec 32 := Scalar.muli c4_i32_315 arg16
  let c2_i32_316 : BitVec 32 := 2#32
  let v676 : BitVec 32 := Scalar.addi v675 c2_i32_316
  let v727 : BitVec 32 := Scalar.muli c2_i32_346 v676
  let c2_i32_347 : BitVec 32 := 2#32
  let v728 : BitVec 32 := Scalar.addi v727 c2_i32_347
  let c512_i32_348 : BitVec 32 := 512#32
  let v729 : BitVec 32 := Scalar.muli v728 c512_i32_348
  v729
def k0_mult23 (i : grid0.Coords) (k0_t2 : Fin (k0_t2_loop i).trips) : BitVec 32 :=
  let c2_i32_378 : BitVec 32 := 2#32
  let c4_i32_376 : BitVec 32 := 4#32
  let c0_i32_150 : BitVec 32 := 0#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_144 : BitVec 32 := 0#32
  let v304 : BitVec 1 := Scalar.cmpi .sgt v287 c0_i32_144
  let v305 : BitVec 32 := Scalar.extui v304
  let c0_i32_145 : BitVec 32 := 0#32
  let v306 : BitVec 1 := Scalar.cmpi .slt v287 c0_i32_145
  let v307 : BitVec 32 := Scalar.extui v306
  let v308 : BitVec 32 := Scalar.subi v305 v307
  let c4_i32_143 : BitVec 32 := 4#32
  let c0_i32_146 : BitVec 32 := 0#32
  let v309 : BitVec 1 := Scalar.cmpi .sgt c4_i32_143 c0_i32_146
  let v310 : BitVec 32 := Scalar.extui v309
  let c0_i32_147 : BitVec 32 := 0#32
  let v311 : BitVec 1 := Scalar.cmpi .slt c4_i32_143 c0_i32_147
  let v312 : BitVec 32 := Scalar.extui v311
  let v313 : BitVec 32 := Scalar.subi v310 v312
  let v314 : BitVec 1 := Scalar.cmpi .ne v308 v313
  let v315 : BitVec 32 := Scalar.remsi v287 c4_i32_143
  let c0_i32_148 : BitVec 32 := 0#32
  let v316 : BitVec 1 := Scalar.cmpi .ne v315 c0_i32_148
  let v317 : BitVec 1 := Scalar.andi v314 v316
  let v303 : BitVec 32 := Scalar.divsi v287 c4_i32_143
  let c1_i32_149 : BitVec 32 := 1#32
  let v318 : BitVec 32 := Scalar.subi v303 c1_i32_149
  let v319 : BitVec 32 := Scalar.select v317 v318 v303
  let v320 : BitVec 32 := Scalar.subi v319 c0_i32_150
  let c1_i32_151 : BitVec 32 := 1#32
  let v322 : BitVec 32 := Scalar.divsi v320 c1_i32_151
  let v323 : BitVec 32 := Scalar.muli v322 c1_i32_151
  let v324 : BitVec 32 := Scalar.addi c0_i32_150 v323
  let c1_i32_153 : BitVec 32 := 1#32
  let arg16 : BitVec 32 := Scf.iv v324 c1_i32_153 k0_t2
  let v778 : BitVec 32 := Scalar.muli c4_i32_376 arg16
  let c3_i32_377 : BitVec 32 := 3#32
  let v779 : BitVec 32 := Scalar.addi v778 c3_i32_377
  let v780 : BitVec 32 := Scalar.muli c2_i32_378 v779
  let c1_i32_379 : BitVec 32 := 1#32
  let v781 : BitVec 32 := Scalar.addi v780 c1_i32_379
  let c512_i32_380 : BitVec 32 := 512#32
  let v782 : BitVec 32 := Scalar.muli v781 c512_i32_380
  v782
def k0_mult24 (i : grid0.Coords) (k0_t2 : Fin (k0_t2_loop i).trips) : BitVec 32 :=
  let c2_i32_407 : BitVec 32 := 2#32
  let c4_i32_376 : BitVec 32 := 4#32
  let c0_i32_150 : BitVec 32 := 0#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_144 : BitVec 32 := 0#32
  let v304 : BitVec 1 := Scalar.cmpi .sgt v287 c0_i32_144
  let v305 : BitVec 32 := Scalar.extui v304
  let c0_i32_145 : BitVec 32 := 0#32
  let v306 : BitVec 1 := Scalar.cmpi .slt v287 c0_i32_145
  let v307 : BitVec 32 := Scalar.extui v306
  let v308 : BitVec 32 := Scalar.subi v305 v307
  let c4_i32_143 : BitVec 32 := 4#32
  let c0_i32_146 : BitVec 32 := 0#32
  let v309 : BitVec 1 := Scalar.cmpi .sgt c4_i32_143 c0_i32_146
  let v310 : BitVec 32 := Scalar.extui v309
  let c0_i32_147 : BitVec 32 := 0#32
  let v311 : BitVec 1 := Scalar.cmpi .slt c4_i32_143 c0_i32_147
  let v312 : BitVec 32 := Scalar.extui v311
  let v313 : BitVec 32 := Scalar.subi v310 v312
  let v314 : BitVec 1 := Scalar.cmpi .ne v308 v313
  let v315 : BitVec 32 := Scalar.remsi v287 c4_i32_143
  let c0_i32_148 : BitVec 32 := 0#32
  let v316 : BitVec 1 := Scalar.cmpi .ne v315 c0_i32_148
  let v317 : BitVec 1 := Scalar.andi v314 v316
  let v303 : BitVec 32 := Scalar.divsi v287 c4_i32_143
  let c1_i32_149 : BitVec 32 := 1#32
  let v318 : BitVec 32 := Scalar.subi v303 c1_i32_149
  let v319 : BitVec 32 := Scalar.select v317 v318 v303
  let v320 : BitVec 32 := Scalar.subi v319 c0_i32_150
  let c1_i32_151 : BitVec 32 := 1#32
  let v322 : BitVec 32 := Scalar.divsi v320 c1_i32_151
  let v323 : BitVec 32 := Scalar.muli v322 c1_i32_151
  let v324 : BitVec 32 := Scalar.addi c0_i32_150 v323
  let c1_i32_153 : BitVec 32 := 1#32
  let arg16 : BitVec 32 := Scf.iv v324 c1_i32_153 k0_t2
  let v778 : BitVec 32 := Scalar.muli c4_i32_376 arg16
  let c3_i32_377 : BitVec 32 := 3#32
  let v779 : BitVec 32 := Scalar.addi v778 c3_i32_377
  let v830 : BitVec 32 := Scalar.muli c2_i32_407 v779
  let c2_i32_408 : BitVec 32 := 2#32
  let v831 : BitVec 32 := Scalar.addi v830 c2_i32_408
  let c512_i32_409 : BitVec 32 := 512#32
  let v832 : BitVec 32 := Scalar.muli v831 c512_i32_409
  v832
@[reducible] def k0_t3_loop (i : grid0.Coords) : Scf.Loop 32 :=
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c0_i32_163 : BitVec 32 := 0#32
  let v346 : BitVec 1 := Scalar.cmpi .sgt v287 c0_i32_163
  let v347 : BitVec 32 := Scalar.extui v346
  let c0_i32_164 : BitVec 32 := 0#32
  let v348 : BitVec 1 := Scalar.cmpi .slt v287 c0_i32_164
  let v349 : BitVec 32 := Scalar.extui v348
  let v350 : BitVec 32 := Scalar.subi v347 v349
  let c2_i32_162 : BitVec 32 := 2#32
  let c0_i32_165 : BitVec 32 := 0#32
  let v351 : BitVec 1 := Scalar.cmpi .sgt c2_i32_162 c0_i32_165
  let v352 : BitVec 32 := Scalar.extui v351
  let c0_i32_166 : BitVec 32 := 0#32
  let v353 : BitVec 1 := Scalar.cmpi .slt c2_i32_162 c0_i32_166
  let v354 : BitVec 32 := Scalar.extui v353
  let v355 : BitVec 32 := Scalar.subi v352 v354
  let v356 : BitVec 1 := Scalar.cmpi .ne v350 v355
  let v357 : BitVec 32 := Scalar.remsi v287 c2_i32_162
  let c0_i32_167 : BitVec 32 := 0#32
  let v358 : BitVec 1 := Scalar.cmpi .ne v357 c0_i32_167
  let v359 : BitVec 1 := Scalar.andi v356 v358
  let v345 : BitVec 32 := Scalar.divsi v287 c2_i32_162
  let c1_i32_168 : BitVec 32 := 1#32
  let v360 : BitVec 32 := Scalar.subi v345 c1_i32_168
  let v361 : BitVec 32 := Scalar.select v359 v360 v345
  let v362 : BitVec 32 := Scalar.subi v361 v344
  let c1_i32_169 : BitVec 32 := 1#32
  let v364 : BitVec 32 := Scalar.divsi v362 c1_i32_169
  let v365 : BitVec 32 := Scalar.muli v364 c1_i32_169
  let v366 : BitVec 32 := Scalar.addi v344 v365
  let c1_i32_170 : BitVec 32 := 1#32
  ⟨v344, v366, c1_i32_170⟩
def k0_mult25 (i : grid0.Coords) (k0_t3 : Fin (k0_t3_loop i).trips) : BitVec 32 :=
  let c2_i32_195 : BitVec 32 := 2#32
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c1_i32_170 : BitVec 32 := 1#32
  let arg16 : BitVec 32 := Scf.iv v344 c1_i32_170 k0_t3
  let v469 : BitVec 32 := Scalar.muli c2_i32_193 arg16
  let c0_i32_194 : BitVec 32 := 0#32
  let v470 : BitVec 32 := Scalar.addi v469 c0_i32_194
  let v471 : BitVec 32 := Scalar.muli c2_i32_195 v470
  let c1_i32_196 : BitVec 32 := 1#32
  let v472 : BitVec 32 := Scalar.addi v471 c1_i32_196
  let c512_i32_197 : BitVec 32 := 512#32
  let v473 : BitVec 32 := Scalar.muli v472 c512_i32_197
  v473
def k0_off19 (i : grid0.Coords) (k0_t3 : Fin (k0_t3_loop i).trips) (c0_i32_194 : BitVec 32) (c1_i32_196 : BitVec 32) : Fin 4 → Nat :=
  let c0_198 : Index := 0#32
  let c0_199 : Index := 0#32
  let c2_i32_195 : BitVec 32 := 2#32
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c1_i32_170 : BitVec 32 := 1#32
  let arg16 : BitVec 32 := Scf.iv v344 c1_i32_170 k0_t3
  let v469 : BitVec 32 := Scalar.muli c2_i32_193 arg16
  let v470 : BitVec 32 := Scalar.addi v469 c0_i32_194
  let v471 : BitVec 32 := Scalar.muli c2_i32_195 v470
  let v472 : BitVec 32 := Scalar.addi v471 c1_i32_196
  let c512_i32_197 : BitVec 32 := 512#32
  let v473 : BitVec 32 := Scalar.muli v472 c512_i32_197
  let v474 : BitVec 32 := v473
  let v475 : Index := Scalar.indexCast v474
  let c0_200 : Index := 0#32
  ![0, 0, v475.toNat, 0]
def k0_off20 (i : grid0.Coords) (k0_t3 : Fin (k0_t3_loop i).trips) (c0_i32_194 : BitVec 32) (c1_i32_196 : BitVec 32) : Fin 3 → Nat :=
  let c2_i32_195 : BitVec 32 := 2#32
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c1_i32_170 : BitVec 32 := 1#32
  let arg16 : BitVec 32 := Scf.iv v344 c1_i32_170 k0_t3
  let v469 : BitVec 32 := Scalar.muli c2_i32_193 arg16
  let v470 : BitVec 32 := Scalar.addi v469 c0_i32_194
  let v471 : BitVec 32 := Scalar.muli c2_i32_195 v470
  let v472 : BitVec 32 := Scalar.addi v471 c1_i32_196
  let c0_i32_202 : BitVec 32 := 0#32
  let v479 : BitVec 1 := Scalar.cmpi .sgt v472 c0_i32_202
  let v480 : BitVec 32 := Scalar.extui v479
  let c0_i32_203 : BitVec 32 := 0#32
  let v481 : BitVec 1 := Scalar.cmpi .slt v472 c0_i32_203
  let v482 : BitVec 32 := Scalar.extui v481
  let v483 : BitVec 32 := Scalar.subi v480 v482
  let c16_i32_201 : BitVec 32 := 16#32
  let c0_i32_204 : BitVec 32 := 0#32
  let v484 : BitVec 1 := Scalar.cmpi .sgt c16_i32_201 c0_i32_204
  let v485 : BitVec 32 := Scalar.extui v484
  let c0_i32_205 : BitVec 32 := 0#32
  let v486 : BitVec 1 := Scalar.cmpi .slt c16_i32_201 c0_i32_205
  let v487 : BitVec 32 := Scalar.extui v486
  let v488 : BitVec 32 := Scalar.subi v485 v487
  let v489 : BitVec 1 := Scalar.cmpi .ne v483 v488
  let v490 : BitVec 32 := Scalar.remsi v472 c16_i32_201
  let c0_i32_206 : BitVec 32 := 0#32
  let v491 : BitVec 1 := Scalar.cmpi .ne v490 c0_i32_206
  let v492 : BitVec 1 := Scalar.andi v489 v491
  let v478 : BitVec 32 := Scalar.divsi v472 c16_i32_201
  let c1_i32_207 : BitVec 32 := 1#32
  let v493 : BitVec 32 := Scalar.subi v478 c1_i32_207
  let v494 : BitVec 32 := Scalar.select v492 v493 v478
  let v495 : Index := Scalar.indexCast v494
  let c0_208 : Index := 0#32
  let c0_209 : Index := 0#32
  ![v495.toNat, 0, 0]
def k0_off21 (i : grid0.Coords) (k0_t3 : Fin (k0_t3_loop i).trips) (c0_i32_194 : BitVec 32) : Fin 5 → Nat :=
  let c0_219 : Index := 0#32
  let c0_220 : Index := 0#32
  let c2_i32_215 : BitVec 32 := 2#32
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c1_i32_170 : BitVec 32 := 1#32
  let arg16 : BitVec 32 := Scf.iv v344 c1_i32_170 k0_t3
  let v469 : BitVec 32 := Scalar.muli c2_i32_193 arg16
  let v470 : BitVec 32 := Scalar.addi v469 c0_i32_194
  let v504 : BitVec 32 := Scalar.muli c2_i32_215 v470
  let v516 : Index := Scalar.indexCast v504
  let c0_221 : Index := 0#32
  let c0_222 : Index := 0#32
  ![0, 0, v516.toNat, 0, 0]
def k0_mult26 (i : grid0.Coords) (k0_t3 : Fin (k0_t3_loop i).trips) : BitVec 32 :=
  let c2_i32_224 : BitVec 32 := 2#32
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c1_i32_170 : BitVec 32 := 1#32
  let arg16 : BitVec 32 := Scf.iv v344 c1_i32_170 k0_t3
  let v469 : BitVec 32 := Scalar.muli c2_i32_193 arg16
  let c0_i32_194 : BitVec 32 := 0#32
  let v470 : BitVec 32 := Scalar.addi v469 c0_i32_194
  let v521 : BitVec 32 := Scalar.muli c2_i32_224 v470
  let c2_i32_225 : BitVec 32 := 2#32
  let v522 : BitVec 32 := Scalar.addi v521 c2_i32_225
  let c512_i32_226 : BitVec 32 := 512#32
  let v523 : BitVec 32 := Scalar.muli v522 c512_i32_226
  v523
def k0_off22 (i : grid0.Coords) (k0_t3 : Fin (k0_t3_loop i).trips) (c0_i32_194 : BitVec 32) : Fin 5 → Nat :=
  let c0_249 : Index := 0#32
  let c0_250 : Index := 0#32
  let c2_i32_244 : BitVec 32 := 2#32
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c1_i32_170 : BitVec 32 := 1#32
  let arg16 : BitVec 32 := Scf.iv v344 c1_i32_170 k0_t3
  let v469 : BitVec 32 := Scalar.muli c2_i32_193 arg16
  let v470 : BitVec 32 := Scalar.addi v469 c0_i32_194
  let v554 : BitVec 32 := Scalar.muli c2_i32_244 v470
  let c1_i32_245 : BitVec 32 := 1#32
  let v555 : BitVec 32 := Scalar.addi v554 c1_i32_245
  let v567 : Index := Scalar.indexCast v555
  let c0_251 : Index := 0#32
  let c0_252 : Index := 0#32
  ![0, 0, v567.toNat, 0, 0]
def k0_mult27 (i : grid0.Coords) (k0_t3 : Fin (k0_t3_loop i).trips) : BitVec 32 :=
  let c2_i32_256 : BitVec 32 := 2#32
  let c2_i32_254 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c1_i32_170 : BitVec 32 := 1#32
  let arg16 : BitVec 32 := Scf.iv v344 c1_i32_170 k0_t3
  let v572 : BitVec 32 := Scalar.muli c2_i32_254 arg16
  let c1_i32_255 : BitVec 32 := 1#32
  let v573 : BitVec 32 := Scalar.addi v572 c1_i32_255
  let v574 : BitVec 32 := Scalar.muli c2_i32_256 v573
  let c1_i32_257 : BitVec 32 := 1#32
  let v575 : BitVec 32 := Scalar.addi v574 c1_i32_257
  let c512_i32_258 : BitVec 32 := 512#32
  let v576 : BitVec 32 := Scalar.muli v575 c512_i32_258
  v576
def k0_mult28 (i : grid0.Coords) (k0_t3 : Fin (k0_t3_loop i).trips) : BitVec 32 :=
  let c2_i32_285 : BitVec 32 := 2#32
  let c2_i32_254 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c1_i32_170 : BitVec 32 := 1#32
  let arg16 : BitVec 32 := Scf.iv v344 c1_i32_170 k0_t3
  let v572 : BitVec 32 := Scalar.muli c2_i32_254 arg16
  let c1_i32_255 : BitVec 32 := 1#32
  let v573 : BitVec 32 := Scalar.addi v572 c1_i32_255
  let v624 : BitVec 32 := Scalar.muli c2_i32_285 v573
  let c2_i32_286 : BitVec 32 := 2#32
  let v625 : BitVec 32 := Scalar.addi v624 c2_i32_286
  let c512_i32_287 : BitVec 32 := 512#32
  let v626 : BitVec 32 := Scalar.muli v625 c512_i32_287
  v626
@[reducible] def k0_t4_loop (i : grid0.Coords) : Scf.Loop 32 :=
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c0_i32_163 : BitVec 32 := 0#32
  let v346 : BitVec 1 := Scalar.cmpi .sgt v287 c0_i32_163
  let v347 : BitVec 32 := Scalar.extui v346
  let c0_i32_164 : BitVec 32 := 0#32
  let v348 : BitVec 1 := Scalar.cmpi .slt v287 c0_i32_164
  let v349 : BitVec 32 := Scalar.extui v348
  let v350 : BitVec 32 := Scalar.subi v347 v349
  let c2_i32_162 : BitVec 32 := 2#32
  let c0_i32_165 : BitVec 32 := 0#32
  let v351 : BitVec 1 := Scalar.cmpi .sgt c2_i32_162 c0_i32_165
  let v352 : BitVec 32 := Scalar.extui v351
  let c0_i32_166 : BitVec 32 := 0#32
  let v353 : BitVec 1 := Scalar.cmpi .slt c2_i32_162 c0_i32_166
  let v354 : BitVec 32 := Scalar.extui v353
  let v355 : BitVec 32 := Scalar.subi v352 v354
  let v356 : BitVec 1 := Scalar.cmpi .ne v350 v355
  let v357 : BitVec 32 := Scalar.remsi v287 c2_i32_162
  let c0_i32_167 : BitVec 32 := 0#32
  let v358 : BitVec 1 := Scalar.cmpi .ne v357 c0_i32_167
  let v359 : BitVec 1 := Scalar.andi v356 v358
  let v345 : BitVec 32 := Scalar.divsi v287 c2_i32_162
  let c1_i32_168 : BitVec 32 := 1#32
  let v360 : BitVec 32 := Scalar.subi v345 c1_i32_168
  let v361 : BitVec 32 := Scalar.select v359 v360 v345
  let v362 : BitVec 32 := Scalar.subi v361 v344
  let c1_i32_169 : BitVec 32 := 1#32
  let v364 : BitVec 32 := Scalar.divsi v362 c1_i32_169
  let v365 : BitVec 32 := Scalar.muli v364 c1_i32_169
  let v366 : BitVec 32 := Scalar.addi v344 v365
  let v363 : BitVec 32 := Scalar.addi v344 v362
  let c1_i32_171 : BitVec 32 := 1#32
  ⟨v366, v363, c1_i32_171⟩
def k0_mult29 (i : grid0.Coords) (k0_t4 : Fin (k0_t4_loop i).trips) : BitVec 32 :=
  let c2_i32_195 : BitVec 32 := 2#32
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c0_i32_163 : BitVec 32 := 0#32
  let v346 : BitVec 1 := Scalar.cmpi .sgt v287 c0_i32_163
  let v347 : BitVec 32 := Scalar.extui v346
  let c0_i32_164 : BitVec 32 := 0#32
  let v348 : BitVec 1 := Scalar.cmpi .slt v287 c0_i32_164
  let v349 : BitVec 32 := Scalar.extui v348
  let v350 : BitVec 32 := Scalar.subi v347 v349
  let c2_i32_162 : BitVec 32 := 2#32
  let c0_i32_165 : BitVec 32 := 0#32
  let v351 : BitVec 1 := Scalar.cmpi .sgt c2_i32_162 c0_i32_165
  let v352 : BitVec 32 := Scalar.extui v351
  let c0_i32_166 : BitVec 32 := 0#32
  let v353 : BitVec 1 := Scalar.cmpi .slt c2_i32_162 c0_i32_166
  let v354 : BitVec 32 := Scalar.extui v353
  let v355 : BitVec 32 := Scalar.subi v352 v354
  let v356 : BitVec 1 := Scalar.cmpi .ne v350 v355
  let v357 : BitVec 32 := Scalar.remsi v287 c2_i32_162
  let c0_i32_167 : BitVec 32 := 0#32
  let v358 : BitVec 1 := Scalar.cmpi .ne v357 c0_i32_167
  let v359 : BitVec 1 := Scalar.andi v356 v358
  let v345 : BitVec 32 := Scalar.divsi v287 c2_i32_162
  let c1_i32_168 : BitVec 32 := 1#32
  let v360 : BitVec 32 := Scalar.subi v345 c1_i32_168
  let v361 : BitVec 32 := Scalar.select v359 v360 v345
  let v362 : BitVec 32 := Scalar.subi v361 v344
  let c1_i32_169 : BitVec 32 := 1#32
  let v364 : BitVec 32 := Scalar.divsi v362 c1_i32_169
  let v365 : BitVec 32 := Scalar.muli v364 c1_i32_169
  let v366 : BitVec 32 := Scalar.addi v344 v365
  let c1_i32_171 : BitVec 32 := 1#32
  let arg16 : BitVec 32 := Scf.iv v366 c1_i32_171 k0_t4
  let v469 : BitVec 32 := Scalar.muli c2_i32_193 arg16
  let c0_i32_194 : BitVec 32 := 0#32
  let v470 : BitVec 32 := Scalar.addi v469 c0_i32_194
  let v471 : BitVec 32 := Scalar.muli c2_i32_195 v470
  let c1_i32_196 : BitVec 32 := 1#32
  let v472 : BitVec 32 := Scalar.addi v471 c1_i32_196
  let c512_i32_197 : BitVec 32 := 512#32
  let v473 : BitVec 32 := Scalar.muli v472 c512_i32_197
  v473
def k0_off23 (i : grid0.Coords) (k0_t4 : Fin (k0_t4_loop i).trips) (c0_i32_194 : BitVec 32) (c1_i32_196 : BitVec 32) : Fin 4 → Nat :=
  let c0_198 : Index := 0#32
  let c0_199 : Index := 0#32
  let c2_i32_195 : BitVec 32 := 2#32
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c0_i32_163 : BitVec 32 := 0#32
  let v346 : BitVec 1 := Scalar.cmpi .sgt v287 c0_i32_163
  let v347 : BitVec 32 := Scalar.extui v346
  let c0_i32_164 : BitVec 32 := 0#32
  let v348 : BitVec 1 := Scalar.cmpi .slt v287 c0_i32_164
  let v349 : BitVec 32 := Scalar.extui v348
  let v350 : BitVec 32 := Scalar.subi v347 v349
  let c2_i32_162 : BitVec 32 := 2#32
  let c0_i32_165 : BitVec 32 := 0#32
  let v351 : BitVec 1 := Scalar.cmpi .sgt c2_i32_162 c0_i32_165
  let v352 : BitVec 32 := Scalar.extui v351
  let c0_i32_166 : BitVec 32 := 0#32
  let v353 : BitVec 1 := Scalar.cmpi .slt c2_i32_162 c0_i32_166
  let v354 : BitVec 32 := Scalar.extui v353
  let v355 : BitVec 32 := Scalar.subi v352 v354
  let v356 : BitVec 1 := Scalar.cmpi .ne v350 v355
  let v357 : BitVec 32 := Scalar.remsi v287 c2_i32_162
  let c0_i32_167 : BitVec 32 := 0#32
  let v358 : BitVec 1 := Scalar.cmpi .ne v357 c0_i32_167
  let v359 : BitVec 1 := Scalar.andi v356 v358
  let v345 : BitVec 32 := Scalar.divsi v287 c2_i32_162
  let c1_i32_168 : BitVec 32 := 1#32
  let v360 : BitVec 32 := Scalar.subi v345 c1_i32_168
  let v361 : BitVec 32 := Scalar.select v359 v360 v345
  let v362 : BitVec 32 := Scalar.subi v361 v344
  let c1_i32_169 : BitVec 32 := 1#32
  let v364 : BitVec 32 := Scalar.divsi v362 c1_i32_169
  let v365 : BitVec 32 := Scalar.muli v364 c1_i32_169
  let v366 : BitVec 32 := Scalar.addi v344 v365
  let c1_i32_171 : BitVec 32 := 1#32
  let arg16 : BitVec 32 := Scf.iv v366 c1_i32_171 k0_t4
  let v469 : BitVec 32 := Scalar.muli c2_i32_193 arg16
  let v470 : BitVec 32 := Scalar.addi v469 c0_i32_194
  let v471 : BitVec 32 := Scalar.muli c2_i32_195 v470
  let v472 : BitVec 32 := Scalar.addi v471 c1_i32_196
  let c512_i32_197 : BitVec 32 := 512#32
  let v473 : BitVec 32 := Scalar.muli v472 c512_i32_197
  let v474 : BitVec 32 := v473
  let v475 : Index := Scalar.indexCast v474
  let c0_200 : Index := 0#32
  ![0, 0, v475.toNat, 0]
def k0_off24 (i : grid0.Coords) (k0_t4 : Fin (k0_t4_loop i).trips) (c0_i32_194 : BitVec 32) (c1_i32_196 : BitVec 32) : Fin 3 → Nat :=
  let c2_i32_195 : BitVec 32 := 2#32
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c0_i32_163 : BitVec 32 := 0#32
  let v346 : BitVec 1 := Scalar.cmpi .sgt v287 c0_i32_163
  let v347 : BitVec 32 := Scalar.extui v346
  let c0_i32_164 : BitVec 32 := 0#32
  let v348 : BitVec 1 := Scalar.cmpi .slt v287 c0_i32_164
  let v349 : BitVec 32 := Scalar.extui v348
  let v350 : BitVec 32 := Scalar.subi v347 v349
  let c2_i32_162 : BitVec 32 := 2#32
  let c0_i32_165 : BitVec 32 := 0#32
  let v351 : BitVec 1 := Scalar.cmpi .sgt c2_i32_162 c0_i32_165
  let v352 : BitVec 32 := Scalar.extui v351
  let c0_i32_166 : BitVec 32 := 0#32
  let v353 : BitVec 1 := Scalar.cmpi .slt c2_i32_162 c0_i32_166
  let v354 : BitVec 32 := Scalar.extui v353
  let v355 : BitVec 32 := Scalar.subi v352 v354
  let v356 : BitVec 1 := Scalar.cmpi .ne v350 v355
  let v357 : BitVec 32 := Scalar.remsi v287 c2_i32_162
  let c0_i32_167 : BitVec 32 := 0#32
  let v358 : BitVec 1 := Scalar.cmpi .ne v357 c0_i32_167
  let v359 : BitVec 1 := Scalar.andi v356 v358
  let v345 : BitVec 32 := Scalar.divsi v287 c2_i32_162
  let c1_i32_168 : BitVec 32 := 1#32
  let v360 : BitVec 32 := Scalar.subi v345 c1_i32_168
  let v361 : BitVec 32 := Scalar.select v359 v360 v345
  let v362 : BitVec 32 := Scalar.subi v361 v344
  let c1_i32_169 : BitVec 32 := 1#32
  let v364 : BitVec 32 := Scalar.divsi v362 c1_i32_169
  let v365 : BitVec 32 := Scalar.muli v364 c1_i32_169
  let v366 : BitVec 32 := Scalar.addi v344 v365
  let c1_i32_171 : BitVec 32 := 1#32
  let arg16 : BitVec 32 := Scf.iv v366 c1_i32_171 k0_t4
  let v469 : BitVec 32 := Scalar.muli c2_i32_193 arg16
  let v470 : BitVec 32 := Scalar.addi v469 c0_i32_194
  let v471 : BitVec 32 := Scalar.muli c2_i32_195 v470
  let v472 : BitVec 32 := Scalar.addi v471 c1_i32_196
  let c0_i32_202 : BitVec 32 := 0#32
  let v479 : BitVec 1 := Scalar.cmpi .sgt v472 c0_i32_202
  let v480 : BitVec 32 := Scalar.extui v479
  let c0_i32_203 : BitVec 32 := 0#32
  let v481 : BitVec 1 := Scalar.cmpi .slt v472 c0_i32_203
  let v482 : BitVec 32 := Scalar.extui v481
  let v483 : BitVec 32 := Scalar.subi v480 v482
  let c16_i32_201 : BitVec 32 := 16#32
  let c0_i32_204 : BitVec 32 := 0#32
  let v484 : BitVec 1 := Scalar.cmpi .sgt c16_i32_201 c0_i32_204
  let v485 : BitVec 32 := Scalar.extui v484
  let c0_i32_205 : BitVec 32 := 0#32
  let v486 : BitVec 1 := Scalar.cmpi .slt c16_i32_201 c0_i32_205
  let v487 : BitVec 32 := Scalar.extui v486
  let v488 : BitVec 32 := Scalar.subi v485 v487
  let v489 : BitVec 1 := Scalar.cmpi .ne v483 v488
  let v490 : BitVec 32 := Scalar.remsi v472 c16_i32_201
  let c0_i32_206 : BitVec 32 := 0#32
  let v491 : BitVec 1 := Scalar.cmpi .ne v490 c0_i32_206
  let v492 : BitVec 1 := Scalar.andi v489 v491
  let v478 : BitVec 32 := Scalar.divsi v472 c16_i32_201
  let c1_i32_207 : BitVec 32 := 1#32
  let v493 : BitVec 32 := Scalar.subi v478 c1_i32_207
  let v494 : BitVec 32 := Scalar.select v492 v493 v478
  let v495 : Index := Scalar.indexCast v494
  let c0_208 : Index := 0#32
  let c0_209 : Index := 0#32
  ![v495.toNat, 0, 0]
def k0_off25 (i : grid0.Coords) (k0_t4 : Fin (k0_t4_loop i).trips) (c0_i32_194 : BitVec 32) : Fin 5 → Nat :=
  let c0_219 : Index := 0#32
  let c0_220 : Index := 0#32
  let c2_i32_215 : BitVec 32 := 2#32
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c0_i32_163 : BitVec 32 := 0#32
  let v346 : BitVec 1 := Scalar.cmpi .sgt v287 c0_i32_163
  let v347 : BitVec 32 := Scalar.extui v346
  let c0_i32_164 : BitVec 32 := 0#32
  let v348 : BitVec 1 := Scalar.cmpi .slt v287 c0_i32_164
  let v349 : BitVec 32 := Scalar.extui v348
  let v350 : BitVec 32 := Scalar.subi v347 v349
  let c2_i32_162 : BitVec 32 := 2#32
  let c0_i32_165 : BitVec 32 := 0#32
  let v351 : BitVec 1 := Scalar.cmpi .sgt c2_i32_162 c0_i32_165
  let v352 : BitVec 32 := Scalar.extui v351
  let c0_i32_166 : BitVec 32 := 0#32
  let v353 : BitVec 1 := Scalar.cmpi .slt c2_i32_162 c0_i32_166
  let v354 : BitVec 32 := Scalar.extui v353
  let v355 : BitVec 32 := Scalar.subi v352 v354
  let v356 : BitVec 1 := Scalar.cmpi .ne v350 v355
  let v357 : BitVec 32 := Scalar.remsi v287 c2_i32_162
  let c0_i32_167 : BitVec 32 := 0#32
  let v358 : BitVec 1 := Scalar.cmpi .ne v357 c0_i32_167
  let v359 : BitVec 1 := Scalar.andi v356 v358
  let v345 : BitVec 32 := Scalar.divsi v287 c2_i32_162
  let c1_i32_168 : BitVec 32 := 1#32
  let v360 : BitVec 32 := Scalar.subi v345 c1_i32_168
  let v361 : BitVec 32 := Scalar.select v359 v360 v345
  let v362 : BitVec 32 := Scalar.subi v361 v344
  let c1_i32_169 : BitVec 32 := 1#32
  let v364 : BitVec 32 := Scalar.divsi v362 c1_i32_169
  let v365 : BitVec 32 := Scalar.muli v364 c1_i32_169
  let v366 : BitVec 32 := Scalar.addi v344 v365
  let c1_i32_171 : BitVec 32 := 1#32
  let arg16 : BitVec 32 := Scf.iv v366 c1_i32_171 k0_t4
  let v469 : BitVec 32 := Scalar.muli c2_i32_193 arg16
  let v470 : BitVec 32 := Scalar.addi v469 c0_i32_194
  let v504 : BitVec 32 := Scalar.muli c2_i32_215 v470
  let v516 : Index := Scalar.indexCast v504
  let c0_221 : Index := 0#32
  let c0_222 : Index := 0#32
  ![0, 0, v516.toNat, 0, 0]
def k0_mult30 (i : grid0.Coords) (k0_t4 : Fin (k0_t4_loop i).trips) : BitVec 32 :=
  let c2_i32_224 : BitVec 32 := 2#32
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c0_i32_163 : BitVec 32 := 0#32
  let v346 : BitVec 1 := Scalar.cmpi .sgt v287 c0_i32_163
  let v347 : BitVec 32 := Scalar.extui v346
  let c0_i32_164 : BitVec 32 := 0#32
  let v348 : BitVec 1 := Scalar.cmpi .slt v287 c0_i32_164
  let v349 : BitVec 32 := Scalar.extui v348
  let v350 : BitVec 32 := Scalar.subi v347 v349
  let c2_i32_162 : BitVec 32 := 2#32
  let c0_i32_165 : BitVec 32 := 0#32
  let v351 : BitVec 1 := Scalar.cmpi .sgt c2_i32_162 c0_i32_165
  let v352 : BitVec 32 := Scalar.extui v351
  let c0_i32_166 : BitVec 32 := 0#32
  let v353 : BitVec 1 := Scalar.cmpi .slt c2_i32_162 c0_i32_166
  let v354 : BitVec 32 := Scalar.extui v353
  let v355 : BitVec 32 := Scalar.subi v352 v354
  let v356 : BitVec 1 := Scalar.cmpi .ne v350 v355
  let v357 : BitVec 32 := Scalar.remsi v287 c2_i32_162
  let c0_i32_167 : BitVec 32 := 0#32
  let v358 : BitVec 1 := Scalar.cmpi .ne v357 c0_i32_167
  let v359 : BitVec 1 := Scalar.andi v356 v358
  let v345 : BitVec 32 := Scalar.divsi v287 c2_i32_162
  let c1_i32_168 : BitVec 32 := 1#32
  let v360 : BitVec 32 := Scalar.subi v345 c1_i32_168
  let v361 : BitVec 32 := Scalar.select v359 v360 v345
  let v362 : BitVec 32 := Scalar.subi v361 v344
  let c1_i32_169 : BitVec 32 := 1#32
  let v364 : BitVec 32 := Scalar.divsi v362 c1_i32_169
  let v365 : BitVec 32 := Scalar.muli v364 c1_i32_169
  let v366 : BitVec 32 := Scalar.addi v344 v365
  let c1_i32_171 : BitVec 32 := 1#32
  let arg16 : BitVec 32 := Scf.iv v366 c1_i32_171 k0_t4
  let v469 : BitVec 32 := Scalar.muli c2_i32_193 arg16
  let c0_i32_194 : BitVec 32 := 0#32
  let v470 : BitVec 32 := Scalar.addi v469 c0_i32_194
  let v521 : BitVec 32 := Scalar.muli c2_i32_224 v470
  let c2_i32_225 : BitVec 32 := 2#32
  let v522 : BitVec 32 := Scalar.addi v521 c2_i32_225
  let c512_i32_226 : BitVec 32 := 512#32
  let v523 : BitVec 32 := Scalar.muli v522 c512_i32_226
  v523
def k0_off26 (i : grid0.Coords) (k0_t4 : Fin (k0_t4_loop i).trips) (c0_i32_194 : BitVec 32) : Fin 5 → Nat :=
  let c0_249 : Index := 0#32
  let c0_250 : Index := 0#32
  let c2_i32_244 : BitVec 32 := 2#32
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c0_i32_163 : BitVec 32 := 0#32
  let v346 : BitVec 1 := Scalar.cmpi .sgt v287 c0_i32_163
  let v347 : BitVec 32 := Scalar.extui v346
  let c0_i32_164 : BitVec 32 := 0#32
  let v348 : BitVec 1 := Scalar.cmpi .slt v287 c0_i32_164
  let v349 : BitVec 32 := Scalar.extui v348
  let v350 : BitVec 32 := Scalar.subi v347 v349
  let c2_i32_162 : BitVec 32 := 2#32
  let c0_i32_165 : BitVec 32 := 0#32
  let v351 : BitVec 1 := Scalar.cmpi .sgt c2_i32_162 c0_i32_165
  let v352 : BitVec 32 := Scalar.extui v351
  let c0_i32_166 : BitVec 32 := 0#32
  let v353 : BitVec 1 := Scalar.cmpi .slt c2_i32_162 c0_i32_166
  let v354 : BitVec 32 := Scalar.extui v353
  let v355 : BitVec 32 := Scalar.subi v352 v354
  let v356 : BitVec 1 := Scalar.cmpi .ne v350 v355
  let v357 : BitVec 32 := Scalar.remsi v287 c2_i32_162
  let c0_i32_167 : BitVec 32 := 0#32
  let v358 : BitVec 1 := Scalar.cmpi .ne v357 c0_i32_167
  let v359 : BitVec 1 := Scalar.andi v356 v358
  let v345 : BitVec 32 := Scalar.divsi v287 c2_i32_162
  let c1_i32_168 : BitVec 32 := 1#32
  let v360 : BitVec 32 := Scalar.subi v345 c1_i32_168
  let v361 : BitVec 32 := Scalar.select v359 v360 v345
  let v362 : BitVec 32 := Scalar.subi v361 v344
  let c1_i32_169 : BitVec 32 := 1#32
  let v364 : BitVec 32 := Scalar.divsi v362 c1_i32_169
  let v365 : BitVec 32 := Scalar.muli v364 c1_i32_169
  let v366 : BitVec 32 := Scalar.addi v344 v365
  let c1_i32_171 : BitVec 32 := 1#32
  let arg16 : BitVec 32 := Scf.iv v366 c1_i32_171 k0_t4
  let v469 : BitVec 32 := Scalar.muli c2_i32_193 arg16
  let v470 : BitVec 32 := Scalar.addi v469 c0_i32_194
  let v554 : BitVec 32 := Scalar.muli c2_i32_244 v470
  let c1_i32_245 : BitVec 32 := 1#32
  let v555 : BitVec 32 := Scalar.addi v554 c1_i32_245
  let v567 : Index := Scalar.indexCast v555
  let c0_251 : Index := 0#32
  let c0_252 : Index := 0#32
  ![0, 0, v567.toNat, 0, 0]
def k0_mult31 (i : grid0.Coords) (k0_t4 : Fin (k0_t4_loop i).trips) : BitVec 32 :=
  let c2_i32_256 : BitVec 32 := 2#32
  let c2_i32_254 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c0_i32_163 : BitVec 32 := 0#32
  let v346 : BitVec 1 := Scalar.cmpi .sgt v287 c0_i32_163
  let v347 : BitVec 32 := Scalar.extui v346
  let c0_i32_164 : BitVec 32 := 0#32
  let v348 : BitVec 1 := Scalar.cmpi .slt v287 c0_i32_164
  let v349 : BitVec 32 := Scalar.extui v348
  let v350 : BitVec 32 := Scalar.subi v347 v349
  let c2_i32_162 : BitVec 32 := 2#32
  let c0_i32_165 : BitVec 32 := 0#32
  let v351 : BitVec 1 := Scalar.cmpi .sgt c2_i32_162 c0_i32_165
  let v352 : BitVec 32 := Scalar.extui v351
  let c0_i32_166 : BitVec 32 := 0#32
  let v353 : BitVec 1 := Scalar.cmpi .slt c2_i32_162 c0_i32_166
  let v354 : BitVec 32 := Scalar.extui v353
  let v355 : BitVec 32 := Scalar.subi v352 v354
  let v356 : BitVec 1 := Scalar.cmpi .ne v350 v355
  let v357 : BitVec 32 := Scalar.remsi v287 c2_i32_162
  let c0_i32_167 : BitVec 32 := 0#32
  let v358 : BitVec 1 := Scalar.cmpi .ne v357 c0_i32_167
  let v359 : BitVec 1 := Scalar.andi v356 v358
  let v345 : BitVec 32 := Scalar.divsi v287 c2_i32_162
  let c1_i32_168 : BitVec 32 := 1#32
  let v360 : BitVec 32 := Scalar.subi v345 c1_i32_168
  let v361 : BitVec 32 := Scalar.select v359 v360 v345
  let v362 : BitVec 32 := Scalar.subi v361 v344
  let c1_i32_169 : BitVec 32 := 1#32
  let v364 : BitVec 32 := Scalar.divsi v362 c1_i32_169
  let v365 : BitVec 32 := Scalar.muli v364 c1_i32_169
  let v366 : BitVec 32 := Scalar.addi v344 v365
  let c1_i32_171 : BitVec 32 := 1#32
  let arg16 : BitVec 32 := Scf.iv v366 c1_i32_171 k0_t4
  let v572 : BitVec 32 := Scalar.muli c2_i32_254 arg16
  let c1_i32_255 : BitVec 32 := 1#32
  let v573 : BitVec 32 := Scalar.addi v572 c1_i32_255
  let v574 : BitVec 32 := Scalar.muli c2_i32_256 v573
  let c1_i32_257 : BitVec 32 := 1#32
  let v575 : BitVec 32 := Scalar.addi v574 c1_i32_257
  let c512_i32_258 : BitVec 32 := 512#32
  let v576 : BitVec 32 := Scalar.muli v575 c512_i32_258
  v576
def k0_mult32 (i : grid0.Coords) (k0_t4 : Fin (k0_t4_loop i).trips) : BitVec 32 :=
  let c2_i32_285 : BitVec 32 := 2#32
  let c2_i32_254 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_155 : BitVec 32 := 0#32
  let v328 : BitVec 1 := Scalar.cmpi .sgt v287 c0_i32_155
  let v329 : BitVec 32 := Scalar.extui v328
  let c0_i32_156 : BitVec 32 := 0#32
  let v330 : BitVec 1 := Scalar.cmpi .slt v287 c0_i32_156
  let v331 : BitVec 32 := Scalar.extui v330
  let v332 : BitVec 32 := Scalar.subi v329 v331
  let c4_i32_154 : BitVec 32 := 4#32
  let c0_i32_157 : BitVec 32 := 0#32
  let v333 : BitVec 1 := Scalar.cmpi .sgt c4_i32_154 c0_i32_157
  let v334 : BitVec 32 := Scalar.extui v333
  let c0_i32_158 : BitVec 32 := 0#32
  let v335 : BitVec 1 := Scalar.cmpi .slt c4_i32_154 c0_i32_158
  let v336 : BitVec 32 := Scalar.extui v335
  let v337 : BitVec 32 := Scalar.subi v334 v336
  let v338 : BitVec 1 := Scalar.cmpi .ne v332 v337
  let v339 : BitVec 32 := Scalar.remsi v287 c4_i32_154
  let c0_i32_159 : BitVec 32 := 0#32
  let v340 : BitVec 1 := Scalar.cmpi .ne v339 c0_i32_159
  let v341 : BitVec 1 := Scalar.andi v338 v340
  let v327 : BitVec 32 := Scalar.divsi v287 c4_i32_154
  let c1_i32_160 : BitVec 32 := 1#32
  let v342 : BitVec 32 := Scalar.subi v327 c1_i32_160
  let v343 : BitVec 32 := Scalar.select v341 v342 v327
  let c2_i32_161 : BitVec 32 := 2#32
  let v344 : BitVec 32 := Scalar.muli v343 c2_i32_161
  let c0_i32_163 : BitVec 32 := 0#32
  let v346 : BitVec 1 := Scalar.cmpi .sgt v287 c0_i32_163
  let v347 : BitVec 32 := Scalar.extui v346
  let c0_i32_164 : BitVec 32 := 0#32
  let v348 : BitVec 1 := Scalar.cmpi .slt v287 c0_i32_164
  let v349 : BitVec 32 := Scalar.extui v348
  let v350 : BitVec 32 := Scalar.subi v347 v349
  let c2_i32_162 : BitVec 32 := 2#32
  let c0_i32_165 : BitVec 32 := 0#32
  let v351 : BitVec 1 := Scalar.cmpi .sgt c2_i32_162 c0_i32_165
  let v352 : BitVec 32 := Scalar.extui v351
  let c0_i32_166 : BitVec 32 := 0#32
  let v353 : BitVec 1 := Scalar.cmpi .slt c2_i32_162 c0_i32_166
  let v354 : BitVec 32 := Scalar.extui v353
  let v355 : BitVec 32 := Scalar.subi v352 v354
  let v356 : BitVec 1 := Scalar.cmpi .ne v350 v355
  let v357 : BitVec 32 := Scalar.remsi v287 c2_i32_162
  let c0_i32_167 : BitVec 32 := 0#32
  let v358 : BitVec 1 := Scalar.cmpi .ne v357 c0_i32_167
  let v359 : BitVec 1 := Scalar.andi v356 v358
  let v345 : BitVec 32 := Scalar.divsi v287 c2_i32_162
  let c1_i32_168 : BitVec 32 := 1#32
  let v360 : BitVec 32 := Scalar.subi v345 c1_i32_168
  let v361 : BitVec 32 := Scalar.select v359 v360 v345
  let v362 : BitVec 32 := Scalar.subi v361 v344
  let c1_i32_169 : BitVec 32 := 1#32
  let v364 : BitVec 32 := Scalar.divsi v362 c1_i32_169
  let v365 : BitVec 32 := Scalar.muli v364 c1_i32_169
  let v366 : BitVec 32 := Scalar.addi v344 v365
  let c1_i32_171 : BitVec 32 := 1#32
  let arg16 : BitVec 32 := Scf.iv v366 c1_i32_171 k0_t4
  let v572 : BitVec 32 := Scalar.muli c2_i32_254 arg16
  let c1_i32_255 : BitVec 32 := 1#32
  let v573 : BitVec 32 := Scalar.addi v572 c1_i32_255
  let v624 : BitVec 32 := Scalar.muli c2_i32_285 v573
  let c2_i32_286 : BitVec 32 := 2#32
  let v625 : BitVec 32 := Scalar.addi v624 c2_i32_286
  let c512_i32_287 : BitVec 32 := 512#32
  let v626 : BitVec 32 := Scalar.muli v625 c512_i32_287
  v626
@[reducible] def k0_t5_loop (i : grid0.Coords) : Scf.Loop 32 :=
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_173 : BitVec 32 := 0#32
  let v370 : BitVec 1 := Scalar.cmpi .sgt v287 c0_i32_173
  let v371 : BitVec 32 := Scalar.extui v370
  let c0_i32_174 : BitVec 32 := 0#32
  let v372 : BitVec 1 := Scalar.cmpi .slt v287 c0_i32_174
  let v373 : BitVec 32 := Scalar.extui v372
  let v374 : BitVec 32 := Scalar.subi v371 v373
  let c2_i32_172 : BitVec 32 := 2#32
  let c0_i32_175 : BitVec 32 := 0#32
  let v375 : BitVec 1 := Scalar.cmpi .sgt c2_i32_172 c0_i32_175
  let v376 : BitVec 32 := Scalar.extui v375
  let c0_i32_176 : BitVec 32 := 0#32
  let v377 : BitVec 1 := Scalar.cmpi .slt c2_i32_172 c0_i32_176
  let v378 : BitVec 32 := Scalar.extui v377
  let v379 : BitVec 32 := Scalar.subi v376 v378
  let v380 : BitVec 1 := Scalar.cmpi .ne v374 v379
  let v381 : BitVec 32 := Scalar.remsi v287 c2_i32_172
  let c0_i32_177 : BitVec 32 := 0#32
  let v382 : BitVec 1 := Scalar.cmpi .ne v381 c0_i32_177
  let v383 : BitVec 1 := Scalar.andi v380 v382
  let v369 : BitVec 32 := Scalar.divsi v287 c2_i32_172
  let c1_i32_178 : BitVec 32 := 1#32
  let v384 : BitVec 32 := Scalar.subi v369 c1_i32_178
  let v385 : BitVec 32 := Scalar.select v383 v384 v369
  let c2_i32_179 : BitVec 32 := 2#32
  let v386 : BitVec 32 := Scalar.muli v385 c2_i32_179
  let v387 : BitVec 32 := Scalar.subi v287 v386
  let c1_i32_180 : BitVec 32 := 1#32
  let v389 : BitVec 32 := Scalar.divsi v387 c1_i32_180
  let v390 : BitVec 32 := Scalar.muli v389 c1_i32_180
  let v391 : BitVec 32 := Scalar.addi v386 v390
  let c1_i32_181 : BitVec 32 := 1#32
  ⟨v386, v391, c1_i32_181⟩
def k0_mult33 (i : grid0.Coords) (k0_t5 : Fin (k0_t5_loop i).trips) : BitVec 32 :=
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_173 : BitVec 32 := 0#32
  let v370 : BitVec 1 := Scalar.cmpi .sgt v287 c0_i32_173
  let v371 : BitVec 32 := Scalar.extui v370
  let c0_i32_174 : BitVec 32 := 0#32
  let v372 : BitVec 1 := Scalar.cmpi .slt v287 c0_i32_174
  let v373 : BitVec 32 := Scalar.extui v372
  let v374 : BitVec 32 := Scalar.subi v371 v373
  let c2_i32_172 : BitVec 32 := 2#32
  let c0_i32_175 : BitVec 32 := 0#32
  let v375 : BitVec 1 := Scalar.cmpi .sgt c2_i32_172 c0_i32_175
  let v376 : BitVec 32 := Scalar.extui v375
  let c0_i32_176 : BitVec 32 := 0#32
  let v377 : BitVec 1 := Scalar.cmpi .slt c2_i32_172 c0_i32_176
  let v378 : BitVec 32 := Scalar.extui v377
  let v379 : BitVec 32 := Scalar.subi v376 v378
  let v380 : BitVec 1 := Scalar.cmpi .ne v374 v379
  let v381 : BitVec 32 := Scalar.remsi v287 c2_i32_172
  let c0_i32_177 : BitVec 32 := 0#32
  let v382 : BitVec 1 := Scalar.cmpi .ne v381 c0_i32_177
  let v383 : BitVec 1 := Scalar.andi v380 v382
  let v369 : BitVec 32 := Scalar.divsi v287 c2_i32_172
  let c1_i32_178 : BitVec 32 := 1#32
  let v384 : BitVec 32 := Scalar.subi v369 c1_i32_178
  let v385 : BitVec 32 := Scalar.select v383 v384 v369
  let c2_i32_179 : BitVec 32 := 2#32
  let v386 : BitVec 32 := Scalar.muli v385 c2_i32_179
  let c1_i32_181 : BitVec 32 := 1#32
  let arg16 : BitVec 32 := Scf.iv v386 c1_i32_181 k0_t5
  let v469 : BitVec 32 := Scalar.muli c2_i32_193 arg16
  let c1_i32_194 : BitVec 32 := 1#32
  let v470 : BitVec 32 := Scalar.addi v469 c1_i32_194
  let c512_i32_195 : BitVec 32 := 512#32
  let v471 : BitVec 32 := Scalar.muli v470 c512_i32_195
  v471
def k0_off27 (i : grid0.Coords) (k0_t5 : Fin (k0_t5_loop i).trips) (c1_i32_194 : BitVec 32) : Fin 4 → Nat :=
  let c0_196 : Index := 0#32
  let c0_197 : Index := 0#32
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_173 : BitVec 32 := 0#32
  let v370 : BitVec 1 := Scalar.cmpi .sgt v287 c0_i32_173
  let v371 : BitVec 32 := Scalar.extui v370
  let c0_i32_174 : BitVec 32 := 0#32
  let v372 : BitVec 1 := Scalar.cmpi .slt v287 c0_i32_174
  let v373 : BitVec 32 := Scalar.extui v372
  let v374 : BitVec 32 := Scalar.subi v371 v373
  let c2_i32_172 : BitVec 32 := 2#32
  let c0_i32_175 : BitVec 32 := 0#32
  let v375 : BitVec 1 := Scalar.cmpi .sgt c2_i32_172 c0_i32_175
  let v376 : BitVec 32 := Scalar.extui v375
  let c0_i32_176 : BitVec 32 := 0#32
  let v377 : BitVec 1 := Scalar.cmpi .slt c2_i32_172 c0_i32_176
  let v378 : BitVec 32 := Scalar.extui v377
  let v379 : BitVec 32 := Scalar.subi v376 v378
  let v380 : BitVec 1 := Scalar.cmpi .ne v374 v379
  let v381 : BitVec 32 := Scalar.remsi v287 c2_i32_172
  let c0_i32_177 : BitVec 32 := 0#32
  let v382 : BitVec 1 := Scalar.cmpi .ne v381 c0_i32_177
  let v383 : BitVec 1 := Scalar.andi v380 v382
  let v369 : BitVec 32 := Scalar.divsi v287 c2_i32_172
  let c1_i32_178 : BitVec 32 := 1#32
  let v384 : BitVec 32 := Scalar.subi v369 c1_i32_178
  let v385 : BitVec 32 := Scalar.select v383 v384 v369
  let c2_i32_179 : BitVec 32 := 2#32
  let v386 : BitVec 32 := Scalar.muli v385 c2_i32_179
  let c1_i32_181 : BitVec 32 := 1#32
  let arg16 : BitVec 32 := Scf.iv v386 c1_i32_181 k0_t5
  let v469 : BitVec 32 := Scalar.muli c2_i32_193 arg16
  let v470 : BitVec 32 := Scalar.addi v469 c1_i32_194
  let c512_i32_195 : BitVec 32 := 512#32
  let v471 : BitVec 32 := Scalar.muli v470 c512_i32_195
  let v472 : BitVec 32 := v471
  let v473 : Index := Scalar.indexCast v472
  let c0_198 : Index := 0#32
  ![0, 0, v473.toNat, 0]
def k0_off28 (i : grid0.Coords) (k0_t5 : Fin (k0_t5_loop i).trips) (c1_i32_194 : BitVec 32) : Fin 3 → Nat :=
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_173 : BitVec 32 := 0#32
  let v370 : BitVec 1 := Scalar.cmpi .sgt v287 c0_i32_173
  let v371 : BitVec 32 := Scalar.extui v370
  let c0_i32_174 : BitVec 32 := 0#32
  let v372 : BitVec 1 := Scalar.cmpi .slt v287 c0_i32_174
  let v373 : BitVec 32 := Scalar.extui v372
  let v374 : BitVec 32 := Scalar.subi v371 v373
  let c2_i32_172 : BitVec 32 := 2#32
  let c0_i32_175 : BitVec 32 := 0#32
  let v375 : BitVec 1 := Scalar.cmpi .sgt c2_i32_172 c0_i32_175
  let v376 : BitVec 32 := Scalar.extui v375
  let c0_i32_176 : BitVec 32 := 0#32
  let v377 : BitVec 1 := Scalar.cmpi .slt c2_i32_172 c0_i32_176
  let v378 : BitVec 32 := Scalar.extui v377
  let v379 : BitVec 32 := Scalar.subi v376 v378
  let v380 : BitVec 1 := Scalar.cmpi .ne v374 v379
  let v381 : BitVec 32 := Scalar.remsi v287 c2_i32_172
  let c0_i32_177 : BitVec 32 := 0#32
  let v382 : BitVec 1 := Scalar.cmpi .ne v381 c0_i32_177
  let v383 : BitVec 1 := Scalar.andi v380 v382
  let v369 : BitVec 32 := Scalar.divsi v287 c2_i32_172
  let c1_i32_178 : BitVec 32 := 1#32
  let v384 : BitVec 32 := Scalar.subi v369 c1_i32_178
  let v385 : BitVec 32 := Scalar.select v383 v384 v369
  let c2_i32_179 : BitVec 32 := 2#32
  let v386 : BitVec 32 := Scalar.muli v385 c2_i32_179
  let c1_i32_181 : BitVec 32 := 1#32
  let arg16 : BitVec 32 := Scf.iv v386 c1_i32_181 k0_t5
  let v469 : BitVec 32 := Scalar.muli c2_i32_193 arg16
  let v470 : BitVec 32 := Scalar.addi v469 c1_i32_194
  let c0_i32_200 : BitVec 32 := 0#32
  let v477 : BitVec 1 := Scalar.cmpi .sgt v470 c0_i32_200
  let v478 : BitVec 32 := Scalar.extui v477
  let c0_i32_201 : BitVec 32 := 0#32
  let v479 : BitVec 1 := Scalar.cmpi .slt v470 c0_i32_201
  let v480 : BitVec 32 := Scalar.extui v479
  let v481 : BitVec 32 := Scalar.subi v478 v480
  let c16_i32_199 : BitVec 32 := 16#32
  let c0_i32_202 : BitVec 32 := 0#32
  let v482 : BitVec 1 := Scalar.cmpi .sgt c16_i32_199 c0_i32_202
  let v483 : BitVec 32 := Scalar.extui v482
  let c0_i32_203 : BitVec 32 := 0#32
  let v484 : BitVec 1 := Scalar.cmpi .slt c16_i32_199 c0_i32_203
  let v485 : BitVec 32 := Scalar.extui v484
  let v486 : BitVec 32 := Scalar.subi v483 v485
  let v487 : BitVec 1 := Scalar.cmpi .ne v481 v486
  let v488 : BitVec 32 := Scalar.remsi v470 c16_i32_199
  let c0_i32_204 : BitVec 32 := 0#32
  let v489 : BitVec 1 := Scalar.cmpi .ne v488 c0_i32_204
  let v490 : BitVec 1 := Scalar.andi v487 v489
  let v476 : BitVec 32 := Scalar.divsi v470 c16_i32_199
  let c1_i32_205 : BitVec 32 := 1#32
  let v491 : BitVec 32 := Scalar.subi v476 c1_i32_205
  let v492 : BitVec 32 := Scalar.select v490 v491 v476
  let v493 : Index := Scalar.indexCast v492
  let c0_206 : Index := 0#32
  let c0_207 : Index := 0#32
  ![v493.toNat, 0, 0]
def k0_off29 (i : grid0.Coords) (k0_t5 : Fin (k0_t5_loop i).trips) : Fin 5 → Nat :=
  let c0_217 : Index := 0#32
  let c0_218 : Index := 0#32
  let c2_i32_213 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_173 : BitVec 32 := 0#32
  let v370 : BitVec 1 := Scalar.cmpi .sgt v287 c0_i32_173
  let v371 : BitVec 32 := Scalar.extui v370
  let c0_i32_174 : BitVec 32 := 0#32
  let v372 : BitVec 1 := Scalar.cmpi .slt v287 c0_i32_174
  let v373 : BitVec 32 := Scalar.extui v372
  let v374 : BitVec 32 := Scalar.subi v371 v373
  let c2_i32_172 : BitVec 32 := 2#32
  let c0_i32_175 : BitVec 32 := 0#32
  let v375 : BitVec 1 := Scalar.cmpi .sgt c2_i32_172 c0_i32_175
  let v376 : BitVec 32 := Scalar.extui v375
  let c0_i32_176 : BitVec 32 := 0#32
  let v377 : BitVec 1 := Scalar.cmpi .slt c2_i32_172 c0_i32_176
  let v378 : BitVec 32 := Scalar.extui v377
  let v379 : BitVec 32 := Scalar.subi v376 v378
  let v380 : BitVec 1 := Scalar.cmpi .ne v374 v379
  let v381 : BitVec 32 := Scalar.remsi v287 c2_i32_172
  let c0_i32_177 : BitVec 32 := 0#32
  let v382 : BitVec 1 := Scalar.cmpi .ne v381 c0_i32_177
  let v383 : BitVec 1 := Scalar.andi v380 v382
  let v369 : BitVec 32 := Scalar.divsi v287 c2_i32_172
  let c1_i32_178 : BitVec 32 := 1#32
  let v384 : BitVec 32 := Scalar.subi v369 c1_i32_178
  let v385 : BitVec 32 := Scalar.select v383 v384 v369
  let c2_i32_179 : BitVec 32 := 2#32
  let v386 : BitVec 32 := Scalar.muli v385 c2_i32_179
  let c1_i32_181 : BitVec 32 := 1#32
  let arg16 : BitVec 32 := Scf.iv v386 c1_i32_181 k0_t5
  let v502 : BitVec 32 := Scalar.muli c2_i32_213 arg16
  let v514 : Index := Scalar.indexCast v502
  let c0_219 : Index := 0#32
  let c0_220 : Index := 0#32
  ![0, 0, v514.toNat, 0, 0]
def k0_mult34 (i : grid0.Coords) (k0_t5 : Fin (k0_t5_loop i).trips) : BitVec 32 :=
  let c2_i32_222 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_173 : BitVec 32 := 0#32
  let v370 : BitVec 1 := Scalar.cmpi .sgt v287 c0_i32_173
  let v371 : BitVec 32 := Scalar.extui v370
  let c0_i32_174 : BitVec 32 := 0#32
  let v372 : BitVec 1 := Scalar.cmpi .slt v287 c0_i32_174
  let v373 : BitVec 32 := Scalar.extui v372
  let v374 : BitVec 32 := Scalar.subi v371 v373
  let c2_i32_172 : BitVec 32 := 2#32
  let c0_i32_175 : BitVec 32 := 0#32
  let v375 : BitVec 1 := Scalar.cmpi .sgt c2_i32_172 c0_i32_175
  let v376 : BitVec 32 := Scalar.extui v375
  let c0_i32_176 : BitVec 32 := 0#32
  let v377 : BitVec 1 := Scalar.cmpi .slt c2_i32_172 c0_i32_176
  let v378 : BitVec 32 := Scalar.extui v377
  let v379 : BitVec 32 := Scalar.subi v376 v378
  let v380 : BitVec 1 := Scalar.cmpi .ne v374 v379
  let v381 : BitVec 32 := Scalar.remsi v287 c2_i32_172
  let c0_i32_177 : BitVec 32 := 0#32
  let v382 : BitVec 1 := Scalar.cmpi .ne v381 c0_i32_177
  let v383 : BitVec 1 := Scalar.andi v380 v382
  let v369 : BitVec 32 := Scalar.divsi v287 c2_i32_172
  let c1_i32_178 : BitVec 32 := 1#32
  let v384 : BitVec 32 := Scalar.subi v369 c1_i32_178
  let v385 : BitVec 32 := Scalar.select v383 v384 v369
  let c2_i32_179 : BitVec 32 := 2#32
  let v386 : BitVec 32 := Scalar.muli v385 c2_i32_179
  let c1_i32_181 : BitVec 32 := 1#32
  let arg16 : BitVec 32 := Scf.iv v386 c1_i32_181 k0_t5
  let v519 : BitVec 32 := Scalar.muli c2_i32_222 arg16
  let c2_i32_223 : BitVec 32 := 2#32
  let v520 : BitVec 32 := Scalar.addi v519 c2_i32_223
  let c512_i32_224 : BitVec 32 := 512#32
  let v521 : BitVec 32 := Scalar.muli v520 c512_i32_224
  v521
def k0_off30 (i : grid0.Coords) (k0_t5 : Fin (k0_t5_loop i).trips) : Fin 5 → Nat :=
  let c0_247 : Index := 0#32
  let c0_248 : Index := 0#32
  let c2_i32_242 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_173 : BitVec 32 := 0#32
  let v370 : BitVec 1 := Scalar.cmpi .sgt v287 c0_i32_173
  let v371 : BitVec 32 := Scalar.extui v370
  let c0_i32_174 : BitVec 32 := 0#32
  let v372 : BitVec 1 := Scalar.cmpi .slt v287 c0_i32_174
  let v373 : BitVec 32 := Scalar.extui v372
  let v374 : BitVec 32 := Scalar.subi v371 v373
  let c2_i32_172 : BitVec 32 := 2#32
  let c0_i32_175 : BitVec 32 := 0#32
  let v375 : BitVec 1 := Scalar.cmpi .sgt c2_i32_172 c0_i32_175
  let v376 : BitVec 32 := Scalar.extui v375
  let c0_i32_176 : BitVec 32 := 0#32
  let v377 : BitVec 1 := Scalar.cmpi .slt c2_i32_172 c0_i32_176
  let v378 : BitVec 32 := Scalar.extui v377
  let v379 : BitVec 32 := Scalar.subi v376 v378
  let v380 : BitVec 1 := Scalar.cmpi .ne v374 v379
  let v381 : BitVec 32 := Scalar.remsi v287 c2_i32_172
  let c0_i32_177 : BitVec 32 := 0#32
  let v382 : BitVec 1 := Scalar.cmpi .ne v381 c0_i32_177
  let v383 : BitVec 1 := Scalar.andi v380 v382
  let v369 : BitVec 32 := Scalar.divsi v287 c2_i32_172
  let c1_i32_178 : BitVec 32 := 1#32
  let v384 : BitVec 32 := Scalar.subi v369 c1_i32_178
  let v385 : BitVec 32 := Scalar.select v383 v384 v369
  let c2_i32_179 : BitVec 32 := 2#32
  let v386 : BitVec 32 := Scalar.muli v385 c2_i32_179
  let c1_i32_181 : BitVec 32 := 1#32
  let arg16 : BitVec 32 := Scf.iv v386 c1_i32_181 k0_t5
  let v552 : BitVec 32 := Scalar.muli c2_i32_242 arg16
  let c1_i32_243 : BitVec 32 := 1#32
  let v553 : BitVec 32 := Scalar.addi v552 c1_i32_243
  let v565 : Index := Scalar.indexCast v553
  let c0_249 : Index := 0#32
  let c0_250 : Index := 0#32
  ![0, 0, v565.toNat, 0, 0]
@[reducible] def k0_t6_loop (i : grid0.Coords) : Scf.Loop 32 :=
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_173 : BitVec 32 := 0#32
  let v370 : BitVec 1 := Scalar.cmpi .sgt v287 c0_i32_173
  let v371 : BitVec 32 := Scalar.extui v370
  let c0_i32_174 : BitVec 32 := 0#32
  let v372 : BitVec 1 := Scalar.cmpi .slt v287 c0_i32_174
  let v373 : BitVec 32 := Scalar.extui v372
  let v374 : BitVec 32 := Scalar.subi v371 v373
  let c2_i32_172 : BitVec 32 := 2#32
  let c0_i32_175 : BitVec 32 := 0#32
  let v375 : BitVec 1 := Scalar.cmpi .sgt c2_i32_172 c0_i32_175
  let v376 : BitVec 32 := Scalar.extui v375
  let c0_i32_176 : BitVec 32 := 0#32
  let v377 : BitVec 1 := Scalar.cmpi .slt c2_i32_172 c0_i32_176
  let v378 : BitVec 32 := Scalar.extui v377
  let v379 : BitVec 32 := Scalar.subi v376 v378
  let v380 : BitVec 1 := Scalar.cmpi .ne v374 v379
  let v381 : BitVec 32 := Scalar.remsi v287 c2_i32_172
  let c0_i32_177 : BitVec 32 := 0#32
  let v382 : BitVec 1 := Scalar.cmpi .ne v381 c0_i32_177
  let v383 : BitVec 1 := Scalar.andi v380 v382
  let v369 : BitVec 32 := Scalar.divsi v287 c2_i32_172
  let c1_i32_178 : BitVec 32 := 1#32
  let v384 : BitVec 32 := Scalar.subi v369 c1_i32_178
  let v385 : BitVec 32 := Scalar.select v383 v384 v369
  let c2_i32_179 : BitVec 32 := 2#32
  let v386 : BitVec 32 := Scalar.muli v385 c2_i32_179
  let v387 : BitVec 32 := Scalar.subi v287 v386
  let c1_i32_180 : BitVec 32 := 1#32
  let v389 : BitVec 32 := Scalar.divsi v387 c1_i32_180
  let v390 : BitVec 32 := Scalar.muli v389 c1_i32_180
  let v391 : BitVec 32 := Scalar.addi v386 v390
  let v388 : BitVec 32 := Scalar.addi v386 v387
  let c1_i32_182 : BitVec 32 := 1#32
  ⟨v391, v388, c1_i32_182⟩
def k0_mult35 (i : grid0.Coords) (k0_t6 : Fin (k0_t6_loop i).trips) : BitVec 32 :=
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_173 : BitVec 32 := 0#32
  let v370 : BitVec 1 := Scalar.cmpi .sgt v287 c0_i32_173
  let v371 : BitVec 32 := Scalar.extui v370
  let c0_i32_174 : BitVec 32 := 0#32
  let v372 : BitVec 1 := Scalar.cmpi .slt v287 c0_i32_174
  let v373 : BitVec 32 := Scalar.extui v372
  let v374 : BitVec 32 := Scalar.subi v371 v373
  let c2_i32_172 : BitVec 32 := 2#32
  let c0_i32_175 : BitVec 32 := 0#32
  let v375 : BitVec 1 := Scalar.cmpi .sgt c2_i32_172 c0_i32_175
  let v376 : BitVec 32 := Scalar.extui v375
  let c0_i32_176 : BitVec 32 := 0#32
  let v377 : BitVec 1 := Scalar.cmpi .slt c2_i32_172 c0_i32_176
  let v378 : BitVec 32 := Scalar.extui v377
  let v379 : BitVec 32 := Scalar.subi v376 v378
  let v380 : BitVec 1 := Scalar.cmpi .ne v374 v379
  let v381 : BitVec 32 := Scalar.remsi v287 c2_i32_172
  let c0_i32_177 : BitVec 32 := 0#32
  let v382 : BitVec 1 := Scalar.cmpi .ne v381 c0_i32_177
  let v383 : BitVec 1 := Scalar.andi v380 v382
  let v369 : BitVec 32 := Scalar.divsi v287 c2_i32_172
  let c1_i32_178 : BitVec 32 := 1#32
  let v384 : BitVec 32 := Scalar.subi v369 c1_i32_178
  let v385 : BitVec 32 := Scalar.select v383 v384 v369
  let c2_i32_179 : BitVec 32 := 2#32
  let v386 : BitVec 32 := Scalar.muli v385 c2_i32_179
  let v387 : BitVec 32 := Scalar.subi v287 v386
  let c1_i32_180 : BitVec 32 := 1#32
  let v389 : BitVec 32 := Scalar.divsi v387 c1_i32_180
  let v390 : BitVec 32 := Scalar.muli v389 c1_i32_180
  let v391 : BitVec 32 := Scalar.addi v386 v390
  let c1_i32_182 : BitVec 32 := 1#32
  let arg16 : BitVec 32 := Scf.iv v391 c1_i32_182 k0_t6
  let v469 : BitVec 32 := Scalar.muli c2_i32_193 arg16
  let c1_i32_194 : BitVec 32 := 1#32
  let v470 : BitVec 32 := Scalar.addi v469 c1_i32_194
  let c512_i32_195 : BitVec 32 := 512#32
  let v471 : BitVec 32 := Scalar.muli v470 c512_i32_195
  v471
def k0_off31 (i : grid0.Coords) (k0_t6 : Fin (k0_t6_loop i).trips) (c1_i32_194 : BitVec 32) : Fin 4 → Nat :=
  let c0_196 : Index := 0#32
  let c0_197 : Index := 0#32
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_173 : BitVec 32 := 0#32
  let v370 : BitVec 1 := Scalar.cmpi .sgt v287 c0_i32_173
  let v371 : BitVec 32 := Scalar.extui v370
  let c0_i32_174 : BitVec 32 := 0#32
  let v372 : BitVec 1 := Scalar.cmpi .slt v287 c0_i32_174
  let v373 : BitVec 32 := Scalar.extui v372
  let v374 : BitVec 32 := Scalar.subi v371 v373
  let c2_i32_172 : BitVec 32 := 2#32
  let c0_i32_175 : BitVec 32 := 0#32
  let v375 : BitVec 1 := Scalar.cmpi .sgt c2_i32_172 c0_i32_175
  let v376 : BitVec 32 := Scalar.extui v375
  let c0_i32_176 : BitVec 32 := 0#32
  let v377 : BitVec 1 := Scalar.cmpi .slt c2_i32_172 c0_i32_176
  let v378 : BitVec 32 := Scalar.extui v377
  let v379 : BitVec 32 := Scalar.subi v376 v378
  let v380 : BitVec 1 := Scalar.cmpi .ne v374 v379
  let v381 : BitVec 32 := Scalar.remsi v287 c2_i32_172
  let c0_i32_177 : BitVec 32 := 0#32
  let v382 : BitVec 1 := Scalar.cmpi .ne v381 c0_i32_177
  let v383 : BitVec 1 := Scalar.andi v380 v382
  let v369 : BitVec 32 := Scalar.divsi v287 c2_i32_172
  let c1_i32_178 : BitVec 32 := 1#32
  let v384 : BitVec 32 := Scalar.subi v369 c1_i32_178
  let v385 : BitVec 32 := Scalar.select v383 v384 v369
  let c2_i32_179 : BitVec 32 := 2#32
  let v386 : BitVec 32 := Scalar.muli v385 c2_i32_179
  let v387 : BitVec 32 := Scalar.subi v287 v386
  let c1_i32_180 : BitVec 32 := 1#32
  let v389 : BitVec 32 := Scalar.divsi v387 c1_i32_180
  let v390 : BitVec 32 := Scalar.muli v389 c1_i32_180
  let v391 : BitVec 32 := Scalar.addi v386 v390
  let c1_i32_182 : BitVec 32 := 1#32
  let arg16 : BitVec 32 := Scf.iv v391 c1_i32_182 k0_t6
  let v469 : BitVec 32 := Scalar.muli c2_i32_193 arg16
  let v470 : BitVec 32 := Scalar.addi v469 c1_i32_194
  let c512_i32_195 : BitVec 32 := 512#32
  let v471 : BitVec 32 := Scalar.muli v470 c512_i32_195
  let v472 : BitVec 32 := v471
  let v473 : Index := Scalar.indexCast v472
  let c0_198 : Index := 0#32
  ![0, 0, v473.toNat, 0]
def k0_off32 (i : grid0.Coords) (k0_t6 : Fin (k0_t6_loop i).trips) (c1_i32_194 : BitVec 32) : Fin 3 → Nat :=
  let c2_i32_193 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_173 : BitVec 32 := 0#32
  let v370 : BitVec 1 := Scalar.cmpi .sgt v287 c0_i32_173
  let v371 : BitVec 32 := Scalar.extui v370
  let c0_i32_174 : BitVec 32 := 0#32
  let v372 : BitVec 1 := Scalar.cmpi .slt v287 c0_i32_174
  let v373 : BitVec 32 := Scalar.extui v372
  let v374 : BitVec 32 := Scalar.subi v371 v373
  let c2_i32_172 : BitVec 32 := 2#32
  let c0_i32_175 : BitVec 32 := 0#32
  let v375 : BitVec 1 := Scalar.cmpi .sgt c2_i32_172 c0_i32_175
  let v376 : BitVec 32 := Scalar.extui v375
  let c0_i32_176 : BitVec 32 := 0#32
  let v377 : BitVec 1 := Scalar.cmpi .slt c2_i32_172 c0_i32_176
  let v378 : BitVec 32 := Scalar.extui v377
  let v379 : BitVec 32 := Scalar.subi v376 v378
  let v380 : BitVec 1 := Scalar.cmpi .ne v374 v379
  let v381 : BitVec 32 := Scalar.remsi v287 c2_i32_172
  let c0_i32_177 : BitVec 32 := 0#32
  let v382 : BitVec 1 := Scalar.cmpi .ne v381 c0_i32_177
  let v383 : BitVec 1 := Scalar.andi v380 v382
  let v369 : BitVec 32 := Scalar.divsi v287 c2_i32_172
  let c1_i32_178 : BitVec 32 := 1#32
  let v384 : BitVec 32 := Scalar.subi v369 c1_i32_178
  let v385 : BitVec 32 := Scalar.select v383 v384 v369
  let c2_i32_179 : BitVec 32 := 2#32
  let v386 : BitVec 32 := Scalar.muli v385 c2_i32_179
  let v387 : BitVec 32 := Scalar.subi v287 v386
  let c1_i32_180 : BitVec 32 := 1#32
  let v389 : BitVec 32 := Scalar.divsi v387 c1_i32_180
  let v390 : BitVec 32 := Scalar.muli v389 c1_i32_180
  let v391 : BitVec 32 := Scalar.addi v386 v390
  let c1_i32_182 : BitVec 32 := 1#32
  let arg16 : BitVec 32 := Scf.iv v391 c1_i32_182 k0_t6
  let v469 : BitVec 32 := Scalar.muli c2_i32_193 arg16
  let v470 : BitVec 32 := Scalar.addi v469 c1_i32_194
  let c0_i32_200 : BitVec 32 := 0#32
  let v477 : BitVec 1 := Scalar.cmpi .sgt v470 c0_i32_200
  let v478 : BitVec 32 := Scalar.extui v477
  let c0_i32_201 : BitVec 32 := 0#32
  let v479 : BitVec 1 := Scalar.cmpi .slt v470 c0_i32_201
  let v480 : BitVec 32 := Scalar.extui v479
  let v481 : BitVec 32 := Scalar.subi v478 v480
  let c16_i32_199 : BitVec 32 := 16#32
  let c0_i32_202 : BitVec 32 := 0#32
  let v482 : BitVec 1 := Scalar.cmpi .sgt c16_i32_199 c0_i32_202
  let v483 : BitVec 32 := Scalar.extui v482
  let c0_i32_203 : BitVec 32 := 0#32
  let v484 : BitVec 1 := Scalar.cmpi .slt c16_i32_199 c0_i32_203
  let v485 : BitVec 32 := Scalar.extui v484
  let v486 : BitVec 32 := Scalar.subi v483 v485
  let v487 : BitVec 1 := Scalar.cmpi .ne v481 v486
  let v488 : BitVec 32 := Scalar.remsi v470 c16_i32_199
  let c0_i32_204 : BitVec 32 := 0#32
  let v489 : BitVec 1 := Scalar.cmpi .ne v488 c0_i32_204
  let v490 : BitVec 1 := Scalar.andi v487 v489
  let v476 : BitVec 32 := Scalar.divsi v470 c16_i32_199
  let c1_i32_205 : BitVec 32 := 1#32
  let v491 : BitVec 32 := Scalar.subi v476 c1_i32_205
  let v492 : BitVec 32 := Scalar.select v490 v491 v476
  let v493 : Index := Scalar.indexCast v492
  let c0_206 : Index := 0#32
  let c0_207 : Index := 0#32
  ![v493.toNat, 0, 0]
def k0_off33 (i : grid0.Coords) (k0_t6 : Fin (k0_t6_loop i).trips) : Fin 5 → Nat :=
  let c0_217 : Index := 0#32
  let c0_218 : Index := 0#32
  let c2_i32_213 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_173 : BitVec 32 := 0#32
  let v370 : BitVec 1 := Scalar.cmpi .sgt v287 c0_i32_173
  let v371 : BitVec 32 := Scalar.extui v370
  let c0_i32_174 : BitVec 32 := 0#32
  let v372 : BitVec 1 := Scalar.cmpi .slt v287 c0_i32_174
  let v373 : BitVec 32 := Scalar.extui v372
  let v374 : BitVec 32 := Scalar.subi v371 v373
  let c2_i32_172 : BitVec 32 := 2#32
  let c0_i32_175 : BitVec 32 := 0#32
  let v375 : BitVec 1 := Scalar.cmpi .sgt c2_i32_172 c0_i32_175
  let v376 : BitVec 32 := Scalar.extui v375
  let c0_i32_176 : BitVec 32 := 0#32
  let v377 : BitVec 1 := Scalar.cmpi .slt c2_i32_172 c0_i32_176
  let v378 : BitVec 32 := Scalar.extui v377
  let v379 : BitVec 32 := Scalar.subi v376 v378
  let v380 : BitVec 1 := Scalar.cmpi .ne v374 v379
  let v381 : BitVec 32 := Scalar.remsi v287 c2_i32_172
  let c0_i32_177 : BitVec 32 := 0#32
  let v382 : BitVec 1 := Scalar.cmpi .ne v381 c0_i32_177
  let v383 : BitVec 1 := Scalar.andi v380 v382
  let v369 : BitVec 32 := Scalar.divsi v287 c2_i32_172
  let c1_i32_178 : BitVec 32 := 1#32
  let v384 : BitVec 32 := Scalar.subi v369 c1_i32_178
  let v385 : BitVec 32 := Scalar.select v383 v384 v369
  let c2_i32_179 : BitVec 32 := 2#32
  let v386 : BitVec 32 := Scalar.muli v385 c2_i32_179
  let v387 : BitVec 32 := Scalar.subi v287 v386
  let c1_i32_180 : BitVec 32 := 1#32
  let v389 : BitVec 32 := Scalar.divsi v387 c1_i32_180
  let v390 : BitVec 32 := Scalar.muli v389 c1_i32_180
  let v391 : BitVec 32 := Scalar.addi v386 v390
  let c1_i32_182 : BitVec 32 := 1#32
  let arg16 : BitVec 32 := Scf.iv v391 c1_i32_182 k0_t6
  let v502 : BitVec 32 := Scalar.muli c2_i32_213 arg16
  let v514 : Index := Scalar.indexCast v502
  let c0_219 : Index := 0#32
  let c0_220 : Index := 0#32
  ![0, 0, v514.toNat, 0, 0]
def k0_mult36 (i : grid0.Coords) (k0_t6 : Fin (k0_t6_loop i).trips) : BitVec 32 :=
  let c2_i32_222 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_173 : BitVec 32 := 0#32
  let v370 : BitVec 1 := Scalar.cmpi .sgt v287 c0_i32_173
  let v371 : BitVec 32 := Scalar.extui v370
  let c0_i32_174 : BitVec 32 := 0#32
  let v372 : BitVec 1 := Scalar.cmpi .slt v287 c0_i32_174
  let v373 : BitVec 32 := Scalar.extui v372
  let v374 : BitVec 32 := Scalar.subi v371 v373
  let c2_i32_172 : BitVec 32 := 2#32
  let c0_i32_175 : BitVec 32 := 0#32
  let v375 : BitVec 1 := Scalar.cmpi .sgt c2_i32_172 c0_i32_175
  let v376 : BitVec 32 := Scalar.extui v375
  let c0_i32_176 : BitVec 32 := 0#32
  let v377 : BitVec 1 := Scalar.cmpi .slt c2_i32_172 c0_i32_176
  let v378 : BitVec 32 := Scalar.extui v377
  let v379 : BitVec 32 := Scalar.subi v376 v378
  let v380 : BitVec 1 := Scalar.cmpi .ne v374 v379
  let v381 : BitVec 32 := Scalar.remsi v287 c2_i32_172
  let c0_i32_177 : BitVec 32 := 0#32
  let v382 : BitVec 1 := Scalar.cmpi .ne v381 c0_i32_177
  let v383 : BitVec 1 := Scalar.andi v380 v382
  let v369 : BitVec 32 := Scalar.divsi v287 c2_i32_172
  let c1_i32_178 : BitVec 32 := 1#32
  let v384 : BitVec 32 := Scalar.subi v369 c1_i32_178
  let v385 : BitVec 32 := Scalar.select v383 v384 v369
  let c2_i32_179 : BitVec 32 := 2#32
  let v386 : BitVec 32 := Scalar.muli v385 c2_i32_179
  let v387 : BitVec 32 := Scalar.subi v287 v386
  let c1_i32_180 : BitVec 32 := 1#32
  let v389 : BitVec 32 := Scalar.divsi v387 c1_i32_180
  let v390 : BitVec 32 := Scalar.muli v389 c1_i32_180
  let v391 : BitVec 32 := Scalar.addi v386 v390
  let c1_i32_182 : BitVec 32 := 1#32
  let arg16 : BitVec 32 := Scf.iv v391 c1_i32_182 k0_t6
  let v519 : BitVec 32 := Scalar.muli c2_i32_222 arg16
  let c2_i32_223 : BitVec 32 := 2#32
  let v520 : BitVec 32 := Scalar.addi v519 c2_i32_223
  let c512_i32_224 : BitVec 32 := 512#32
  let v521 : BitVec 32 := Scalar.muli v520 c512_i32_224
  v521
def k0_off34 (i : grid0.Coords) (k0_t6 : Fin (k0_t6_loop i).trips) : Fin 5 → Nat :=
  let c0_247 : Index := 0#32
  let c0_248 : Index := 0#32
  let c2_i32_242 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let c0_i32_173 : BitVec 32 := 0#32
  let v370 : BitVec 1 := Scalar.cmpi .sgt v287 c0_i32_173
  let v371 : BitVec 32 := Scalar.extui v370
  let c0_i32_174 : BitVec 32 := 0#32
  let v372 : BitVec 1 := Scalar.cmpi .slt v287 c0_i32_174
  let v373 : BitVec 32 := Scalar.extui v372
  let v374 : BitVec 32 := Scalar.subi v371 v373
  let c2_i32_172 : BitVec 32 := 2#32
  let c0_i32_175 : BitVec 32 := 0#32
  let v375 : BitVec 1 := Scalar.cmpi .sgt c2_i32_172 c0_i32_175
  let v376 : BitVec 32 := Scalar.extui v375
  let c0_i32_176 : BitVec 32 := 0#32
  let v377 : BitVec 1 := Scalar.cmpi .slt c2_i32_172 c0_i32_176
  let v378 : BitVec 32 := Scalar.extui v377
  let v379 : BitVec 32 := Scalar.subi v376 v378
  let v380 : BitVec 1 := Scalar.cmpi .ne v374 v379
  let v381 : BitVec 32 := Scalar.remsi v287 c2_i32_172
  let c0_i32_177 : BitVec 32 := 0#32
  let v382 : BitVec 1 := Scalar.cmpi .ne v381 c0_i32_177
  let v383 : BitVec 1 := Scalar.andi v380 v382
  let v369 : BitVec 32 := Scalar.divsi v287 c2_i32_172
  let c1_i32_178 : BitVec 32 := 1#32
  let v384 : BitVec 32 := Scalar.subi v369 c1_i32_178
  let v385 : BitVec 32 := Scalar.select v383 v384 v369
  let c2_i32_179 : BitVec 32 := 2#32
  let v386 : BitVec 32 := Scalar.muli v385 c2_i32_179
  let v387 : BitVec 32 := Scalar.subi v287 v386
  let c1_i32_180 : BitVec 32 := 1#32
  let v389 : BitVec 32 := Scalar.divsi v387 c1_i32_180
  let v390 : BitVec 32 := Scalar.muli v389 c1_i32_180
  let v391 : BitVec 32 := Scalar.addi v386 v390
  let c1_i32_182 : BitVec 32 := 1#32
  let arg16 : BitVec 32 := Scf.iv v391 c1_i32_182 k0_t6
  let v552 : BitVec 32 := Scalar.muli c2_i32_242 arg16
  let c1_i32_243 : BitVec 32 := 1#32
  let v553 : BitVec 32 := Scalar.addi v552 c1_i32_243
  let v565 : Index := Scalar.indexCast v553
  let c0_249 : Index := 0#32
  let c0_250 : Index := 0#32
  ![0, 0, v565.toNat, 0, 0]
def k0_cond8 (i : grid0.Coords) : BitVec 1 :=
  let arg2 : BitVec 32 := BitVec.ofNat 32 (i 2).val
  let c256_i32 : BitVec 32 := 256#32
  let v0 : BitVec 32 := Scalar.muli arg2 c256_i32
  let c2_i32_128 : BitVec 32 := 2#32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let v288 : BitVec 32 := Scalar.muli c2_i32_128 v287
  let c1_i32_183 : BitVec 32 := 1#32
  let v394 : BitVec 32 := Scalar.addi v288 c1_i32_183
  let c512_i32_184 : BitVec 32 := 512#32
  let v395 : BitVec 32 := Scalar.muli v394 c512_i32_184
  let v396 : BitVec 1 := Scalar.cmpi .sge v0 v395
  let v397 : BitVec 32 := Scalar.extui v396
  let c0_i32_185 : BitVec 32 := 0#32
  let v398 : BitVec 1 := Scalar.cmpi .ne v397 c0_i32_185
  v398

def k0_mult37 (i : grid0.Coords) : BitVec 32 :=
  let c2_i32_128 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let v288 : BitVec 32 := Scalar.muli c2_i32_128 v287
  let c1_i32_193 : BitVec 32 := 1#32
  let v469 : BitVec 32 := Scalar.addi v288 c1_i32_193
  let c512_i32_194 : BitVec 32 := 512#32
  let v470 : BitVec 32 := Scalar.muli v469 c512_i32_194
  v470
def k0_off35 (i : grid0.Coords) : Fin 4 → Nat :=
  let c0_195 : Index := 0#32
  let c0_196 : Index := 0#32
  let c2_i32_128 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let v288 : BitVec 32 := Scalar.muli c2_i32_128 v287
  let c1_i32_193 : BitVec 32 := 1#32
  let v469 : BitVec 32 := Scalar.addi v288 c1_i32_193
  let c512_i32_194 : BitVec 32 := 512#32
  let v470 : BitVec 32 := Scalar.muli v469 c512_i32_194
  let v471 : BitVec 32 := v470
  let v472 : Index := Scalar.indexCast v471
  let c0_197 : Index := 0#32
  ![0, 0, v472.toNat, 0]
def k0_off36 (i : grid0.Coords) : Fin 3 → Nat :=
  let c2_i32_128 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let v288 : BitVec 32 := Scalar.muli c2_i32_128 v287
  let c1_i32_193 : BitVec 32 := 1#32
  let v469 : BitVec 32 := Scalar.addi v288 c1_i32_193
  let c0_i32_199 : BitVec 32 := 0#32
  let v476 : BitVec 1 := Scalar.cmpi .sgt v469 c0_i32_199
  let v477 : BitVec 32 := Scalar.extui v476
  let c0_i32_200 : BitVec 32 := 0#32
  let v478 : BitVec 1 := Scalar.cmpi .slt v469 c0_i32_200
  let v479 : BitVec 32 := Scalar.extui v478
  let v480 : BitVec 32 := Scalar.subi v477 v479
  let c16_i32_198 : BitVec 32 := 16#32
  let c0_i32_201 : BitVec 32 := 0#32
  let v481 : BitVec 1 := Scalar.cmpi .sgt c16_i32_198 c0_i32_201
  let v482 : BitVec 32 := Scalar.extui v481
  let c0_i32_202 : BitVec 32 := 0#32
  let v483 : BitVec 1 := Scalar.cmpi .slt c16_i32_198 c0_i32_202
  let v484 : BitVec 32 := Scalar.extui v483
  let v485 : BitVec 32 := Scalar.subi v482 v484
  let v486 : BitVec 1 := Scalar.cmpi .ne v480 v485
  let v487 : BitVec 32 := Scalar.remsi v469 c16_i32_198
  let c0_i32_203 : BitVec 32 := 0#32
  let v488 : BitVec 1 := Scalar.cmpi .ne v487 c0_i32_203
  let v489 : BitVec 1 := Scalar.andi v486 v488
  let v475 : BitVec 32 := Scalar.divsi v469 c16_i32_198
  let c1_i32_204 : BitVec 32 := 1#32
  let v490 : BitVec 32 := Scalar.subi v475 c1_i32_204
  let v491 : BitVec 32 := Scalar.select v489 v490 v475
  let v492 : Index := Scalar.indexCast v491
  let c0_205 : Index := 0#32
  let c0_206 : Index := 0#32
  ![v492.toNat, 0, 0]
def k0_off37 (i : grid0.Coords) : Fin 5 → Nat :=
  let c0_214 : Index := 0#32
  let c0_215 : Index := 0#32
  let c2_i32_128 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let v288 : BitVec 32 := Scalar.muli c2_i32_128 v287
  let v510 : Index := Scalar.indexCast v288
  let c0_216 : Index := 0#32
  let c0_217 : Index := 0#32
  ![0, 0, v510.toNat, 0, 0]
def k0_off38 (i : grid0.Coords) : Fin 5 → Nat :=
  let c0_226 : Index := 0#32
  let c0_227 : Index := 0#32
  let c2_i32_128 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let v288 : BitVec 32 := Scalar.muli c2_i32_128 v287
  let c1_i32_219 : BitVec 32 := 1#32
  let v515 : BitVec 32 := Scalar.addi v288 c1_i32_219
  let v538 : Index := Scalar.indexCast v515
  let c0_228 : Index := 0#32
  let c0_229 : Index := 0#32
  ![0, 0, v538.toNat, 0, 0]
def k0_off39 (i : grid0.Coords) : Fin 5 → Nat :=
  let c0_199 : Index := 0#32
  let c0_200 : Index := 0#32
  let c2_i32_128 : BitVec 32 := 2#32
  let arg2 : BitVec 32 := BitVec.ofNat 32 (i 2).val
  let c256_i32 : BitVec 32 := 256#32
  let v0 : BitVec 32 := Scalar.muli arg2 c256_i32
  let c0_i32_122 : BitVec 32 := 0#32
  let v272 : BitVec 1 := Scalar.cmpi .sgt v0 c0_i32_122
  let v273 : BitVec 32 := Scalar.extui v272
  let c0_i32_123 : BitVec 32 := 0#32
  let v274 : BitVec 1 := Scalar.cmpi .slt v0 c0_i32_123
  let v275 : BitVec 32 := Scalar.extui v274
  let v276 : BitVec 32 := Scalar.subi v273 v275
  let c1024_i32 : BitVec 32 := 1024#32
  let c0_i32_124 : BitVec 32 := 0#32
  let v277 : BitVec 1 := Scalar.cmpi .sgt c1024_i32 c0_i32_124
  let v278 : BitVec 32 := Scalar.extui v277
  let c0_i32_125 : BitVec 32 := 0#32
  let v279 : BitVec 1 := Scalar.cmpi .slt c1024_i32 c0_i32_125
  let v280 : BitVec 32 := Scalar.extui v279
  let v281 : BitVec 32 := Scalar.subi v278 v280
  let v282 : BitVec 1 := Scalar.cmpi .ne v276 v281
  let v283 : BitVec 32 := Scalar.remsi v0 c1024_i32
  let c0_i32_126 : BitVec 32 := 0#32
  let v284 : BitVec 1 := Scalar.cmpi .ne v283 c0_i32_126
  let v285 : BitVec 1 := Scalar.andi v282 v284
  let v271 : BitVec 32 := Scalar.divsi v0 c1024_i32
  let c1_i32_127 : BitVec 32 := 1#32
  let v286 : BitVec 32 := Scalar.subi v271 c1_i32_127
  let v287 : BitVec 32 := Scalar.select v285 v286 v271
  let v288 : BitVec 32 := Scalar.muli c2_i32_128 v287
  let v491 : Index := Scalar.indexCast v288
  let c0_201 : Index := 0#32
  let c0_202 : Index := 0#32
  ![0, 0, v491.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x80x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S1x1x16384x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 1 → Memref sig .tc .vmem S1x1x32x80x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false]

abbrev stage0_6 : Fin 1 → Memref sig .tc .vmem S1x1x16384x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, false]

abbrev stage0_7 : Fin 1 → Memref sig .tc .vmem S1x1x128x80x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel2.lean ====
abbrev S32768x1024 : Shape := ⟨2, ![32768, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S512x2816 : Shape := ⟨2, ![512, 2816]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S32768x5632 : Shape := ⟨2, ![32768, 5632]⟩
abbrev S32768x2816 : Shape := ⟨2, ![32768, 2816]⟩
abbrev S32768 : Shape := ⟨1, ![32768]⟩
abbrev S32768x1 : Shape := ⟨2, ![32768, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S32768x5632, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S32768x2816, .f32⟩
  | .hbm, ⟨13, _⟩ => ⟨S_, .f32⟩
  | .hbm, ⟨14, _⟩ => ⟨S32768x2816, .f32⟩
  | .hbm, ⟨15, _⟩ => ⟨S32768x2816, .f32⟩
  | .hbm, ⟨16, _⟩ => ⟨S_, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel3.lean ====
abbrev S32768x1024 : Shape := ⟨2, ![32768, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 17
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x1024 : Shape := ⟨2, ![32768, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 93
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1024, .f32⟩
  | .hbm, ⟨45, _⟩ => ⟨S32768x1024, .f32⟩
  | .hbm, ⟨46, _⟩ => ⟨S32768x5632, .f32⟩
  | .hbm, ⟨47, _⟩ => ⟨S32768x2816, .f32⟩
  | .hbm, ⟨48, _⟩ => ⟨S32768x2816, .f32⟩
  | .hbm, ⟨49, _⟩ => ⟨S32768x2816, .f32⟩
  | .hbm, ⟨50, _⟩ => ⟨S32768x2816, .f32⟩
  | .hbm, ⟨51, _⟩ => ⟨S_, .f32⟩
  | .hbm, ⟨52, _⟩ => ⟨S32768x2816, .f32⟩
  | .hbm, ⟨53, _⟩ => ⟨S32768x2816, .f32⟩
  | .hbm, ⟨54, _⟩ => ⟨S_, .f32⟩
  | .hbm, ⟨55, _⟩ => ⟨S32768x2816, .f32⟩
  | .hbm, ⟨56, _⟩ => ⟨S32768x2816, .f32⟩
  | .hbm, ⟨57, _⟩ => ⟨S32768x2816, .f32⟩
  | .hbm, ⟨58, _⟩ => ⟨S32768x2816, .f32⟩
  | .hbm, ⟨59, _⟩ => ⟨S32768x1024, .f32⟩
  | .hbm, ⟨60, _⟩ => ⟨S_, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768, .f32⟩
  | .hbm, ⟨66, _⟩ => ⟨S32768x1, .f32⟩
  | .hbm, ⟨67, _⟩ => ⟨S_, .f32⟩
  | .hbm, ⟨68, _⟩ => ⟨S32768x1, .f32⟩
  | .hbm, ⟨69, _⟩ => ⟨S32768x1, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S_, .f32⟩
  | .hbm, ⟨74, _⟩ => ⟨S32768, .f32⟩
  | .hbm, ⟨75, _⟩ => ⟨S32768x1, .f32⟩
  | .hbm, ⟨76, _⟩ => ⟨S_, .f32⟩
  | .hbm, ⟨77, _⟩ => ⟨S32768x1, .f32⟩
  | .hbm, ⟨78, _⟩ => ⟨S32768x1, .f32⟩
  | .hbm, ⟨79, _⟩ => ⟨S32768x1024, .f32⟩
  | .hbm, ⟨80, _⟩ => ⟨S32768x1024, .f32⟩
  | .hbm, ⟨81, _⟩ => ⟨S_, .f32⟩
  | .hbm, ⟨82, _⟩ => ⟨S32768x1, .f32⟩
  | .hbm, ⟨83, _⟩ => ⟨S32768x1, .f32⟩
  | .hbm, ⟨84, _⟩ => ⟨S32768x1, .f32⟩
  | .hbm, ⟨85, _⟩ => ⟨S32768x1024, .f32⟩
  | .hbm, ⟨86, _⟩ => ⟨S32768x1024, .f32⟩
  | .hbm, ⟨87, _⟩ => ⟨S1x1024, .f32⟩
  | .hbm, ⟨88, _⟩ => ⟨S32768x1024, .f32⟩
  | .hbm, ⟨89, _⟩ => ⟨S32768x1024, .f32⟩
  | .hbm, ⟨90, _⟩ => ⟨S1x1024, .f32⟩
  | .hbm, ⟨91, _⟩ => ⟨S32768x1024, .f32⟩
  | .hbm, ⟨92, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩

abbrev nD : Nat := 1
abbrev τ : Topo := Topo.v7x

variable {F : FTy → Type} [FloatOps F]
-- ==== Kernel4.lean ====
abbrev S32768x1024 : Shape := ⟨2, ![32768, 1024]⟩
abbrev S1024x6144 : Shape := ⟨2, ![1024, 6144]⟩
abbrev S3072 : Shape := ⟨1, ![3072]⟩
abbrev S16x128x128 : Shape := ⟨3, ![16, 128, 128]⟩
abbrev S16x128 : Shape := ⟨2, ![16, 128]⟩
abbrev S3072x1024 : Shape := ⟨2, ![3072, 1024]⟩
abbrev S1024 : Shape := ⟨1, ![1024]⟩
abbrev S128x16 : Shape := ⟨2, ![128, 16]⟩
abbrev S128x16x192 : Shape := ⟨3, ![128, 16, 192]⟩
abbrev S128x3072 : Shape := ⟨2, ![128, 3072]⟩
abbrev S1x3072 : Shape := ⟨2, ![1, 3072]⟩
abbrev S1x1024 : Shape := ⟨2, ![1, 1024]⟩
abbrev S512x1024 : Shape := ⟨2, ![512, 1024]⟩
abbrev S512x3072 : Shape := ⟨2, ![512, 3072]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩
abbrev S128x128 : Shape := ⟨2, ![128, 128]⟩
abbrev S1x384 : Shape := ⟨2, ![1, 384]⟩
abbrev S1x128x128 : Shape := ⟨3, ![1, 128, 128]⟩
abbrev S128x256 : Shape := ⟨2, ![128, 256]⟩
abbrev S1024x768 : Shape := ⟨2, ![1024, 768]⟩
abbrev S512x768 : Shape := ⟨2, ![512, 768]⟩
abbrev S512x384 : Shape := ⟨2, ![512, 384]⟩
abbrev S128x384 : Shape := ⟨2, ![128, 384]⟩
abbrev S256x384 : Shape := ⟨2, ![256, 384]⟩
abbrev S256x1536 : Shape := ⟨2, ![256, 1536]⟩
abbrev S128x1536 : Shape := ⟨2, ![128, 1536]⟩

abbrev nBuf : Space → Nat
  | .hbm => 19
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024x6144, .f32⟩
  | .hbm, ⟨2, _⟩ => ⟨S3072, .f32⟩
  | .hbm, ⟨3, _⟩ => ⟨S3072, .f32⟩
  | .hbm, ⟨4, _⟩ => ⟨S16x128x128, .f32⟩
  | .hbm, ⟨5, _⟩ => ⟨S16x128, .f32⟩
  | .hbm, ⟨6, _⟩ => ⟨S3072x1024, .f32⟩
  | .hbm, ⟨7, _⟩ => ⟨S1024, .f32⟩
  | .hbm, ⟨8, _⟩ => ⟨S1024, .f32⟩
  | .hbm, ⟨9, _⟩ => ⟨S128x16, .f32⟩
  | .hbm, ⟨10, _⟩ => ⟨S128x16x192, .f32⟩
  | .hbm, ⟨11, _⟩ => ⟨S128x3072, .f32⟩
  | .hbm, ⟨12, _⟩ => ⟨S1024x6144, .bf16⟩
  | .hbm, ⟨13, _⟩ => ⟨S1x3072, .f32⟩
  | .hbm, ⟨14, _⟩ => ⟨S1x3072, .f32⟩
  | .hbm, ⟨15, _⟩ => ⟨S3072x1024, .bf16⟩
  | .hbm, ⟨16, _⟩ => ⟨S1x1024, .f32⟩
  | .hbm, ⟨17, _⟩ => ⟨S1x1024, .f32⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x6144, .bf16⟩
  | .local _ .vmem, ⟨3, _⟩ => ⟨S1x3072, .f32⟩
  | .local _ .vmem, ⟨4, _⟩ => ⟨S1x3072, .f32⟩
  | .local _ .vmem, ⟨5, _⟩ => ⟨S16x128x128, .f32⟩
  | .local _ .vmem, ⟨6, _⟩ => ⟨S128x3072, .f32⟩
  | .local _ .vmem, ⟨7, _⟩ => ⟨S3072x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x3072, .f32⟩
  | .local _ .vmem, ⟨13, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S32768x1024 : Shape := ⟨2, ![32768, 1024]⟩
abbrev S1024x6144 : Shape := ⟨2, ![1024, 6144]⟩
abbrev S3072 : Shape := ⟨1, ![3072]⟩
abbrev S16x128x128 : Shape := ⟨3, ![16, 128, 128]⟩
abbrev S16x128 : Shape := ⟨2, ![16, 128]⟩
abbrev S3072x1024 : Shape := ⟨2, ![3072, 1024]⟩
abbrev S1024 : Shape := ⟨1, ![1024]⟩
abbrev S_ : Shape := ⟨0, ![]⟩
abbrev S32768x6144 : Shape := ⟨2, ![32768, 6144]⟩
abbrev S32768x3072 : Shape := ⟨2, ![32768, 3072]⟩
abbrev S32768 : Shape := ⟨1, ![32768]⟩
abbrev S32768x1 : Shape := ⟨2, ![32768, 1]⟩
abbrev S1x3072 : Shape := ⟨2, ![1, 3072]⟩
abbrev S256x128x16x192 : Shape := ⟨4, ![256, 128, 16, 192]⟩
abbrev S128x128 : Shape := ⟨2, ![128, 128]⟩
abbrev S16x256x192x128 : Shape := ⟨4, ![16, 256, 192, 128]⟩
abbrev S128x16 : Shape := ⟨2, ![128, 16]⟩
abbrev S128x16x1 : Shape := ⟨3, ![128, 16, 1]⟩
abbrev S1x128x16x1 : Shape := ⟨4, ![1, 128, 16, 1]⟩
abbrev S1x1024 : Shape := ⟨2, ![1, 1024]⟩

abbrev nBuf : Space → Nat
  | .hbm => 118
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x6144, .f32⟩
  | .hbm, ⟨2, _⟩ => ⟨S3072, .f32⟩
  | .hbm, ⟨3, _⟩ => ⟨S3072, .f32⟩
  | .hbm, ⟨4, _⟩ => ⟨S16x128x128, .f32⟩
  | .hbm, ⟨5, _⟩ => ⟨S16x128, .f32⟩
  | .hbm, ⟨6, _⟩ => ⟨S3072x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S32768x6144, .f32⟩
  | .hbm, ⟨13, _⟩ => ⟨S32768x6144, .f32⟩
  | .hbm, ⟨14, _⟩ => ⟨S32768x6144, .f32⟩
  | .hbm, ⟨15, _⟩ => ⟨S_, .f32⟩
  | .hbm, ⟨16, _⟩ => ⟨S32768x6144, .f32⟩
  | .hbm, ⟨17, _⟩ => ⟨S32768x6144, .f32⟩
  | .hbm, ⟨18, _⟩ => ⟨S32768x6144, .f32⟩
  | .hbm, ⟨19, _⟩ => ⟨S_, .f32⟩
  | .hbm, ⟨20, _⟩ => ⟨S32768x6144, .f32⟩
  | .hbm, ⟨21, _⟩ => ⟨S32768x6144, .f32⟩
  | .hbm, ⟨22, _⟩ => ⟨S32768x6144, .f32⟩
  | .hbm, ⟨23, _⟩ => ⟨S_, .f32⟩
  | .hbm, ⟨24, _⟩ => ⟨S32768x6144, .f32⟩
  | .hbm, ⟨25, _⟩ => ⟨S32768x6144, .f32⟩
  | .hbm, ⟨26, _⟩ => ⟨S_, .f32⟩
  | .hbm, ⟨27, _⟩ => ⟨S32768x6144, .f32⟩
  | .hbm, ⟨28, _⟩ => ⟨S32768x6144, .f32⟩
  | .hbm, ⟨29, _⟩ => ⟨S32768x6144, .f32⟩
  | .hbm, ⟨30, _⟩ => ⟨S32768x3072, .f32⟩
  | .hbm, ⟨31, _⟩ => ⟨S32768x3072, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x3072, .f32⟩
  | .hbm, ⟨39, _⟩ => ⟨S32768x3072, .f32⟩
  | .hbm, ⟨40, _⟩ => ⟨S32768x3072, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x3072, .f32⟩
  | .hbm, ⟨48, _⟩ => ⟨S32768x3072, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x3072, .f32⟩
  | .hbm, ⟨54, _⟩ => ⟨S32768x3072, .f32⟩
  | .hbm, ⟨55, _⟩ => ⟨S1x3072, .f32⟩
  | .hbm, ⟨56, _⟩ => ⟨S32768x3072, .f32⟩
  | .hbm, ⟨57, _⟩ => ⟨S32768x3072, .f32⟩
  | .hbm, ⟨58, _⟩ => ⟨S1x3072, .f32⟩
  | .hbm, ⟨59, _⟩ => ⟨S32768x3072, .f32⟩
  | .hbm, ⟨60, _⟩ => ⟨S32768x3072, .f32⟩
  | .hbm, ⟨61, _⟩ => ⟨S256x128x16x192, .f32⟩
  | .hbm, ⟨62, _⟩ => ⟨S_, .i1⟩
  | .hbm, ⟨63, _⟩ => ⟨S128x128, .i1⟩
  | .hbm, ⟨64, _⟩ => ⟨S128x128, .i32⟩
  | .hbm, ⟨65, _⟩ => ⟨S_, .i32⟩
  | .hbm, ⟨66, _⟩ => ⟨S128x128, .i32⟩
  | .hbm, ⟨67, _⟩ => ⟨S128x128, .i32⟩
  | .hbm, ⟨68, _⟩ => ⟨S128x128, .i32⟩
  | .hbm, ⟨69, _⟩ => ⟨S128x128, .i1⟩
  | .hbm, ⟨70, _⟩ => ⟨S_, .i1⟩
  | .hbm, ⟨71, _⟩ => ⟨S128x128, .i1⟩
  | .hbm, ⟨72, _⟩ => ⟨S128x128, .i1⟩
  | .hbm, ⟨73, _⟩ => ⟨S_, .i32⟩
  | .hbm, ⟨74, _⟩ => ⟨S_, .f32⟩
  | .hbm, ⟨75, _⟩ => ⟨S16x128x128, .i1⟩
  | .hbm, ⟨76, _⟩ => ⟨S16x128x128, .f32⟩
  | .hbm, ⟨77, _⟩ => ⟨S16x128x128, .f32⟩
  | .hbm, ⟨78, _⟩ => ⟨S16x256x192x128, .f32⟩
  | .hbm, ⟨79, _⟩ => ⟨S256x128x16x192, .f32⟩
  | .hbm, ⟨80, _⟩ => ⟨S128x16, .f32⟩
  | .hbm, ⟨81, _⟩ => ⟨S128x16x1, .f32⟩
  | .hbm, ⟨82, _⟩ => ⟨S1x128x16x1, .f32⟩
  | .hbm, ⟨83, _⟩ => ⟨S256x128x16x192, .f32⟩
  | .hbm, ⟨84, _⟩ => ⟨S256x128x16x192, .f32⟩
  | .hbm, ⟨85, _⟩ => ⟨S32768x3072, .f32⟩
  | .hbm, ⟨86, _⟩ => ⟨S32768x3072, .f32⟩
  | .hbm, ⟨87, _⟩ => ⟨S32768x1024, .f32⟩
  | .hbm, ⟨88, _⟩ => ⟨S32768x1024, .f32⟩
  | .hbm, ⟨89, _⟩ => ⟨S_, .f32⟩
  | .hbm, ⟨90, _⟩ => ⟨S32768, .f32⟩
  | .hbm, ⟨91, _⟩ => ⟨S32768x1, .f32⟩
  | .hbm, ⟨92, _⟩ => ⟨S_, .f32⟩
  | .hbm, ⟨93, _⟩ => ⟨S32768x1, .f32⟩
  | .hbm, ⟨94, _⟩ => ⟨S32768x1, .f32⟩
  | .hbm, ⟨95, _⟩ => ⟨S32768x1024, .f32⟩
  | .hbm, ⟨96, _⟩ => ⟨S32768x1024, .f32⟩
  | .hbm, ⟨97, _⟩ => ⟨S32768x1024, .f32⟩
  | .hbm, ⟨98, _⟩ => ⟨S_, .f32⟩
  | .hbm, ⟨99, _⟩ => ⟨S32768, .f32⟩
  | .hbm, ⟨100, _⟩ => ⟨S32768x1, .f32⟩
  | .hbm, ⟨101, _⟩ => ⟨S_, .f32⟩
  | .hbm, ⟨102, _⟩ => ⟨S32768x1, .f32⟩
  | .hbm, ⟨103, _⟩ => ⟨S32768x1, .f32⟩
  | .hbm, ⟨104, _⟩ => ⟨S32768x1024, .f32⟩
  | .hbm, ⟨105, _⟩ => ⟨S32768x1024, .f32⟩
  | .hbm, ⟨106, _⟩ => ⟨S_, .f32⟩
  | .hbm, ⟨107, _⟩ => ⟨S32768x1, .f32⟩
  | .hbm, ⟨108, _⟩ => ⟨S32768x1, .f32⟩
  | .hbm, ⟨109, _⟩ => ⟨S32768x1, .f32⟩
  | .hbm, ⟨110, _⟩ => ⟨S32768x1024, .f32⟩
  | .hbm, ⟨111, _⟩ => ⟨S32768x1024, .f32⟩
  | .hbm, ⟨112, _⟩ => ⟨S1x1024, .f32⟩
  | .hbm, ⟨113, _⟩ => ⟨S32768x1024, .f32⟩
  | .hbm, ⟨114, _⟩ => ⟨S32768x1024, .f32⟩
  | .hbm, ⟨115, _⟩ => ⟨S1x1024, .f32⟩
  | .hbm, ⟨116, _⟩ => ⟨S32768x1024, .f32⟩
  | .hbm, ⟨117, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c : Ref sig .tc := ⟨.hbm, 62, rfl⟩
abbrev main_v43 : Ref sig .tc := ⟨.hbm, 63, rfl⟩
abbrev main_call0_v0 : Ref sig .tc := ⟨.hbm, 64, rfl⟩
abbrev main_call0_c : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_c_0 : Ref sig .tc := ⟨.hbm, 70, rfl⟩
abbrev main_call0_v5 : Ref sig .tc := ⟨.hbm, 71, rfl⟩
abbrev main_v44 : Ref sig .tc := ⟨.hbm, 72, rfl⟩
abbrev main_c_9 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩

abbrev nD : Nat := 1
abbrev τ : Topo := Topo.v7x

variable {F : FTy → Type} [FloatOps F]
-- ==== Kernel5.lean ====
abbrev S2x16384x1024 : Shape := ⟨3, ![2, 16384, 1024]⟩
abbrev S1024x2608 : Shape := ⟨2, ![1024, 2608]⟩
abbrev S1024x1024 : Shape := ⟨2, ![1024, 1024]⟩
abbrev S1024x1536 : Shape := ⟨2, ![1024, 1536]⟩
abbrev S1024x48 : Shape := ⟨2, ![1024, 48]⟩
abbrev S1024x4x12 : Shape := ⟨3, ![1024, 4, 12]⟩
abbrev S_ : Shape := ⟨0, ![]⟩
abbrev S1024x4x16 : Shape := ⟨3, ![1024, 4, 16]⟩
abbrev S1024x64 : Shape := ⟨2, ![1024, 64]⟩
abbrev S1024x128 : Shape := ⟨2, ![1024, 128]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S2x16x64x16384 : Shape := ⟨4, ![2, 16, 64, 16384]⟩
abbrev S2x64x16384 : Shape := ⟨3, ![2, 64, 16384]⟩
abbrev S2x4x1024x1024 : Shape := ⟨4, ![2, 4, 1024, 1024]⟩
abbrev S2x4x16384x256 : Shape := ⟨4, ![2, 4, 16384, 256]⟩
abbrev S2x4x32x80x512 : Shape := ⟨5, ![2, 4, 32, 80, 512]⟩
abbrev S2x4x16384x128 : Shape := ⟨4, ![2, 4, 16384, 128]⟩
abbrev S2x4x128x80x128 : Shape := ⟨5, ![2, 4, 128, 80, 128]⟩
abbrev S1x512x1024 : Shape := ⟨3, ![1, 512, 1024]⟩
abbrev S512x128 : Shape := ⟨2, ![512, 128]⟩
abbrev S1x16x64x512 : Shape := ⟨4, ![1, 16, 64, 512]⟩
abbrev S1x64x512 : Shape := ⟨3, ![1, 64, 512]⟩
abbrev S1x4x32x1024 : Shape := ⟨4, ![1, 4, 32, 1024]⟩
abbrev S1x4x512x256 : Shape := ⟨4, ![1, 4, 512, 256]⟩
abbrev S1x4x1x80x512 : Shape := ⟨5, ![1, 4, 1, 80, 512]⟩
abbrev S1x4x512x128 : Shape := ⟨4, ![1, 4, 512, 128]⟩
abbrev S1x4x4x80x128 : Shape := ⟨5, ![1, 4, 4, 80, 128]⟩
abbrev S512x1024 : Shape := ⟨2, ![512, 1024]⟩
abbrev S1x128 : Shape := ⟨2, ![1, 128]⟩
abbrev S128x512 : Shape := ⟨2, ![128, 512]⟩
abbrev S64x512 : Shape := ⟨2, ![64, 512]⟩
abbrev S1x1x64x512 : Shape := ⟨4, ![1, 1, 64, 512]⟩
abbrev S512x1536 : Shape := ⟨2, ![512, 1536]⟩
abbrev S32x128 : Shape := ⟨2, ![32, 128]⟩
abbrev S32x1024 : Shape := ⟨2, ![32, 1024]⟩
abbrev S1x1x32x1024 : Shape := ⟨4, ![1, 1, 32, 1024]⟩
abbrev S512x1 : Shape := ⟨2, ![512, 1]⟩
abbrev S512x256 : Shape := ⟨2, ![512, 256]⟩
abbrev S1x1x512x256 : Shape := ⟨4, ![1, 1, 512, 256]⟩
abbrev S1x1x512x128 : Shape := ⟨4, ![1, 1, 512, 128]⟩
abbrev S16x512 : Shape := ⟨2, ![16, 512]⟩
abbrev S80x512 : Shape := ⟨2, ![80, 512]⟩
abbrev S1x1x1x80x512 : Shape := ⟨5, ![1, 1, 1, 80, 512]⟩
abbrev S80x128 : Shape := ⟨2, ![80, 128]⟩
abbrev S1x1x1x80x128 : Shape := ⟨5, ![1, 1, 1, 80, 128]⟩

abbrev nBuf : Space → Nat
  | .hbm => 49
  | .vmem => 26
  | .smem => 0
  | _ => 0

abbrev bufTy : (tb : Table) → Fin (tcTables nBuf tb) → BufTy
  | .hbm, ⟨0, _⟩ => ⟨S2x16384x1024, .f32⟩
  | .hbm, ⟨1, _⟩ => ⟨S1024x2608, .f32⟩
  | .hbm, ⟨2, _⟩ => ⟨S1024x1024, .f32⟩
  | .hbm, ⟨3, _⟩ => ⟨S1024x1024, .bf16⟩
  | .hbm, ⟨4, _⟩ => ⟨S1024x1536, .f32⟩
  | .hbm, ⟨5, _⟩ => ⟨S1024x1536, .bf16⟩
  | .hbm, ⟨6, _⟩ => ⟨S1024x48, .f32⟩
  | .hbm, ⟨7, _⟩ => ⟨S1024x4x12, .f32⟩
  | .hbm, ⟨8, _⟩ => ⟨S_, .i32⟩
  | .hbm, ⟨9, _⟩ => ⟨S_, .f32⟩
  | .hbm, ⟨10, _⟩ => ⟨S1024x4x16, .f32⟩
  | .hbm, ⟨11, _⟩ => ⟨S1024x64, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S16384, .i32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S16384, .f32⟩
  | .hbm, ⟨26, _⟩ => ⟨S16384x1, .f32⟩
  | .hbm, ⟨27, _⟩ => ⟨S1x32, .f32⟩
  | .hbm, ⟨28, _⟩ => ⟨S16384x32, .f32⟩
  | .hbm, ⟨29, _⟩ => ⟨S16384x32, .f32⟩
  | .hbm, ⟨30, _⟩ => ⟨S16384x32, .f32⟩
  | .hbm, ⟨31, _⟩ => ⟨S16384x32, .f32⟩
  | .hbm, ⟨32, _⟩ => ⟨S16384x32, .f32⟩
  | .hbm, ⟨33, _⟩ => ⟨S1x16384x1x32, .f32⟩
  | .hbm, ⟨34, _⟩ => ⟨S1x16384x4x32, .f32⟩
  | .hbm, ⟨35, _⟩ => ⟨S16384x128, .f32⟩
  | .hbm, ⟨36, _⟩ => ⟨S16384x32, .f32⟩
  | .hbm, ⟨37, _⟩ => ⟨S16384x64, .f32⟩
  | .hbm, ⟨38, _⟩ => ⟨S1x16384x1x64, .f32⟩
  | .hbm, ⟨39, _⟩ => ⟨S1x16384x2x64, .f32⟩
  | .hbm, ⟨40, _⟩ => ⟨S16384x128, .f32⟩
  | .hbm, ⟨41, _⟩ => ⟨S2x16x64x16384, .bf16⟩
  | .hbm, ⟨42, _⟩ => ⟨S2x64x16384, .f32⟩
  | .hbm, ⟨43, _⟩ => ⟨S2x4x1024x1024, .bf16⟩
  | .hbm, ⟨44, _⟩ => ⟨S2x4x1024x1024, .bf16⟩
  | .hbm, ⟨45, _⟩ => ⟨S2x4x16384x256, .bf16⟩
  | .hbm, ⟨46, _⟩ => ⟨S2x4x32x80x512, .bf16⟩
  | .hbm, ⟨47, _⟩ => ⟨S2x4x16384x128, .bf16⟩
  | .hbm, ⟨48, _⟩ => ⟨S2x4x128x80x128, .bf16⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1536, .bf16⟩
  | .local _ .vmem, ⟨4, _⟩ => ⟨S1024x128, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x16x64x512, .bf16⟩
  | .local _ .vmem, ⟨10, _⟩ => ⟨S1x16x64x512, .bf16⟩
  | .local _ .vmem, ⟨11, _⟩ => ⟨S1x64x512, .f32⟩
  | .local _ .vmem, ⟨12, _⟩ => ⟨S1x64x512, .f32⟩
  | .local _ .vmem, ⟨13, _⟩ => ⟨S1x4x32x1024, .bf16⟩
  | .local _ .vmem, ⟨14, _⟩ => ⟨S1x4x32x1024, .bf16⟩
  | .local _ .vmem, ⟨15, _⟩ => ⟨S1x4x32x1024, .bf16⟩
  | .local _ .vmem, ⟨16, _⟩ => ⟨S1x4x32x1024, .bf16⟩
  | .local _ .vmem, ⟨17, _⟩ => ⟨S1x4x512x256, .bf16⟩
  | .local _ .vmem, ⟨18, _⟩ => ⟨S1x4x512x256, .bf16⟩
  | .local _ .vmem, ⟨19, _⟩ => ⟨S1x4x1x80x512, .bf16⟩
  | .local _ .vmem, ⟨20, _⟩ => ⟨S1x4x1x80x512, .bf16⟩
  | .local _ .vmem, ⟨21, _⟩ => ⟨S1x4x512x128, .bf16⟩
  | .local _ .vmem, ⟨22, _⟩ => ⟨S1x4x512x128, .bf16⟩
  | .local _ .vmem, ⟨23, _⟩ => ⟨S1x4x4x80x128, .bf16⟩
  | .local _ .vmem, ⟨24, _⟩ => ⟨S1x4x4x80x128, .bf16⟩
  | .local _ .vmem, ⟨25, _⟩ => ⟨S512x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33_0 : Ref sig .tc := ⟨.hbm, 41, rfl⟩
abbrev main_v33_1 : Ref sig .tc := ⟨.hbm, 42, rfl⟩
abbrev main_v33_2 : Ref sig .tc := ⟨.hbm, 43, rfl⟩
abbrev main_v33_3 : Ref sig .tc := ⟨.hbm, 44, rfl⟩
abbrev main_v33_4 : Ref sig .tc := ⟨.hbm, 45, rfl⟩
abbrev main_v33_5 : Ref sig .tc := ⟨.hbm, 46, rfl⟩
abbrev main_v33_6 : Ref sig .tc := ⟨.hbm, 47, rfl⟩
abbrev main_v33_7 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x16x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x32x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x1x80x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x4x80x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S2x16384x1024 : Shape := ⟨3, ![2, 16384, 1024]⟩
abbrev S1024x2608 : Shape := ⟨2, ![1024, 2608]⟩
abbrev S16384 : Shape := ⟨1, ![16384]⟩
abbrev S1024x1024 : Shape := ⟨2, ![1024, 1024]⟩
abbrev S2x16384x16x64 : Shape := ⟨4, ![2, 16384, 16, 64]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S2x16384x16x32 : Shape := ⟨4, ![2, 16384, 16, 32]⟩
abbrev S1x16384x1x32 : Shape := ⟨4, ![1, 16384, 1, 32]⟩
abbrev S1024x48 : Shape := ⟨2, ![1024, 48]⟩
abbrev S1024x4x12 : Shape := ⟨3, ![1024, 4, 12]⟩
abbrev S1024x4x16 : Shape := ⟨3, ![1024, 4, 16]⟩
abbrev S1024x64 : Shape := ⟨2, ![1024, 64]⟩
abbrev S2x16384x64 : Shape := ⟨3, ![2, 16384, 64]⟩
abbrev S2x16x64x16384 : Shape := ⟨4, ![2, 16, 64, 16384]⟩
abbrev S2x64x16384 : Shape := ⟨3, ![2, 64, 16384]⟩
abbrev S1024x256 : Shape := ⟨2, ![1024, 256]⟩
abbrev S2x16384x256 : Shape := ⟨3, ![2, 16384, 256]⟩
abbrev S2x16384x4x64 : Shape := ⟨4, ![2, 16384, 4, 64]⟩
abbrev S2x1024x16x4x64 : Shape := ⟨5, ![2, 1024, 16, 4, 64]⟩
abbrev S2x4x1024x16x64 : Shape := ⟨5, ![2, 4, 1024, 16, 64]⟩
abbrev S2x4x1024x1024 : Shape := ⟨4, ![2, 4, 1024, 1024]⟩
abbrev S128 : Shape := ⟨1, ![128]⟩
abbrev S1x128 : Shape := ⟨2, ![1, 128]⟩
abbrev S16384x128 : Shape := ⟨2, ![16384, 128]⟩
abbrev S2x4x16384x128 : Shape := ⟨4, ![2, 4, 16384, 128]⟩
abbrev S2x16384x4x32 : Shape := ⟨4, ![2, 16384, 4, 32]⟩
abbrev S2x4x16384x64 : Shape := ⟨4, ![2, 4, 16384, 64]⟩
abbrev S2x4x16384x256 : Shape := ⟨4, ![2, 4, 16384, 256]⟩
abbrev S2x32x512x4x64 : Shape := ⟨5, ![2, 32, 512, 4, 64]⟩
abbrev S2x4x32x64x512 : Shape := ⟨5, ![2, 4, 32, 64, 512]⟩
abbrev S2x4x32x1x512 : Shape := ⟨5, ![2, 4, 32, 1, 512]⟩
abbrev S2x4x32x15x512 : Shape := ⟨5, ![2, 4, 32, 15, 512]⟩
abbrev S2x4x32x80x512 : Shape := ⟨5, ![2, 4, 32, 80, 512]⟩
abbrev S2x128x128x4x64 : Shape := ⟨5, ![2, 128, 128, 4, 64]⟩
abbrev S2x4x128x64x128 : Shape := ⟨5, ![2, 4, 128, 64, 128]⟩
abbrev S2x4x128x1x128 : Shape := ⟨5, ![2, 4, 128, 1, 128]⟩
abbrev S2x4x128x15x128 : Shape := ⟨5, ![2, 4, 128, 15, 128]⟩
abbrev S2x4x128x80x128 : Shape := ⟨5, ![2, 4, 128, 80, 128]⟩

abbrev nBuf : Space → Nat
  | .hbm => 238
  | .vmem => 0
  | .smem => 0
  | _ => 0

abbrev hbmTy0_0 (i : Nat) : BufTy := match i % 128 with
  | 0 => ⟨S2x16384x1024, .f32⟩
  | 1 => ⟨S1024x2608, .f32⟩
  | 2 => ⟨S16384, .i32⟩
  | 3 => ⟨S1024x1024, .f32⟩
  | 4 => ⟨S2x16384x1024, .f32⟩
  | 5 => ⟨S2x16384x16x64, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S16384, .f32⟩
  | 15 => ⟨S16384x1, .f32⟩
  | 16 => ⟨S1x32, .f32⟩
  | 17 => ⟨S16384x32, .f32⟩
  | 18 => ⟨S16384x32, .f32⟩
  | 19 => ⟨S16384x32, .f32⟩
  | 20 => ⟨S16384x32, .f32⟩
  | 21 => ⟨S16384x1x32, .f32⟩
  | 22 => ⟨S16384x32, .f32⟩
  | 23 => ⟨S16384x1x32, .f32⟩
  | 24 => ⟨S2x16384x16x32, .f32⟩
  | 25 => ⟨S2x16384x16x32, .f32⟩
  | 26 => ⟨S1x16384x1x32, .f32⟩
  | 27 => ⟨S2x16384x16x32, .f32⟩
  | 28 => ⟨S2x16384x16x32, .f32⟩
  | 29 => ⟨S1x16384x1x32, .f32⟩
  | 30 => ⟨S2x16384x16x32, .f32⟩
  | 31 => ⟨S2x16384x16x32, .f32⟩
  | 32 => ⟨S2x16384x16x32, .f32⟩
  | 33 => ⟨S1x16384x1x32, .f32⟩
  | 34 => ⟨S2x16384x16x32, .f32⟩
  | 35 => ⟨S2x16384x16x32, .f32⟩
  | 36 => ⟨S1x16384x1x32, .f32⟩
  | 37 => ⟨S2x16384x16x32, .f32⟩
  | 38 => ⟨S2x16384x16x32, .f32⟩
  | 39 => ⟨S2x16384x16x32, .f32⟩
  | 40 => ⟨S2x16384x16x64, .f32⟩
  | 41 => ⟨S_, .f32⟩
  | 42 => ⟨S2x16384x16x64, .f32⟩
  | 43 => ⟨S2x16384x16x64, .f32⟩
  | 44 => ⟨S1024x48, .f32⟩
  | 45 => ⟨S1024x4x12, .f32⟩
  | 46 => ⟨S_, .i32⟩
  | 47 => ⟨S_, .f32⟩
  | 48 => ⟨S1024x4x16, .f32⟩
  | 49 => ⟨S1024x64, .f32⟩
  | 50 => ⟨S2x16384x64, .f32⟩
  | 51 => ⟨S2x16384x64, .f32⟩
  | 52 => ⟨S2x16384x64, .f32⟩
  | 53 => ⟨S_, .f32⟩
  | 54 => ⟨S2x16384x64, .f32⟩
  | 55 => ⟨S2x16384x64, .f32⟩
  | 56 => ⟨S_, .f32⟩
  | 57 => ⟨S2x16384x64, .f32⟩
  | 58 => ⟨S2x16384x64, .f32⟩
  | 59 => ⟨S2x16x64x16384, .f32⟩
  | 60 => ⟨S2x16x64x16384, .bf16⟩
  | 61 => ⟨S2x64x16384, .f32⟩
  | 62 => ⟨S1024x256, .f32⟩
  | 63 => ⟨S2x16384x256, .f32⟩
  | 64 => ⟨S2x16384x4x64, .f32⟩
  | 65 => ⟨S2x1024x16x4x64, .f32⟩
  | 66 => ⟨S2x4x1024x16x64, .f32⟩
  | 67 => ⟨S2x4x1024x1024, .f32⟩
  | 68 => ⟨S2x4x1024x1024, .bf16⟩
  | 69 => ⟨S1024x256, .f32⟩
  | 70 => ⟨S2x16384x256, .f32⟩
  | 71 => ⟨S2x16384x4x64, .f32⟩
  | 72 => ⟨S2x1024x16x4x64, .f32⟩
  | 73 => ⟨S2x4x1024x16x64, .f32⟩
  | 74 => ⟨S2x4x1024x1024, .f32⟩
  | 75 => ⟨S2x4x1024x1024, .bf16⟩
  | 76 => ⟨S1024x256, .f32⟩
  | 77 => ⟨S2x16384x256, .f32⟩
  | 78 => ⟨S2x16384x4x64, .f32⟩
  | 79 => ⟨S_, .i32⟩
  | 80 => ⟨S_, .i32⟩
  | 81 => ⟨S16384, .i32⟩
  | 82 => ⟨S16384, .i32⟩
  | 83 => ⟨S16384, .i32⟩
  | 84 => ⟨S_, .i32⟩
  | 85 => ⟨S16384, .i32⟩
  | 86 => ⟨S16384, .i1⟩
  | 87 => ⟨S16384, .i32⟩
  | 88 => ⟨S16384, .i32⟩
  | 89 => ⟨S_, .i32⟩
  | 90 => ⟨S16384, .i32⟩
  | 91 => ⟨S16384, .i1⟩
  | 92 => ⟨S16384, .i1⟩
  | 93 => ⟨S_, .i32⟩
  | 94 => ⟨S16384, .i32⟩
  | 95 => ⟨S16384, .i32⟩
  | 96 => ⟨S16384, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S16384, .i32⟩
  | 104 => ⟨S16384, .i32⟩
  | 105 => ⟨S_, .i32⟩
  | 106 => ⟨S16384, .i32⟩
  | 107 => ⟨S16384, .i1⟩
  | 108 => ⟨S_, .i32⟩
  | 109 => ⟨S16384, .i32⟩
  | 110 => ⟨S16384, .i1⟩
  | 111 => ⟨S_, .i32⟩
  | 112 => ⟨S_, .i1⟩
  | 113 => ⟨S16384, .i1⟩
  | 114 => ⟨S16384, .i1⟩
  | 115 => ⟨S16384, .i1⟩
  | 116 => ⟨S16384, .i32⟩
  | 117 => ⟨S16384, .i32⟩
  | 118 => ⟨S16384, .i32⟩
  | 119 => ⟨S16384x1, .i32⟩
  | 120 => ⟨S128, .i32⟩
  | 121 => ⟨S1x128, .i32⟩
  | 122 => ⟨S16384x128, .i32⟩
  | 123 => ⟨S16384x128, .i32⟩
  | 124 => ⟨S16384x128, .i1⟩
  | 125 => ⟨S_, .f32⟩
  | 126 => ⟨S_, .f32⟩
  | 127 => ⟨S16384x128, .f32⟩
  | _ => ⟨S2x16384x1024, .f32⟩

abbrev hbmTy0_1 (i : Nat) : BufTy := match i % 128 with
  | 0 => ⟨S16384x128, .f32⟩
  | 1 => ⟨S16384x128, .f32⟩
  | 2 => ⟨S16384x128, .bf16⟩
  | 3 => ⟨S2x4x16384x128, .bf16⟩
  | 4 => ⟨S32, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S16384, .f32⟩
  | 13 => ⟨S16384x1, .f32⟩
  | 14 => ⟨S1x32, .f32⟩
  | 15 => ⟨S16384x32, .f32⟩
  | 16 => ⟨S16384x32, .f32⟩
  | 17 => ⟨S16384x32, .f32⟩
  | 18 => ⟨S16384x32, .f32⟩
  | 19 => ⟨S16384x1x32, .f32⟩
  | 20 => ⟨S16384x32, .f32⟩
  | 21 => ⟨S16384x1x32, .f32⟩
  | 22 => ⟨S2x16384x4x32, .f32⟩
  | 23 => ⟨S2x16384x4x32, .f32⟩
  | 24 => ⟨S1x16384x1x32, .f32⟩
  | 25 => ⟨S2x16384x4x32, .f32⟩
  | 26 => ⟨S2x16384x4x32, .f32⟩
  | 27 => ⟨S1x16384x1x32, .f32⟩
  | 28 => ⟨S2x16384x4x32, .f32⟩
  | 29 => ⟨S2x16384x4x32, .f32⟩
  | 30 => ⟨S2x16384x4x32, .f32⟩
  | 31 => ⟨S1x16384x1x32, .f32⟩
  | 32 => ⟨S2x16384x4x32, .f32⟩
  | 33 => ⟨S2x16384x4x32, .f32⟩
  | 34 => ⟨S1x16384x1x32, .f32⟩
  | 35 => ⟨S2x16384x4x32, .f32⟩
  | 36 => ⟨S2x16384x4x32, .f32⟩
  | 37 => ⟨S2x16384x4x32, .f32⟩
  | 38 => ⟨S2x16384x4x64, .f32⟩
  | 39 => ⟨S2x4x16384x64, .f32⟩
  | 40 => ⟨S_, .i32⟩
  | 41 => ⟨S_, .f32⟩
  | 42 => ⟨S2x4x16384x128, .f32⟩
  | 43 => ⟨S2x4x16384x128, .bf16⟩
  | 44 => ⟨S2x4x16384x256, .bf16⟩
  | 45 => ⟨S1024x256, .f32⟩
  | 46 => ⟨S2x16384x256, .f32⟩
  | 47 => ⟨S2x16384x4x64, .f32⟩
  | 48 => ⟨S2x32x512x4x64, .f32⟩
  | 49 => ⟨S2x4x32x64x512, .f32⟩
  | 50 => ⟨S_, .f32⟩
  | 51 => ⟨S2x4x32x1x512, .f32⟩
  | 52 => ⟨S_, .f32⟩
  | 53 => ⟨S2x4x32x15x512, .f32⟩
  | 54 => ⟨S2x4x32x80x512, .f32⟩
  | 55 => ⟨S2x4x32x80x512, .bf16⟩
  | 56 => ⟨S1024x256, .f32⟩
  | 57 => ⟨S2x16384x256, .f32⟩
  | 58 => ⟨S2x16384x4x64, .f32⟩
  | 59 => ⟨S32, .f32⟩
  | 60 => ⟨S32, .f32⟩
  | 61 => ⟨S_, .f32⟩
  | 62 => ⟨S32, .f32⟩
  | 63 => ⟨S32, .f32⟩
  | 64 => ⟨S_, .f32⟩
  | 65 => ⟨S32, .f32⟩
  | 66 => ⟨S32, .f32⟩
  | 67 => ⟨S16384, .f32⟩
  | 68 => ⟨S16384x1, .f32⟩
  | 69 => ⟨S1x32, .f32⟩
  | 70 => ⟨S16384x32, .f32⟩
  | 71 => ⟨S16384x32, .f32⟩
  | 72 => ⟨S16384x32, .f32⟩
  | 73 => ⟨S16384x32, .f32⟩
  | 74 => ⟨S16384x1x32, .f32⟩
  | 75 => ⟨S16384x32, .f32⟩
  | 76 => ⟨S16384x1x32, .f32⟩
  | 77 => ⟨S2x16384x4x32, .f32⟩
  | 78 => ⟨S2x16384x4x32, .f32⟩
  | 79 => ⟨S1x16384x1x32, .f32⟩
  | 80 => ⟨S2x16384x4x32, .f32⟩
  | 81 => ⟨S2x16384x4x32, .f32⟩
  | 82 => ⟨S1x16384x1x32, .f32⟩
  | 83 => ⟨S2x16384x4x32, .f32⟩
  | 84 => ⟨S2x16384x4x32, .f32⟩
  | 85 => ⟨S2x16384x4x32, .f32⟩
  | 86 => ⟨S1x16384x1x32, .f32⟩
  | 87 => ⟨S2x16384x4x32, .f32⟩
  | 88 => ⟨S2x16384x4x32, .f32⟩
  | 89 => ⟨S1x16384x1x32, .f32⟩
  | 90 => ⟨S2x16384x4x32, .f32⟩
  | 91 => ⟨S2x16384x4x32, .f32⟩
  | 92 => ⟨S2x16384x4x32, .f32⟩
  | 93 => ⟨S2x16384x4x64, .f32⟩
  | 94 => ⟨S2x4x16384x64, .f32⟩
  | 95 => ⟨S_, .i32⟩
  | 96 => ⟨S_, .f32⟩
  | 97 => ⟨S2x4x16384x128, .f32⟩
  | 98 => ⟨S2x4x16384x128, .bf16⟩
  | 99 => ⟨S1024x256, .f32⟩
  | 100 => ⟨S2x16384x256, .f32⟩
  | 101 => ⟨S2x16384x4x64, .f32⟩
  | 102 => ⟨S2x128x128x4x64, .f32⟩
  | 103 => ⟨S2x4x128x64x128, .f32⟩
  | 104 => ⟨S_, .f32⟩
  | 105 => ⟨S2x4x128x1x128, .f32⟩
  | 106 => ⟨S_, .f32⟩
  | 107 => ⟨S2x4x128x15x128, .f32⟩
  | 108 => ⟨S2x4x128x80x128, .f32⟩
  | 109 => ⟨S2x4x128x80x128, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_c : Ref sig .tc := ⟨.hbm, 46, rfl⟩
abbrev main_call0_v0 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_2 : Ref sig .tc := ⟨.hbm, 53, rfl⟩
abbrev main_v46 : Ref sig .tc := ⟨.hbm, 54, rfl⟩
abbrev main_v47 : Ref sig .tc := ⟨.hbm, 55, rfl⟩
abbrev main_cst_3 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_c_4 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_c : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_0 : Ref sig .tc := ⟨.hbm, 93, rfl⟩
abbrev main_call1_v12 : Ref sig .tc := ⟨.hbm, 94, rfl⟩
abbrev main_call1_v13 : Ref sig .tc := ⟨.hbm, 95, rfl⟩
abbrev main_v70 : Ref sig .tc := ⟨.hbm, 96, rfl⟩
abbrev main_c_5 : Ref sig .tc := ⟨.hbm, 97, rfl⟩
abbrev main_call2_v0 : Ref sig .tc := ⟨.hbm, 98, rfl⟩
abbrev main_call2_c : Ref sig .tc := ⟨.hbm, 99, rfl⟩
abbrev main_call2_v1 : Ref sig .tc := ⟨.hbm, 100, rfl⟩
abbrev main_call2_c_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_c_1 : Ref sig .tc := ⟨.hbm, 105, rfl⟩
abbrev main_call2_v5 : Ref sig .tc := ⟨.hbm, 106, rfl⟩
abbrev main_call2_v6 : Ref sig .tc := ⟨.hbm, 107, rfl⟩
abbrev main_call2_c_2 : Ref sig .tc := ⟨.hbm, 108, rfl⟩
abbrev main_call2_v7 : Ref sig .tc := ⟨.hbm, 109, rfl⟩
abbrev main_call2_v8 : Ref sig .tc := ⟨.hbm, 110, rfl⟩
abbrev main_call2_c_3 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_6 : Ref sig .tc := ⟨.hbm, 125, rfl⟩
abbrev main_cst_7 : Ref sig .tc := ⟨.hbm, 126, rfl⟩
abbrev main_call3_v0 : Ref sig .tc := ⟨.hbm, 127, rfl⟩
abbrev main_call3_v1 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_8 : Ref sig .tc := ⟨.hbm, 134, rfl⟩
abbrev main_v83 : Ref sig .tc := ⟨.hbm, 135, rfl⟩
abbrev main_v84 : Ref sig .tc := ⟨.hbm, 136, rfl⟩
abbrev main_cst_9 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_c_10 : Ref sig .tc := ⟨.hbm, 168, rfl⟩
abbrev main_call4_v0 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_11 : Ref sig .tc := ⟨.hbm, 178, rfl⟩
abbrev main_v123 : Ref sig .tc := ⟨.hbm, 179, rfl⟩
abbrev main_cst_12 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_cst_13 : Ref sig .tc := ⟨.hbm, 189, rfl⟩
abbrev main_v132 : Ref sig .tc := ⟨.hbm, 190, rfl⟩
abbrev main_v133 : Ref sig .tc := ⟨.hbm, 191, rfl⟩
abbrev main_cst_14 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_c_15 : Ref sig .tc := ⟨.hbm, 223, rfl⟩
abbrev main_call5_v0 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_cst_16 : Ref sig .tc := ⟨.hbm, 232, rfl⟩
abbrev main_v171 : Ref sig .tc := ⟨.hbm, 233, rfl⟩
abbrev main_cst_17 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩

abbrev nD : Nat := 1
abbrev τ : Topo := Topo.v7x

variable {F : FTy → Type} [FloatOps F]
-- ==== Proof.Safe.lean ====
/- Rules for running a program fragment under an assertion it keeps: `Keeps J p` says that from `J` the
   fragment runs and gives `J` back, whatever it returns. Loads and stores of buffers the assertion holds keep
   it; so do sequences, branches and counted loops of fragments that do. -/
module

public import proofs.«01_k».proof.Proof.Gen.KernelIdeal
public import Idealize.ShloMosaic.Lib.Pipeline.Kit
public import Idealize.ShloMosaic.Lib.Tactic
public import Idealize.ShloMosaic.Lib.Scf

@[expose] public section

noncomputable section

namespace Cert.Attn

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The assertions over the program's state. -/
abbrev SP (F : FTy → Type) := sProp (MT nD τ sig Unit (Elt F) ℕ (UR sig nD τ) ℕ)

/-- From `J` the fragment runs on core `c`, and `J` holds again when it returns. -/
structure Keeps {α : Type} (c : Dev nD) (J : SP F) (p : Prog (TpuEff nD τ sig (Elt F) Λ₀ .tc) α) : Prop where
  run : J ⊢ wp frame (wpE (defs₀ (F := F)) Variants.none (c : Thread nD τ) none) Set.univ p (fun _ => J)

/-- `J` lends the buffer of `M`, to be given back unchanged. -/
def Lends (c : Dev nD) (J : SP F) {s : Shape} {e : EltTy} (M : Memref sig .tc .vmem s e) : Prop :=
  J ⊢ iprop(∃ f, (M.view.loc (c : Thread nD τ) ↦{fullShare} f) ∗ ((M.view.loc (c : Thread nD τ) ↦{fullShare} f) -∗ J))

/-- `J` lends the buffer of `M`, to be given back with any contents. -/
def Gives (c : Dev nD) (J : SP F) {s : Shape} {e : EltTy} (M : Memref sig .tc .vmem s e) : Prop :=
  J ⊢ iprop(∃ f, (M.view.loc (c : Thread nD τ) ↦{fullShare} f) ∗ (∀ f', (M.view.loc (c : Thread nD τ) ↦{fullShare} f') -∗ J))

variable {c : Dev nD} {J : SP F}

theorem Gives.lends {s : Shape} {e : EltTy} {M : Memref sig .tc .vmem s e} (h : Gives c J M) : Lends c J M := by
  refine BIBase.Entails.trans h ?_
  iintro ⟨%f, H, Hk⟩
  iexists f
  isplitl [H]
  · iexact H
  · iapply Hk

theorem Keeps.then {α : Type} {p : Prog (TpuEff nD τ sig (Elt F) Λ₀ .tc) α} (h : Keeps c J p) (Q : α → SP F) :
    iprop(J ∗ (∀ a, J -∗ Q a)) ⊢ wp frame (wpE (defs₀ (F := F)) Variants.none (c : Thread nD τ) none) Set.univ p Q :=
  (BI.sep_mono_l h.run).trans (wp_wand_r frame _ Set.univ)

theorem keeps_pure {α : Type} (a : α) : Keeps (F := F) c J (pure a) := by
  constructor
  refine BIBase.Entails.trans ?_ (BIBase.Entails.of_eq (wp_ret ..).symm)
  iintro H
  imodintro
  iexact H

theorem keeps_bind {α β : Type} {p : Prog (TpuEff nD τ sig (Elt F) Λ₀ .tc) α} {k : α → Prog (TpuEff nD τ sig (Elt F) Λ₀ .tc) β}
    (hp : Keeps c J p) (hk : ∀ a, Keeps c J (k a)) : Keeps c J (p >>= k) := by
  constructor
  rw [wp_bind]
  exact BIBase.Entails.trans hp.run (wp_mono _ _ _ fun a => (hk a).run)

theorem keeps_load {s : Shape} {e : EltTy} {M : Memref sig .tc .vmem s e} {r : LoadRect s} {hl : M.view.LoadsAt r}
    (h : Lends c J M) : Keeps (F := F) c J (Prog.lift (.load M r hl)) := by
  constructor
  refine BIBase.Entails.trans h ?_
  iintro ⟨%f, H, Hk⟩
  iapply (wp_load Variants.none (c : Thread nD τ) none Set.univ (Finset.subset_univ _)) $$ H
  iintro H
  rw [wp_ret]
  imodintro
  iapply Hk
  iexact H

theorem keeps_store {s : Shape} {e : EltTy} {M : Memref sig .tc .vmem s e} {r : Rect s} {w : r.shape.Idx → Elt F e}
    {Mk : Finset r.shape.Idx} {hx : (M.access r).Stores Mk} {hm : Mk = Finset.univ ∨ ∀ a, r.stride a = 1}
    (h : Gives c J M) : Keeps (F := F) c J (Prog.lift (.store M r w Mk hx hm)) := by
  constructor
  refine BIBase.Entails.trans h ?_
  iintro ⟨%f, H, Hk⟩
  iapply (wp_store (m := M) (r := r) (w := w) (Mk := Mk) (hx := hx) (hm := hm) (f := f) Variants.none (c : Thread nD τ) none Set.univ (Finset.subset_univ _)) $$ H
  iintro H
  rw [wp_ret]
  imodintro
  iapply Hk
  iexact H

theorem keeps_dite {α : Type} {P : Prop} [Decidable P] {p : P → Prog (TpuEff nD τ sig (Elt F) Λ₀ .tc) α}
    {q : ¬ P → Prog (TpuEff nD τ sig (Elt F) Λ₀ .tc) α} (hp : ∀ h, Keeps c J (p h)) (hq : ∀ h, Keeps c J (q h)) :
    Keeps c J (if h : P then p h else q h) := by
  by_cases h : P
  · rw [dif_pos h]; exact hp h
  · rw [dif_neg h]; exact hq h

theorem keeps_for {σ : Type} {w : Nat} {l : Scf.Loop w} {hok : l.OK} {init : σ}
    {body : Fin l.trips → σ → Prog (TpuEff nD τ sig (Elt F) Λ₀ .tc) σ} (h : ∀ k a, Keeps c J (body k a)) :
    Keeps (F := F) c J (Scf.Loop.for l hok init body) := by
  constructor
  refine BIBase.Entails.trans ?_ (Scf.wp_for frame (wpE (defs₀ (F := F)) Variants.none (c : Thread nD τ) none) Set.univ l.lb l.ub l.st hok init body (fun _ _ => J) (fun k a => (h k a).run))
  iintro H
  isplitl [H]
  · iexact H
  · iintro %a H
    iexact H

end Cert.Attn

end
-- ==== Proof.Held.lean ====
/- What the attention body needs of the assertion it runs under. -/
module

public import proofs.«01_k».proof.Proof.Safe

@[expose] public section

set_option synthInstance.maxSize 4096

noncomputable section

namespace Cert.Attn

open Cert.KernelIdeal Cert.KernelIdeal.Gen
open Idealize.ShloMosaic Idealize.ShloMosaic.TcCoe
open Idealize.SL Idealize.SL.Sem

variable {F : FTy → Type} [FloatOps F]

/-- `J` lends the eight input windows, and gives the output window and the four scratch buffers. -/
structure Held (c : Dev nD) (J : SP F) (arg3 : Memref sig .tc .vmem S1x4x64x256 .bf16) (arg4 : Memref sig .tc .vmem S1x16x256 .f32) (arg5 : Memref sig .tc .vmem S1x1x1024x256 .bf16) (arg6 : Memref sig .tc .vmem S1x1x80x1024 .bf16) (arg7 : Memref sig .tc .vmem S1x1x16384x256 .bf16) (arg8 : Memref sig .tc .vmem S1x1x32x80x512 .bf16) (arg9 : Memref sig .tc .vmem S1x1x16384x128 .bf16) (arg10 : Memref sig .tc .vmem S1x1x128x80x128 .bf16) (arg11 : Memref sig .tc .vmem S1x256x256 .f32) (arg12 : Memref sig .tc .vmem S2x256x1024 .bf16) (arg13 : Memref sig .tc .vmem S1024x1024 .f32) (arg14 : Memref sig .tc .vmem S2x1024x128 .f32) (arg15 : Memref sig .tc .vmem S2x512x1024 .f32) : Prop where
  l3 : Lends c J arg3
  l4 : Lends c J arg4
  l5 : Lends c J arg5
  l6 : Lends c J arg6
  l7 : Lends c J arg7
  l8 : Lends c J arg8
  l9 : Lends c J arg9
  l10 : Lends c J arg10
  g11 : Gives c J arg11
  g12 : Gives c J arg12
  g13 : Gives c J arg13
  g14 : Gives c J arg14
  g15 : Gives c J arg15

theorem Held.l11 {arg3 : Memref sig .tc .vmem S1x4x64x256 .bf16} {arg4 : Memref sig .tc .vmem S1x16x256 .f32} {arg5 : Memref sig .tc .vmem S1x1x1024x256 .bf16} {arg6 : Memref sig .tc .vmem S1x1x80x1024 .bf16} {arg7 : Memref sig .tc .vmem S1x1x16384x256 .bf16} {arg8 : Memref sig .tc .vmem S1x1x32x80x512 .bf16} {arg9 : Memref sig .tc .vmem S1x1x16384x128 .bf16} {arg10 : Memref sig .tc .vmem S1x1x128x80x128 .bf16} {arg11 : Memref sig .tc .vmem S1x256x256 .f32} {arg12 : Memref sig .tc .vmem S2x256x1024 .bf16} {arg13 : Memref sig .tc .vmem S1024x1024 .f32} {arg14 : Memref sig .tc .vmem S2x1024x128 .f32} {arg15 : Memref sig .tc .vmem S2x512x1024 .f32} {c : Dev nD} {J : SP F} (H : Held c J arg3 arg4 arg5 arg6 arg7 arg8 arg9 arg10 arg11 arg12 arg13 arg14 arg15) : Lends c J arg11 := H.g11.lends
theorem Held.l12 {arg3 : Memref sig .tc .vmem S1x4x64x256 .bf16} {arg4 : Memref sig .tc .vmem S1x16x256 .f32} {arg5 : Memref sig .tc .vmem S1x1x1024x256 .bf16} {arg6 : Memref sig .tc .vmem S1x1x80x1024 .bf16} {arg7 : Memref sig .tc .vmem S1x1x16384x256 .bf16} {arg8 : Memref sig .tc .vmem S1x1x32x80x512 .bf16} {arg9 : Memref sig .tc .vmem S1x1x16384x128 .bf16} {arg10 : Memref sig .tc .vmem S1x1x128x80x128 .bf16} {arg11 : Memref sig .tc .vmem S1x256x256 .f32} {arg12 : Memref sig .tc .vmem S2x256x1024 .bf16} {arg13 : Memref sig .tc .vmem S1024x1024 .f32} {arg14 : Memref sig .tc .vmem S2x1024x128 .f32} {arg15 : Memref sig .tc .vmem S2x512x1024 .f32} {c : Dev nD} {J : SP F} (H : Held c J arg3 arg4 arg5 arg6 arg7 arg8 arg9 arg10 arg11 arg12 arg13 arg14 arg15) : Lends c J arg12 := H.g12.lends
theorem Held.l13 {arg3 : Memref sig .tc .vmem S1x4x64x256 .bf16} {arg4 : Memref sig .tc .vmem S1x16x256 .f32} {arg5 : Memref sig .tc .vmem S1x1x1024x256 .bf16} {arg6 : Memref sig .tc .vmem S1x1x80x1024 .bf16} {arg7 : Memref sig .tc .vmem S1x1x16384x256 .bf16} {arg8 : Memref sig .tc .vmem S1x1x32x80x512 .bf16} {arg9 : Memref sig .tc .vmem S1x1x16384x128 .bf16} {arg10 : Memref sig .tc .vmem S1x1x128x80x128 .bf16} {arg11 : Memref sig .tc .vmem S1x256x256 .f32} {arg12 : Memref sig .tc .vmem S2x256x1024 .bf16} {arg13 : Memref sig .tc .vmem S1024x1024 .f32} {arg14 : Memref sig .tc .vmem S2x1024x128 .f32} {arg15 : Memref sig .tc .vmem S2x512x1024 .f32} {c : Dev nD} {J : SP F} (H : Held c J arg3 arg4 arg5 arg6 arg7 arg8 arg9 arg10 arg11 arg12 arg13 arg14 arg15) : Lends c J arg13 := H.g13.lends
theorem Held.l14 {arg3 : Memref sig .tc .vmem S1x4x64x256 .bf16} {arg4 : Memref sig .tc .vmem S1x16x256 .f32} {arg5 : Memref sig .tc .vmem S1x1x1024x256 .bf16} {arg6 : Memref sig .tc .vmem S1x1x80x1024 .bf16} {arg7 : Memref sig .tc .vmem S1x1x16384x256 .bf16} {arg8 : Memref sig .tc .vmem S1x1x32x80x512 .bf16} {arg9 : Memref sig .tc .vmem S1x1x16384x128 .bf16} {arg10 : Memref sig .tc .vmem S1x1x128x80x128 .bf16} {arg11 : Memref sig .tc .vmem S1x256x256 .f32} {arg12 : Memref sig .tc .vmem S2x256x1024 .bf16} {arg13 : Memref sig .tc .vmem S1024x1024 .f32} {arg14 : Memref sig .tc .vmem S2x1024x128 .f32} {arg15 : Memref sig .tc .vmem S2x512x1024 .f32} {c : Dev nD} {J : SP F} (H : Held c J arg3 arg4 arg5 arg6 arg7 arg8 arg9 arg10 arg11 arg12 arg13 arg14 arg15) : Lends c J arg14 := H.g14.lends
theorem Held.l15 {arg3 : Memref sig .tc .vmem S1x4x64x256 .bf16} {arg4 : Memref sig .tc .vmem S1x16x256 .f32} {arg5 : Memref sig .tc .vmem S1x1x1024x256 .bf16} {arg6 : Memref sig .tc .vmem S1x1x80x1024 .bf16} {arg7 : Memref sig .tc .vmem S1x1x16384x256 .bf16} {arg8 : Memref sig .tc .vmem S1x1x32x80x512 .bf16} {arg9 : Memref sig .tc .vmem S1x1x16384x128 .bf16} {arg10 : Memref sig .tc .vmem S1x1x128x80x128 .bf16} {arg11 : Memref sig .tc .vmem S1x256x256 .f32} {arg12 : Memref sig .tc .vmem S2x256x1024 .bf16} {arg13 : Memref sig .tc .vmem S1024x1024 .f32} {arg14 : Memref sig .tc .vmem S2x1024x128 .f32} {arg15 : Memref sig .tc .vmem S2x512x1024 .f32} {c : Dev nD} {J : SP F} (H : Held c J arg3 arg4 arg5 arg6 arg7 arg8 arg9 arg10 arg11 arg12 arg13 arg14 arg15) : Lends c J arg15 := H.g15.lends

end Cert.Attn

end
-- ==== Proof.PartsA.lean ====
/- The straight pieces of the compression switch keep what they hold. -/
module

public import proofs.«01_k».proof.Proof.Gen.KernelIdeal.Skeleton
public import proofs.«01_k».proof.Proof.Held

@[expose] public section

set_option synthInstance.maxSize 4096

noncomputable section

namespace Cert.Attn

open Cert.KernelIdeal Cert.KernelIdeal.Gen
open Idealize.ShloMosaic Idealize.ShloMosaic.TcCoe
open Idealize.SL Idealize.SL.Sem

variable {F : FTy → Type} [FloatOps F]

variable {c : Dev nD} {J : SP F} {i : grid0.Coords}
  {arg3 : Memref sig .tc .vmem S1x4x64x256 .bf16} {arg4 : Memref sig .tc .vmem S1x16x256 .f32} {arg5 : Memref sig .tc .vmem S1x1x1024x256 .bf16} {arg6 : Memref sig .tc .vmem S1x1x80x1024 .bf16} {arg7 : Memref sig .tc .vmem S1x1x16384x256 .bf16} {arg8 : Memref sig .tc .vmem S1x1x32x80x512 .bf16} {arg9 : Memref sig .tc .vmem S1x1x16384x128 .bf16} {arg10 : Memref sig .tc .vmem S1x1x128x80x128 .bf16} {arg11 : Memref sig .tc .vmem S1x256x256 .f32} {arg12 : Memref sig .tc .vmem S2x256x1024 .bf16} {arg13 : Memref sig .tc .vmem S1024x1024 .f32} {arg14 : Memref sig .tc .vmem S2x1024x128 .f32} {arg15 : Memref sig .tc .vmem S2x512x1024 .f32}
  {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole}

theorem keeps_part1 (H : Held c J arg3 arg4 arg5 arg6 arg7 arg8 arg9 arg10 arg11 arg12 arg13 arg14 arg15) (v30 : IVec S1x1024 32) (v66 : FVec F S256x1024 .bf16) (v70 : BitVec 32) (v73 : IVec S32x1 32) (k0_h1 : k0_cond1 i = 1#1) (k0_h2 : k0_cond2 i = 1#1) (k0_h3 : k0_cond3 i = 1#1) (k0_h4 : k0_cond4 i = 1#1) (k0_h5 : k0_cond5 i = 1#1) (k0_h6 : k0_cond6 i = 1#1) (k0_h7 : k0_cond7 i = 1#1) :
    Keeps c J (k0_part1 (F := F) i arg3 harg3 arg4 harg4 arg5 harg5 arg6 harg6 arg7 harg7 arg8 harg8 arg9 harg9 arg10 harg10 arg11 harg11 arg12 harg12 arg13 harg13 arg14 harg14 arg15 harg15 v30 v66 v70 v73 k0_h1 k0_h2 k0_h3 k0_h4 k0_h5 k0_h6 k0_h7) := by
  rw [k0_part1_eq_skeleton]
  unfold k0_part1_skel
  refine keeps_bind ?_ ?_
  · exact keeps_load H.l5
  intro _
  refine keeps_bind ?_ ?_
  · exact keeps_load H.l13
  intro _
  refine keeps_bind ?_ ?_
  · exact keeps_store H.g13
  intro _
  refine keeps_bind ?_ ?_
  · exact keeps_load H.l13
  intro _
  refine keeps_bind ?_ ?_
  · exact keeps_load H.l13
  intro _
  refine keeps_bind ?_ ?_
  · exact keeps_store H.g13
  intro _
  refine keeps_bind ?_ ?_
  · exact keeps_load H.l13
  intro _
  refine keeps_bind ?_ ?_
  · exact keeps_load H.l6
  intro _
  exact keeps_pure _

theorem keeps_part2 (H : Held c J arg3 arg4 arg5 arg6 arg7 arg8 arg9 arg10 arg11 arg12 arg13 arg14 arg15) (v513 : FVec F S1024x1024 .f32) (v519 : IVec S1x1024 1) (v522 : FVec F S1x1024 .f32) :
    Keeps c J (k0_part2 (F := F) i arg3 harg3 arg4 harg4 arg5 harg5 arg6 harg6 arg7 harg7 arg8 harg8 arg9 harg9 arg10 harg10 arg11 harg11 arg12 harg12 arg13 harg13 arg14 harg14 arg15 harg15 v513 v519 v522) := by
  rw [k0_part2_eq_skeleton]
  unfold k0_part2_skel
  refine keeps_bind ?_ ?_
  · exact keeps_load H.l14
  intro _
  refine keeps_bind ?_ ?_
  · exact keeps_store H.g14
  intro _
  refine keeps_bind ?_ ?_
  · exact keeps_load H.l14
  intro _
  refine keeps_bind ?_ ?_
  · exact keeps_store H.g14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  exact keeps_pure _

theorem keeps_part3 (H : Held c J arg3 arg4 arg5 arg6 arg7 arg8 arg9 arg10 arg11 arg12 arg13 arg14 arg15) (v57 : IVec S1x256 32) (v546 : FVec F S256x256 .f32) (v551 : FVec F S256x256 .f32) (v553 : FVec F S256x128 .f32) (v555 : FVec F S256x128 .f32) :
    Keeps c J (k0_part3 (F := F) i arg3 harg3 arg4 harg4 arg5 harg5 arg6 harg6 arg7 harg7 arg8 harg8 arg9 harg9 arg10 harg10 arg11 harg11 arg12 harg12 arg13 harg13 arg14 harg14 arg15 harg15 v57 v546 v551 v553 v555) := by
  rw [k0_part3_eq_skeleton]
  unfold k0_part3_skel
  refine keeps_bind ?_ ?_
  · exact keeps_load H.l14
  intro _
  refine keeps_bind ?_ ?_
  · exact keeps_load H.l14
  intro _
  exact keeps_pure _

theorem keeps_part4 (H : Held c J arg3 arg4 arg5 arg6 arg7 arg8 arg9 arg10 arg11 arg12 arg13 arg14 arg15) (v574 : IVec S256x1 32) (v593 : FVec F S256x256 .f32) (v601 : IVec S256x256 32) :
    Keeps c J (k0_part4 (F := F) i arg3 harg3 arg4 harg4 arg5 harg5 arg6 harg6 arg7 harg7 arg8 harg8 arg9 harg9 arg10 harg10 arg11 harg11 arg12 harg12 arg13 harg13 arg14 harg14 arg15 harg15 v574 v593 v601) := by
  rw [k0_part4_eq_skeleton]
  unfold k0_part4_skel
  exact keeps_pure _

theorem keeps_part5 (H : Held c J arg3 arg4 arg5 arg6 arg7 arg8 arg9 arg10 arg11 arg12 arg13 arg14 arg15) (v574 : IVec S256x1 32) (v638 : FVec F S256x256 .f32) (v648 : IVec S1x256 32) :
    Keeps c J (k0_part5 (F := F) i arg3 harg3 arg4 harg4 arg5 harg5 arg6 harg6 arg7 harg7 arg8 harg8 arg9 harg9 arg10 harg10 arg11 harg11 arg12 harg12 arg13 harg13 arg14 harg14 arg15 harg15 v574 v638 v648) := by
  rw [k0_part5_eq_skeleton]
  unfold k0_part5_skel
  exact keeps_pure _

theorem keeps_part6 (H : Held c J arg3 arg4 arg5 arg6 arg7 arg8 arg9 arg10 arg11 arg12 arg13 arg14 arg15) (v574 : IVec S256x1 32) (v683 : FVec F S256x256 .f32) (v696 : IVec S256x256 1) :
    Keeps c J (k0_part6 (F := F) i arg3 harg3 arg4 harg4 arg5 harg5 arg6 harg6 arg7 harg7 arg8 harg8 arg9 harg9 arg10 harg10 arg11 harg11 arg12 harg12 arg13 harg13 arg14 harg14 arg15 harg15 v574 v683 v696) := by
  rw [k0_part6_eq_skeleton]
  unfold k0_part6_skel
  exact keeps_pure _

theorem keeps_part7 (H : Held c J arg3 arg4 arg5 arg6 arg7 arg8 arg9 arg10 arg11 arg12 arg13 arg14 arg15) (v574 : IVec S256x1 32) (v743 : FVec F S256x256 .f32) :
    Keeps c J (k0_part7 (F := F) i arg3 harg3 arg4 harg4 arg5 harg5 arg6 harg6 arg7 harg7 arg8 harg8 arg9 harg9 arg10 harg10 arg11 harg11 arg12 harg12 arg13 harg13 arg14 harg14 arg15 harg15 v574 v743) := by
  rw [k0_part7_eq_skeleton]
  unfold k0_part7_skel
  exact keeps_pure _

theorem keeps_part8 (H : Held c J arg3 arg4 arg5 arg6 arg7 arg8 arg9 arg10 arg11 arg12 arg13 arg14 arg15) (v30 : IVec S1x1024 32) (v66 : FVec F S256x1024 .bf16) (v70 : BitVec 32) (v73 : IVec S32x1 32) (k0_h1 : k0_cond1 i = 1#1) (k0_h2 : k0_cond2 i = 1#1) (k0_h3 : k0_cond3 i = 1#1) (k0_h4 : k0_cond4 i = 1#1) (k0_h5 : k0_cond5 i = 1#1) (k0_h6 : k0_cond6 i = 1#1) (k0_h7 : ¬(k0_cond7 i = 1#1)) :
    Keeps c J (k0_part8 (F := F) i arg3 harg3 arg4 harg4 arg5 harg5 arg6 harg6 arg7 harg7 arg8 harg8 arg9 harg9 arg10 harg10 arg11 harg11 arg12 harg12 arg13 harg13 arg14 harg14 arg15 harg15 v30 v66 v70 v73 k0_h1 k0_h2 k0_h3 k0_h4 k0_h5 k0_h6 k0_h7) := by
  rw [k0_part8_eq_skeleton]
  unfold k0_part8_skel
  refine keeps_bind ?_ ?_
  · exact keeps_load H.l5
  intro _
  refine keeps_bind ?_ ?_
  · exact keeps_load H.l13
  intro _
  refine keeps_bind ?_ ?_
  · exact keeps_store H.g13
  intro _
  refine keeps_bind ?_ ?_
  · exact keeps_load H.l13
  intro _
  refine keeps_bind ?_ ?_
  · exact keeps_load H.l13
  intro _
  refine keeps_bind ?_ ?_
  · exact keeps_store H.g13
  intro _
  refine keeps_bind ?_ ?_
  · exact keeps_load H.l13
  intro _
  refine keeps_bind ?_ ?_
  · exact keeps_load H.l6
  intro _
  exact keeps_pure _

theorem keeps_part9 (H : Held c J arg3 arg4 arg5 arg6 arg7 arg8 arg9 arg10 arg11 arg12 arg13 arg14 arg15) (v513 : FVec F S896x1024 .f32) (v519 : IVec S1x1024 1) (v522 : FVec F S1x1024 .f32) :
    Keeps c J (k0_part9 (F := F) i arg3 harg3 arg4 harg4 arg5 harg5 arg6 harg6 arg7 harg7 arg8 harg8 arg9 harg9 arg10 harg10 arg11 harg11 arg12 harg12 arg13 harg13 arg14 harg14 arg15 harg15 v513 v519 v522) := by
  rw [k0_part9_eq_skeleton]
  unfold k0_part9_skel
  refine keeps_bind ?_ ?_
  · exact keeps_load H.l14
  intro _
  refine keeps_bind ?_ ?_
  · exact keeps_store H.g14
  intro _
  refine keeps_bind ?_ ?_
  · exact keeps_load H.l14
  intro _
  refine keeps_bind ?_ ?_
  · exact keeps_store H.g14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  exact keeps_pure _

theorem keeps_part10 (H : Held c J arg3 arg4 arg5 arg6 arg7 arg8 arg9 arg10 arg11 arg12 arg13 arg14 arg15) (v57 : IVec S1x256 32) (v546 : FVec F S224x256 .f32) (v551 : FVec F S224x256 .f32) (v553 : FVec F S224x128 .f32) (v555 : FVec F S224x128 .f32) :
    Keeps c J (k0_part10 (F := F) i arg3 harg3 arg4 harg4 arg5 harg5 arg6 harg6 arg7 harg7 arg8 harg8 arg9 harg9 arg10 harg10 arg11 harg11 arg12 harg12 arg13 harg13 arg14 harg14 arg15 harg15 v57 v546 v551 v553 v555) := by
  rw [k0_part10_eq_skeleton]
  unfold k0_part10_skel
  refine keeps_bind ?_ ?_
  · exact keeps_load H.l14
  intro _
  refine keeps_bind ?_ ?_
  · exact keeps_load H.l14
  intro _
  exact keeps_pure _

theorem keeps_part11 (H : Held c J arg3 arg4 arg5 arg6 arg7 arg8 arg9 arg10 arg11 arg12 arg13 arg14 arg15) (v574 : IVec S224x1 32) (v593 : FVec F S224x256 .f32) (v601 : IVec S224x256 32) :
    Keeps c J (k0_part11 (F := F) i arg3 harg3 arg4 harg4 arg5 harg5 arg6 harg6 arg7 harg7 arg8 harg8 arg9 harg9 arg10 harg10 arg11 harg11 arg12 harg12 arg13 harg13 arg14 harg14 arg15 harg15 v574 v593 v601) := by
  rw [k0_part11_eq_skeleton]
  unfold k0_part11_skel
  exact keeps_pure _

theorem keeps_part12 (H : Held c J arg3 arg4 arg5 arg6 arg7 arg8 arg9 arg10 arg11 arg12 arg13 arg14 arg15) (v574 : IVec S224x1 32) (v638 : FVec F S224x256 .f32) (v648 : IVec S1x256 32) :
    Keeps c J (k0_part12 (F := F) i arg3 harg3 arg4 harg4 arg5 harg5 arg6 harg6 arg7 harg7 arg8 harg8 arg9 harg9 arg10 harg10 arg11 harg11 arg12 harg12 arg13 harg13 arg14 harg14 arg15 harg15 v574 v638 v648) := by
  rw [k0_part12_eq_skeleton]
  unfold k0_part12_skel
  exact keeps_pure _

theorem keeps_part13 (H : Held c J arg3 arg4 arg5 arg6 arg7 arg8 arg9 arg10 arg11 arg12 arg13 arg14 arg15) (v574 : IVec S224x1 32) (v683 : FVec F S224x256 .f32) (v696 : IVec S224x256 1) :
    Keeps c J (k0_part13 (F := F) i arg3 harg3 arg4 harg4 arg5 harg5 arg6 harg6 arg7 harg7 arg8 harg8 arg9 harg9 arg10 harg10 arg11 harg11 arg12 harg12 arg13 harg13 arg14 harg14 arg15 harg15 v574 v683 v696) := by
  rw [k0_part13_eq_skeleton]
  unfold k0_part13_skel
  exact keeps_pure _

theorem keeps_part14 (H : Held c J arg3 arg4 arg5 arg6 arg7 arg8 arg9 arg10 arg11 arg12 arg13 arg14 arg15) (v574 : IVec S224x1 32) (v743 : FVec F S224x256 .f32) :
    Keeps c J (k0_part14 (F := F) i arg3 harg3 arg4 harg4 arg5 harg5 arg6 harg6 arg7 harg7 arg8 harg8 arg9 harg9 arg10 harg10 arg11 harg11 arg12 harg12 arg13 harg13 arg14 harg14 arg15 harg15 v574 v743) := by
  rw [k0_part14_eq_skeleton]
  unfold k0_part14_skel
  exact keeps_pure _

theorem keeps_part15 (H : Held c J arg3 arg4 arg5 arg6 arg7 arg8 arg9 arg10 arg11 arg12 arg13 arg14 arg15) (v30 : IVec S1x1024 32) (v66 : FVec F S256x1024 .bf16) (v70 : BitVec 32) (v73 : IVec S32x1 32) (k0_h1 : k0_cond1 i = 1#1) (k0_h2 : k0_cond2 i = 1#1) (k0_h3 : k0_cond3 i = 1#1) (k0_h4 : k0_cond4 i = 1#1) (k0_h5 : k0_cond5 i = 1#1) (k0_h6 : ¬(k0_cond6 i = 1#1)) :
    Keeps c J (k0_part15 (F := F) i arg3 harg3 arg4 harg4 arg5 harg5 arg6 harg6 arg7 harg7 arg8 harg8 arg9 harg9 arg10 harg10 arg11 harg11 arg12 harg12 arg13 harg13 arg14 harg14 arg15 harg15 v30 v66 v70 v73 k0_h1 k0_h2 k0_h3 k0_h4 k0_h5 k0_h6) := by
  rw [k0_part15_eq_skeleton]
  unfold k0_part15_skel
  refine keeps_bind ?_ ?_
  · exact keeps_load H.l5
  intro _
  refine keeps_bind ?_ ?_
  · exact keeps_load H.l13
  intro _
  refine keeps_bind ?_ ?_
  · exact keeps_store H.g13
  intro _
  refine keeps_bind ?_ ?_
  · exact keeps_load H.l13
  intro _
  refine keeps_bind ?_ ?_
  · exact keeps_load H.l13
  intro _
  refine keeps_bind ?_ ?_
  · exact keeps_store H.g13
  intro _
  refine keeps_bind ?_ ?_
  · exact keeps_load H.l13
  intro _
  refine keeps_bind ?_ ?_
  · exact keeps_load H.l6
  intro _
  exact keeps_pure _

theorem keeps_part16 (H : Held c J arg3 arg4 arg5 arg6 arg7 arg8 arg9 arg10 arg11 arg12 arg13 arg14 arg15) (v510 : FVec F S768x1024 .f32) (v516 : IVec S1x1024 1) (v519 : FVec F S1x1024 .f32) :
    Keeps c J (k0_part16 (F := F) i arg3 harg3 arg4 harg4 arg5 harg5 arg6 harg6 arg7 harg7 arg8 harg8 arg9 harg9 arg10 harg10 arg11 harg11 arg12 harg12 arg13 harg13 arg14 harg14 arg15 harg15 v510 v516 v519) := by
  rw [k0_part16_eq_skeleton]
  unfold k0_part16_skel
  refine keeps_bind ?_ ?_
  · exact keeps_load H.l14
  intro _
  refine keeps_bind ?_ ?_
  · exact keeps_store H.g14
  intro _
  refine keeps_bind ?_ ?_
  · exact keeps_load H.l14
  intro _
  refine keeps_bind ?_ ?_
  · exact keeps_store H.g14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  exact keeps_pure _

theorem keeps_part17 (H : Held c J arg3 arg4 arg5 arg6 arg7 arg8 arg9 arg10 arg11 arg12 arg13 arg14 arg15) (v57 : IVec S1x256 32) (v543 : FVec F S192x256 .f32) (v548 : FVec F S192x256 .f32) (v550 : FVec F S192x128 .f32) (v552 : FVec F S192x128 .f32) :
    Keeps c J (k0_part17 (F := F) i arg3 harg3 arg4 harg4 arg5 harg5 arg6 harg6 arg7 harg7 arg8 harg8 arg9 harg9 arg10 harg10 arg11 harg11 arg12 harg12 arg13 harg13 arg14 harg14 arg15 harg15 v57 v543 v548 v550 v552) := by
  rw [k0_part17_eq_skeleton]
  unfold k0_part17_skel
  refine keeps_bind ?_ ?_
  · exact keeps_load H.l14
  intro _
  refine keeps_bind ?_ ?_
  · exact keeps_load H.l14
  intro _
  exact keeps_pure _

theorem keeps_part18 (H : Held c J arg3 arg4 arg5 arg6 arg7 arg8 arg9 arg10 arg11 arg12 arg13 arg14 arg15) (v571 : IVec S192x1 32) (v590 : FVec F S192x256 .f32) (v598 : IVec S192x256 32) :
    Keeps c J (k0_part18 (F := F) i arg3 harg3 arg4 harg4 arg5 harg5 arg6 harg6 arg7 harg7 arg8 harg8 arg9 harg9 arg10 harg10 arg11 harg11 arg12 harg12 arg13 harg13 arg14 harg14 arg15 harg15 v571 v590 v598) := by
  rw [k0_part18_eq_skeleton]
  unfold k0_part18_skel
  exact keeps_pure _

theorem keeps_part19 (H : Held c J arg3 arg4 arg5 arg6 arg7 arg8 arg9 arg10 arg11 arg12 arg13 arg14 arg15) (v571 : IVec S192x1 32) (v635 : FVec F S192x256 .f32) (v645 : IVec S1x256 32) :
    Keeps c J (k0_part19 (F := F) i arg3 harg3 arg4 harg4 arg5 harg5 arg6 harg6 arg7 harg7 arg8 harg8 arg9 harg9 arg10 harg10 arg11 harg11 arg12 harg12 arg13 harg13 arg14 harg14 arg15 harg15 v571 v635 v645) := by
  rw [k0_part19_eq_skeleton]
  unfold k0_part19_skel
  exact keeps_pure _

theorem keeps_part20 (H : Held c J arg3 arg4 arg5 arg6 arg7 arg8 arg9 arg10 arg11 arg12 arg13 arg14 arg15) (v571 : IVec S192x1 32) (v680 : FVec F S192x256 .f32) (v693 : IVec S192x256 1) :
    Keeps c J (k0_part20 (F := F) i arg3 harg3 arg4 harg4 arg5 harg5 arg6 harg6 arg7 harg7 arg8 harg8 arg9 harg9 arg10 harg10 arg11 harg11 arg12 harg12 arg13 harg13 arg14 harg14 arg15 harg15 v571 v680 v693) := by
  rw [k0_part20_eq_skeleton]
  unfold k0_part20_skel
  exact keeps_pure _

theorem keeps_part21 (H : Held c J arg3 arg4 arg5 arg6 arg7 arg8 arg9 arg10 arg11 arg12 arg13 arg14 arg15) (v571 : IVec S192x1 32) (v740 : FVec F S192x256 .f32) :
    Keeps c J (k0_part21 (F := F) i arg3 harg3 arg4 harg4 arg5 harg5 arg6 harg6 arg7 harg7 arg8 harg8 arg9 harg9 arg10 harg10 arg11 harg11 arg12 harg12 arg13 harg13 arg14 harg14 arg15 harg15 v571 v740) := by
  rw [k0_part21_eq_skeleton]
  unfold k0_part21_skel
  exact keeps_pure _

theorem keeps_part22 (H : Held c J arg3 arg4 arg5 arg6 arg7 arg8 arg9 arg10 arg11 arg12 arg13 arg14 arg15) (v30 : IVec S1x1024 32) (v66 : FVec F S256x1024 .bf16) (v70 : BitVec 32) (v73 : IVec S32x1 32) (k0_h1 : k0_cond1 i = 1#1) (k0_h2 : k0_cond2 i = 1#1) (k0_h3 : k0_cond3 i = 1#1) (k0_h4 : k0_cond4 i = 1#1) (k0_h5 : ¬(k0_cond5 i = 1#1)) :
    Keeps c J (k0_part22 (F := F) i arg3 harg3 arg4 harg4 arg5 harg5 arg6 harg6 arg7 harg7 arg8 harg8 arg9 harg9 arg10 harg10 arg11 harg11 arg12 harg12 arg13 harg13 arg14 harg14 arg15 harg15 v30 v66 v70 v73 k0_h1 k0_h2 k0_h3 k0_h4 k0_h5) := by
  rw [k0_part22_eq_skeleton]
  unfold k0_part22_skel
  refine keeps_bind ?_ ?_
  · exact keeps_load H.l5
  intro _
  refine keeps_bind ?_ ?_
  · exact keeps_load H.l13
  intro _
  refine keeps_bind ?_ ?_
  · exact keeps_store H.g13
  intro _
  refine keeps_bind ?_ ?_
  · exact keeps_load H.l13
  intro _
  refine keeps_bind ?_ ?_
  · exact keeps_load H.l13
  intro _
  refine keeps_bind ?_ ?_
  · exact keeps_store H.g13
  intro _
  refine keeps_bind ?_ ?_
  · exact keeps_load H.l13
  intro _
  refine keeps_bind ?_ ?_
  · exact keeps_load H.l6
  intro _
  exact keeps_pure _

theorem keeps_part23 (H : Held c J arg3 arg4 arg5 arg6 arg7 arg8 arg9 arg10 arg11 arg12 arg13 arg14 arg15) (v507 : FVec F S640x1024 .f32) (v513 : IVec S1x1024 1) (v516 : FVec F S1x1024 .f32) :
    Keeps c J (k0_part23 (F := F) i arg3 harg3 arg4 harg4 arg5 harg5 arg6 harg6 arg7 harg7 arg8 harg8 arg9 harg9 arg10 harg10 arg11 harg11 arg12 harg12 arg13 harg13 arg14 harg14 arg15 harg15 v507 v513 v516) := by
  rw [k0_part23_eq_skeleton]
  unfold k0_part23_skel
  refine keeps_bind ?_ ?_
  · exact keeps_load H.l14
  intro _
  refine keeps_bind ?_ ?_
  · exact keeps_store H.g14
  intro _
  refine keeps_bind ?_ ?_
  · exact keeps_load H.l14
  intro _
  refine keeps_bind ?_ ?_
  · exact keeps_store H.g14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  exact keeps_pure _

theorem keeps_part24 (H : Held c J arg3 arg4 arg5 arg6 arg7 arg8 arg9 arg10 arg11 arg12 arg13 arg14 arg15) (v57 : IVec S1x256 32) (v540 : FVec F S160x256 .f32) (v545 : FVec F S160x256 .f32) (v547 : FVec F S160x128 .f32) (v549 : FVec F S160x128 .f32) :
    Keeps c J (k0_part24 (F := F) i arg3 harg3 arg4 harg4 arg5 harg5 arg6 harg6 arg7 harg7 arg8 harg8 arg9 harg9 arg10 harg10 arg11 harg11 arg12 harg12 arg13 harg13 arg14 harg14 arg15 harg15 v57 v540 v545 v547 v549) := by
  rw [k0_part24_eq_skeleton]
  unfold k0_part24_skel
  refine keeps_bind ?_ ?_
  · exact keeps_load H.l14
  intro _
  refine keeps_bind ?_ ?_
  · exact keeps_load H.l14
  intro _
  exact keeps_pure _

theorem keeps_part25 (H : Held c J arg3 arg4 arg5 arg6 arg7 arg8 arg9 arg10 arg11 arg12 arg13 arg14 arg15) (v568 : IVec S160x1 32) (v587 : FVec F S160x256 .f32) (v595 : IVec S160x256 32) :
    Keeps c J (k0_part25 (F := F) i arg3 harg3 arg4 harg4 arg5 harg5 arg6 harg6 arg7 harg7 arg8 harg8 arg9 harg9 arg10 harg10 arg11 harg11 arg12 harg12 arg13 harg13 arg14 harg14 arg15 harg15 v568 v587 v595) := by
  rw [k0_part25_eq_skeleton]
  unfold k0_part25_skel
  exact keeps_pure _

theorem keeps_part26 (H : Held c J arg3 arg4 arg5 arg6 arg7 arg8 arg9 arg10 arg11 arg12 arg13 arg14 arg15) (v568 : IVec S160x1 32) (v632 : FVec F S160x256 .f32) (v642 : IVec S1x256 32) :
    Keeps c J (k0_part26 (F := F) i arg3 harg3 arg4 harg4 arg5 harg5 arg6 harg6 arg7 harg7 arg8 harg8 arg9 harg9 arg10 harg10 arg11 harg11 arg12 harg12 arg13 harg13 arg14 harg14 arg15 harg15 v568 v632 v642) := by
  rw [k0_part26_eq_skeleton]
  unfold k0_part26_skel
  exact keeps_pure _

theorem keeps_part27 (H : Held c J arg3 arg4 arg5 arg6 arg7 arg8 arg9 arg10 arg11 arg12 arg13 arg14 arg15) (v568 : IVec S160x1 32) (v677 : FVec F S160x256 .f32) (v690 : IVec S160x256 1) :
    Keeps c J (k0_part27 (F := F) i arg3 harg3 arg4 harg4 arg5 harg5 arg6 harg6 arg7 harg7 arg8 harg8 arg9 harg9 arg10 harg10 arg11 harg11 arg12 harg12 arg13 harg13 arg14 harg14 arg15 harg15 v568 v677 v690) := by
  rw [k0_part27_eq_skeleton]
  unfold k0_part27_skel
  exact keeps_pure _

theorem keeps_part28 (H : Held c J arg3 arg4 arg5 arg6 arg7 arg8 arg9 arg10 arg11 arg12 arg13 arg14 arg15) (v568 : IVec S160x1 32) (v737 : FVec F S160x256 .f32) :
    Keeps c J (k0_part28 (F := F) i arg3 harg3 arg4 harg4 arg5 harg5 arg6 harg6 arg7 harg7 arg8 harg8 arg9 harg9 arg10 harg10 arg11 harg11 arg12 harg12 arg13 harg13 arg14 harg14 arg15 harg15 v568 v737) := by
  rw [k0_part28_eq_skeleton]
  unfold k0_part28_skel
  exact keeps_pure _

theorem keeps_part29 (H : Held c J arg3 arg4 arg5 arg6 arg7 arg8 arg9 arg10 arg11 arg12 arg13 arg14 arg15) (v30 : IVec S1x1024 32) (v66 : FVec F S256x1024 .bf16) (v70 : BitVec 32) (v73 : IVec S32x1 32) (k0_h1 : k0_cond1 i = 1#1) (k0_h2 : k0_cond2 i = 1#1) (k0_h3 : k0_cond3 i = 1#1) (k0_h4 : ¬(k0_cond4 i = 1#1)) :
    Keeps c J (k0_part29 (F := F) i arg3 harg3 arg4 harg4 arg5 harg5 arg6 harg6 arg7 harg7 arg8 harg8 arg9 harg9 arg10 harg10 arg11 harg11 arg12 harg12 arg13 harg13 arg14 harg14 arg15 harg15 v30 v66 v70 v73 k0_h1 k0_h2 k0_h3 k0_h4) := by
  rw [k0_part29_eq_skeleton]
  unfold k0_part29_skel
  refine keeps_bind ?_ ?_
  · exact keeps_load H.l5
  intro _
  refine keeps_bind ?_ ?_
  · exact keeps_load H.l13
  intro _
  refine keeps_bind ?_ ?_
  · exact keeps_store H.g13
  intro _
  refine keeps_bind ?_ ?_
  · exact keeps_load H.l13
  intro _
  refine keeps_bind ?_ ?_
  · exact keeps_load H.l13
  intro _
  refine keeps_bind ?_ ?_
  · exact keeps_store H.g13
  intro _
  refine keeps_bind ?_ ?_
  · exact keeps_load H.l13
  intro _
  refine keeps_bind ?_ ?_
  · exact keeps_load H.l6
  intro _
  exact keeps_pure _

theorem keeps_part30 (H : Held c J arg3 arg4 arg5 arg6 arg7 arg8 arg9 arg10 arg11 arg12 arg13 arg14 arg15) (v504 : FVec F S512x1024 .f32) (v510 : IVec S1x1024 1) (v513 : FVec F S1x1024 .f32) :
    Keeps c J (k0_part30 (F := F) i arg3 harg3 arg4 harg4 arg5 harg5 arg6 harg6 arg7 harg7 arg8 harg8 arg9 harg9 arg10 harg10 arg11 harg11 arg12 harg12 arg13 harg13 arg14 harg14 arg15 harg15 v504 v510 v513) := by
  rw [k0_part30_eq_skeleton]
  unfold k0_part30_skel
  refine keeps_bind ?_ ?_
  · exact keeps_load H.l14
  intro _
  refine keeps_bind ?_ ?_
  · exact keeps_store H.g14
  intro _
  refine keeps_bind ?_ ?_
  · exact keeps_load H.l14
  intro _
  refine keeps_bind ?_ ?_
  · exact keeps_store H.g14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  exact keeps_pure _

theorem keeps_part31 (H : Held c J arg3 arg4 arg5 arg6 arg7 arg8 arg9 arg10 arg11 arg12 arg13 arg14 arg15) (v57 : IVec S1x256 32) (v537 : FVec F S128x256 .f32) (v542 : FVec F S128x256 .f32) (v544 : FVec F S128x128 .f32) (v546 : FVec F S128x128 .f32) :
    Keeps c J (k0_part31 (F := F) i arg3 harg3 arg4 harg4 arg5 harg5 arg6 harg6 arg7 harg7 arg8 harg8 arg9 harg9 arg10 harg10 arg11 harg11 arg12 harg12 arg13 harg13 arg14 harg14 arg15 harg15 v57 v537 v542 v544 v546) := by
  rw [k0_part31_eq_skeleton]
  unfold k0_part31_skel
  refine keeps_bind ?_ ?_
  · exact keeps_load H.l14
  intro _
  refine keeps_bind ?_ ?_
  · exact keeps_load H.l14
  intro _
  exact keeps_pure _

theorem keeps_part32 (H : Held c J arg3 arg4 arg5 arg6 arg7 arg8 arg9 arg10 arg11 arg12 arg13 arg14 arg15) (v565 : IVec S128x1 32) (v584 : FVec F S128x256 .f32) (v592 : IVec S128x256 32) :
    Keeps c J (k0_part32 (F := F) i arg3 harg3 arg4 harg4 arg5 harg5 arg6 harg6 arg7 harg7 arg8 harg8 arg9 harg9 arg10 harg10 arg11 harg11 arg12 harg12 arg13 harg13 arg14 harg14 arg15 harg15 v565 v584 v592) := by
  rw [k0_part32_eq_skeleton]
  unfold k0_part32_skel
  exact keeps_pure _

theorem keeps_part33 (H : Held c J arg3 arg4 arg5 arg6 arg7 arg8 arg9 arg10 arg11 arg12 arg13 arg14 arg15) (v565 : IVec S128x1 32) (v629 : FVec F S128x256 .f32) (v639 : IVec S1x256 32) :
    Keeps c J (k0_part33 (F := F) i arg3 harg3 arg4 harg4 arg5 harg5 arg6 harg6 arg7 harg7 arg8 harg8 arg9 harg9 arg10 harg10 arg11 harg11 arg12 harg12 arg13 harg13 arg14 harg14 arg15 harg15 v565 v629 v639) := by
  rw [k0_part33_eq_skeleton]
  unfold k0_part33_skel
  exact keeps_pure _

theorem keeps_part34 (H : Held c J arg3 arg4 arg5 arg6 arg7 arg8 arg9 arg10 arg11 arg12 arg13 arg14 arg15) (v565 : IVec S128x1 32) (v674 : FVec F S128x256 .f32) (v687 : IVec S128x256 1) :
    Keeps c J (k0_part34 (F := F) i arg3 harg3 arg4 harg4 arg5 harg5 arg6 harg6 arg7 harg7 arg8 harg8 arg9 harg9 arg10 harg10 arg11 harg11 arg12 harg12 arg13 harg13 arg14 harg14 arg15 harg15 v565 v674 v687) := by
  rw [k0_part34_eq_skeleton]
  unfold k0_part34_skel
  exact keeps_pure _

theorem keeps_part35 (H : Held c J arg3 arg4 arg5 arg6 arg7 arg8 arg9 arg10 arg11 arg12 arg13 arg14 arg15) (v565 : IVec S128x1 32) (v734 : FVec F S128x256 .f32) :
    Keeps c J (k0_part35 (F := F) i arg3 harg3 arg4 harg4 arg5 harg5 arg6 harg6 arg7 harg7 arg8 harg8 arg9 harg9 arg10 harg10 arg11 harg11 arg12 harg12 arg13 harg13 arg14 harg14 arg15 harg15 v565 v734) := by
  rw [k0_part35_eq_skeleton]
  unfold k0_part35_skel
  exact keeps_pure _

theorem keeps_part36 (H : Held c J arg3 arg4 arg5 arg6 arg7 arg8 arg9 arg10 arg11 arg12 arg13 arg14 arg15) (v30 : IVec S1x1024 32) (v66 : FVec F S256x1024 .bf16) (v70 : BitVec 32) (v73 : IVec S32x1 32) (k0_h1 : k0_cond1 i = 1#1) (k0_h2 : k0_cond2 i = 1#1) (k0_h3 : ¬(k0_cond3 i = 1#1)) :
    Keeps c J (k0_part36 (F := F) i arg3 harg3 arg4 harg4 arg5 harg5 arg6 harg6 arg7 harg7 arg8 harg8 arg9 harg9 arg10 harg10 arg11 harg11 arg12 harg12 arg13 harg13 arg14 harg14 arg15 harg15 v30 v66 v70 v73 k0_h1 k0_h2 k0_h3) := by
  rw [k0_part36_eq_skeleton]
  unfold k0_part36_skel
  refine keeps_bind ?_ ?_
  · exact keeps_load H.l5
  intro _
  refine keeps_bind ?_ ?_
  · exact keeps_load H.l13
  intro _
  refine keeps_bind ?_ ?_
  · exact keeps_store H.g13
  intro _
  refine keeps_bind ?_ ?_
  · exact keeps_load H.l13
  intro _
  refine keeps_bind ?_ ?_
  · exact keeps_load H.l13
  intro _
  refine keeps_bind ?_ ?_
  · exact keeps_store H.g13
  intro _
  refine keeps_bind ?_ ?_
  · exact keeps_load H.l13
  intro _
  refine keeps_bind ?_ ?_
  · exact keeps_load H.l6
  intro _
  exact keeps_pure _

theorem keeps_part37 (H : Held c J arg3 arg4 arg5 arg6 arg7 arg8 arg9 arg10 arg11 arg12 arg13 arg14 arg15) (v501 : FVec F S384x1024 .f32) (v507 : IVec S1x1024 1) (v510 : FVec F S1x1024 .f32) :
    Keeps c J (k0_part37 (F := F) i arg3 harg3 arg4 harg4 arg5 harg5 arg6 harg6 arg7 harg7 arg8 harg8 arg9 harg9 arg10 harg10 arg11 harg11 arg12 harg12 arg13 harg13 arg14 harg14 arg15 harg15 v501 v507 v510) := by
  rw [k0_part37_eq_skeleton]
  unfold k0_part37_skel
  refine keeps_bind ?_ ?_
  · exact keeps_load H.l14
  intro _
  refine keeps_bind ?_ ?_
  · exact keeps_store H.g14
  intro _
  refine keeps_bind ?_ ?_
  · exact keeps_load H.l14
  intro _
  refine keeps_bind ?_ ?_
  · exact keeps_store H.g14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  exact keeps_pure _

theorem keeps_part38 (H : Held c J arg3 arg4 arg5 arg6 arg7 arg8 arg9 arg10 arg11 arg12 arg13 arg14 arg15) (v57 : IVec S1x256 32) (v534 : FVec F S96x256 .f32) (v539 : FVec F S96x256 .f32) (v541 : FVec F S96x128 .f32) (v543 : FVec F S96x128 .f32) :
    Keeps c J (k0_part38 (F := F) i arg3 harg3 arg4 harg4 arg5 harg5 arg6 harg6 arg7 harg7 arg8 harg8 arg9 harg9 arg10 harg10 arg11 harg11 arg12 harg12 arg13 harg13 arg14 harg14 arg15 harg15 v57 v534 v539 v541 v543) := by
  rw [k0_part38_eq_skeleton]
  unfold k0_part38_skel
  refine keeps_bind ?_ ?_
  · exact keeps_load H.l14
  intro _
  refine keeps_bind ?_ ?_
  · exact keeps_load H.l14
  intro _
  exact keeps_pure _

theorem keeps_part39 (H : Held c J arg3 arg4 arg5 arg6 arg7 arg8 arg9 arg10 arg11 arg12 arg13 arg14 arg15) (v562 : IVec S96x1 32) (v581 : FVec F S96x256 .f32) (v589 : IVec S96x256 32) :
    Keeps c J (k0_part39 (F := F) i arg3 harg3 arg4 harg4 arg5 harg5 arg6 harg6 arg7 harg7 arg8 harg8 arg9 harg9 arg10 harg10 arg11 harg11 arg12 harg12 arg13 harg13 arg14 harg14 arg15 harg15 v562 v581 v589) := by
  rw [k0_part39_eq_skeleton]
  unfold k0_part39_skel
  exact keeps_pure _

theorem keeps_part40 (H : Held c J arg3 arg4 arg5 arg6 arg7 arg8 arg9 arg10 arg11 arg12 arg13 arg14 arg15) (v562 : IVec S96x1 32) (v626 : FVec F S96x256 .f32) (v636 : IVec S1x256 32) :
    Keeps c J (k0_part40 (F := F) i arg3 harg3 arg4 harg4 arg5 harg5 arg6 harg6 arg7 harg7 arg8 harg8 arg9 harg9 arg10 harg10 arg11 harg11 arg12 harg12 arg13 harg13 arg14 harg14 arg15 harg15 v562 v626 v636) := by
  rw [k0_part40_eq_skeleton]
  unfold k0_part40_skel
  exact keeps_pure _

theorem keeps_part41 (H : Held c J arg3 arg4 arg5 arg6 arg7 arg8 arg9 arg10 arg11 arg12 arg13 arg14 arg15) (v562 : IVec S96x1 32) (v671 : FVec F S96x256 .f32) (v684 : IVec S96x256 1) :
    Keeps c J (k0_part41 (F := F) i arg3 harg3 arg4 harg4 arg5 harg5 arg6 harg6 arg7 harg7 arg8 harg8 arg9 harg9 arg10 harg10 arg11 harg11 arg12 harg12 arg13 harg13 arg14 harg14 arg15 harg15 v562 v671 v684) := by
  rw [k0_part41_eq_skeleton]
  unfold k0_part41_skel
  exact keeps_pure _

theorem keeps_part42 (H : Held c J arg3 arg4 arg5 arg6 arg7 arg8 arg9 arg10 arg11 arg12 arg13 arg14 arg15) (v562 : IVec S96x1 32) (v731 : FVec F S96x256 .f32) :
    Keeps c J (k0_part42 (F := F) i arg3 harg3 arg4 harg4 arg5 harg5 arg6 harg6 arg7 harg7 arg8 harg8 arg9 harg9 arg10 harg10 arg11 harg11 arg12 harg12 arg13 harg13 arg14 harg14 arg15 harg15 v562 v731) := by
  rw [k0_part42_eq_skeleton]
  unfold k0_part42_skel
  exact keeps_pure _

theorem keeps_part43 (H : Held c J arg3 arg4 arg5 arg6 arg7 arg8 arg9 arg10 arg11 arg12 arg13 arg14 arg15) (v30 : IVec S1x1024 32) (v66 : FVec F S256x1024 .bf16) (v70 : BitVec 32) (v73 : IVec S32x1 32) (k0_h1 : k0_cond1 i = 1#1) (k0_h2 : ¬(k0_cond2 i = 1#1)) :
    Keeps c J (k0_part43 (F := F) i arg3 harg3 arg4 harg4 arg5 harg5 arg6 harg6 arg7 harg7 arg8 harg8 arg9 harg9 arg10 harg10 arg11 harg11 arg12 harg12 arg13 harg13 arg14 harg14 arg15 harg15 v30 v66 v70 v73 k0_h1 k0_h2) := by
  rw [k0_part43_eq_skeleton]
  unfold k0_part43_skel
  refine keeps_bind ?_ ?_
  · exact keeps_load H.l5
  intro _
  refine keeps_bind ?_ ?_
  · exact keeps_load H.l13
  intro _
  refine keeps_bind ?_ ?_
  · exact keeps_store H.g13
  intro _
  refine keeps_bind ?_ ?_
  · exact keeps_load H.l13
  intro _
  refine keeps_bind ?_ ?_
  · exact keeps_load H.l13
  intro _
  refine keeps_bind ?_ ?_
  · exact keeps_store H.g13
  intro _
  refine keeps_bind ?_ ?_
  · exact keeps_load H.l13
  intro _
  refine keeps_bind ?_ ?_
  · exact keeps_load H.l6
  intro _
  exact keeps_pure _

theorem keeps_part44 (H : Held c J arg3 arg4 arg5 arg6 arg7 arg8 arg9 arg10 arg11 arg12 arg13 arg14 arg15) (v498 : FVec F S256x1024 .f32) (v504 : IVec S1x1024 1) (v507 : FVec F S1x1024 .f32) :
    Keeps c J (k0_part44 (F := F) i arg3 harg3 arg4 harg4 arg5 harg5 arg6 harg6 arg7 harg7 arg8 harg8 arg9 harg9 arg10 harg10 arg11 harg11 arg12 harg12 arg13 harg13 arg14 harg14 arg15 harg15 v498 v504 v507) := by
  rw [k0_part44_eq_skeleton]
  unfold k0_part44_skel
  refine keeps_bind ?_ ?_
  · exact keeps_load H.l14
  intro _
  refine keeps_bind ?_ ?_
  · exact keeps_store H.g14
  intro _
  refine keeps_bind ?_ ?_
  · exact keeps_load H.l14
  intro _
  refine keeps_bind ?_ ?_
  · exact keeps_store H.g14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  exact keeps_pure _

theorem keeps_part45 (H : Held c J arg3 arg4 arg5 arg6 arg7 arg8 arg9 arg10 arg11 arg12 arg13 arg14 arg15) (v57 : IVec S1x256 32) (v531 : FVec F S64x256 .f32) (v536 : FVec F S64x256 .f32) (v538 : FVec F S64x128 .f32) (v540 : FVec F S64x128 .f32) :
    Keeps c J (k0_part45 (F := F) i arg3 harg3 arg4 harg4 arg5 harg5 arg6 harg6 arg7 harg7 arg8 harg8 arg9 harg9 arg10 harg10 arg11 harg11 arg12 harg12 arg13 harg13 arg14 harg14 arg15 harg15 v57 v531 v536 v538 v540) := by
  rw [k0_part45_eq_skeleton]
  unfold k0_part45_skel
  refine keeps_bind ?_ ?_
  · exact keeps_load H.l14
  intro _
  refine keeps_bind ?_ ?_
  · exact keeps_load H.l14
  intro _
  exact keeps_pure _

theorem keeps_part46 (H : Held c J arg3 arg4 arg5 arg6 arg7 arg8 arg9 arg10 arg11 arg12 arg13 arg14 arg15) (v559 : IVec S64x1 32) (v578 : FVec F S64x256 .f32) (v586 : IVec S64x256 32) :
    Keeps c J (k0_part46 (F := F) i arg3 harg3 arg4 harg4 arg5 harg5 arg6 harg6 arg7 harg7 arg8 harg8 arg9 harg9 arg10 harg10 arg11 harg11 arg12 harg12 arg13 harg13 arg14 harg14 arg15 harg15 v559 v578 v586) := by
  rw [k0_part46_eq_skeleton]
  unfold k0_part46_skel
  exact keeps_pure _

theorem keeps_part47 (H : Held c J arg3 arg4 arg5 arg6 arg7 arg8 arg9 arg10 arg11 arg12 arg13 arg14 arg15) (v559 : IVec S64x1 32) (v623 : FVec F S64x256 .f32) (v633 : IVec S1x256 32) :
    Keeps c J (k0_part47 (F := F) i arg3 harg3 arg4 harg4 arg5 harg5 arg6 harg6 arg7 harg7 arg8 harg8 arg9 harg9 arg10 harg10 arg11 harg11 arg12 harg12 arg13 harg13 arg14 harg14 arg15 harg15 v559 v623 v633) := by
  rw [k0_part47_eq_skeleton]
  unfold k0_part47_skel
  exact keeps_pure _

theorem keeps_part48 (H : Held c J arg3 arg4 arg5 arg6 arg7 arg8 arg9 arg10 arg11 arg12 arg13 arg14 arg15) (v559 : IVec S64x1 32) (v668 : FVec F S64x256 .f32) (v681 : IVec S64x256 1) :
    Keeps c J (k0_part48 (F := F) i arg3 harg3 arg4 harg4 arg5 harg5 arg6 harg6 arg7 harg7 arg8 harg8 arg9 harg9 arg10 harg10 arg11 harg11 arg12 harg12 arg13 harg13 arg14 harg14 arg15 harg15 v559 v668 v681) := by
  rw [k0_part48_eq_skeleton]
  unfold k0_part48_skel
  exact keeps_pure _

theorem keeps_part49 (H : Held c J arg3 arg4 arg5 arg6 arg7 arg8 arg9 arg10 arg11 arg12 arg13 arg14 arg15) (v559 : IVec S64x1 32) (v728 : FVec F S64x256 .f32) :
    Keeps c J (k0_part49 (F := F) i arg3 harg3 arg4 harg4 arg5 harg5 arg6 harg6 arg7 harg7 arg8 harg8 arg9 harg9 arg10 harg10 arg11 harg11 arg12 harg12 arg13 harg13 arg14 harg14 arg15 harg15 v559 v728) := by
  rw [k0_part49_eq_skeleton]
  unfold k0_part49_skel
  exact keeps_pure _

theorem keeps_part50 (H : Held c J arg3 arg4 arg5 arg6 arg7 arg8 arg9 arg10 arg11 arg12 arg13 arg14 arg15) (v30 : IVec S1x1024 32) (v66 : FVec F S256x1024 .bf16) (v70 : BitVec 32) (v73 : IVec S32x1 32) (k0_h1 : ¬(k0_cond1 i = 1#1)) :
    Keeps c J (k0_part50 (F := F) i arg3 harg3 arg4 harg4 arg5 harg5 arg6 harg6 arg7 harg7 arg8 harg8 arg9 harg9 arg10 harg10 arg11 harg11 arg12 harg12 arg13 harg13 arg14 harg14 arg15 harg15 v30 v66 v70 v73 k0_h1) := by
  rw [k0_part50_eq_skeleton]
  unfold k0_part50_skel
  refine keeps_bind ?_ ?_
  · exact keeps_load H.l5
  intro _
  refine keeps_bind ?_ ?_
  · exact keeps_load H.l13
  intro _
  refine keeps_bind ?_ ?_
  · exact keeps_store H.g13
  intro _
  refine keeps_bind ?_ ?_
  · exact keeps_load H.l13
  intro _
  refine keeps_bind ?_ ?_
  · exact keeps_load H.l13
  intro _
  refine keeps_bind ?_ ?_
  · exact keeps_store H.g13
  intro _
  refine keeps_bind ?_ ?_
  · exact keeps_load H.l13
  intro _
  refine keeps_bind ?_ ?_
  · exact keeps_load H.l6
  intro _
  exact keeps_pure _

theorem keeps_part51 (H : Held c J arg3 arg4 arg5 arg6 arg7 arg8 arg9 arg10 arg11 arg12 arg13 arg14 arg15) (v495 : FVec F S128x1024 .f32) (v501 : IVec S1x1024 1) (v504 : FVec F S1x1024 .f32) :
    Keeps c J (k0_part51 (F := F) i arg3 harg3 arg4 harg4 arg5 harg5 arg6 harg6 arg7 harg7 arg8 harg8 arg9 harg9 arg10 harg10 arg11 harg11 arg12 harg12 arg13 harg13 arg14 harg14 arg15 harg15 v495 v501 v504) := by
  rw [k0_part51_eq_skeleton]
  unfold k0_part51_skel
  refine keeps_bind ?_ ?_
  · exact keeps_load H.l14
  intro _
  refine keeps_bind ?_ ?_
  · exact keeps_store H.g14
  intro _
  refine keeps_bind ?_ ?_
  · exact keeps_load H.l14
  intro _
  refine keeps_bind ?_ ?_
  · exact keeps_store H.g14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  refine keeps_bind ?_ ?_
  · exact keeps_load H.l14
  intro _
  exact keeps_pure _

theorem keeps_part52 (H : Held c J arg3 arg4 arg5 arg6 arg7 arg8 arg9 arg10 arg11 arg12 arg13 arg14 arg15) (v57 : IVec S1x256 32) (v528 : FVec F S32x256 .f32) (v533 : FVec F S32x256 .f32) (v535 : FVec F S32x128 .f32) (v537 : FVec F S32x128 .f32) :
    Keeps c J (k0_part52 (F := F) i arg3 harg3 arg4 harg4 arg5 harg5 arg6 harg6 arg7 harg7 arg8 harg8 arg9 harg9 arg10 harg10 arg11 harg11 arg12 harg12 arg13 harg13 arg14 harg14 arg15 harg15 v57 v528 v533 v535 v537) := by
  rw [k0_part52_eq_skeleton]
  unfold k0_part52_skel
  refine keeps_bind ?_ ?_
  · exact keeps_load H.l14
  intro _
  refine keeps_bind ?_ ?_
  · exact keeps_load H.l14
  intro _
  exact keeps_pure _

theorem keeps_part53 (H : Held c J arg3 arg4 arg5 arg6 arg7 arg8 arg9 arg10 arg11 arg12 arg13 arg14 arg15) (v556 : IVec S32x1 32) (v575 : FVec F S32x256 .f32) (v583 : IVec S32x256 32) :
    Keeps c J (k0_part53 (F := F) i arg3 harg3 arg4 harg4 arg5 harg5 arg6 harg6 arg7 harg7 arg8 harg8 arg9 harg9 arg10 harg10 arg11 harg11 arg12 harg12 arg13 harg13 arg14 harg14 arg15 harg15 v556 v575 v583) := by
  rw [k0_part53_eq_skeleton]
  unfold k0_part53_skel
  exact keeps_pure _

theorem keeps_part54 (H : Held c J arg3 arg4 arg5 arg6 arg7 arg8 arg9 arg10 arg11 arg12 arg13 arg14 arg15) (v556 : IVec S32x1 32) (v620 : FVec F S32x256 .f32) (v630 : IVec S1x256 32) :
    Keeps c J (k0_part54 (F := F) i arg3 harg3 arg4 harg4 arg5 harg5 arg6 harg6 arg7 harg7 arg8 harg8 arg9 harg9 arg10 harg10 arg11 harg11 arg12 harg12 arg13 harg13 arg14 harg14 arg15 harg15 v556 v620 v630) := by
  rw [k0_part54_eq_skeleton]
  unfold k0_part54_skel
  exact keeps_pure _

theorem keeps_part55 (H : Held c J arg3 arg4 arg5 arg6 arg7 arg8 arg9 arg10 arg11 arg12 arg13 arg14 arg15) (v556 : IVec S32x1 32) (v665 : FVec F S32x256 .f32) (v678 : IVec S32x256 1) :
    Keeps c J (k0_part55 (F := F) i arg3 harg3 arg4 harg4 arg5 harg5 arg6 harg6 arg7 harg7 arg8 harg8 arg9 harg9 arg10 harg10 arg11 harg11 arg12 harg12 arg13 harg13 arg14 harg14 arg15 harg15 v556 v665 v678) := by
  rw [k0_part55_eq_skeleton]
  unfold k0_part55_skel
  exact keeps_pure _

theorem keeps_part56 (H : Held c J arg3 arg4 arg5 arg6 arg7 arg8 arg9 arg10 arg11 arg12 arg13 arg14 arg15) (v556 : IVec S32x1 32) (v725 : FVec F S32x256 .f32) :
    Keeps c J (k0_part56 (F := F) i arg3 harg3 arg4 harg4 arg5 harg5 arg6 harg6 arg7 harg7 arg8 harg8 arg9 harg9 arg10 harg10 arg11 harg11 arg12 harg12 arg13 harg13 arg14 harg14 arg15 harg15 v556 v725) := by
  rw [k0_part56_eq_skeleton]
  unfold k0_part56_skel
  exact keeps_pure _

end Cert.Attn

end
-- ==== Proof.PartsB.lean ====
/- The straight pieces of the loops keep what they hold. -/
module

public import proofs.«01_k».proof.Proof.Gen.KernelIdeal.Skeleton
public import proofs.«01_k».proof.Proof.Held

@[expose] public section

set_option synthInstance.maxSize 4096

noncomputable section

namespace Cert.Attn

open Cert.KernelIdeal Cert.KernelIdeal.Gen
open Idealize.ShloMosaic Idealize.ShloMosaic.TcCoe
open Idealize.SL Idealize.SL.Sem

variable {F : FTy → Type} [FloatOps F]

variable {c : Dev nD} {J : SP F} {i : grid0.Coords}
  {arg3 : Memref sig .tc .vmem S1x4x64x256 .bf16} {arg4 : Memref sig .tc .vmem S1x16x256 .f32} {arg5 : Memref sig .tc .vmem S1x1x1024x256 .bf16} {arg6 : Memref sig .tc .vmem S1x1x80x1024 .bf16} {arg7 : Memref sig .tc .vmem S1x1x16384x256 .bf16} {arg8 : Memref sig .tc .vmem S1x1x32x80x512 .bf16} {arg9 : Memref sig .tc .vmem S1x1x16384x128 .bf16} {arg10 : Memref sig .tc .vmem S1x1x128x80x128 .bf16} {arg11 : Memref sig .tc .vmem S1x256x256 .f32} {arg12 : Memref sig .tc .vmem S2x256x1024 .bf16} {arg13 : Memref sig .tc .vmem S1024x1024 .f32} {arg14 : Memref sig .tc .vmem S2x1024x128 .f32} {arg15 : Memref sig .tc .vmem S2x512x1024 .f32}
  {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole}

theorem keeps_part57 (H : Held c J arg3 arg4 arg5 arg6 arg7 arg8 arg9 arg10 arg11 arg12 arg13 arg14 arg15) (c0_i32_150 : BitVec 32) (c1_i32_152 : BitVec 32) (k0_t1 : Fin (k0_t1_loop i).trips) :
    Keeps c J (k0_part57 (F := F) i arg3 harg3 arg4 harg4 arg5 harg5 arg6 harg6 arg7 harg7 arg8 harg8 arg9 harg9 arg10 harg10 arg11 harg11 arg12 harg12 arg13 harg13 arg14 harg14 arg15 harg15 c0_i32_150 c1_i32_152 k0_t1) := by
  rw [k0_part57_eq_skeleton]
  unfold k0_part57_skel
  refine keeps_bind ?_ ?_
  · exact keeps_load H.l7
  intro _
  refine keeps_bind ?_ ?_
  · exact keeps_load H.l12
  intro _
  refine keeps_bind ?_ ?_
  · exact keeps_load H.l15
  intro _
  refine keeps_bind ?_ ?_
  · exact keeps_store H.g15
  intro _
  exact keeps_pure _

theorem keeps_part58 (H : Held c J arg3 arg4 arg5 arg6 arg7 arg8 arg9 arg10 arg11 arg12 arg13 arg14 arg15) (k0_t1 : Fin (k0_t1_loop i).trips) (arg17 : FVec F S1x1024 .f32) (arg18 : FVec F S80x1024 .f32) (arg19 : FVec F S1x1024 .f32) (v470 : BitVec 32) (c2_i32_215 : BitVec 32) :
    Keeps c J (k0_part58 (F := F) i arg3 harg3 arg4 harg4 arg5 harg5 arg6 harg6 arg7 harg7 arg8 harg8 arg9 harg9 arg10 harg10 arg11 harg11 arg12 harg12 arg13 harg13 arg14 harg14 arg15 harg15 k0_t1 arg17 arg18 arg19 v470 c2_i32_215) := by
  rw [k0_part58_eq_skeleton]
  unfold k0_part58_skel
  refine keeps_bind ?_ ?_
  · exact keeps_load H.l15
  intro _
  refine keeps_bind ?_ ?_
  · exact keeps_load H.l8
  intro _
  refine keeps_bind ?_ ?_
  · exact keeps_load H.l7
  intro _
  exact keeps_pure _

theorem keeps_part59 (H : Held c J arg3 arg4 arg5 arg6 arg7 arg8 arg9 arg10 arg11 arg12 arg13 arg14 arg15) (k0_t1 : Fin (k0_t1_loop i).trips) (arg16 : BitVec 32) (v470 : BitVec 32) (v503 : FVec F S1x1024 .f32) (v507 : FVec F S1x1024 .f32) (v520 : FVec F S80x1024 .f32) (v527 : FVec F S512x256 .bf16) (v528 : BitVec 32) (v542 : BitVec 1) (c1_i32_236 : BitVec 32) :
    Keeps c J (k0_part59 (F := F) i arg3 harg3 arg4 harg4 arg5 harg5 arg6 harg6 arg7 harg7 arg8 harg8 arg9 harg9 arg10 harg10 arg11 harg11 arg12 harg12 arg13 harg13 arg14 harg14 arg15 harg15 k0_t1 arg16 v470 v503 v507 v520 v527 v528 v542 c1_i32_236) := by
  rw [k0_part59_eq_skeleton]
  unfold k0_part59_skel
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  refine keeps_bind ?_ ?_
  · exact keeps_load H.l8
  intro _
  exact keeps_pure _

theorem keeps_part60 (H : Held c J arg3 arg4 arg5 arg6 arg7 arg8 arg9 arg10 arg11 arg12 arg13 arg14 arg15) (k0_t1 : Fin (k0_t1_loop i).trips) (v553 : FVec F S1x1024 .f32) (v558 : FVec F S1x1024 .f32) (v573 : BitVec 32) (v575 : BitVec 32) (v577 : BitVec 32) :
    Keeps c J (k0_part60 (F := F) i arg3 harg3 arg4 harg4 arg5 harg5 arg6 harg6 arg7 harg7 arg8 harg8 arg9 harg9 arg10 harg10 arg11 harg11 arg12 harg12 arg13 harg13 arg14 harg14 arg15 harg15 k0_t1 v553 v558 v573 v575 v577) := by
  rw [k0_part60_eq_skeleton]
  unfold k0_part60_skel
  refine keeps_bind ?_ ?_
  · exact keeps_load H.l7
  intro _
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  exact keeps_pure _

theorem keeps_part61 (H : Held c J arg3 arg4 arg5 arg6 arg7 arg8 arg9 arg10 arg11 arg12 arg13 arg14 arg15) (k0_t1 : Fin (k0_t1_loop i).trips) (v571 : FVec F S80x1024 .f32) (v573 : BitVec 32) (v607 : BitVec 32) (v614 : FVec F S512x1024 .bf16) (v617 : FVec F S80x1024 .f32) :
    Keeps c J (k0_part61 (F := F) i arg3 harg3 arg4 harg4 arg5 harg5 arg6 harg6 arg7 harg7 arg8 harg8 arg9 harg9 arg10 harg10 arg11 harg11 arg12 harg12 arg13 harg13 arg14 harg14 arg15 harg15 k0_t1 v571 v573 v607 v614 v617) := by
  rw [k0_part61_eq_skeleton]
  unfold k0_part61_skel
  refine keeps_bind ?_ ?_
  · exact keeps_load H.l8
  intro _
  refine keeps_bind ?_ ?_
  · exact keeps_load H.l7
  intro _
  refine keeps_bind ?_ ?_
  · exact keeps_load H.l12
  intro _
  refine keeps_bind ?_ ?_
  · exact keeps_load H.l15
  intro _
  exact keeps_pure _

theorem keeps_part62 (H : Held c J arg3 arg4 arg5 arg6 arg7 arg8 arg9 arg10 arg11 arg12 arg13 arg14 arg15) (k0_t1 : Fin (k0_t1_loop i).trips) (arg16 : BitVec 32) (v573 : BitVec 32) (v606 : FVec F S1x1024 .f32) (v610 : FVec F S1x1024 .f32) (v623 : FVec F S80x1024 .f32) (v651 : FVec F S512x1024 .f32) :
    Keeps c J (k0_part62 (F := F) i arg3 harg3 arg4 harg4 arg5 harg5 arg6 harg6 arg7 harg7 arg8 harg8 arg9 harg9 arg10 harg10 arg11 harg11 arg12 harg12 arg13 harg13 arg14 harg14 arg15 harg15 k0_t1 arg16 v573 v606 v610 v623 v651) := by
  rw [k0_part62_eq_skeleton]
  unfold k0_part62_skel
  refine keeps_bind ?_ ?_
  · exact keeps_store H.g15
  intro _
  refine keeps_bind ?_ ?_
  · exact keeps_load H.l15
  intro _
  refine keeps_bind ?_ ?_
  · exact keeps_load H.l8
  intro _
  refine keeps_bind ?_ ?_
  · exact keeps_load H.l7
  intro _
  exact keeps_pure _

theorem keeps_part63 (H : Held c J arg3 arg4 arg5 arg6 arg7 arg8 arg9 arg10 arg11 arg12 arg13 arg14 arg15) (k0_t1 : Fin (k0_t1_loop i).trips) (v656 : FVec F S1x1024 .f32) (v661 : FVec F S1x1024 .f32) (v674 : FVec F S80x1024 .f32) (v676 : BitVec 32) (v678 : BitVec 32) (v683 : FVec F S512x256 .bf16) (c16_i32_323 : BitVec 32) (v684 : BitVec 32) (v689 : BitVec 32) (c0_i32_326 : BitVec 32) :
    Keeps c J (k0_part63 (F := F) i arg3 harg3 arg4 harg4 arg5 harg5 arg6 harg6 arg7 harg7 arg8 harg8 arg9 harg9 arg10 harg10 arg11 harg11 arg12 harg12 arg13 harg13 arg14 harg14 arg15 harg15 k0_t1 v656 v661 v674 v676 v678 v683 c16_i32_323 v684 v689 c0_i32_326) := by
  rw [k0_part63_eq_skeleton]
  unfold k0_part63_skel
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  refine keeps_bind ?_ ?_
  · exact keeps_load H.l8
  intro _
  exact keeps_pure _

theorem keeps_part64 (H : Held c J arg3 arg4 arg5 arg6 arg7 arg8 arg9 arg10 arg11 arg12 arg13 arg14 arg15) (k0_t1 : Fin (k0_t1_loop i).trips) (v676 : BitVec 32) (v727 : BitVec 32) (c2_i32_347 : BitVec 32) :
    Keeps c J (k0_part64 (F := F) i arg3 harg3 arg4 harg4 arg5 harg5 arg6 harg6 arg7 harg7 arg8 harg8 arg9 harg9 arg10 harg10 arg11 harg11 arg12 harg12 arg13 harg13 arg14 harg14 arg15 harg15 k0_t1 v676 v727 c2_i32_347) := by
  rw [k0_part64_eq_skeleton]
  unfold k0_part64_skel
  refine keeps_bind ?_ ?_
  · exact keeps_load H.l7
  intro _
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  exact keeps_pure _

theorem keeps_part65 (H : Held c J arg3 arg4 arg5 arg6 arg7 arg8 arg9 arg10 arg11 arg12 arg13 arg14 arg15) (k0_t1 : Fin (k0_t1_loop i).trips) (arg16 : BitVec 32) (v709 : FVec F S1x1024 .f32) (v713 : FVec F S1x1024 .f32) (v726 : FVec F S80x1024 .f32) (v761 : BitVec 32) (v763 : FVec F S512x1024 .f32) :
    Keeps c J (k0_part65 (F := F) i arg3 harg3 arg4 harg4 arg5 harg5 arg6 harg6 arg7 harg7 arg8 harg8 arg9 harg9 arg10 harg10 arg11 harg11 arg12 harg12 arg13 harg13 arg14 harg14 arg15 harg15 k0_t1 arg16 v709 v713 v726 v761 v763) := by
  rw [k0_part65_eq_skeleton]
  unfold k0_part65_skel
  refine keeps_bind ?_ ?_
  · exact keeps_load H.l8
  intro _
  refine keeps_bind ?_ ?_
  · exact keeps_load H.l7
  intro _
  exact keeps_pure _

theorem keeps_part66 (H : Held c J arg3 arg4 arg5 arg6 arg7 arg8 arg9 arg10 arg11 arg12 arg13 arg14 arg15) (k0_t1 : Fin (k0_t1_loop i).trips) (v759 : FVec F S1x1024 .f32) (v764 : FVec F S1x1024 .f32) (v777 : FVec F S80x1024 .f32) (v779 : BitVec 32) (v786 : FVec F S512x256 .bf16) (v803 : BitVec 32) :
    Keeps c J (k0_part66 (F := F) i arg3 harg3 arg4 harg4 arg5 harg5 arg6 harg6 arg7 harg7 arg8 harg8 arg9 harg9 arg10 harg10 arg11 harg11 arg12 harg12 arg13 harg13 arg14 harg14 arg15 harg15 k0_t1 v759 v764 v777 v779 v786 v803) := by
  rw [k0_part66_eq_skeleton]
  unfold k0_part66_skel
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  refine keeps_bind ?_ ?_
  · exact keeps_load H.l8
  intro _
  refine keeps_bind ?_ ?_
  · exact keeps_load H.l7
  intro _
  exact keeps_pure _

theorem keeps_part67 (H : Held c J arg3 arg4 arg5 arg6 arg7 arg8 arg9 arg10 arg11 arg12 arg13 arg14 arg15) (k0_t1 : Fin (k0_t1_loop i).trips) (v779 : BitVec 32) (v812 : FVec F S1x1024 .f32) (v816 : FVec F S1x1024 .f32) (v829 : FVec F S80x1024 .f32) (v831 : BitVec 32) (v836 : FVec F S512x256 .bf16) (c16_i32_413 : BitVec 32) (v837 : BitVec 32) (v838 : BitVec 1) :
    Keeps c J (k0_part67 (F := F) i arg3 harg3 arg4 harg4 arg5 harg5 arg6 harg6 arg7 harg7 arg8 harg8 arg9 harg9 arg10 harg10 arg11 harg11 arg12 harg12 arg13 harg13 arg14 harg14 arg15 harg15 k0_t1 v779 v812 v816 v829 v831 v836 c16_i32_413 v837 v838) := by
  rw [k0_part67_eq_skeleton]
  unfold k0_part67_skel
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  exact keeps_pure _

theorem keeps_part68 (H : Held c J arg3 arg4 arg5 arg6 arg7 arg8 arg9 arg10 arg11 arg12 arg13 arg14 arg15) (v324 : BitVec 32) (c1_i32_153 : BitVec 32) (k0_t2 : Fin (k0_t2_loop i).trips) :
    Keeps c J (k0_part68 (F := F) i arg3 harg3 arg4 harg4 arg5 harg5 arg6 harg6 arg7 harg7 arg8 harg8 arg9 harg9 arg10 harg10 arg11 harg11 arg12 harg12 arg13 harg13 arg14 harg14 arg15 harg15 v324 c1_i32_153 k0_t2) := by
  rw [k0_part68_eq_skeleton]
  unfold k0_part68_skel
  refine keeps_bind ?_ ?_
  · exact keeps_load H.l7
  intro _
  refine keeps_bind ?_ ?_
  · exact keeps_load H.l12
  intro _
  refine keeps_bind ?_ ?_
  · exact keeps_load H.l15
  intro _
  refine keeps_bind ?_ ?_
  · exact keeps_store H.g15
  intro _
  exact keeps_pure _

theorem keeps_part69 (H : Held c J arg3 arg4 arg5 arg6 arg7 arg8 arg9 arg10 arg11 arg12 arg13 arg14 arg15) (k0_t2 : Fin (k0_t2_loop i).trips) (arg17 : FVec F S1x1024 .f32) (arg18 : FVec F S80x1024 .f32) (arg19 : FVec F S1x1024 .f32) (v470 : BitVec 32) (c2_i32_215 : BitVec 32) :
    Keeps c J (k0_part69 (F := F) i arg3 harg3 arg4 harg4 arg5 harg5 arg6 harg6 arg7 harg7 arg8 harg8 arg9 harg9 arg10 harg10 arg11 harg11 arg12 harg12 arg13 harg13 arg14 harg14 arg15 harg15 k0_t2 arg17 arg18 arg19 v470 c2_i32_215) := by
  rw [k0_part69_eq_skeleton]
  unfold k0_part69_skel
  refine keeps_bind ?_ ?_
  · exact keeps_load H.l15
  intro _
  refine keeps_bind ?_ ?_
  · exact keeps_load H.l8
  intro _
  refine keeps_bind ?_ ?_
  · exact keeps_load H.l7
  intro _
  exact keeps_pure _

theorem keeps_part70 (H : Held c J arg3 arg4 arg5 arg6 arg7 arg8 arg9 arg10 arg11 arg12 arg13 arg14 arg15) (k0_t2 : Fin (k0_t2_loop i).trips) (arg16 : BitVec 32) (v470 : BitVec 32) (v503 : FVec F S1x1024 .f32) (v507 : FVec F S1x1024 .f32) (v520 : FVec F S80x1024 .f32) (v527 : FVec F S512x256 .bf16) (v528 : BitVec 32) (v542 : BitVec 1) (c1_i32_236 : BitVec 32) :
    Keeps c J (k0_part70 (F := F) i arg3 harg3 arg4 harg4 arg5 harg5 arg6 harg6 arg7 harg7 arg8 harg8 arg9 harg9 arg10 harg10 arg11 harg11 arg12 harg12 arg13 harg13 arg14 harg14 arg15 harg15 k0_t2 arg16 v470 v503 v507 v520 v527 v528 v542 c1_i32_236) := by
  rw [k0_part70_eq_skeleton]
  unfold k0_part70_skel
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  refine keeps_bind ?_ ?_
  · exact keeps_load H.l8
  intro _
  exact keeps_pure _

theorem keeps_part71 (H : Held c J arg3 arg4 arg5 arg6 arg7 arg8 arg9 arg10 arg11 arg12 arg13 arg14 arg15) (k0_t2 : Fin (k0_t2_loop i).trips) (v553 : FVec F S1x1024 .f32) (v558 : FVec F S1x1024 .f32) (v573 : BitVec 32) (v575 : BitVec 32) (v577 : BitVec 32) :
    Keeps c J (k0_part71 (F := F) i arg3 harg3 arg4 harg4 arg5 harg5 arg6 harg6 arg7 harg7 arg8 harg8 arg9 harg9 arg10 harg10 arg11 harg11 arg12 harg12 arg13 harg13 arg14 harg14 arg15 harg15 k0_t2 v553 v558 v573 v575 v577) := by
  rw [k0_part71_eq_skeleton]
  unfold k0_part71_skel
  refine keeps_bind ?_ ?_
  · exact keeps_load H.l7
  intro _
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  exact keeps_pure _

theorem keeps_part72 (H : Held c J arg3 arg4 arg5 arg6 arg7 arg8 arg9 arg10 arg11 arg12 arg13 arg14 arg15) (k0_t2 : Fin (k0_t2_loop i).trips) (v571 : FVec F S80x1024 .f32) (v573 : BitVec 32) (v607 : BitVec 32) (v614 : FVec F S512x1024 .bf16) (v617 : FVec F S80x1024 .f32) :
    Keeps c J (k0_part72 (F := F) i arg3 harg3 arg4 harg4 arg5 harg5 arg6 harg6 arg7 harg7 arg8 harg8 arg9 harg9 arg10 harg10 arg11 harg11 arg12 harg12 arg13 harg13 arg14 harg14 arg15 harg15 k0_t2 v571 v573 v607 v614 v617) := by
  rw [k0_part72_eq_skeleton]
  unfold k0_part72_skel
  refine keeps_bind ?_ ?_
  · exact keeps_load H.l8
  intro _
  refine keeps_bind ?_ ?_
  · exact keeps_load H.l7
  intro _
  refine keeps_bind ?_ ?_
  · exact keeps_load H.l12
  intro _
  refine keeps_bind ?_ ?_
  · exact keeps_load H.l15
  intro _
  exact keeps_pure _

theorem keeps_part73 (H : Held c J arg3 arg4 arg5 arg6 arg7 arg8 arg9 arg10 arg11 arg12 arg13 arg14 arg15) (k0_t2 : Fin (k0_t2_loop i).trips) (arg16 : BitVec 32) (v573 : BitVec 32) (v606 : FVec F S1x1024 .f32) (v610 : FVec F S1x1024 .f32) (v623 : FVec F S80x1024 .f32) (v651 : FVec F S512x1024 .f32) :
    Keeps c J (k0_part73 (F := F) i arg3 harg3 arg4 harg4 arg5 harg5 arg6 harg6 arg7 harg7 arg8 harg8 arg9 harg9 arg10 harg10 arg11 harg11 arg12 harg12 arg13 harg13 arg14 harg14 arg15 harg15 k0_t2 arg16 v573 v606 v610 v623 v651) := by
  rw [k0_part73_eq_skeleton]
  unfold k0_part73_skel
  refine keeps_bind ?_ ?_
  · exact keeps_store H.g15
  intro _
  refine keeps_bind ?_ ?_
  · exact keeps_load H.l15
  intro _
  refine keeps_bind ?_ ?_
  · exact keeps_load H.l8
  intro _
  refine keeps_bind ?_ ?_
  · exact keeps_load H.l7
  intro _
  exact keeps_pure _

theorem keeps_part74 (H : Held c J arg3 arg4 arg5 arg6 arg7 arg8 arg9 arg10 arg11 arg12 arg13 arg14 arg15) (k0_t2 : Fin (k0_t2_loop i).trips) (v656 : FVec F S1x1024 .f32) (v661 : FVec F S1x1024 .f32) (v674 : FVec F S80x1024 .f32) (v676 : BitVec 32) (v678 : BitVec 32) (v683 : FVec F S512x256 .bf16) (c16_i32_323 : BitVec 32) (v684 : BitVec 32) (v689 : BitVec 32) (c0_i32_326 : BitVec 32) :
    Keeps c J (k0_part74 (F := F) i arg3 harg3 arg4 harg4 arg5 harg5 arg6 harg6 arg7 harg7 arg8 harg8 arg9 harg9 arg10 harg10 arg11 harg11 arg12 harg12 arg13 harg13 arg14 harg14 arg15 harg15 k0_t2 v656 v661 v674 v676 v678 v683 c16_i32_323 v684 v689 c0_i32_326) := by
  rw [k0_part74_eq_skeleton]
  unfold k0_part74_skel
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  refine keeps_bind ?_ ?_
  · exact keeps_load H.l8
  intro _
  exact keeps_pure _

theorem keeps_part75 (H : Held c J arg3 arg4 arg5 arg6 arg7 arg8 arg9 arg10 arg11 arg12 arg13 arg14 arg15) (k0_t2 : Fin (k0_t2_loop i).trips) (v676 : BitVec 32) (v727 : BitVec 32) (c2_i32_347 : BitVec 32) :
    Keeps c J (k0_part75 (F := F) i arg3 harg3 arg4 harg4 arg5 harg5 arg6 harg6 arg7 harg7 arg8 harg8 arg9 harg9 arg10 harg10 arg11 harg11 arg12 harg12 arg13 harg13 arg14 harg14 arg15 harg15 k0_t2 v676 v727 c2_i32_347) := by
  rw [k0_part75_eq_skeleton]
  unfold k0_part75_skel
  refine keeps_bind ?_ ?_
  · exact keeps_load H.l7
  intro _
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  exact keeps_pure _

theorem keeps_part76 (H : Held c J arg3 arg4 arg5 arg6 arg7 arg8 arg9 arg10 arg11 arg12 arg13 arg14 arg15) (k0_t2 : Fin (k0_t2_loop i).trips) (arg16 : BitVec 32) (v709 : FVec F S1x1024 .f32) (v713 : FVec F S1x1024 .f32) (v726 : FVec F S80x1024 .f32) (v761 : BitVec 32) (v763 : FVec F S512x1024 .f32) :
    Keeps c J (k0_part76 (F := F) i arg3 harg3 arg4 harg4 arg5 harg5 arg6 harg6 arg7 harg7 arg8 harg8 arg9 harg9 arg10 harg10 arg11 harg11 arg12 harg12 arg13 harg13 arg14 harg14 arg15 harg15 k0_t2 arg16 v709 v713 v726 v761 v763) := by
  rw [k0_part76_eq_skeleton]
  unfold k0_part76_skel
  refine keeps_bind ?_ ?_
  · exact keeps_load H.l8
  intro _
  refine keeps_bind ?_ ?_
  · exact keeps_load H.l7
  intro _
  exact keeps_pure _

theorem keeps_part77 (H : Held c J arg3 arg4 arg5 arg6 arg7 arg8 arg9 arg10 arg11 arg12 arg13 arg14 arg15) (k0_t2 : Fin (k0_t2_loop i).trips) (v759 : FVec F S1x1024 .f32) (v764 : FVec F S1x1024 .f32) (v777 : FVec F S80x1024 .f32) (v779 : BitVec 32) (v786 : FVec F S512x256 .bf16) (v803 : BitVec 32) :
    Keeps c J (k0_part77 (F := F) i arg3 harg3 arg4 harg4 arg5 harg5 arg6 harg6 arg7 harg7 arg8 harg8 arg9 harg9 arg10 harg10 arg11 harg11 arg12 harg12 arg13 harg13 arg14 harg14 arg15 harg15 k0_t2 v759 v764 v777 v779 v786 v803) := by
  rw [k0_part77_eq_skeleton]
  unfold k0_part77_skel
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  refine keeps_bind ?_ ?_
  · exact keeps_load H.l8
  intro _
  refine keeps_bind ?_ ?_
  · exact keeps_load H.l7
  intro _
  exact keeps_pure _

theorem keeps_part78 (H : Held c J arg3 arg4 arg5 arg6 arg7 arg8 arg9 arg10 arg11 arg12 arg13 arg14 arg15) (k0_t2 : Fin (k0_t2_loop i).trips) (v779 : BitVec 32) (v812 : FVec F S1x1024 .f32) (v816 : FVec F S1x1024 .f32) (v829 : FVec F S80x1024 .f32) (v831 : BitVec 32) (v836 : FVec F S512x256 .bf16) (c16_i32_413 : BitVec 32) (v837 : BitVec 32) (v838 : BitVec 1) :
    Keeps c J (k0_part78 (F := F) i arg3 harg3 arg4 harg4 arg5 harg5 arg6 harg6 arg7 harg7 arg8 harg8 arg9 harg9 arg10 harg10 arg11 harg11 arg12 harg12 arg13 harg13 arg14 harg14 arg15 harg15 k0_t2 v779 v812 v816 v829 v831 v836 c16_i32_413 v837 v838) := by
  rw [k0_part78_eq_skeleton]
  unfold k0_part78_skel
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  exact keeps_pure _

theorem keeps_part79 (H : Held c J arg3 arg4 arg5 arg6 arg7 arg8 arg9 arg10 arg11 arg12 arg13 arg14 arg15) (v344 : BitVec 32) (c1_i32_170 : BitVec 32) (k0_t3 : Fin (k0_t3_loop i).trips) :
    Keeps c J (k0_part79 (F := F) i arg3 harg3 arg4 harg4 arg5 harg5 arg6 harg6 arg7 harg7 arg8 harg8 arg9 harg9 arg10 harg10 arg11 harg11 arg12 harg12 arg13 harg13 arg14 harg14 arg15 harg15 v344 c1_i32_170 k0_t3) := by
  rw [k0_part79_eq_skeleton]
  unfold k0_part79_skel
  refine keeps_bind ?_ ?_
  · exact keeps_load H.l7
  intro _
  refine keeps_bind ?_ ?_
  · exact keeps_load H.l12
  intro _
  refine keeps_bind ?_ ?_
  · exact keeps_load H.l15
  intro _
  refine keeps_bind ?_ ?_
  · exact keeps_store H.g15
  intro _
  exact keeps_pure _

theorem keeps_part80 (H : Held c J arg3 arg4 arg5 arg6 arg7 arg8 arg9 arg10 arg11 arg12 arg13 arg14 arg15) (k0_t3 : Fin (k0_t3_loop i).trips) (arg17 : FVec F S1x1024 .f32) (arg18 : FVec F S80x1024 .f32) (arg19 : FVec F S1x1024 .f32) (v470 : BitVec 32) (c2_i32_215 : BitVec 32) :
    Keeps c J (k0_part80 (F := F) i arg3 harg3 arg4 harg4 arg5 harg5 arg6 harg6 arg7 harg7 arg8 harg8 arg9 harg9 arg10 harg10 arg11 harg11 arg12 harg12 arg13 harg13 arg14 harg14 arg15 harg15 k0_t3 arg17 arg18 arg19 v470 c2_i32_215) := by
  rw [k0_part80_eq_skeleton]
  unfold k0_part80_skel
  refine keeps_bind ?_ ?_
  · exact keeps_load H.l15
  intro _
  refine keeps_bind ?_ ?_
  · exact keeps_load H.l8
  intro _
  refine keeps_bind ?_ ?_
  · exact keeps_load H.l7
  intro _
  exact keeps_pure _

theorem keeps_part81 (H : Held c J arg3 arg4 arg5 arg6 arg7 arg8 arg9 arg10 arg11 arg12 arg13 arg14 arg15) (k0_t3 : Fin (k0_t3_loop i).trips) (arg16 : BitVec 32) (v470 : BitVec 32) (v503 : FVec F S1x1024 .f32) (v507 : FVec F S1x1024 .f32) (v520 : FVec F S80x1024 .f32) (v527 : FVec F S512x256 .bf16) (v528 : BitVec 32) (v542 : BitVec 1) (c1_i32_236 : BitVec 32) :
    Keeps c J (k0_part81 (F := F) i arg3 harg3 arg4 harg4 arg5 harg5 arg6 harg6 arg7 harg7 arg8 harg8 arg9 harg9 arg10 harg10 arg11 harg11 arg12 harg12 arg13 harg13 arg14 harg14 arg15 harg15 k0_t3 arg16 v470 v503 v507 v520 v527 v528 v542 c1_i32_236) := by
  rw [k0_part81_eq_skeleton]
  unfold k0_part81_skel
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  refine keeps_bind ?_ ?_
  · exact keeps_load H.l8
  intro _
  exact keeps_pure _

theorem keeps_part82 (H : Held c J arg3 arg4 arg5 arg6 arg7 arg8 arg9 arg10 arg11 arg12 arg13 arg14 arg15) (k0_t3 : Fin (k0_t3_loop i).trips) (v553 : FVec F S1x1024 .f32) (v558 : FVec F S1x1024 .f32) (v573 : BitVec 32) (v575 : BitVec 32) (v577 : BitVec 32) :
    Keeps c J (k0_part82 (F := F) i arg3 harg3 arg4 harg4 arg5 harg5 arg6 harg6 arg7 harg7 arg8 harg8 arg9 harg9 arg10 harg10 arg11 harg11 arg12 harg12 arg13 harg13 arg14 harg14 arg15 harg15 k0_t3 v553 v558 v573 v575 v577) := by
  rw [k0_part82_eq_skeleton]
  unfold k0_part82_skel
  refine keeps_bind ?_ ?_
  · exact keeps_load H.l7
  intro _
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  exact keeps_pure _

theorem keeps_part83 (H : Held c J arg3 arg4 arg5 arg6 arg7 arg8 arg9 arg10 arg11 arg12 arg13 arg14 arg15) (k0_t3 : Fin (k0_t3_loop i).trips) (v571 : FVec F S80x1024 .f32) (v573 : BitVec 32) (v607 : BitVec 32) (v614 : FVec F S512x1024 .bf16) (v617 : FVec F S80x1024 .f32) :
    Keeps c J (k0_part83 (F := F) i arg3 harg3 arg4 harg4 arg5 harg5 arg6 harg6 arg7 harg7 arg8 harg8 arg9 harg9 arg10 harg10 arg11 harg11 arg12 harg12 arg13 harg13 arg14 harg14 arg15 harg15 k0_t3 v571 v573 v607 v614 v617) := by
  rw [k0_part83_eq_skeleton]
  unfold k0_part83_skel
  refine keeps_bind ?_ ?_
  · exact keeps_load H.l8
  intro _
  refine keeps_bind ?_ ?_
  · exact keeps_load H.l7
  intro _
  refine keeps_bind ?_ ?_
  · exact keeps_load H.l12
  intro _
  refine keeps_bind ?_ ?_
  · exact keeps_load H.l15
  intro _
  exact keeps_pure _

theorem keeps_part84 (H : Held c J arg3 arg4 arg5 arg6 arg7 arg8 arg9 arg10 arg11 arg12 arg13 arg14 arg15) (v366 : BitVec 32) (c1_i32_171 : BitVec 32) (k0_t4 : Fin (k0_t4_loop i).trips) :
    Keeps c J (k0_part84 (F := F) i arg3 harg3 arg4 harg4 arg5 harg5 arg6 harg6 arg7 harg7 arg8 harg8 arg9 harg9 arg10 harg10 arg11 harg11 arg12 harg12 arg13 harg13 arg14 harg14 arg15 harg15 v366 c1_i32_171 k0_t4) := by
  rw [k0_part84_eq_skeleton]
  unfold k0_part84_skel
  refine keeps_bind ?_ ?_
  · exact keeps_load H.l7
  intro _
  refine keeps_bind ?_ ?_
  · exact keeps_load H.l12
  intro _
  refine keeps_bind ?_ ?_
  · exact keeps_load H.l15
  intro _
  refine keeps_bind ?_ ?_
  · exact keeps_store H.g15
  intro _
  exact keeps_pure _

theorem keeps_part85 (H : Held c J arg3 arg4 arg5 arg6 arg7 arg8 arg9 arg10 arg11 arg12 arg13 arg14 arg15) (k0_t4 : Fin (k0_t4_loop i).trips) (arg17 : FVec F S1x1024 .f32) (arg18 : FVec F S80x1024 .f32) (arg19 : FVec F S1x1024 .f32) (v470 : BitVec 32) (c2_i32_215 : BitVec 32) :
    Keeps c J (k0_part85 (F := F) i arg3 harg3 arg4 harg4 arg5 harg5 arg6 harg6 arg7 harg7 arg8 harg8 arg9 harg9 arg10 harg10 arg11 harg11 arg12 harg12 arg13 harg13 arg14 harg14 arg15 harg15 k0_t4 arg17 arg18 arg19 v470 c2_i32_215) := by
  rw [k0_part85_eq_skeleton]
  unfold k0_part85_skel
  refine keeps_bind ?_ ?_
  · exact keeps_load H.l15
  intro _
  refine keeps_bind ?_ ?_
  · exact keeps_load H.l8
  intro _
  refine keeps_bind ?_ ?_
  · exact keeps_load H.l7
  intro _
  exact keeps_pure _

theorem keeps_part86 (H : Held c J arg3 arg4 arg5 arg6 arg7 arg8 arg9 arg10 arg11 arg12 arg13 arg14 arg15) (k0_t4 : Fin (k0_t4_loop i).trips) (arg16 : BitVec 32) (v470 : BitVec 32) (v503 : FVec F S1x1024 .f32) (v507 : FVec F S1x1024 .f32) (v520 : FVec F S80x1024 .f32) (v527 : FVec F S512x256 .bf16) (v528 : BitVec 32) (v542 : BitVec 1) (c1_i32_236 : BitVec 32) :
    Keeps c J (k0_part86 (F := F) i arg3 harg3 arg4 harg4 arg5 harg5 arg6 harg6 arg7 harg7 arg8 harg8 arg9 harg9 arg10 harg10 arg11 harg11 arg12 harg12 arg13 harg13 arg14 harg14 arg15 harg15 k0_t4 arg16 v470 v503 v507 v520 v527 v528 v542 c1_i32_236) := by
  rw [k0_part86_eq_skeleton]
  unfold k0_part86_skel
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  refine keeps_bind ?_ ?_
  · exact keeps_load H.l8
  intro _
  exact keeps_pure _

theorem keeps_part87 (H : Held c J arg3 arg4 arg5 arg6 arg7 arg8 arg9 arg10 arg11 arg12 arg13 arg14 arg15) (k0_t4 : Fin (k0_t4_loop i).trips) (v553 : FVec F S1x1024 .f32) (v558 : FVec F S1x1024 .f32) (v573 : BitVec 32) (v575 : BitVec 32) (v577 : BitVec 32) :
    Keeps c J (k0_part87 (F := F) i arg3 harg3 arg4 harg4 arg5 harg5 arg6 harg6 arg7 harg7 arg8 harg8 arg9 harg9 arg10 harg10 arg11 harg11 arg12 harg12 arg13 harg13 arg14 harg14 arg15 harg15 k0_t4 v553 v558 v573 v575 v577) := by
  rw [k0_part87_eq_skeleton]
  unfold k0_part87_skel
  refine keeps_bind ?_ ?_
  · exact keeps_load H.l7
  intro _
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  exact keeps_pure _

theorem keeps_part88 (H : Held c J arg3 arg4 arg5 arg6 arg7 arg8 arg9 arg10 arg11 arg12 arg13 arg14 arg15) (k0_t4 : Fin (k0_t4_loop i).trips) (v571 : FVec F S80x1024 .f32) (v573 : BitVec 32) (v607 : BitVec 32) (v614 : FVec F S512x1024 .bf16) (v617 : FVec F S80x1024 .f32) :
    Keeps c J (k0_part88 (F := F) i arg3 harg3 arg4 harg4 arg5 harg5 arg6 harg6 arg7 harg7 arg8 harg8 arg9 harg9 arg10 harg10 arg11 harg11 arg12 harg12 arg13 harg13 arg14 harg14 arg15 harg15 k0_t4 v571 v573 v607 v614 v617) := by
  rw [k0_part88_eq_skeleton]
  unfold k0_part88_skel
  refine keeps_bind ?_ ?_
  · exact keeps_load H.l8
  intro _
  refine keeps_bind ?_ ?_
  · exact keeps_load H.l7
  intro _
  refine keeps_bind ?_ ?_
  · exact keeps_load H.l12
  intro _
  refine keeps_bind ?_ ?_
  · exact keeps_load H.l15
  intro _
  exact keeps_pure _

theorem keeps_part89 (H : Held c J arg3 arg4 arg5 arg6 arg7 arg8 arg9 arg10 arg11 arg12 arg13 arg14 arg15) (v386 : BitVec 32) (c1_i32_181 : BitVec 32) (k0_t5 : Fin (k0_t5_loop i).trips) :
    Keeps c J (k0_part89 (F := F) i arg3 harg3 arg4 harg4 arg5 harg5 arg6 harg6 arg7 harg7 arg8 harg8 arg9 harg9 arg10 harg10 arg11 harg11 arg12 harg12 arg13 harg13 arg14 harg14 arg15 harg15 v386 c1_i32_181 k0_t5) := by
  rw [k0_part89_eq_skeleton]
  unfold k0_part89_skel
  refine keeps_bind ?_ ?_
  · exact keeps_load H.l7
  intro _
  refine keeps_bind ?_ ?_
  · exact keeps_load H.l12
  intro _
  refine keeps_bind ?_ ?_
  · exact keeps_load H.l15
  intro _
  refine keeps_bind ?_ ?_
  · exact keeps_store H.g15
  intro _
  exact keeps_pure _

theorem keeps_part90 (H : Held c J arg3 arg4 arg5 arg6 arg7 arg8 arg9 arg10 arg11 arg12 arg13 arg14 arg15) (k0_t5 : Fin (k0_t5_loop i).trips) (arg17 : FVec F S1x1024 .f32) (arg18 : FVec F S80x1024 .f32) (arg19 : FVec F S1x1024 .f32) (arg16 : BitVec 32) (v502 : BitVec 32) :
    Keeps c J (k0_part90 (F := F) i arg3 harg3 arg4 harg4 arg5 harg5 arg6 harg6 arg7 harg7 arg8 harg8 arg9 harg9 arg10 harg10 arg11 harg11 arg12 harg12 arg13 harg13 arg14 harg14 arg15 harg15 k0_t5 arg17 arg18 arg19 arg16 v502) := by
  rw [k0_part90_eq_skeleton]
  unfold k0_part90_skel
  refine keeps_bind ?_ ?_
  · exact keeps_load H.l15
  intro _
  refine keeps_bind ?_ ?_
  · exact keeps_load H.l8
  intro _
  refine keeps_bind ?_ ?_
  · exact keeps_load H.l7
  intro _
  exact keeps_pure _

theorem keeps_part91 (H : Held c J arg3 arg4 arg5 arg6 arg7 arg8 arg9 arg10 arg11 arg12 arg13 arg14 arg15) (v391 : BitVec 32) (c1_i32_182 : BitVec 32) (k0_t6 : Fin (k0_t6_loop i).trips) :
    Keeps c J (k0_part91 (F := F) i arg3 harg3 arg4 harg4 arg5 harg5 arg6 harg6 arg7 harg7 arg8 harg8 arg9 harg9 arg10 harg10 arg11 harg11 arg12 harg12 arg13 harg13 arg14 harg14 arg15 harg15 v391 c1_i32_182 k0_t6) := by
  rw [k0_part91_eq_skeleton]
  unfold k0_part91_skel
  refine keeps_bind ?_ ?_
  · exact keeps_load H.l7
  intro _
  refine keeps_bind ?_ ?_
  · exact keeps_load H.l12
  intro _
  refine keeps_bind ?_ ?_
  · exact keeps_load H.l15
  intro _
  refine keeps_bind ?_ ?_
  · exact keeps_store H.g15
  intro _
  exact keeps_pure _

theorem keeps_part92 (H : Held c J arg3 arg4 arg5 arg6 arg7 arg8 arg9 arg10 arg11 arg12 arg13 arg14 arg15) (k0_t6 : Fin (k0_t6_loop i).trips) (arg17 : FVec F S1x1024 .f32) (arg18 : FVec F S80x1024 .f32) (arg19 : FVec F S1x1024 .f32) (arg16 : BitVec 32) (v502 : BitVec 32) :
    Keeps c J (k0_part92 (F := F) i arg3 harg3 arg4 harg4 arg5 harg5 arg6 harg6 arg7 harg7 arg8 harg8 arg9 harg9 arg10 harg10 arg11 harg11 arg12 harg12 arg13 harg13 arg14 harg14 arg15 harg15 k0_t6 arg17 arg18 arg19 arg16 v502) := by
  rw [k0_part92_eq_skeleton]
  unfold k0_part92_skel
  refine keeps_bind ?_ ?_
  · exact keeps_load H.l15
  intro _
  refine keeps_bind ?_ ?_
  · exact keeps_load H.l8
  intro _
  refine keeps_bind ?_ ?_
  · exact keeps_load H.l7
  intro _
  exact keeps_pure _

theorem keeps_part93 (H : Held c J arg3 arg4 arg5 arg6 arg7 arg8 arg9 arg10 arg11 arg12 arg13 arg14 arg15) (v288 : BitVec 32) (v393_0 : FVec F S1x1024 .f32) (v393_2 : FVec F S1x1024 .f32) (k0_h8 : k0_cond8 i = 1#1) :
    Keeps c J (k0_part93 (F := F) i arg3 harg3 arg4 harg4 arg5 harg5 arg6 harg6 arg7 harg7 arg8 harg8 arg9 harg9 arg10 harg10 arg11 harg11 arg12 harg12 arg13 harg13 arg14 harg14 arg15 harg15 v288 v393_0 v393_2 k0_h8) := by
  rw [k0_part93_eq_skeleton]
  unfold k0_part93_skel
  refine keeps_bind ?_ ?_
  · exact keeps_load H.l7
  intro _
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  exact keeps_pure _

end Cert.Attn

end
-- ==== Proof.PartsC.lean ====
/- The loops, the switch, the conditional, and the whole attention body keep what they hold. -/
module

public import proofs.«01_k».proof.Proof.PartsA
public import proofs.«01_k».proof.Proof.PartsB

@[expose] public section

set_option synthInstance.maxSize 4096

noncomputable section

namespace Cert.Attn

open Cert.KernelIdeal Cert.KernelIdeal.Gen
open Idealize.ShloMosaic Idealize.ShloMosaic.TcCoe
open Idealize.SL Idealize.SL.Sem

variable {F : FTy → Type} [FloatOps F]

variable {c : Dev nD} {J : SP F} {i : grid0.Coords}
  {arg3 : Memref sig .tc .vmem S1x4x64x256 .bf16} {arg4 : Memref sig .tc .vmem S1x16x256 .f32} {arg5 : Memref sig .tc .vmem S1x1x1024x256 .bf16} {arg6 : Memref sig .tc .vmem S1x1x80x1024 .bf16} {arg7 : Memref sig .tc .vmem S1x1x16384x256 .bf16} {arg8 : Memref sig .tc .vmem S1x1x32x80x512 .bf16} {arg9 : Memref sig .tc .vmem S1x1x16384x128 .bf16} {arg10 : Memref sig .tc .vmem S1x1x128x80x128 .bf16} {arg11 : Memref sig .tc .vmem S1x256x256 .f32} {arg12 : Memref sig .tc .vmem S2x256x1024 .bf16} {arg13 : Memref sig .tc .vmem S1024x1024 .f32} {arg14 : Memref sig .tc .vmem S2x1024x128 .f32} {arg15 : Memref sig .tc .vmem S2x512x1024 .f32}
  {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole}

theorem keeps_t1 (H : Held c J arg3 arg4 arg5 arg6 arg7 arg8 arg9 arg10 arg11 arg12 arg13 arg14 arg15) (v287 : BitVec 32) (v300 : FVec F S1x1024 .f32) (v301 : FVec F S1x1024 .f32) (v302 : FVec F S80x1024 .f32) (c4_i32_143 : BitVec 32) (v303 : BitVec 32) (v308 : BitVec 32) (k : Fin (k0_t1_loop i).trips) (a : FVec F S1x1024 .f32 × FVec F S80x1024 .f32 × FVec F S1x1024 .f32) :
    Keeps c J (k0_t1_body (F := F) i arg3 harg3 arg4 harg4 arg5 harg5 arg6 harg6 arg7 harg7 arg8 harg8 arg9 harg9 arg10 harg10 arg11 harg11 arg12 harg12 arg13 harg13 arg14 harg14 arg15 harg15 v287 v300 v301 v302 c4_i32_143 v303 v308 k a) := by
  unfold k0_t1_body
  obtain ⟨_, _, _⟩ := a
  refine keeps_bind ?_ ?_
  · exact keeps_part57 H ..
  rintro ⟨_, _, _, _⟩
  refine keeps_bind ?_ ?_
  · exact keeps_part58 H ..
  rintro ⟨_, _, _, _, _, _⟩
  refine keeps_bind ?_ ?_
  · exact keeps_part59 H ..
  rintro ⟨_, _, _, _, _, _⟩
  refine keeps_bind ?_ ?_
  · exact keeps_part60 H ..
  rintro ⟨_, _, _, _, _⟩
  refine keeps_bind ?_ ?_
  · exact keeps_part61 H ..
  rintro ⟨_, _⟩
  refine keeps_bind ?_ ?_
  · exact keeps_part62 H ..
  rintro ⟨_, _, _, _, _, _, _, _, _, _⟩
  refine keeps_bind ?_ ?_
  · exact keeps_part63 H ..
  rintro ⟨_, _, _, _, _⟩
  refine keeps_bind ?_ ?_
  · exact keeps_part64 H ..
  rintro ⟨_, _, _⟩
  refine keeps_bind ?_ ?_
  · exact keeps_part65 H ..
  rintro ⟨_, _, _, _, _⟩
  refine keeps_bind ?_ ?_
  · exact keeps_part66 H ..
  rintro ⟨_, _, _, _, _, _, _, _⟩
  refine keeps_bind ?_ ?_
  · exact keeps_part67 H ..
  rintro ⟨_, _, _, _⟩
  refine keeps_bind ?_ ?_
  · exact keeps_load H.l8
  intro _
  exact keeps_pure _

theorem keeps_t2 (H : Held c J arg3 arg4 arg5 arg6 arg7 arg8 arg9 arg10 arg11 arg12 arg13 arg14 arg15) (v287 : BitVec 32) (v300 : FVec F S1x1024 .f32) (v301 : FVec F S1x1024 .f32) (v302 : FVec F S80x1024 .f32) (c4_i32_143 : BitVec 32) (v303 : BitVec 32) (v308 : BitVec 32) (v324 : BitVec 32) (k : Fin (k0_t2_loop i).trips) (a : FVec F S1x1024 .f32 × FVec F S80x1024 .f32 × FVec F S1x1024 .f32) :
    Keeps c J (k0_t2_body (F := F) i arg3 harg3 arg4 harg4 arg5 harg5 arg6 harg6 arg7 harg7 arg8 harg8 arg9 harg9 arg10 harg10 arg11 harg11 arg12 harg12 arg13 harg13 arg14 harg14 arg15 harg15 v287 v300 v301 v302 c4_i32_143 v303 v308 v324 k a) := by
  unfold k0_t2_body
  obtain ⟨_, _, _⟩ := a
  refine keeps_bind ?_ ?_
  · exact keeps_part68 H ..
  rintro ⟨_, _, _, _⟩
  refine keeps_bind ?_ ?_
  · exact keeps_part69 H ..
  rintro ⟨_, _, _, _, _, _⟩
  refine keeps_bind ?_ ?_
  · exact keeps_part70 H ..
  rintro ⟨_, _, _, _, _, _⟩
  refine keeps_bind ?_ ?_
  · exact keeps_part71 H ..
  rintro ⟨_, _, _, _, _⟩
  refine keeps_bind ?_ ?_
  · exact keeps_part72 H ..
  rintro ⟨_, _⟩
  refine keeps_bind ?_ ?_
  · exact keeps_part73 H ..
  rintro ⟨_, _, _, _, _, _, _, _, _, _⟩
  refine keeps_bind ?_ ?_
  · exact keeps_part74 H ..
  rintro ⟨_, _, _, _, _⟩
  refine keeps_bind ?_ ?_
  · exact keeps_part75 H ..
  rintro ⟨_, _, _⟩
  refine keeps_bind ?_ ?_
  · exact keeps_part76 H ..
  rintro ⟨_, _, _, _, _⟩
  refine keeps_bind ?_ ?_
  · exact keeps_part77 H ..
  rintro ⟨_, _, _, _, _, _, _, _⟩
  refine keeps_bind ?_ ?_
  · exact keeps_part78 H ..
  rintro ⟨_, _, _, _⟩
  refine keeps_bind ?_ ?_
  · exact keeps_load H.l8
  intro _
  exact keeps_pure _

theorem keeps_t3 (H : Held c J arg3 arg4 arg5 arg6 arg7 arg8 arg9 arg10 arg11 arg12 arg13 arg14 arg15) (v287 : BitVec 32) (v326_0 : FVec F S1x1024 .f32) (v326_1 : FVec F S80x1024 .f32) (v326_2 : FVec F S1x1024 .f32) (v344 : BitVec 32) (c2_i32_162 : BitVec 32) (v345 : BitVec 32) (v347 : BitVec 32) (v349 : BitVec 32) (k : Fin (k0_t3_loop i).trips) (a : FVec F S1x1024 .f32 × FVec F S80x1024 .f32 × FVec F S1x1024 .f32) :
    Keeps c J (k0_t3_body (F := F) i arg3 harg3 arg4 harg4 arg5 harg5 arg6 harg6 arg7 harg7 arg8 harg8 arg9 harg9 arg10 harg10 arg11 harg11 arg12 harg12 arg13 harg13 arg14 harg14 arg15 harg15 v287 v326_0 v326_1 v326_2 v344 c2_i32_162 v345 v347 v349 k a) := by
  unfold k0_t3_body
  obtain ⟨_, _, _⟩ := a
  refine keeps_bind ?_ ?_
  · exact keeps_part79 H ..
  rintro ⟨_, _, _, _⟩
  refine keeps_bind ?_ ?_
  · exact keeps_part80 H ..
  rintro ⟨_, _, _, _, _, _⟩
  refine keeps_bind ?_ ?_
  · exact keeps_part81 H ..
  rintro ⟨_, _, _, _, _, _⟩
  refine keeps_bind ?_ ?_
  · exact keeps_part82 H ..
  rintro ⟨_, _, _, _, _⟩
  refine keeps_bind ?_ ?_
  · exact keeps_part83 H ..
  rintro ⟨_, _⟩
  refine keeps_bind ?_ ?_
  · exact keeps_store H.g15
  intro _
  refine keeps_bind ?_ ?_
  · exact keeps_load H.l15
  intro _
  refine keeps_bind ?_ ?_
  · exact keeps_load H.l8
  intro _
  exact keeps_pure _

theorem keeps_t4 (H : Held c J arg3 arg4 arg5 arg6 arg7 arg8 arg9 arg10 arg11 arg12 arg13 arg14 arg15) (v287 : BitVec 32) (v326_0 : FVec F S1x1024 .f32) (v326_1 : FVec F S80x1024 .f32) (v326_2 : FVec F S1x1024 .f32) (v344 : BitVec 32) (c2_i32_162 : BitVec 32) (v345 : BitVec 32) (v347 : BitVec 32) (v349 : BitVec 32) (v366 : BitVec 32) (k : Fin (k0_t4_loop i).trips) (a : FVec F S1x1024 .f32 × FVec F S80x1024 .f32 × FVec F S1x1024 .f32) :
    Keeps c J (k0_t4_body (F := F) i arg3 harg3 arg4 harg4 arg5 harg5 arg6 harg6 arg7 harg7 arg8 harg8 arg9 harg9 arg10 harg10 arg11 harg11 arg12 harg12 arg13 harg13 arg14 harg14 arg15 harg15 v287 v326_0 v326_1 v326_2 v344 c2_i32_162 v345 v347 v349 v366 k a) := by
  unfold k0_t4_body
  obtain ⟨_, _, _⟩ := a
  refine keeps_bind ?_ ?_
  · exact keeps_part84 H ..
  rintro ⟨_, _, _, _⟩
  refine keeps_bind ?_ ?_
  · exact keeps_part85 H ..
  rintro ⟨_, _, _, _, _, _⟩
  refine keeps_bind ?_ ?_
  · exact keeps_part86 H ..
  rintro ⟨_, _, _, _, _, _⟩
  refine keeps_bind ?_ ?_
  · exact keeps_part87 H ..
  rintro ⟨_, _, _, _, _⟩
  refine keeps_bind ?_ ?_
  · exact keeps_part88 H ..
  rintro ⟨_, _⟩
  refine keeps_bind ?_ ?_
  · exact keeps_store H.g15
  intro _
  refine keeps_bind ?_ ?_
  · exact keeps_load H.l15
  intro _
  refine keeps_bind ?_ ?_
  · exact keeps_load H.l8
  intro _
  exact keeps_pure _

theorem keeps_t5 (H : Held c J arg3 arg4 arg5 arg6 arg7 arg8 arg9 arg10 arg11 arg12 arg13 arg14 arg15) (v287 : BitVec 32) (v326_0 : FVec F S1x1024 .f32) (v326_1 : FVec F S80x1024 .f32) (v326_2 : FVec F S1x1024 .f32) (v344 : BitVec 32) (c2_i32_162 : BitVec 32) (v345 : BitVec 32) (v347 : BitVec 32) (v349 : BitVec 32) (v386 : BitVec 32) (k : Fin (k0_t5_loop i).trips) (a : FVec F S1x1024 .f32 × FVec F S80x1024 .f32 × FVec F S1x1024 .f32) :
    Keeps c J (k0_t5_body (F := F) i arg3 harg3 arg4 harg4 arg5 harg5 arg6 harg6 arg7 harg7 arg8 harg8 arg9 harg9 arg10 harg10 arg11 harg11 arg12 harg12 arg13 harg13 arg14 harg14 arg15 harg15 v287 v326_0 v326_1 v326_2 v344 c2_i32_162 v345 v347 v349 v386 k a) := by
  unfold k0_t5_body
  obtain ⟨_, _, _⟩ := a
  refine keeps_bind ?_ ?_
  · exact keeps_part89 H ..
  rintro ⟨_, _, _⟩
  refine keeps_bind ?_ ?_
  · exact keeps_part90 H ..
  rintro ⟨_, _, _⟩
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  refine keeps_bind ?_ ?_
  · exact keeps_load H.l8
  intro _
  exact keeps_pure _

theorem keeps_t6 (H : Held c J arg3 arg4 arg5 arg6 arg7 arg8 arg9 arg10 arg11 arg12 arg13 arg14 arg15) (v0 : BitVec 32) (v30 : IVec S1x1024 32) (v249 : FVec F S64x1024 .f32) (v270 : FVec F S64x1024 .f32) (v288 : BitVec 32) (v391 : BitVec 32) (v392_0 : FVec F S1x1024 .f32) (v392_1 : FVec F S80x1024 .f32) (v392_2 : FVec F S1x1024 .f32) (k : Fin (k0_t6_loop i).trips) (a : FVec F S1x1024 .f32 × FVec F S80x1024 .f32 × FVec F S1x1024 .f32) :
    Keeps c J (k0_t6_body (F := F) i arg3 harg3 arg4 harg4 arg5 harg5 arg6 harg6 arg7 harg7 arg8 harg8 arg9 harg9 arg10 harg10 arg11 harg11 arg12 harg12 arg13 harg13 arg14 harg14 arg15 harg15 v0 v30 v249 v270 v288 v391 v392_0 v392_1 v392_2 k a) := by
  unfold k0_t6_body
  obtain ⟨_, _, _⟩ := a
  refine keeps_bind ?_ ?_
  · exact keeps_part91 H ..
  rintro ⟨_, _, _⟩
  refine keeps_bind ?_ ?_
  · exact keeps_part92 H ..
  rintro ⟨_, _, _⟩
  refine keeps_bind ?_ ?_
  · exact keeps_load H.l12
  intro _
  refine keeps_bind ?_ ?_
  · exact keeps_load H.l15
  intro _
  refine keeps_bind ?_ ?_
  · exact keeps_store H.g15
  intro _
  refine keeps_bind ?_ ?_
  · exact keeps_load H.l15
  intro _
  refine keeps_bind ?_ ?_
  · exact keeps_load H.l8
  intro _
  exact keeps_pure _

theorem keeps_part94 (H : Held c J arg3 arg4 arg5 arg6 arg7 arg8 arg9 arg10 arg11 arg12 arg13 arg14 arg15)  :
    Keeps c J (k0_part94 (F := F) i arg3 harg3 arg4 harg4 arg5 harg5 arg6 harg6 arg7 harg7 arg8 harg8 arg9 harg9 arg10 harg10 arg11 harg11 arg12 harg12 arg13 harg13 arg14 harg14 arg15 harg15) := by
  rw [k0_part94_eq_skeleton]
  unfold k0_part94_skel
  refine keeps_bind ?_ ?_
  · exact keeps_load H.l3
  intro _
  refine keeps_bind ?_ ?_
  · exact keeps_load H.l3
  intro _
  refine keeps_bind ?_ ?_
  · exact keeps_load H.l3
  intro _
  refine keeps_bind ?_ ?_
  · exact keeps_load H.l3
  intro _
  exact keeps_pure _

theorem keeps_part95 (H : Held c J arg3 arg4 arg5 arg6 arg7 arg8 arg9 arg10 arg11 arg12 arg13 arg14 arg15) (arg2 : BitVec 32) (v9 : FVec F S64x1024 .bf16) (v10 : FVec F S64x1024 .bf16) (v31 : IVec S1x256 32) (v32 : IVec S1x256 32) :
    Keeps c J (k0_part95 (F := F) i arg3 harg3 arg4 harg4 arg5 harg5 arg6 harg6 arg7 harg7 arg8 harg8 arg9 harg9 arg10 harg10 arg11 harg11 arg12 harg12 arg13 harg13 arg14 harg14 arg15 harg15 arg2 v9 v10 v31 v32) := by
  rw [k0_part95_eq_skeleton]
  unfold k0_part95_skel
  exact keeps_pure _

theorem keeps_part96 (H : Held c J arg3 arg4 arg5 arg6 arg7 arg8 arg9 arg10 arg11 arg12 arg13 arg14 arg15) (v77 : BitVec 32) :
    Keeps c J (k0_part96 (F := F) i arg3 harg3 arg4 harg4 arg5 harg5 arg6 harg6 arg7 harg7 arg8 harg8 arg9 harg9 arg10 harg10 arg11 harg11 arg12 harg12 arg13 harg13 arg14 harg14 arg15 harg15 v77) := by
  rw [k0_part96_eq_skeleton]
  unfold k0_part96_skel
  refine keeps_bind ?_ ?_
  · exact keeps_load H.l9
  intro _
  refine keeps_bind ?_ ?_
  · exact keeps_load H.l9
  intro _
  refine keeps_bind ?_ ?_
  · exact keeps_load H.l9
  intro _
  refine keeps_bind ?_ ?_
  · exact keeps_load H.l9
  intro _
  exact keeps_pure _

theorem keeps_part97 (H : Held c J arg3 arg4 arg5 arg6 arg7 arg8 arg9 arg10 arg11 arg12 arg13 arg14 arg15) (v11 : FVec F S128x1024 .bf16) (v30 : IVec S1x1024 32) (v74 : IVec S128x1 32) (v77 : BitVec 32) (v79 : BitVec 32) (v87 : BitVec 32) (v89 : BitVec 32) (v94 : FVec F S128x128 .bf16) (v99 : FVec F S128x128 .bf16) (v104 : FVec F S128x128 .bf16) (v109 : FVec F S128x128 .bf16) :
    Keeps c J (k0_part97 (F := F) i arg3 harg3 arg4 harg4 arg5 harg5 arg6 harg6 arg7 harg7 arg8 harg8 arg9 harg9 arg10 harg10 arg11 harg11 arg12 harg12 arg13 harg13 arg14 harg14 arg15 harg15 v11 v30 v74 v77 v79 v87 v89 v94 v99 v104 v109) := by
  rw [k0_part97_eq_skeleton]
  unfold k0_part97_skel
  refine keeps_bind ?_ ?_
  · exact keeps_load H.l9
  intro _
  refine keeps_bind ?_ ?_
  · exact keeps_load H.l9
  intro _
  refine keeps_bind ?_ ?_
  · exact keeps_load H.l10
  intro _
  exact keeps_pure _

theorem keeps_part98 (H : Held c J arg3 arg4 arg5 arg6 arg7 arg8 arg9 arg10 arg11 arg12 arg13 arg14 arg15) (v30 : IVec S1x1024 32) (v74 : IVec S128x1 32) (v77 : BitVec 32) (v81 : BitVec 32) (v83 : BitVec 32) (v85 : BitVec 32) (v121 : FVec F S768x1024 .f32) (v140 : FVec F S128x1024 .f32) (v143 : IVec S128x1 32) (v147 : IVec S1x1024 32) :
    Keeps c J (k0_part98 (F := F) i arg3 harg3 arg4 harg4 arg5 harg5 arg6 harg6 arg7 harg7 arg8 harg8 arg9 harg9 arg10 harg10 arg11 harg11 arg12 harg12 arg13 harg13 arg14 harg14 arg15 harg15 v30 v74 v77 v81 v83 v85 v121 v140 v143 v147) := by
  rw [k0_part98_eq_skeleton]
  unfold k0_part98_skel
  refine keeps_bind ?_ ?_
  · exact keeps_load H.l10
  intro _
  refine keeps_bind ?_ ?_
  · exact keeps_load H.l10
  intro _
  refine keeps_bind ?_ ?_
  · exact keeps_load H.l10
  intro _
  exact keeps_pure _

theorem keeps_part99 (H : Held c J arg3 arg4 arg5 arg6 arg7 arg8 arg9 arg10 arg11 arg12 arg13 arg14 arg15) (v30 : IVec S1x1024 32) (v74 : IVec S128x1 32) (v77 : BitVec 32) (v87 : BitVec 32) (v89 : BitVec 32) (v121 : FVec F S768x1024 .f32) (v135 : FVec F S128x1024 .f32) (v152 : FVec F S128x1024 .f32) (v161 : FVec F S128x1024 .f32) (v170 : FVec F S128x1024 .f32) (v183 : FVec F S128x1024 .f32) :
    Keeps c J (k0_part99 (F := F) i arg3 harg3 arg4 harg4 arg5 harg5 arg6 harg6 arg7 harg7 arg8 harg8 arg9 harg9 arg10 harg10 arg11 harg11 arg12 harg12 arg13 harg13 arg14 harg14 arg15 harg15 v30 v74 v77 v87 v89 v121 v135 v152 v161 v170 v183) := by
  rw [k0_part99_eq_skeleton]
  unfold k0_part99_skel
  refine keeps_bind ?_ ?_
  · exact keeps_load H.l10
  intro _
  refine keeps_bind ?_ ?_
  · exact keeps_load H.l10
  intro _
  exact keeps_pure _

theorem keeps_part100 (H : Held c J arg3 arg4 arg5 arg6 arg7 arg8 arg9 arg10 arg11 arg12 arg13 arg14 arg15) (arg2 : BitVec 32) (v0 : BitVec 32) (v9 : FVec F S64x1024 .bf16) (v10 : FVec F S64x1024 .bf16) (v30 : IVec S1x1024 32) (v57 : IVec S1x256 32) (v66 : FVec F S256x1024 .bf16) (v70 : BitVec 32) (v73 : IVec S32x1 32) (v138 : FVec F S80x128 .bf16) (v155 : FVec F S80x128 .bf16) (v164 : FVec F S80x128 .bf16) (v170 : FVec F S128x1024 .f32) (v173 : FVec F S80x128 .bf16) (v183 : FVec F S128x1024 .f32) (v186 : FVec F S80x128 .bf16) (v196 : FVec F S128x1024 .f32) (v199 : FVec F S80x128 .bf16) (v216 : FVec F S1x1024 .f32) (v220 : FVec F S128x1024 .bf16) (v224 : FVec F S128x1024 .bf16) (v226 : FVec F S128x1024 .f32) :
    Keeps c J (k0_part100 (F := F) i arg3 harg3 arg4 harg4 arg5 harg5 arg6 harg6 arg7 harg7 arg8 harg8 arg9 harg9 arg10 harg10 arg11 harg11 arg12 harg12 arg13 harg13 arg14 harg14 arg15 harg15 arg2 v0 v9 v10 v30 v57 v66 v70 v73 v138 v155 v164 v170 v173 v183 v186 v196 v199 v216 v220 v224 v226) := by
  rw [k0_part100_eq_skeleton]
  unfold k0_part100_skel
  refine keeps_dite (fun _ => ?_) (fun _ => ?_)
  · refine keeps_dite (fun _ => ?_) (fun _ => ?_)
    · refine keeps_dite (fun _ => ?_) (fun _ => ?_)
      · refine keeps_dite (fun _ => ?_) (fun _ => ?_)
        · refine keeps_dite (fun _ => ?_) (fun _ => ?_)
          · refine keeps_dite (fun _ => ?_) (fun _ => ?_)
            · refine keeps_dite (fun _ => ?_) (fun _ => ?_)
              · refine keeps_bind ?_ ?_
                · exact keeps_part1 H ..
                rintro ⟨_, _, _, _⟩
                refine keeps_bind ?_ ?_
                · exact keeps_part2 H ..
                rintro ⟨_, _, _, _, _⟩
                refine keeps_bind ?_ ?_
                · exact keeps_part3 H ..
                rintro ⟨_, _, _, _⟩
                refine keeps_bind ?_ ?_
                · exact keeps_part4 H ..
                rintro ⟨_, _⟩
                refine keeps_bind ?_ ?_
                · exact keeps_part5 H ..
                rintro ⟨_, _⟩
                refine keeps_bind ?_ ?_
                · exact keeps_part6 H ..
                intro _
                refine keeps_bind ?_ ?_
                · exact keeps_part7 H ..
                intro _
                refine keeps_bind ?_ ?_
                · exact keeps_load H.l12
                intro _
                refine keeps_bind ?_ ?_
                · exact keeps_store H.g12
                intro _
                refine keeps_bind ?_ ?_
                · exact keeps_load H.l12
                intro _
                refine keeps_bind ?_ ?_
                · exact keeps_store H.g12
                intro _
                refine keeps_bind ?_ ?_
                · exact keeps_pure _
                intro _
                refine keeps_bind ?_ ?_
                · exact keeps_pure _
                intro _
                refine keeps_bind ?_ ?_
                · exact keeps_pure _
                intro _
                refine keeps_bind ?_ ?_
                · exact keeps_pure _
                intro _
                refine keeps_bind ?_ ?_
                · exact keeps_pure _
                intro _
                refine keeps_bind ?_ ?_
                · exact keeps_pure _
                intro _
                refine keeps_bind ?_ ?_
                · exact keeps_pure _
                intro _
                exact keeps_pure _
              · refine keeps_bind ?_ ?_
                · exact keeps_part8 H ..
                rintro ⟨_, _, _, _⟩
                refine keeps_bind ?_ ?_
                · exact keeps_part9 H ..
                rintro ⟨_, _, _, _, _⟩
                refine keeps_bind ?_ ?_
                · exact keeps_part10 H ..
                rintro ⟨_, _, _, _⟩
                refine keeps_bind ?_ ?_
                · exact keeps_part11 H ..
                rintro ⟨_, _⟩
                refine keeps_bind ?_ ?_
                · exact keeps_part12 H ..
                rintro ⟨_, _⟩
                refine keeps_bind ?_ ?_
                · exact keeps_part13 H ..
                intro _
                refine keeps_bind ?_ ?_
                · exact keeps_part14 H ..
                intro _
                refine keeps_bind ?_ ?_
                · exact keeps_load H.l12
                intro _
                refine keeps_bind ?_ ?_
                · exact keeps_store H.g12
                intro _
                refine keeps_bind ?_ ?_
                · exact keeps_load H.l12
                intro _
                refine keeps_bind ?_ ?_
                · exact keeps_store H.g12
                intro _
                refine keeps_bind ?_ ?_
                · exact keeps_pure _
                intro _
                refine keeps_bind ?_ ?_
                · exact keeps_pure _
                intro _
                refine keeps_bind ?_ ?_
                · exact keeps_pure _
                intro _
                refine keeps_bind ?_ ?_
                · exact keeps_pure _
                intro _
                refine keeps_bind ?_ ?_
                · exact keeps_pure _
                intro _
                refine keeps_bind ?_ ?_
                · exact keeps_pure _
                intro _
                refine keeps_bind ?_ ?_
                · exact keeps_pure _
                intro _
                exact keeps_pure _
            · refine keeps_bind ?_ ?_
              · exact keeps_part15 H ..
              rintro ⟨_, _, _, _⟩
              refine keeps_bind ?_ ?_
              · exact keeps_part16 H ..
              rintro ⟨_, _, _, _, _⟩
              refine keeps_bind ?_ ?_
              · exact keeps_part17 H ..
              rintro ⟨_, _, _, _⟩
              refine keeps_bind ?_ ?_
              · exact keeps_part18 H ..
              rintro ⟨_, _⟩
              refine keeps_bind ?_ ?_
              · exact keeps_part19 H ..
              rintro ⟨_, _⟩
              refine keeps_bind ?_ ?_
              · exact keeps_part20 H ..
              intro _
              refine keeps_bind ?_ ?_
              · exact keeps_part21 H ..
              intro _
              refine keeps_bind ?_ ?_
              · exact keeps_load H.l12
              intro _
              refine keeps_bind ?_ ?_
              · exact keeps_store H.g12
              intro _
              refine keeps_bind ?_ ?_
              · exact keeps_load H.l12
              intro _
              refine keeps_bind ?_ ?_
              · exact keeps_store H.g12
              intro _
              refine keeps_bind ?_ ?_
              · exact keeps_pure _
              intro _
              refine keeps_bind ?_ ?_
              · exact keeps_pure _
              intro _
              refine keeps_bind ?_ ?_
              · exact keeps_pure _
              intro _
              refine keeps_bind ?_ ?_
              · exact keeps_pure _
              intro _
              refine keeps_bind ?_ ?_
              · exact keeps_pure _
              intro _
              refine keeps_bind ?_ ?_
              · exact keeps_pure _
              intro _
              exact keeps_pure _
          · refine keeps_bind ?_ ?_
            · exact keeps_part22 H ..
            rintro ⟨_, _, _, _⟩
            refine keeps_bind ?_ ?_
            · exact keeps_part23 H ..
            rintro ⟨_, _, _, _, _⟩
            refine keeps_bind ?_ ?_
            · exact keeps_part24 H ..
            rintro ⟨_, _, _, _⟩
            refine keeps_bind ?_ ?_
            · exact keeps_part25 H ..
            rintro ⟨_, _⟩
            refine keeps_bind ?_ ?_
            · exact keeps_part26 H ..
            rintro ⟨_, _⟩
            refine keeps_bind ?_ ?_
            · exact keeps_part27 H ..
            intro _
            refine keeps_bind ?_ ?_
            · exact keeps_part28 H ..
            intro _
            refine keeps_bind ?_ ?_
            · exact keeps_load H.l12
            intro _
            refine keeps_bind ?_ ?_
            · exact keeps_store H.g12
            intro _
            refine keeps_bind ?_ ?_
            · exact keeps_load H.l12
            intro _
            refine keeps_bind ?_ ?_
            · exact keeps_store H.g12
            intro _
            refine keeps_bind ?_ ?_
            · exact keeps_pure _
            intro _
            refine keeps_bind ?_ ?_
            · exact keeps_pure _
            intro _
            refine keeps_bind ?_ ?_
            · exact keeps_pure _
            intro _
            refine keeps_bind ?_ ?_
            · exact keeps_pure _
            intro _
            refine keeps_bind ?_ ?_
            · exact keeps_pure _
            intro _
            exact keeps_pure _
        · refine keeps_bind ?_ ?_
          · exact keeps_part29 H ..
          rintro ⟨_, _, _, _⟩
          refine keeps_bind ?_ ?_
          · exact keeps_part30 H ..
          rintro ⟨_, _, _, _, _⟩
          refine keeps_bind ?_ ?_
          · exact keeps_part31 H ..
          rintro ⟨_, _, _, _⟩
          refine keeps_bind ?_ ?_
          · exact keeps_part32 H ..
          rintro ⟨_, _⟩
          refine keeps_bind ?_ ?_
          · exact keeps_part33 H ..
          rintro ⟨_, _⟩
          refine keeps_bind ?_ ?_
          · exact keeps_part34 H ..
          intro _
          refine keeps_bind ?_ ?_
          · exact keeps_part35 H ..
          intro _
          refine keeps_bind ?_ ?_
          · exact keeps_load H.l12
          intro _
          refine keeps_bind ?_ ?_
          · exact keeps_store H.g12
          intro _
          refine keeps_bind ?_ ?_
          · exact keeps_load H.l12
          intro _
          refine keeps_bind ?_ ?_
          · exact keeps_store H.g12
          intro _
          refine keeps_bind ?_ ?_
          · exact keeps_pure _
          intro _
          refine keeps_bind ?_ ?_
          · exact keeps_pure _
          intro _
          refine keeps_bind ?_ ?_
          · exact keeps_pure _
          intro _
          refine keeps_bind ?_ ?_
          · exact keeps_pure _
          intro _
          exact keeps_pure _
      · refine keeps_bind ?_ ?_
        · exact keeps_part36 H ..
        rintro ⟨_, _, _, _⟩
        refine keeps_bind ?_ ?_
        · exact keeps_part37 H ..
        rintro ⟨_, _, _, _, _⟩
        refine keeps_bind ?_ ?_
        · exact keeps_part38 H ..
        rintro ⟨_, _, _, _⟩
        refine keeps_bind ?_ ?_
        · exact keeps_part39 H ..
        rintro ⟨_, _⟩
        refine keeps_bind ?_ ?_
        · exact keeps_part40 H ..
        rintro ⟨_, _⟩
        refine keeps_bind ?_ ?_
        · exact keeps_part41 H ..
        intro _
        refine keeps_bind ?_ ?_
        · exact keeps_part42 H ..
        intro _
        refine keeps_bind ?_ ?_
        · exact keeps_load H.l12
        intro _
        refine keeps_bind ?_ ?_
        · exact keeps_store H.g12
        intro _
        refine keeps_bind ?_ ?_
        · exact keeps_load H.l12
        intro _
        refine keeps_bind ?_ ?_
        · exact keeps_store H.g12
        intro _
        refine keeps_bind ?_ ?_
        · exact keeps_pure _
        intro _
        refine keeps_bind ?_ ?_
        · exact keeps_pure _
        intro _
        refine keeps_bind ?_ ?_
        · exact keeps_pure _
        intro _
        exact keeps_pure _
    · refine keeps_bind ?_ ?_
      · exact keeps_part43 H ..
      rintro ⟨_, _, _, _⟩
      refine keeps_bind ?_ ?_
      · exact keeps_part44 H ..
      rintro ⟨_, _, _, _, _⟩
      refine keeps_bind ?_ ?_
      · exact keeps_part45 H ..
      rintro ⟨_, _, _, _⟩
      refine keeps_bind ?_ ?_
      · exact keeps_part46 H ..
      rintro ⟨_, _⟩
      refine keeps_bind ?_ ?_
      · exact keeps_part47 H ..
      rintro ⟨_, _⟩
      refine keeps_bind ?_ ?_
      · exact keeps_part48 H ..
      intro _
      refine keeps_bind ?_ ?_
      · exact keeps_part49 H ..
      intro _
      refine keeps_bind ?_ ?_
      · exact keeps_load H.l12
      intro _
      refine keeps_bind ?_ ?_
      · exact keeps_store H.g12
      intro _
      refine keeps_bind ?_ ?_
      · exact keeps_load H.l12
      intro _
      refine keeps_bind ?_ ?_
      · exact keeps_store H.g12
      intro _
      refine keeps_bind ?_ ?_
      · exact keeps_pure _
      intro _
      refine keeps_bind ?_ ?_
      · exact keeps_pure _
      intro _
      exact keeps_pure _
  · refine keeps_bind ?_ ?_
    · exact keeps_part50 H ..
    rintro ⟨_, _, _, _⟩
    refine keeps_bind ?_ ?_
    · exact keeps_part51 H ..
    rintro ⟨_, _, _, _, _⟩
    refine keeps_bind ?_ ?_
    · exact keeps_part52 H ..
    rintro ⟨_, _, _, _⟩
    refine keeps_bind ?_ ?_
    · exact keeps_part53 H ..
    rintro ⟨_, _⟩
    refine keeps_bind ?_ ?_
    · exact keeps_part54 H ..
    rintro ⟨_, _⟩
    refine keeps_bind ?_ ?_
    · exact keeps_part55 H ..
    intro _
    refine keeps_bind ?_ ?_
    · exact keeps_part56 H ..
    intro _
    refine keeps_bind ?_ ?_
    · exact keeps_load H.l12
    intro _
    refine keeps_bind ?_ ?_
    · exact keeps_store H.g12
    intro _
    refine keeps_bind ?_ ?_
    · exact keeps_load H.l12
    intro _
    refine keeps_bind ?_ ?_
    · exact keeps_store H.g12
    intro _
    refine keeps_bind ?_ ?_
    · exact keeps_pure _
    intro _
    exact keeps_pure _

theorem keeps_part101 (H : Held c J arg3 arg4 arg5 arg6 arg7 arg8 arg9 arg10 arg11 arg12 arg13 arg14 arg15) (v0 : BitVec 32) (c1024_i32 : BitVec 32) (v271 : BitVec 32) (v272 : BitVec 1) :
    Keeps c J (k0_part101 (F := F) i arg3 harg3 arg4 harg4 arg5 harg5 arg6 harg6 arg7 harg7 arg8 harg8 arg9 harg9 arg10 harg10 arg11 harg11 arg12 harg12 arg13 harg13 arg14 harg14 arg15 harg15 v0 c1024_i32 v271 v272) := by
  rw [k0_part101_eq_skeleton]
  unfold k0_part101_skel
  refine keeps_bind ?_ ?_
  · exact keeps_load H.l7
  intro _
  refine keeps_bind ?_ ?_
  · exact keeps_load H.l12
  intro _
  refine keeps_bind ?_ ?_
  · exact keeps_load H.l15
  intro _
  refine keeps_bind ?_ ?_
  · exact keeps_store H.g15
  intro _
  exact keeps_pure _

theorem keeps_part102 (H : Held c J arg3 arg4 arg5 arg6 arg7 arg8 arg9 arg10 arg11 arg12 arg13 arg14 arg15) (v287 : BitVec 32) (v300 : FVec F S1x1024 .f32) (v301 : FVec F S1x1024 .f32) (v302 : FVec F S80x1024 .f32) (c4_i32_143 : BitVec 32) (v303 : BitVec 32) (v308 : BitVec 32) :
    Keeps c J (k0_part102 (F := F) i arg3 harg3 arg4 harg4 arg5 harg5 arg6 harg6 arg7 harg7 arg8 harg8 arg9 harg9 arg10 harg10 arg11 harg11 arg12 harg12 arg13 harg13 arg14 harg14 arg15 harg15 v287 v300 v301 v302 c4_i32_143 v303 v308) := by
  rw [k0_part102_eq_skeleton]
  unfold k0_part102_skel
  refine keeps_bind ?_ ?_
  · exact keeps_for (fun k a => keeps_t1 H ..)
  rintro ⟨_, _, _⟩
  refine keeps_bind ?_ ?_
  · exact keeps_for (fun k a => keeps_t2 H ..)
  rintro ⟨_, _, _⟩
  exact keeps_pure _

theorem keeps_part103 (H : Held c J arg3 arg4 arg5 arg6 arg7 arg8 arg9 arg10 arg11 arg12 arg13 arg14 arg15) (v287 : BitVec 32) (v326_0 : FVec F S1x1024 .f32) (v326_1 : FVec F S80x1024 .f32) (v326_2 : FVec F S1x1024 .f32) (v344 : BitVec 32) (c2_i32_162 : BitVec 32) (v345 : BitVec 32) (v347 : BitVec 32) (v349 : BitVec 32) :
    Keeps c J (k0_part103 (F := F) i arg3 harg3 arg4 harg4 arg5 harg5 arg6 harg6 arg7 harg7 arg8 harg8 arg9 harg9 arg10 harg10 arg11 harg11 arg12 harg12 arg13 harg13 arg14 harg14 arg15 harg15 v287 v326_0 v326_1 v326_2 v344 c2_i32_162 v345 v347 v349) := by
  rw [k0_part103_eq_skeleton]
  unfold k0_part103_skel
  refine keeps_bind ?_ ?_
  · exact keeps_for (fun k a => keeps_t3 H ..)
  rintro ⟨_, _, _⟩
  refine keeps_bind ?_ ?_
  · exact keeps_for (fun k a => keeps_t4 H ..)
  rintro ⟨_, _, _⟩
  refine keeps_bind ?_ ?_
  · exact keeps_for (fun k a => keeps_t5 H ..)
  rintro ⟨_, _, _⟩
  exact keeps_pure _

theorem keeps_part104 (H : Held c J arg3 arg4 arg5 arg6 arg7 arg8 arg9 arg10 arg11 arg12 arg13 arg14 arg15) (v0 : BitVec 32) (v30 : IVec S1x1024 32) (v249 : FVec F S64x1024 .f32) (v270 : FVec F S64x1024 .f32) (v288 : BitVec 32) (v391 : BitVec 32) (v392_0 : FVec F S1x1024 .f32) (v392_1 : FVec F S80x1024 .f32) (v392_2 : FVec F S1x1024 .f32) :
    Keeps c J (k0_part104 (F := F) i arg3 harg3 arg4 harg4 arg5 harg5 arg6 harg6 arg7 harg7 arg8 harg8 arg9 harg9 arg10 harg10 arg11 harg11 arg12 harg12 arg13 harg13 arg14 harg14 arg15 harg15 v0 v30 v249 v270 v288 v391 v392_0 v392_1 v392_2) := by
  rw [k0_part104_eq_skeleton]
  unfold k0_part104_skel
  refine keeps_bind ?_ ?_
  · exact keeps_for (fun k a => keeps_t6 H ..)
  rintro ⟨_, _, _⟩
  refine keeps_dite (fun _ => ?_) (fun _ => ?_)
  · refine keeps_bind ?_ ?_
    · exact keeps_part93 H ..
    rintro ⟨_, _, _⟩
    refine keeps_bind ?_ ?_
    · exact keeps_load H.l8
    intro _
    refine keeps_bind ?_ ?_
    · exact keeps_load H.l15
    intro _
    refine keeps_bind ?_ ?_
    · exact keeps_load H.l8
    intro _
    refine keeps_bind ?_ ?_
    · exact keeps_pure _
    intro _
    refine keeps_bind ?_ ?_
    · exact keeps_load H.l4
    intro _
    exact keeps_pure _
  · refine keeps_bind ?_ ?_
    · exact keeps_load H.l15
    intro _
    refine keeps_bind ?_ ?_
    · exact keeps_load H.l8
    intro _
    refine keeps_bind ?_ ?_
    · exact keeps_pure _
    intro _
    refine keeps_bind ?_ ?_
    · exact keeps_load H.l4
    intro _
    exact keeps_pure _

theorem keeps_body (H : Held c J arg3 arg4 arg5 arg6 arg7 arg8 arg9 arg10 arg11 arg12 arg13 arg14 arg15)  :
    Keeps c J (cc0_nsa_attn (F := F) i arg3 harg3 arg4 harg4 arg5 harg5 arg6 harg6 arg7 harg7 arg8 harg8 arg9 harg9 arg10 harg10 arg11 harg11 arg12 harg12 arg13 harg13 arg14 harg14 arg15 harg15) := by
  rw [cc0_nsa_attn_eq_skeleton]
  unfold cc0_nsa_attn_skel
  refine keeps_bind ?_ ?_
  · exact keeps_part94 H ..
  rintro ⟨_, _, _, _, _, _, _, _⟩
  refine keeps_bind ?_ ?_
  · exact keeps_part95 H ..
  rintro ⟨_, _, _, _, _, _⟩
  refine keeps_bind ?_ ?_
  · exact keeps_part96 H ..
  rintro ⟨_, _, _, _, _, _, _, _, _, _⟩
  refine keeps_bind ?_ ?_
  · exact keeps_part97 H ..
  rintro ⟨_, _, _, _, _, _⟩
  refine keeps_bind ?_ ?_
  · exact keeps_part98 H ..
  rintro ⟨_, _, _, _, _, _, _⟩
  refine keeps_bind ?_ ?_
  · exact keeps_part99 H ..
  rintro ⟨_, _, _, _, _, _, _⟩
  refine keeps_bind ?_ ?_
  · exact keeps_part100 H ..
  rintro ⟨_, _, _, _, _⟩
  refine keeps_bind ?_ ?_
  · exact keeps_part101 H ..
  rintro ⟨_, _, _, _, _, _, _, _⟩
  refine keeps_bind ?_ ?_
  · exact keeps_part102 H ..
  rintro ⟨_, _, _, _, _, _, _, _⟩
  refine keeps_bind ?_ ?_
  · exact keeps_part103 H ..
  rintro ⟨_, _, _, _⟩
  refine keeps_bind ?_ ?_
  · exact keeps_part104 H ..
  rintro ⟨_, _, _, _, _⟩
  refine keeps_bind ?_ ?_
  · exact keeps_load H.l11
  intro _
  refine keeps_bind ?_ ?_
  · exact keeps_store H.g11
  intro _
  exact keeps_pure _

end Cert.Attn

end
-- ==== Proof.Run.lean ====
/- The attention's frame: the body keeps the assertion that holds the input windows at their blocks and the
   output window and the scratch buffers at some contents; with the output forgotten this is the pipeline's
   body obligation, and the launch follows. -/
module

public import proofs.«01_k».proof.Proof.PartsC
public import proofs.«01_k».proof.Proof.Gen.KernelIdeal.Frame
public import Idealize.ShloMosaic.Lib.Pipeline.Frame

@[expose] public section

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

/-- The contents of memref `M`'s buffer on core `c`, and the buffer held whole. -/
abbrev Bf (c : Dev nD) {s : Shape} {e : EltTy} (M : Memref sig .tc .vmem s e) : Type := Buf (Elt F) (M.view.loc (c : Thread nD τ))
abbrev pt (c : Dev nD) {s : Shape} {e : EltTy} (M : Memref sig .tc .vmem s e) (f : Bf (F := F) c M) : SP F :=
  M.view.loc (c : Thread nD τ) ↦{fullShare} f

/-- A whole memref owned at `X` is its buffer held at contents that read as `X`. -/
theorem owns_pt (c : Dev nD) {s : Shape} {e : EltTy} {M : Memref sig .tc .vmem s e} (h : M.IsWhole) (X : s.Idx → Elt F e) :
    (owns (c : Thread nD τ) M fullShare X : SP F) = iprop(∃ f, ⌜M.view.read (Elt F) f = X⌝ ∗ pt c M f) := by
  unfold owns
  rw [h.set_eq_univ]

/-- The input windows at `f3` … `f10`, the output window and the scratch buffers at some contents. -/
def Inv (c : Dev nD) (arg3 : Memref sig .tc .vmem S1x4x64x256 .bf16) (arg4 : Memref sig .tc .vmem S1x16x256 .f32) (arg5 : Memref sig .tc .vmem S1x1x1024x256 .bf16) (arg6 : Memref sig .tc .vmem S1x1x80x1024 .bf16) (arg7 : Memref sig .tc .vmem S1x1x16384x256 .bf16) (arg8 : Memref sig .tc .vmem S1x1x32x80x512 .bf16) (arg9 : Memref sig .tc .vmem S1x1x16384x128 .bf16) (arg10 : Memref sig .tc .vmem S1x1x128x80x128 .bf16) (arg11 : Memref sig .tc .vmem S1x256x256 .f32) (arg12 : Memref sig .tc .vmem S2x256x1024 .bf16) (arg13 : Memref sig .tc .vmem S1024x1024 .f32) (arg14 : Memref sig .tc .vmem S2x1024x128 .f32) (arg15 : Memref sig .tc .vmem S2x512x1024 .f32)
    (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) : SP F :=
  iprop(pt c arg3 f3 ∗ pt c arg4 f4 ∗ pt c arg5 f5 ∗ pt c arg6 f6 ∗ pt c arg7 f7 ∗ pt c arg8 f8 ∗ pt c arg9 f9 ∗ pt c arg10 f10 ∗ (∃ f, pt c arg11 f) ∗ (∃ f, pt c arg12 f) ∗ (∃ f, pt c arg13 f) ∗ (∃ f, pt c arg14 f) ∗ (∃ f, pt c arg15 f))

theorem held_inv (c : Dev nD) (arg3 : Memref sig .tc .vmem S1x4x64x256 .bf16) (arg4 : Memref sig .tc .vmem S1x16x256 .f32) (arg5 : Memref sig .tc .vmem S1x1x1024x256 .bf16) (arg6 : Memref sig .tc .vmem S1x1x80x1024 .bf16) (arg7 : Memref sig .tc .vmem S1x1x16384x256 .bf16) (arg8 : Memref sig .tc .vmem S1x1x32x80x512 .bf16) (arg9 : Memref sig .tc .vmem S1x1x16384x128 .bf16) (arg10 : Memref sig .tc .vmem S1x1x128x80x128 .bf16) (arg11 : Memref sig .tc .vmem S1x256x256 .f32) (arg12 : Memref sig .tc .vmem S2x256x1024 .bf16) (arg13 : Memref sig .tc .vmem S1024x1024 .f32) (arg14 : Memref sig .tc .vmem S2x1024x128 .f32) (arg15 : Memref sig .tc .vmem S2x512x1024 .f32)
    (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) :
    Held c (Inv c arg3 arg4 arg5 arg6 arg7 arg8 arg9 arg10 arg11 arg12 arg13 arg14 arg15 f3 f4 f5 f6 f7 f8 f9 f10) arg3 arg4 arg5 arg6 arg7 arg8 arg9 arg10 arg11 arg12 arg13 arg14 arg15 where
    l3 := by
      unfold Lends Inv
      iintro ⟨H3, H4, H5, H6, H7, H8, H9, H10, H11, H12, H13, H14, H15⟩
      iexists f3
      isplitl [H3]
      · iexact H3
      iintro H3
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    l4 := by
      unfold Lends Inv
      iintro ⟨H3, H4, H5, H6, H7, H8, H9, H10, H11, H12, H13, H14, H15⟩
      iexists f4
      isplitl [H4]
      · iexact H4
      iintro H4
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    l5 := by
      unfold Lends Inv
      iintro ⟨H3, H4, H5, H6, H7, H8, H9, H10, H11, H12, H13, H14, H15⟩
      iexists f5
      isplitl [H5]
      · iexact H5
      iintro H5
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    l6 := by
      unfold Lends Inv
      iintro ⟨H3, H4, H5, H6, H7, H8, H9, H10, H11, H12, H13, H14, H15⟩
      iexists f6
      isplitl [H6]
      · iexact H6
      iintro H6
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    l7 := by
      unfold Lends Inv
      iintro ⟨H3, H4, H5, H6, H7, H8, H9, H10, H11, H12, H13, H14, H15⟩
      iexists f7
      isplitl [H7]
      · iexact H7
      iintro H7
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    l8 := by
      unfold Lends Inv
      iintro ⟨H3, H4, H5, H6, H7, H8, H9, H10, H11, H12, H13, H14, H15⟩
      iexists f8
      isplitl [H8]
      · iexact H8
      iintro H8
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    l9 := by
      unfold Lends Inv
      iintro ⟨H3, H4, H5, H6, H7, H8, H9, H10, H11, H12, H13, H14, H15⟩
      iexists f9
      isplitl [H9]
      · iexact H9
      iintro H9
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    l10 := by
      unfold Lends Inv
      iintro ⟨H3, H4, H5, H6, H7, H8, H9, H10, H11, H12, H13, H14, H15⟩
      iexists f10
      isplitl [H10]
      · iexact H10
      iintro H10
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    g11 := by
      unfold Gives Inv
      iintro ⟨H3, H4, H5, H6, H7, H8, H9, H10, ⟨%f, H11⟩, H12, H13, H14, H15⟩
      iexists f
      isplitl [H11]
      · iexact H11
      iintro %f' H11
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists f'; iexact H11
      isplitl [H12]; · iexact H12
      isplitl [H13]; · iexact H13
      isplitl [H14]; · iexact H14
      iexact H15
    g12 := by
      unfold Gives Inv
      iintro ⟨H3, H4, H5, H6, H7, H8, H9, H10, H11, ⟨%f, H12⟩, H13, H14, H15⟩
      iexists f
      isplitl [H12]
      · iexact H12
      iintro %f' H12
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists f'; iexact H12
      isplitl [H13]; · iexact H13
      isplitl [H14]; · iexact H14
      iexact H15
    g13 := by
      unfold Gives Inv
      iintro ⟨H3, H4, H5, H6, H7, H8, H9, H10, H11, H12, ⟨%f, H13⟩, H14, H15⟩
      iexists f
      isplitl [H13]
      · iexact H13
      iintro %f' H13
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists f'; iexact H13
      isplitl [H14]; · iexact H14
      iexact H15
    g14 := by
      unfold Gives Inv
      iintro ⟨H3, H4, H5, H6, H7, H8, H9, H10, H11, H12, H13, ⟨%f, H14⟩, H15⟩
      iexists f
      isplitl [H14]
      · iexact H14
      iintro %f' H14
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists f'; iexact H14
      iexact H15
    g15 := by
      unfold Gives Inv
      iintro ⟨H3, H4, H5, H6, H7, H8, H9, H10, H11, H12, H13, H14, ⟨%f, H15⟩⟩
      iexists f
      isplitl [H15]
      · iexact H15
      iintro %f' H15
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexists f'; iexact H15

/-- The body from its windows owned and its scratch buffers held: the input windows come back as they were. -/
theorem sound (c : Dev nD) (i : grid0.Coords) (arg3 : Memref sig .tc .vmem S1x4x64x256 .bf16) (arg4 : Memref sig .tc .vmem S1x16x256 .f32) (arg5 : Memref sig .tc .vmem S1x1x1024x256 .bf16) (arg6 : Memref sig .tc .vmem S1x1x80x1024 .bf16) (arg7 : Memref sig .tc .vmem S1x1x16384x256 .bf16) (arg8 : Memref sig .tc .vmem S1x1x32x80x512 .bf16) (arg9 : Memref sig .tc .vmem S1x1x16384x128 .bf16) (arg10 : Memref sig .tc .vmem S1x1x128x80x128 .bf16) (arg11 : Memref sig .tc .vmem S1x256x256 .f32) (arg12 : Memref sig .tc .vmem S2x256x1024 .bf16) (arg13 : Memref sig .tc .vmem S1024x1024 .f32) (arg14 : Memref sig .tc .vmem S2x1024x128 .f32) (arg15 : Memref sig .tc .vmem S2x512x1024 .f32)
    (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole)
    (X3 : S1x4x64x256.Idx → Elt F .bf16) (X4 : S1x16x256.Idx → Elt F .f32) (X5 : S1x1x1024x256.Idx → Elt F .bf16) (X6 : S1x1x80x1024.Idx → Elt F .bf16) (X7 : S1x1x16384x256.Idx → Elt F .bf16) (X8 : S1x1x32x80x512.Idx → Elt F .bf16) (X9 : S1x1x16384x128.Idx → Elt F .bf16) (X10 : S1x1x128x80x128.Idx → Elt F .bf16) :
    iprop((owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ X, owns (c : Thread nD τ) arg11 fullShare X)) ∗ (∃ f, pt c arg12 f) ∗ (∃ f, pt c arg13 f) ∗ (∃ f, pt c arg14 f) ∗ (∃ f, pt c arg15 f))
    ⊢ wp frame (wpE (defs₀ (F := F)) Variants.none (c : Thread nD τ) none) Set.univ (cc0_nsa_attn i arg3 harg3 arg4 harg4 arg5 harg5 arg6 harg6 arg7 harg7 arg8 harg8 arg9 harg9 arg10 harg10 arg11 harg11 arg12 harg12 arg13 harg13 arg14 harg14 arg15 harg15)
      (fun _ => iprop((owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ X, owns (c : Thread nD τ) arg11 fullShare X)) ∗ (∃ f, pt c arg12 f) ∗ (∃ f, pt c arg13 f) ∗ (∃ f, pt c arg14 f) ∗ (∃ f, pt c arg15 f))) := by
  simp only [owns_pt c harg3, owns_pt c harg4, owns_pt c harg5, owns_pt c harg6, owns_pt c harg7, owns_pt c harg8, owns_pt c harg9, owns_pt c harg10, owns_pt c harg11]
  iintro ⟨⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, %X11, %f11, %e11, H11⟩, ⟨%f12, H12⟩, ⟨%f13, H13⟩, ⟨%f14, H14⟩, %f15, H15⟩
  iapply (keeps_body (held_inv c arg3 arg4 arg5 arg6 arg7 arg8 arg9 arg10 arg11 arg12 arg13 arg14 arg15 f3 f4 f5 f6 f7 f8 f9 f10) (i := i) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15)).then
  isplitl [H3 H4 H5 H6 H7 H8 H9 H10 H11 H12 H13 H14 H15]
  · unfold Inv
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists f11; iexact H11
    isplitl [H12]; · iexists f12; iexact H12
    isplitl [H13]; · iexists f13; iexact H13
    isplitl [H14]; · iexists f14; iexact H14
    iexists f15; iexact H15
  iintro %a HI
  unfold Inv
  icases HI with ⟨H3, H4, H5, H6, H7, H8, H9, H10, ⟨%g11, H11⟩, ⟨%g12, H12⟩, ⟨%g13, H13⟩, ⟨%g14, H14⟩, ⟨%g15, H15⟩⟩
  isplitl [H3 H4 H5 H6 H7 H8 H9 H10 H11]
  · isplitl [H3]
    · iexists f3
      isplitr
      · ipureintro; exact e3
      iexact H3
    isplitl [H4]
    · iexists f4
      isplitr
      · ipureintro; exact e4
      iexact H4
    isplitl [H5]
    · iexists f5
      isplitr
      · ipureintro; exact e5
      iexact H5
    isplitl [H6]
    · iexists f6
      isplitr
      · ipureintro; exact e6
      iexact H6
    isplitl [H7]
    · iexists f7
      isplitr
      · ipureintro; exact e7
      iexact H7
    isplitl [H8]
    · iexists f8
      isplitr
      · ipureintro; exact e8
      iexact H8
    isplitl [H9]
    · iexists f9
      isplitr
      · ipureintro; exact e9
      iexact H9
    isplitl [H10]
    · iexists f10
      isplitr
      · ipureintro; exact e10
      iexact H10
    iexists _; iexists g11
    isplitr
    · ipureintro; rfl
    iexact H11
  isplitl [H12]; · iexists g12; iexact H12
  isplitl [H13]; · iexists g13; iexact H13
  isplitl [H14]; · iexists g14; iexact H14
  iexists g15; iexact H15

variable (m : (ℓ : Loc nD τ sig) → Buf (Elt F) ℓ) (ρ : Dev nD → PrngReg)

/-- Only the output window is forgotten. -/
def fgt0 : Fin 9 → Bool := fun | 8 => true | _ => false

/-- The proof data on core `c`: the arrays as the region finds them; each input's buffer left at its block, the
    output's unnamed; full shares, nothing owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => Pipeline.Dat.unnamed (cfg := cfg0) 8 t
    | ⟨_ + 9, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = (dats m 0 c).after 0 t :=
  before0_0_of m (dats m 0 c) (A_eq m c 0) (fun _ => by dsimp only [dats]) t d
theorem before_1 (c : Dev nD) (t : Fin cfg0.N) (d) : (dats m 0 c).before 1 t d = (dats m 0 c).after 1 t :=
  before0_1_of m (dats m 0 c) (A_eq m c 1) (fun _ => by dsimp only [dats]) t d
theorem before_2 (c : Dev nD) (t : Fin cfg0.N) (d) : (dats m 0 c).before 2 t d = (dats m 0 c).after 2 t :=
  before0_2_of m (dats m 0 c) (A_eq m c 2) (fun _ => by dsimp only [dats]) t d
theorem before_3 (c : Dev nD) (t : Fin cfg0.N) (d) : (dats m 0 c).before 3 t d = (dats m 0 c).after 3 t :=
  before0_3_of m (dats m 0 c) (A_eq m c 3) (fun _ => by dsimp only [dats]) t d
theorem before_4 (c : Dev nD) (t : Fin cfg0.N) (d) : (dats m 0 c).before 4 t d = (dats m 0 c).after 4 t :=
  before0_4_of m (dats m 0 c) (A_eq m c 4) (fun _ => by dsimp only [dats]) t d
theorem before_5 (c : Dev nD) (t : Fin cfg0.N) (d) : (dats m 0 c).before 5 t d = (dats m 0 c).after 5 t :=
  before0_5_of m (dats m 0 c) (A_eq m c 5) (fun _ => by dsimp only [dats]) t d
theorem before_6 (c : Dev nD) (t : Fin cfg0.N) (d) : (dats m 0 c).before 6 t d = (dats m 0 c).after 6 t :=
  before0_6_of m (dats m 0 c) (A_eq m c 6) (fun _ => by dsimp only [dats]) t d
theorem before_7 (c : Dev nD) (t : Fin cfg0.N) (d) : (dats m 0 c).before 7 t d = (dats m 0 c).after 7 t :=
  before0_7_of m (dats m 0 c) (A_eq m c 7) (fun _ => by dsimp only [dats]) t d

/-- What the body is called with at point `t`, and what it returns. -/
def bodyPre (c : Dev nD) (t : Fin cfg0.N) : SP F :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ X, owns (c : Thread nD τ) (st0_8 t) fullShare X))
def bodyPost (c : Dev nD) (t : Fin cfg0.N) : SP F :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ (∃ X, owns (c : Thread nD τ) (st0_8 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = iprop(Pipeline.scopedRest spec0 c ∗ ∃ r, prngReg c r) from rfl, scopedRest0_eq]
  simp only [before_0, before_1, before_2, before_3, before_4, before_5, before_6, before_7]
  iintro ⟨⟨HS, Hg⟩, HO, ⟨%d0, H0⟩, ⟨%d1, H1⟩, ⟨%d2, H2⟩, ⟨%d3, H3⟩, ⟨%d4, H4⟩, ⟨%d5, H5⟩, ⟨%d6, H6⟩, ⟨%d7, H7⟩, H8⟩
  iapply wp_wand_r
  isplitl [HS H0 H1 H2 H3 H4 H5 H6 H7 H8]
  · iapply (sound (F := F) c (grid0.coords t) (st0_0 t) (st0_1 t) (st0_2 t) (st0_3 t) (st0_4 t) (st0_5 t) (st0_6 t) (st0_7 t) (st0_8 t) (Memref.whole cc0_scratch0) (Memref.whole cc0_scratch1) (Memref.whole cc0_scratch2) (Memref.whole cc0_scratch3)
      (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (Memref.isWhole_whole _) (Memref.isWhole_whole _) (Memref.isWhole_whole _) (Memref.isWhole_whole _))
    isplitr [HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact HS
  iintro %a ⟨⟨H0, H1, H2, H3, H4, H5, H6, H7, H8⟩, HS⟩
  isplitl [HS Hg]
  · isplitl [HS]; · iexact HS
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's row for the kernel is the kernel's body at the point. -/
theorem row (t : Fin cfg0.N) : defs₀ (F := F) .tc cfg0.body (cfg0.bodyArgs t (cfg0.slots t)) = bodyAt0 t := rfl

theorem body_obligation (c : Dev nD) : BodyObligation (dats (F := F) m 0 c) defs₀ Variants.none () Set.univ fgt0 := fun t => by
  rw [bigSep_W0, bigSep_W0, row]
  exact triple_restated (sound_body m c t) rfl .rfl fun _ => .rfl

set_option backward.isDefEq.respectTransparency.types false in
/-- At any value instance, from any memory with zero counters: @main terminates on every core, every argument
    array ends as launched, and every semaphore counter ends at zero. -/
theorem run_main :
    θ_run defs (onTc (τ := τ) (main (F := F))) (s₀ m ρ)
      (fun r => Pipeline.RDat.FramePost (cfgs 0) (fun c => (dats m 0 c).toRForget fgt0) (V m) r ∧ r.2.sem = fun _ => 0) :=
  Pipeline.θ_run_frame_forget (Q' := _) cfgs (dats m) (0 : Fin 1) launch0 defs₀ Variants.none fgt0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same at the argument arrays. -/
theorem run_args :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨h.1.arr_in c 0 rfl,
    h.1.arr_in c 1 rfl,
    h.1.arr_in c 2 rfl,
    h.1.arr_in c 3 rfl,
    h.1.arr_in c 4 rfl,
    h.1.arr_in c 5 rfl,
    h.1.arr_in c 6 rfl,
    h.1.arr_in c 7 rfl⟩, h.2⟩) (run_main m ρ)

end Cert.Attn

end
-- ==== Proof.FfnSpec.lean ====
/-
  Hand-written. The mathematics of the feed-forward sub-layer over the extended reals, row by row: the gated product of the
  two halves of the first projection, and the layer normalisation of a row. Both the kernel's block and the reference's
  result are read down to these definitions.
-/
module

public import Idealize.ShloMosaic.PureOps.Ideal

@[expose] public section

noncomputable section

namespace Cert.Proof.Spec

open Idealize.ShloMosaic

/-- Entry `j` of the gated product of one row `x`: the gate is column `j` of the first projection, the value column
    `2816 + j`. -/
def act (x : Fin 1024 → EReal) (w : Fin 1024 → Fin 5632 → EReal) (j : Fin 2816) : EReal :=
  (∑ k : Fin 1024, x k * w k ⟨j.val, by omega⟩) * Ideal.logistic (∑ k : Fin 1024, x k * w k ⟨j.val, by omega⟩)
    * ∑ k : Fin 1024, x k * w k ⟨2816 + j.val, by omega⟩

/-- The mean of a row of 1024 entries. -/
def mean (y : Fin 1024 → EReal) : EReal := Ideal.div (∑ k : Fin 1024, y k) (Ideal.ofBits .f32 0x44800000#32)

/-- Entry `q` of the layer normalisation of a row `y` with scale `g` and offset `b`. -/
def norm (y g b : Fin 1024 → EReal) (q : Fin 1024) : EReal :=
  (y q - mean y)
      * Ideal.rsqrt (Ideal.div (∑ k : Fin 1024, (y k - mean y) * (y k - mean y)) (Ideal.ofBits .f32 0x44800000#32)
        + Ideal.ofBits .f32 0x3727C5AC#32)
      * g q + b q

/-- Entry `q` of the scaled row plus half the second projection of a row `a` of gated products. -/
def mix (x : Fin 1024 → EReal) (a : Fin 2816 → EReal) (w : Fin 2816 → Fin 1024 → EReal) (q : Fin 1024) : EReal :=
  Ideal.ofBits .f32 0x3FB504F3#32 * x q + Ideal.ofBits .f32 0x3F000000#32 * ∑ j : Fin 2816, a j * w j q

end Cert.Proof.Spec

end
-- ==== Proof.Ffn.lean ====
/-
  Hand-written. The feed-forward call over the extended reals: what one grid point leaves in its output block, the result
  array from its blocks, and the reference's result, each row the normalised mix of Proof/FfnSpec.lean.
-/
module

public import proofs.«01_k».proof.Defs
public import proofs.«01_k».proof.Proof.FfnSpec
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Ffn

open Idealize.ShloMosaic Idealize.ShloMosaic.TcCoe Idealize.SL.Sem

section Kernel

open Cert.Kernel2Ideal Cert.Kernel2Ideal.Gen

/-- The scratch of gated products: row by row, of the staged activations and first weights. -/
def acts (x0 : Vec Ideal S512x1024 .f32) (x1 : Vec Ideal S1024x5632 .bf16) : Vec Ideal S512x2816 .bf16 :=
  fun y => Spec.act (fun k => x0 (ix2 (y 0) k)) (fun k j => x1 (ix2 k j)) (y 1)

/-- The scratch at a row and a column. -/
theorem acts_ix (x0 : Vec Ideal S512x1024 .f32) (x1 : Vec Ideal S1024x5632 .bf16) (r : Fin 512) (j : Fin 2816) :
    acts x0 x1 (ix2 r j) = Spec.act (fun k => x0 (ix2 r k)) (fun k j => x1 (ix2 k j)) j := rfl

/-- Two reads of one row at columns with the same number. -/
theorem col_eq (X : S1024x5632.Idx → EReal) (k : Fin 1024) (u v : ℕ) (hu : u < 5632) (hv : v < 5632) (h : u = v) :
    X (ix2 k ⟨u, hu⟩) = X (ix2 k ⟨v, hv⟩) := by
  subst h; rfl

/-- A block's 256 columns of the gated product, from the two loads of the first weights. -/
theorem chunk (x0 : Vec Ideal S512x1024 .f32) (x1 : Vec Ideal S1024x5632 .bf16) (a b : FVec Ideal S1024x256 .bf16)
    (y : S512x2816.Idx) (x : S512x256.Idx) (h0 : (y 0 : ℕ) = x 0)
    (ha : ∀ k : Fin 1024, a (ix2 k (x 1)) = x1 (ix2 k ⟨y 1, lt_trans (y 1).isLt (by decide)⟩))
    (hb : ∀ k : Fin 1024, b (ix2 k (x 1)) = x1 (ix2 k ⟨2816 + y 1, Nat.add_lt_add_left (y 1).isLt 2816⟩)) :
    k0_pay2 x0 a b x = acts x0 x1 y := by
  have e0 : y 0 = x 0 := Fin.ext h0
  pointwise [k0_pay2, k0_pay1, acts, Spec.act]
  rw [e0]
  simp only [ha, hb]

/-- The last payload of the body: the second projection, the scaled residual and the normalisation. -/
theorem last (x0 : Vec Ideal S512x1024 .f32) (a : Vec Ideal S512x2816 .bf16) (x2 : Vec Ideal S2816x1024 .bf16)
    (x3 x4 : Vec Ideal S1x1024 .f32) (y : S512x1024.Idx) :
    k0_pay17 x0 a x2 x3 x4 y
      = Spec.norm (Spec.mix (fun k => x0 (ix2 (y 0) k)) (fun j => a (ix2 (y 0) j)) (fun j k => x2 (ix2 j k)))
          (fun k => x3 (ix2 0 k)) (fun k => x4 (ix2 0 k)) (y 1) := by
  pointwise [k0_pay17, Spec.norm, Spec.mix, Spec.mean]

/-- The result array as a function of the arguments: each row normalised on its own. -/
def G (x : Vec Ideal S32768x1024 .f32) (w1 : Vec Ideal S1024x5632 .f32) (w2 : Vec Ideal S2816x1024 .f32)
    (g b : Vec Ideal S1024 .f32) : Vec Ideal S32768x1024 .f32 :=
  fun i => Spec.norm (Spec.mix (fun k => x (ix2 (i 0) k))
      (Spec.act (fun k => x (ix2 (i 0) k)) (fun k j => w1 (ix2 k j))) (fun j k => w2 (ix2 j k)))
    (fun k => g (ix1 k)) (fun k => b (ix1 k)) (i 1)

variable (m : (ℓ : Loc nD τ sig) → Buf (Elt Ideal) ℓ)

/-- What the body leaves in its output block: the last payload over the filled scratch. -/
theorem out_eq (c : Dev nD) (t : Fin cfg0.N) :
    outsAt0 m c t = k0_pay17 (iblk m c 0 t) (acts (iblk m c 0 t) (iblk m c 1 t)) (iblk m c 2 t) (iblk m c 3 t) (iblk m c 4 t) := by
  unfold outsAt0
  frame_out
  congr 1
  rw [View.readCov_eq_canon']
  funext y
  have hy : (Rect.unit (s := S512x2816) ![0, 0] ![512, 2816] inb_S512x2816_S512x2816_0_0).idx y = y := by
    funext a
    refine Fin.ext ?_
    rw [Rect.idx_unit_val]
    fin_cases a <;> exact Nat.zero_add _
  show View.canon _ ((Rect.unit (s := S512x2816) ![0, 0] ![512, 2816] inb_S512x2816_S512x2816_0_0).idx y) = _
  rw [hy]
  canon_tiles x h
  all_goals refine chunk _ _ _ _ y x h0 (fun k => ?_) (fun k => ?_)
  all_goals pointwise
  all_goals exact col_eq _ k _ _ _ _ (by omega)

/-- Window 0's block index at a point. -/
theorem e0 : ∀ t : Fin cfg0.N, win0_0.index t = ![(grid0.coords t 0).val, 0] := (by decide +kernel : ∀ t : Fin grid0.N, _)
/-- Window 1's block index at a point. -/
theorem e1 : ∀ t : Fin cfg0.N, win0_1.index t = ![0, 0] := (by decide +kernel : ∀ t : Fin grid0.N, _)
/-- Window 2's block index at a point. -/
theorem e2 : ∀ t : Fin cfg0.N, win0_2.index t = ![0, 0] := (by decide +kernel : ∀ t : Fin grid0.N, _)
/-- Window 3's block index at a point. -/
theorem e3 : ∀ t : Fin cfg0.N, win0_3.index t = ![0, 0] := (by decide +kernel : ∀ t : Fin grid0.N, _)
/-- Window 4's block index at a point. -/
theorem e4 : ∀ t : Fin cfg0.N, win0_4.index t = ![0, 0] := (by decide +kernel : ∀ t : Fin grid0.N, _)
/-- Window 5's block index at a point. -/
theorem e5 : ∀ t : Fin cfg0.N, win0_5.index t = ![(grid0.coords t 0).val, 0] := (by decide +kernel : ∀ t : Fin grid0.N, _)

/-- The staged rows are rows of the activations, those the output block is written back to. -/
theorem blk0 (c : Dev nD) (t : Fin cfg0.N) (y : S512x1024.Idx) (k : Fin 1024) :
    iblk m c 0 t (ix2 (y 0) k) = m ((c : Thread nD τ).loc main_arg0) (ix2 (((View.whole main_v4).slice (win0_5.rect t)).emb y 0) k) := by
  blk_ext! [iblk, V, e0 t, e5 t]

/-- The staged first weights are the argument's. -/
theorem blk1 (c : Dev nD) (t : Fin cfg0.N) (k : Fin 1024) (j : Fin 5632) :
    iblk m c 1 t (ix2 k j) = m ((c : Thread nD τ).loc main_arg1) (ix2 k j) := by
  blk_ext! [iblk, V, e1 t]

/-- The staged second weights are the argument's. -/
theorem blk2 (c : Dev nD) (t : Fin cfg0.N) (j : Fin 2816) (k : Fin 1024) :
    iblk m c 2 t (ix2 j k) = m ((c : Thread nD τ).loc main_arg2) (ix2 j k) := by
  blk_ext! [iblk, V, e2 t]

/-- The staged scale is the argument's, as one row. -/
theorem blk3 (c : Dev nD) (t : Fin cfg0.N) (k : Fin 1024) :
    iblk m c 3 t (ix2 0 k) = m ((c : Thread nD τ).loc main_arg3) (ix1 k) := by
  blk_ext! [iblk, V, e3 t]

/-- The staged offset is the argument's, as one row. -/
theorem blk4 (c : Dev nD) (t : Fin cfg0.N) (k : Fin 1024) :
    iblk m c 4 t (ix2 0 k) = m ((c : Thread nD τ).loc main_arg4) (ix1 k) := by
  blk_ext! [iblk, V, e4 t]

/-- A written block spans whole rows. -/
theorem emb5 (t : Fin cfg0.N) (y : S512x1024.Idx) : ((View.whole main_v4).slice (win0_5.rect t)).emb y 1 = y 1 := by
  refine Fin.ext ?_
  blk_simp [e5 t]

/-- The filled scratch at a row of the block. -/
theorem acts_blk (c : Dev nD) (t : Fin cfg0.N) (y : S512x1024.Idx) (j : Fin 2816) :
    acts (iblk m c 0 t) (iblk m c 1 t) (ix2 (y 0) j)
      = Spec.act (fun k => m ((c : Thread nD τ).loc main_arg0) (ix2 (((View.whole main_v4).slice (win0_5.rect t)).emb y 0) k))
          (fun k j => m ((c : Thread nD τ).loc main_arg1) (ix2 k j)) j := by
  refine (acts_ix (iblk m c 0 t) (iblk m c 1 t) (y 0) j).trans ?_
  have h0 := blk0 m c t y
  simp only [h0, blk1]

/-- One written entry is the function's entry at the place it is written to. -/
theorem point (c : Dev nD) (t : Fin cfg0.N) (y : S512x1024.Idx) :
    outsAt0 m c t y = G (m ((c : Thread nD τ).loc main_arg0)) (m ((c : Thread nD τ).loc main_arg1))
      (m ((c : Thread nD τ).loc main_arg2)) (m ((c : Thread nD τ).loc main_arg3)) (m ((c : Thread nD τ).loc main_arg4))
      (((View.whole main_v4).slice (win0_5.rect t)).emb y) := by
  rw [out_eq, last]
  unfold G
  rw [emb5 t y]
  have h0 := blk0 m c t y
  simp only [acts_blk, h0, blk2, blk3, blk4]

/-- The result array after the run. -/
theorem final (c : Dev nD) :
    (dats m 0 c).arrAt 5 cfg0.N = G (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  exact point m c t y

end Kernel

section Reference
open Cert.Reference2Ideal Cert.Reference2Ideal.Gen Cert.Reference2Ideal.Read

/-- The reference before its normalisation. -/
theorem ref_mix (x0 : Vec Ideal S32768x1024 .f32) (x1 : Vec Ideal S1024x5632 .f32) (x2 : Vec Ideal S2816x1024 .f32) (y : S32768x1024.Idx) :
    val_main_v10 (F := Ideal) x0 x1 x2 y
      = Spec.mix (fun k => x0 (ix2 (y 0) k)) (Spec.act (fun k => x0 (ix2 (y 0) k)) (fun k j => x1 (ix2 k j))) (fun j k => x2 (ix2 j k)) (y 1) := by
  pointwise [Spec.mix, Spec.act, val_main_v10, val_main_v9, val_main_v8, val_main_cst_0, val_main_v7, val_main_v6, val_main_v5,
    val_main_v4, val_main_v3, val_main_v2, val_main_v1, val_main_v0, val_main_cst, val_main_call0_v5, val_main_call0_v4,
    val_main_call0_cst_0, val_main_call0_v3, val_main_call0_v2, val_main_call0_cst, val_main_call0_v1, val_main_call0_v0, Ideal.logistic]

/-- The reference's result is the same function of the arguments. -/
theorem ref_norm (x0 : Vec Ideal S32768x1024 .f32) (x1 : Vec Ideal S1024x5632 .f32) (x2 : Vec Ideal S2816x1024 .f32) (x3 x4 : Vec Ideal S1024 .f32) :
    val_main_v34 (F := Ideal) x0 x1 x2 x3 x4 = G x0 x1 x2 x3 x4 := by
  funext y
  pointwise [G, Spec.norm, Spec.mean, val_main_v34, val_main_v33, val_main_v32, val_main_v31, val_main_v30, val_main_v29, val_main_v28,
    val_main_v27, val_main_v26, val_main_v25, val_main_v24, val_main_cst_5, val_main_v23, val_main_v22, val_main_v21, val_main_v20,
    val_main_cst_4, val_main_v19, val_main_v18, val_main_cst_3, val_main_v17, val_main_v16, val_main_v15, val_main_v14, val_main_v13,
    val_main_cst_2, val_main_v12, val_main_v11, val_main_cst_1]
  simp only [ref_mix]
  rfl

end Reference

/-- Both programs run, and from equal arguments their results are equal. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats m 0 c).arrAt 5 (Pipeline.Cfg.N _), Cert.Kernel2Ideal.Value.run_blocks m g, ?_⟩
  refine (θ_run (Cert.Reference2Ideal.defs (F := Ideal)) _ _).mono (fun r h c => ?_) (Cert.Reference2Ideal.Value.run m' g')
  obtain ⟨hv, h0, h1, h2, h3, h4⟩ := h c
  obtain ⟨a0, a1, a2, a3, a4⟩ := hargs c
  refine ⟨hv.trans ?_, h0, h1, h2, h3, h4⟩
  rw [Cert.Reference2Ideal.Read.val_main_v34_eq, ref_norm, a0, a1, a2, a3, a4]
  exact (final m c).symm

end Cert.Proof.Ffn

end
-- ==== Proof.Mixed.lean ====
/-
  Hand-written. The feed-forward call that first adds the mixer's projection, over the extended reals: what one grid point
  leaves in its output block, the result array from its blocks, and the reference's result, each row as in Proof/FfnSpec.lean.
-/
module

public import proofs.«01_k».proof.Defs
public import proofs.«01_k».proof.Proof.FfnSpec
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Mixed

open Idealize.ShloMosaic Idealize.ShloMosaic.TcCoe Idealize.SL.Sem

/-- Entry `q` of the scaled row plus the projection of the mixer's row `o`. -/
def proj (x o : Fin 1024 → EReal) (w : Fin 1024 → Fin 1024 → EReal) (q : Fin 1024) : EReal :=
  Ideal.ofBits .f32 0x3FB504F3#32 * x q + ∑ k : Fin 1024, o k * w k q

section Kernel

open Cert.Kernel3Ideal Cert.Kernel3Ideal.Gen

/-- The scratch of gated products: row by row, of the normalised rows and the first weights. -/
def acts (x0 : Vec Ideal S512x1024 .f32) (x1 : Vec Ideal S1024x5632 .bf16) : Vec Ideal S512x2816 .bf16 :=
  fun y => Spec.act (fun k => x0 (ix2 (y 0) k)) (fun k j => x1 (ix2 k j)) (y 1)

/-- The scratch at a row and a column. -/
theorem acts_ix (x0 : Vec Ideal S512x1024 .f32) (x1 : Vec Ideal S1024x5632 .bf16) (r : Fin 512) (j : Fin 2816) :
    acts x0 x1 (ix2 r j) = Spec.act (fun k => x0 (ix2 r k)) (fun k j => x1 (ix2 k j)) j := rfl

/-- Two reads of one row at columns with the same number. -/
theorem col_eq (X : S1024x5632.Idx → EReal) (k : Fin 1024) (u v : ℕ) (hu : u < 5632) (hv : v < 5632) (h : u = v) :
    X (ix2 k ⟨u, hu⟩) = X (ix2 k ⟨v, hv⟩) := by
  subst h; rfl

/-- A block's 256 columns of the gated product, from the two loads of the first weights. -/
theorem chunk (x0 : FVec Ideal S512x1024 .bf16) (x1 : Vec Ideal S1024x5632 .bf16) (a b : FVec Ideal S1024x256 .bf16)
    (y : S512x2816.Idx) (x : S512x256.Idx) (h0 : (y 0 : ℕ) = x 0)
    (ha : ∀ k : Fin 1024, a (ix2 k (x 1)) = x1 (ix2 k ⟨y 1, lt_trans (y 1).isLt (by decide)⟩))
    (hb : ∀ k : Fin 1024, b (ix2 k (x 1)) = x1 (ix2 k ⟨2816 + y 1, Nat.add_lt_add_left (y 1).isLt 2816⟩)) :
    k0_pay6 x0 a b x = acts x0 x1 y := by
  have e0 : y 0 = x 0 := Fin.ext h0
  pointwise [k0_pay6, acts, Spec.act]
  rw [e0]
  simp only [ha, hb]

/-- The last payload of the body: the second projection, the scaled residual and the normalisation. -/
theorem last (x0 : Vec Ideal S512x1024 .f32) (a : Vec Ideal S512x2816 .bf16) (x2 : Vec Ideal S2816x1024 .bf16)
    (x3 x4 : Vec Ideal S1x1024 .f32) (y : S512x1024.Idx) :
    k0_pay1 x0 a x2 x3 x4 y
      = Spec.norm (Spec.mix (fun k => x0 (ix2 (y 0) k)) (fun j => a (ix2 (y 0) j)) (fun j k => x2 (ix2 j k)))
          (fun k => x3 (ix2 0 k)) (fun k => x4 (ix2 0 k)) (y 1) := by
  pointwise [k0_pay1, Spec.norm, Spec.mix, Spec.mean]

/-- The first payload of the body: the mixer's projection, the scaled residual and the normalisation. -/
theorem first (x0 x1 : Vec Ideal S512x1024 .f32) (x2 : Vec Ideal S1024x1024 .bf16) (x3 x4 : Vec Ideal S1x1024 .f32) (r : Fin 512) (q : Fin 1024) :
    k0_pay2 x0 x1 x2 x3 x4 (ix2 r q)
      = Spec.norm (proj (fun k => x0 (ix2 r k)) (fun k => x1 (ix2 r k)) (fun j k => x2 (ix2 j k)))
          (fun k => x3 (ix2 0 k)) (fun k => x4 (ix2 0 k)) q := by
  pointwise [k0_pay2, Spec.norm, proj, Spec.mean]

/-- One row of the result, from one row of the two operands. -/
def row (x o : Fin 1024 → EReal) (wm : Fin 1024 → Fin 1024 → EReal) (gm bm : Fin 1024 → EReal) (w1 : Fin 1024 → Fin 5632 → EReal)
    (w2 : Fin 2816 → Fin 1024 → EReal) (g b : Fin 1024 → EReal) (q : Fin 1024) : EReal :=
  Spec.norm (Spec.mix (Spec.norm (proj x o wm) gm bm) (Spec.act (Spec.norm (proj x o wm) gm bm) w1) w2) g b q

/-- The result array as a function of the arguments: each row on its own. -/
def G (x o : Vec Ideal S32768x1024 .f32) (wm : Vec Ideal S1024x1024 .f32) (gm bm : Vec Ideal S1024 .f32)
    (w1 : Vec Ideal S1024x5632 .f32) (w2 : Vec Ideal S2816x1024 .f32) (g b : Vec Ideal S1024 .f32) : Vec Ideal S32768x1024 .f32 :=
  fun i => row (fun k => x (ix2 (i 0) k)) (fun k => o (ix2 (i 0) k)) (fun j k => wm (ix2 j k)) (fun k => gm (ix1 k)) (fun k => bm (ix1 k))
    (fun k j => w1 (ix2 k j)) (fun j k => w2 (ix2 j k)) (fun k => g (ix1 k)) (fun k => b (ix1 k)) (i 1)

variable (m : (ℓ : Loc nD τ sig) → Buf (Elt Ideal) ℓ)

/-- The normalised rows of a point. -/
def rows (c : Dev nD) (t : Fin cfg0.N) : Vec Ideal S512x1024 .f32 :=
  k0_pay2 (iblk m c 0 t) (iblk m c 1 t) (iblk m c 2 t) (iblk m c 3 t) (iblk m c 4 t)

/-- What the body leaves in its output block: the last payload over the filled scratch. -/
theorem out_eq (c : Dev nD) (t : Fin cfg0.N) :
    outsAt0 m c t = k0_pay1 (rows m c t) (acts (rows m c t) (iblk m c 5 t)) (iblk m c 6 t) (iblk m c 7 t) (iblk m c 8 t) := by
  unfold outsAt0 rows
  frame_out
  congr 1
  rw [View.readCov_eq_canon']
  funext y
  have hy : (Rect.unit (s := S512x2816) ![0, 0] ![512, 2816] inb_S512x2816_S512x2816_0_0).idx y = y := by
    funext a
    refine Fin.ext ?_
    rw [Rect.idx_unit_val]
    fin_cases a <;> exact Nat.zero_add _
  show View.canon _ ((Rect.unit (s := S512x2816) ![0, 0] ![512, 2816] inb_S512x2816_S512x2816_0_0).idx y) = _
  rw [hy]
  canon_tiles x h
  all_goals refine chunk _ _ _ _ y x h0 (fun k => ?_) (fun k => ?_)
  all_goals pointwise
  all_goals exact col_eq _ k _ _ _ _ (by omega)

/-- Window 0's block index at a point. -/
theorem e0 : ∀ t : Fin cfg0.N, win0_0.index t = ![(grid0.coords t 0).val, 0] := (by decide +kernel : ∀ t : Fin grid0.N, _)
/-- Window 1's block index at a point. -/
theorem e1 : ∀ t : Fin cfg0.N, win0_1.index t = ![(grid0.coords t 0).val, 0] := (by decide +kernel : ∀ t : Fin grid0.N, _)
/-- Window 2's block index at a point. -/
theorem e2 : ∀ t : Fin cfg0.N, win0_2.index t = ![0, 0] := (by decide +kernel : ∀ t : Fin grid0.N, _)
/-- Window 3's block index at a point. -/
theorem e3 : ∀ t : Fin cfg0.N, win0_3.index t = ![0, 0] := (by decide +kernel : ∀ t : Fin grid0.N, _)
/-- Window 4's block index at a point. -/
theorem e4 : ∀ t : Fin cfg0.N, win0_4.index t = ![0, 0] := (by decide +kernel : ∀ t : Fin grid0.N, _)
/-- Window 5's block index at a point. -/
theorem e5 : ∀ t : Fin cfg0.N, win0_5.index t = ![0, 0] := (by decide +kernel : ∀ t : Fin grid0.N, _)
/-- Window 6's block index at a point. -/
theorem e6 : ∀ t : Fin cfg0.N, win0_6.index t = ![0, 0] := (by decide +kernel : ∀ t : Fin grid0.N, _)
/-- Window 7's block index at a point. -/
theorem e7 : ∀ t : Fin cfg0.N, win0_7.index t = ![0, 0] := (by decide +kernel : ∀ t : Fin grid0.N, _)
/-- Window 8's block index at a point. -/
theorem e8 : ∀ t : Fin cfg0.N, win0_8.index t = ![0, 0] := (by decide +kernel : ∀ t : Fin grid0.N, _)
/-- Window 9's block index at a point. -/
theorem e9 : ∀ t : Fin cfg0.N, win0_9.index t = ![(grid0.coords t 0).val, 0] := (by decide +kernel : ∀ t : Fin grid0.N, _)

/-- The staged rows are those the output block is written back to. -/
theorem blk0 (c : Dev nD) (t : Fin cfg0.N) (y : S512x1024.Idx) (k : Fin 1024) :
    iblk m c 0 t (ix2 (y 0) k) = m ((c : Thread nD τ).loc main_arg0) (ix2 (((View.whole main_v7).slice (win0_9.rect t)).emb y 0) k) := by
  blk_ext! [iblk, V, e0 t, e9 t]

/-- The staged mixer's rows are those the output block is written back to. -/
theorem blk1 (c : Dev nD) (t : Fin cfg0.N) (y : S512x1024.Idx) (k : Fin 1024) :
    iblk m c 1 t (ix2 (y 0) k) = m ((c : Thread nD τ).loc main_arg1) (ix2 (((View.whole main_v7).slice (win0_9.rect t)).emb y 0) k) := by
  blk_ext! [iblk, V, e1 t, e9 t]

/-- The staged matrix is argument 2. -/
theorem blk2 (c : Dev nD) (t : Fin cfg0.N) (j : Fin 1024) (k : Fin 1024) :
    iblk m c 2 t (ix2 j k) = m ((c : Thread nD τ).loc main_arg2) (ix2 j k) := by
  blk_ext! [iblk, V, e2 t]

/-- The staged matrix is argument 5. -/
theorem blk5 (c : Dev nD) (t : Fin cfg0.N) (j : Fin 1024) (k : Fin 5632) :
    iblk m c 5 t (ix2 j k) = m ((c : Thread nD τ).loc main_arg5) (ix2 j k) := by
  blk_ext! [iblk, V, e5 t]

/-- The staged matrix is argument 6. -/
theorem blk6 (c : Dev nD) (t : Fin cfg0.N) (j : Fin 2816) (k : Fin 1024) :
    iblk m c 6 t (ix2 j k) = m ((c : Thread nD τ).loc main_arg6) (ix2 j k) := by
  blk_ext! [iblk, V, e6 t]

/-- The staged row is argument 3. -/
theorem blk3 (c : Dev nD) (t : Fin cfg0.N) (k : Fin 1024) :
    iblk m c 3 t (ix2 0 k) = m ((c : Thread nD τ).loc main_arg3) (ix1 k) := by
  blk_ext! [iblk, V, e3 t]

/-- The staged row is argument 4. -/
theorem blk4 (c : Dev nD) (t : Fin cfg0.N) (k : Fin 1024) :
    iblk m c 4 t (ix2 0 k) = m ((c : Thread nD τ).loc main_arg4) (ix1 k) := by
  blk_ext! [iblk, V, e4 t]

/-- The staged row is argument 7. -/
theorem blk7 (c : Dev nD) (t : Fin cfg0.N) (k : Fin 1024) :
    iblk m c 7 t (ix2 0 k) = m ((c : Thread nD τ).loc main_arg7) (ix1 k) := by
  blk_ext! [iblk, V, e7 t]

/-- The staged row is argument 8. -/
theorem blk8 (c : Dev nD) (t : Fin cfg0.N) (k : Fin 1024) :
    iblk m c 8 t (ix2 0 k) = m ((c : Thread nD τ).loc main_arg8) (ix1 k) := by
  blk_ext! [iblk, V, e8 t]

/-- A written block spans whole rows. -/
theorem emb9 (t : Fin cfg0.N) (y : S512x1024.Idx) : ((View.whole main_v7).slice (win0_9.rect t)).emb y 1 = y 1 := by
  refine Fin.ext ?_
  blk_simp [e9 t]

/-- One normalised row, of the two arguments' rows. -/
theorem rows_blk (c : Dev nD) (t : Fin cfg0.N) (y : S512x1024.Idx) (q : Fin 1024) :
    rows m c t (ix2 (y 0) q)
      = Spec.norm (proj (fun k => m ((c : Thread nD τ).loc main_arg0) (ix2 (((View.whole main_v7).slice (win0_9.rect t)).emb y 0) k))
          (fun k => m ((c : Thread nD τ).loc main_arg1) (ix2 (((View.whole main_v7).slice (win0_9.rect t)).emb y 0) k)) (fun j k => m ((c : Thread nD τ).loc main_arg2) (ix2 j k)))
        (fun k => m ((c : Thread nD τ).loc main_arg3) (ix1 k)) (fun k => m ((c : Thread nD τ).loc main_arg4) (ix1 k)) q := by
  refine (first (iblk m c 0 t) (iblk m c 1 t) (iblk m c 2 t) (iblk m c 3 t) (iblk m c 4 t) (y 0) q).trans ?_
  have h0 := blk0 m c t y
  have h1 := blk1 m c t y
  simp only [h0, h1, blk2, blk3, blk4]

/-- The filled scratch at a row of the block. -/
theorem acts_blk (c : Dev nD) (t : Fin cfg0.N) (y : S512x1024.Idx) (j : Fin 2816) :
    acts (rows m c t) (iblk m c 5 t) (ix2 (y 0) j)
      = Spec.act (fun k => rows m c t (ix2 (y 0) k)) (fun k j => m ((c : Thread nD τ).loc main_arg5) (ix2 k j)) j := by
  refine (acts_ix (rows m c t) (iblk m c 5 t) (y 0) j).trans ?_
  simp only [blk5]

/-- One written entry is the function's entry at the place it is written to. -/
theorem point (c : Dev nD) (t : Fin cfg0.N) (y : S512x1024.Idx) :
    outsAt0 m c t y = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      (((View.whole main_v7).slice (win0_9.rect t)).emb y) := by
  rw [out_eq, last]
  unfold G row
  rw [emb9 t y]
  have h0 := rows_blk m c t y
  simp only [acts_blk, h0, blk6, blk7, blk8]

/-- The result array after the run. -/
theorem final (c : Dev nD) :
    (dats m 0 c).arrAt 9 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  exact point m c t y

end Kernel

section Reference
open Cert.Reference3Ideal Cert.Reference3Ideal.Gen Cert.Reference3Ideal.Read

/-- The reference's mixed row before its first normalisation. -/
theorem ref_proj (x0 x1 : Vec Ideal S32768x1024 .f32) (x2 : Vec Ideal S1024x1024 .f32) (r : Fin 32768) (q : Fin 1024) :
    val_main_v3 (F := Ideal) x0 x1 x2 (ix2 r q)
      = proj (fun k => x0 (ix2 r k)) (fun k => x1 (ix2 r k)) (fun j k => x2 (ix2 j k)) q := by
  pointwise [proj, val_main_v3, val_main_v2, val_main_v1, val_main_v0, val_main_cst]

/-- The reference's rows after the first normalisation. -/
theorem ref_rows (x0 x1 : Vec Ideal S32768x1024 .f32) (x2 : Vec Ideal S1024x1024 .f32) (x3 x4 : Vec Ideal S1024 .f32) (r : Fin 32768) (q : Fin 1024) :
    val_main_v27 (F := Ideal) x0 x1 x2 x3 x4 (ix2 r q)
      = Spec.norm (proj (fun k => x0 (ix2 r k)) (fun k => x1 (ix2 r k)) (fun j k => x2 (ix2 j k)))
        (fun k => x3 (ix1 k)) (fun k => x4 (ix1 k)) q := by
  pointwise [Spec.norm, Spec.mean, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst_4, val_main_cst_3, val_main_cst_2, val_main_cst_1, val_main_cst_0]
  simp only [ref_proj]

/-- The reference's rows before the second normalisation. -/
theorem ref_mix (x0 x1 : Vec Ideal S32768x1024 .f32) (x2 : Vec Ideal S1024x1024 .f32) (x3 x4 : Vec Ideal S1024 .f32)
    (x5 : Vec Ideal S1024x5632 .f32) (x6 : Vec Ideal S2816x1024 .f32) (r : Fin 32768) (q : Fin 1024) :
    val_main_v38 (F := Ideal) x0 x1 x2 x3 x4 x5 x6 (ix2 r q)
      = Spec.mix (fun k => val_main_v27 (F := Ideal) x0 x1 x2 x3 x4 (ix2 r k))
          (Spec.act (fun k => val_main_v27 (F := Ideal) x0 x1 x2 x3 x4 (ix2 r k)) (fun k j => x5 (ix2 k j))) (fun j k => x6 (ix2 j k)) q := by
  pointwise [Spec.mix, Spec.act, val_main_v38, val_main_v37, val_main_v36, val_main_v35, val_main_v34, val_main_v33, val_main_v32, val_main_v31, val_main_v30, val_main_v29, val_main_v28, val_main_cst_5, val_main_cst_6, val_main_call0_v5, val_main_call0_v4,
    val_main_call0_cst_0, val_main_call0_v3, val_main_call0_v2, val_main_call0_cst, val_main_call0_v1, val_main_call0_v0, Ideal.logistic]

/-- The reference's last normalisation. -/
theorem ref_tail (x0 x1 : Vec Ideal S32768x1024 .f32) (x2 : Vec Ideal S1024x1024 .f32) (x3 x4 : Vec Ideal S1024 .f32)
    (x5 : Vec Ideal S1024x5632 .f32) (x6 : Vec Ideal S2816x1024 .f32) (x7 x8 : Vec Ideal S1024 .f32) (y : S32768x1024.Idx) :
    val_main_v62 (F := Ideal) x0 x1 x2 x3 x4 x5 x6 x7 x8 y
      = Spec.norm (fun k => val_main_v38 (F := Ideal) x0 x1 x2 x3 x4 x5 x6 (ix2 (y 0) k)) (fun k => x7 (ix1 k)) (fun k => x8 (ix1 k)) (y 1) := by
  pointwise [Spec.norm, Spec.mean, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_cst_11, val_main_cst_10, val_main_cst_9, val_main_cst_8, val_main_cst_7]

/-- The reference's result is the same function of the arguments. -/
theorem ref_norm (x0 x1 : Vec Ideal S32768x1024 .f32) (x2 : Vec Ideal S1024x1024 .f32) (x3 x4 : Vec Ideal S1024 .f32)
    (x5 : Vec Ideal S1024x5632 .f32) (x6 : Vec Ideal S2816x1024 .f32) (x7 x8 : Vec Ideal S1024 .f32) :
    val_main_v62 (F := Ideal) x0 x1 x2 x3 x4 x5 x6 x7 x8 = G x0 x1 x2 x3 x4 x5 x6 x7 x8 := by
  funext y
  rw [ref_tail]
  unfold G row
  have h0 := ref_mix x0 x1 x2 x3 x4 x5 x6 (y 0)
  have h1 := ref_rows x0 x1 x2 x3 x4 (y 0)
  simp only [h0, h1]

end Reference

/-- Both programs run, and from equal arguments their results are equal. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 9 (Pipeline.Cfg.N _), Cert.Kernel3Ideal.Value.run_blocks m g, ?_⟩
  refine (θ_run (Cert.Reference3Ideal.defs (F := Ideal)) _ _).mono (fun r h c => ?_) (Cert.Reference3Ideal.Value.run m' g')
  obtain ⟨hv, h0, h1, h2, h3, h4, h5, h6, h7, h8⟩ := h c
  obtain ⟨a0, a1, a2, a3, a4, a5, a6, a7, a8⟩ := hargs c
  refine ⟨hv.trans ?_, h0, h1, h2, h3, h4, h5, h6, h7, h8⟩
  rw [Cert.Reference3Ideal.Read.val_main_v62_eq, ref_norm, a0, a1, a2, a3, a4, a5, a6, a7, a8]
  exact (final m c).symm

end Cert.Proof.Mixed

end
-- ==== Proof.Gmlp.lean ====
/-
  Hand-written. The chunked spatial gating call over the extended reals: the activated first projection, the normalised
  second half, the masked weights on the positions of a chunk, what one grid point leaves in its output block, the result
  array from its blocks, and the reference's result, all read down to the same function of the arguments.
-/
module

public import proofs.«01_k».proof.Defs
public import proofs.«01_k».proof.Proof.FfnSpec
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Gmlp

open Idealize.ShloMosaic Idealize.ShloMosaic.TcCoe Idealize.SL.Sem

/-- The activation of one entry: the tangent form of the Gaussian gate. -/
def gelu (v : EReal) : EReal :=
  (Ideal.ofBits .f32 0x3F000000#32 * v)
    * (1 + Ideal.tanh (Ideal.ofBits .f32 0x3F4C422A#32 * (v + Ideal.ofBits .f32 0x3D372713#32 * ((v * v) * v))))

/-- Column `j` of the activated first projection of a row. -/
def hid (x : Fin 1024 → EReal) (w : Fin 1024 → Fin 6144 → EReal) (j : Fin 6144) : EReal := gelu (∑ k : Fin 1024, x k * w k j)

/-- The mean of a row of 3072 entries. -/
def wmean (y : Fin 3072 → EReal) : EReal := Ideal.div (∑ k : Fin 3072, y k) (Ideal.ofBits .f32 0x45400000#32)

/-- Entry `q` of the layer normalisation of a row of 3072 entries. -/
def wnorm (y g b : Fin 3072 → EReal) (q : Fin 3072) : EReal :=
  (y q - wmean y)
      * Ideal.rsqrt (Ideal.div (∑ k : Fin 3072, (y k - wmean y) * (y k - wmean y)) (Ideal.ofBits .f32 0x45400000#32)
        + Ideal.ofBits .f32 0x3727C5AC#32)
      * g q + b q

/-- A position's weight on position `s` of its chunk: zero on the later ones. -/
def tri (w : Fin 128 → Fin 128 → EReal) (t s : Fin 128) : EReal := if s.val ≤ t.val then w t s else 0

/-- Entry `j` of the gated product at position `r`, of the positions of its chunk of 128. -/
def gact (x : Fin 32768 → Fin 1024 → EReal) (w : Fin 1024 → Fin 6144 → EReal) (lg lb : Fin 3072 → EReal) (ws : Fin 16 → Fin 128 → Fin 128 → EReal)
    (bs : Fin 16 → Fin 128 → EReal) (r : Fin 32768) (j : Fin 3072) : EReal :=
  hid (x r) w ⟨j, by omega⟩
    * (∑ s : Fin 128, tri (ws ⟨j.val / 192, by omega⟩) ⟨r.val % 128, Nat.mod_lt _ (by decide)⟩ s
        * wnorm (fun k => hid (x ⟨r.val / 128 * 128 + s, by omega⟩) w ⟨3072 + k, by omega⟩) lg lb j
      + bs ⟨j.val / 192, by omega⟩ ⟨r.val % 128, Nat.mod_lt _ (by decide)⟩)

/-- Entry `q` of the scaled row plus the second projection of its gated product. -/
def mixed (x : Fin 1024 → EReal) (a : Fin 3072 → EReal) (w : Fin 3072 → Fin 1024 → EReal) (q : Fin 1024) : EReal :=
  Ideal.ofBits .f32 0x3FB504F3#32 * x q + ∑ j : Fin 3072, a j * w j q

/-- The result array as a function of the arguments. -/
def G (x : Vec Ideal ⟨2, ![32768, 1024]⟩ .f32) (w : Vec Ideal ⟨2, ![1024, 6144]⟩ .f32) (lg lb : Vec Ideal ⟨1, ![3072]⟩ .f32)
    (ws : Vec Ideal ⟨3, ![16, 128, 128]⟩ .f32) (bs : Vec Ideal ⟨2, ![16, 128]⟩ .f32) (wo : Vec Ideal ⟨2, ![3072, 1024]⟩ .f32)
    (g b : Vec Ideal ⟨1, ![1024]⟩ .f32) : Vec Ideal ⟨2, ![32768, 1024]⟩ .f32 :=
  fun i => Spec.norm (mixed (fun k => x (ix2 (i 0) k))
      (gact (fun r k => x (ix2 r k)) (fun k j => w (ix2 k j)) (fun k => lg (ix1 k)) (fun k => lb (ix1 k)) (fun g a b => ws (ix3 g a b)) (fun g a => bs (ix2 g a)) (i 0))
      (fun j k => wo (ix2 j k))) (fun k => g (ix1 k)) (fun k => b (ix1 k)) (i 1)

section Kernel

open Cert.Kernel4Ideal Cert.Kernel4Ideal.Gen

/-- The mask of the first 192 lanes. -/
theorem lanes (j : Fin 384) : k0_pay19 (ix2 0 j) = if j.val < 192 then 1#1 else 0#1 := by
  pointwise [k0_pay19]
  revert j
  decide +kernel

/-- The mask of the positions not later. -/
theorem causal (t s : Fin 128) : IntOp.cmpi CmpIPredicate.sge (BitVec.ofNat 32 t.val) (BitVec.ofNat 32 s.val) = if s.val ≤ t.val then 1#1 else 0#1 := by
  rw [WordCmp.cmpi_sge_ofNat (by omega) (by omega)]
  by_cases h : s.val ≤ t.val <;> simp [h]

/-- The two groups' masked weights side by side, on the left. -/
theorem wcat_l (w0 w1 : Vec Ideal S1x128x128 .f32) (t s : Fin 128) (h : s.val < 256) :
    k0_pay36 k0_pay18 w0 w1 (ix2 t ⟨s, h⟩) = tri (fun a b => w0 (ix3 0 a b)) t s := by
  pointwise [k0_pay36, k0_pay18, tri]
  rw [causal]
  by_cases h : s.val ≤ t.val <;> simp [h, ValueIdx.select_one, ValueIdx.select_zero]

/-- The two groups' masked weights side by side, on the right. -/
theorem wcat_r (w0 w1 : Vec Ideal S1x128x128 .f32) (t s : Fin 128) (h : 128 + s.val < 256) :
    k0_pay36 k0_pay18 w0 w1 (ix2 t ⟨128 + s, h⟩) = tri (fun a b => w1 (ix3 0 a b)) t s := by
  pointwise [k0_pay36, k0_pay18, tri]
  rw [causal]
  by_cases h : s.val ≤ t.val <;> simp [h, ValueIdx.select_one, ValueIdx.select_zero]

/-- The mixed positions of four chunks of one pair of groups. -/
def SP (w0 w1 : Vec Ideal S1x128x128 .f32) (b0 b1 b2 b3 : Vec Ideal S128x384 .f32) : FVec Ideal S128x1536 .f32 :=
  k0_pay40 k0_pay19 (k0_pay36 k0_pay18 w0 w1) (k0_pay39 k0_pay19 b0) b1 b2 b3

/-- One entry of the mixed positions of a chunk. -/
def spv (w0 w1 : Vec Ideal S1x128x128 .f32) (b : Vec Ideal S128x384 .f32) (t : Fin 128) (j : Fin 384) : EReal :=
  if j.val < 192 then ∑ s : Fin 128, tri (fun a b => w0 (ix3 0 a b)) t s * b (ix2 s j)
  else ∑ s : Fin 128, tri (fun a b => w1 (ix3 0 a b)) t s * b (ix2 s j)

/-- The masked halves of the stacked product leave one group's sum. -/
theorem halves (j : Fin 384) (f g : Fin 128 → EReal) :
    ∑ s, Scalar.select (k0_pay19 (ix2 0 j)) (f s) 0 + ∑ s, Scalar.select (k0_pay19 (ix2 0 j)) 0 (g s)
      = if j.val < 192 then ∑ s, f s else ∑ s, g s := by
  rw [lanes]
  by_cases h : j.val < 192 <;> simp [h, ValueIdx.select_one, ValueIdx.select_zero]

/-- A sum over 256 positions by its two halves. -/
theorem split (f : Fin 256 → EReal) : ∑ x, f x = ∑ s : Fin 128, f ⟨s, by omega⟩ + ∑ s : Fin 128, f ⟨128 + s, by omega⟩ :=
  Fin.sum_univ_add (a := 128) (b := 128) f

/-- The stacked first chunk, upper half. -/
theorem st_l (b : Vec Ideal S128x384 .f32) (s : Fin 128) (h : s.val < 256) (j : Fin 384) :
    k0_pay39 k0_pay19 b (ix2 ⟨s, h⟩ j) = Scalar.select (k0_pay19 (ix2 0 j)) (b (ix2 s j)) 0 := by
  pointwise [k0_pay39]

/-- The stacked first chunk, lower half. -/
theorem st_r (b : Vec Ideal S128x384 .f32) (s : Fin 128) (h : 128 + s.val < 256) (j : Fin 384) :
    k0_pay39 k0_pay19 b (ix2 ⟨128 + s, h⟩ j) = Scalar.select (k0_pay19 (ix2 0 j)) 0 (b (ix2 s j)) := by
  pointwise [k0_pay39]

/-- The masked halves as factors. -/
theorem halves0 (j : Fin 384) (f g b : Fin 128 → EReal) :
    ∑ s, f s * Scalar.select (k0_pay19 (ix2 0 j)) (b s) 0 + ∑ s, g s * Scalar.select (k0_pay19 (ix2 0 j)) 0 (b s)
      = if j.val < 192 then ∑ s, f s * b s else ∑ s, g s * b s := by
  rw [lanes]
  by_cases h : j.val < 192 <;> simp [h, ValueIdx.select_one, ValueIdx.select_zero]

/-- Chunk 0 of the stacked product. -/
theorem sp0 (w0 w1 : Vec Ideal S1x128x128 .f32) (b0 b1 b2 b3 : Vec Ideal S128x384 .f32) (t : Fin 128) (j : Fin 384) :
    SP w0 w1 b0 b1 b2 b3 (ix2 t ⟨j, by omega⟩) = spv w0 w1 b0 t j := by
  unfold spv
  pointwise [SP, k0_pay40]
  rw [split]
  simp only [wcat_l, wcat_r, st_l, st_r]
  rw [halves0]

/-- Chunk 1 of the stacked product. -/
theorem sp1 (w0 w1 : Vec Ideal S1x128x128 .f32) (b0 b1 b2 b3 : Vec Ideal S128x384 .f32) (t : Fin 128) (j : Fin 384) :
    SP w0 w1 b0 b1 b2 b3 (ix2 t ⟨384 + j, by omega⟩) = spv w0 w1 b1 t j := by
  unfold spv
  pointwise [SP, k0_pay40]
  simp only [wcat_l, wcat_r]
  rw [halves]

/-- Chunk 2 of the stacked product. -/
theorem sp2 (w0 w1 : Vec Ideal S1x128x128 .f32) (b0 b1 b2 b3 : Vec Ideal S128x384 .f32) (t : Fin 128) (j : Fin 384) :
    SP w0 w1 b0 b1 b2 b3 (ix2 t ⟨768 + j, by omega⟩) = spv w0 w1 b2 t j := by
  unfold spv
  pointwise [SP, k0_pay40]
  simp only [wcat_l, wcat_r]
  have h1 : ¬ 768 + j.val < 384 := by omega
  have h2 : ¬ 768 + j.val - 384 < 384 := by omega
  have e : 768 + j.val - 384 - 384 = j.val := by omega
  simp only [dif_neg h1, dif_neg h2, e, j.isLt, dite_true, Fin.eta]
  rw [halves0]

/-- Chunk 3 of the stacked product. -/
theorem sp3 (w0 w1 : Vec Ideal S1x128x128 .f32) (b0 b1 b2 b3 : Vec Ideal S128x384 .f32) (t : Fin 128) (j : Fin 384) :
    SP w0 w1 b0 b1 b2 b3 (ix2 t ⟨1152 + j, by omega⟩) = spv w0 w1 b3 t j := by
  unfold spv
  pointwise [SP, k0_pay40]
  simp only [wcat_l, wcat_r]
  have h1 : ¬ 1152 + j.val < 384 := by omega
  have h2 : ¬ 1152 + j.val - 384 < 384 := by omega
  have h3 : ¬ 1152 + j.val - 384 - 384 < 384 := by omega
  have e : 1152 + j.val - 384 - 384 - 384 = j.val := by omega
  simp only [dif_neg h1, dif_neg h2, dif_neg h3, e, Fin.eta]
  rw [halves0]

/-- The activated first projections of the first half: the multipliers. -/
def mult (x0 : Vec Ideal S512x1024 .f32) (x1 : Vec Ideal S1024x6144 .bf16) : Vec Ideal S512x3072 .f32 :=
  fun y => hid (fun k => x0 (ix2 (y 0) k)) (fun k j => x1 (ix2 k j)) ⟨y 1, lt_trans (y 1).isLt (by decide)⟩

/-- The activated first projections of the second half. -/
def vals (x0 : Vec Ideal S512x1024 .f32) (x1 : Vec Ideal S1024x6144 .bf16) : Vec Ideal S512x3072 .f32 :=
  fun y => hid (fun k => x0 (ix2 (y 0) k)) (fun k j => x1 (ix2 k j)) ⟨3072 + y 1, Nat.add_lt_add_left (y 1).isLt 3072⟩

/-- The second half, normalised row by row. -/
def nvals (x0 : Vec Ideal S512x1024 .f32) (x1 : Vec Ideal S1024x6144 .bf16) (x2 x3 : Vec Ideal S1x3072 .f32) : Vec Ideal S512x3072 .f32 :=
  k0_pay17 (vals x0 x1) (k0_pay16 x2) x3

/-- An entry of the gated rows of a block: multiplier times the mixed positions of the row's chunk plus the position's offset. -/
def act (H VN : Vec Ideal S512x3072 .f32) (x4 : Vec Ideal S16x128x128 .f32) (x5 : Vec Ideal S128x3072 .f32) (r : Fin 512) (q : Fin 3072) : EReal :=
  H (ix2 r q) * (∑ s : Fin 128, tri (fun a b => x4 (ix3 ⟨q.val / 192, by omega⟩ a b)) ⟨r.val % 128, Nat.mod_lt _ (by decide)⟩ s
      * VN (ix2 ⟨r.val / 128 * 128 + s, by omega⟩ q) + x5 (ix2 ⟨r.val % 128, Nat.mod_lt _ (by decide)⟩ q))

/-- The gated rows of a block. -/
def acts (H VN : Vec Ideal S512x3072 .f32) (x4 : Vec Ideal S16x128x128 .f32) (x5 : Vec Ideal S128x3072 .f32) : Vec Ideal S512x3072 .bf16 :=
  fun y => act H VN x4 x5 (y 0) (y 1)

/-- The second half's 256 columns at an offset. -/
theorem vchunk (x0 : Vec Ideal S512x1024 .f32) (x1 : Vec Ideal S1024x6144 .bf16) (a : Vec Ideal S1024x256 .bf16)
    (y : S512x3072.Idx) (x : S512x256.Idx) (h0 : (y 0 : ℕ) = x 0)
    (ha : ∀ k : Fin 1024, a (ix2 k (x 1)) = x1 (ix2 k ⟨3072 + y 1, Nat.add_lt_add_left (y 1).isLt 3072⟩)) :
    k0_pay2 x0 a x = vals x0 x1 y := by
  have e0 : y 0 = x 0 := Fin.ext h0
  pointwise [k0_pay2, k0_pay1, vals, hid, gelu]
  rw [e0]
  simp only [ha]

/-- The first half's columns of an even pair of groups. -/
theorem u_even (x0 : Vec Ideal S512x1024 .f32) (x1 : Vec Ideal S1024x6144 .bf16) (a : Vec Ideal S1024x768 .bf16) (p : ℕ) (hp : p < 8)
    (ha : ∀ (k : Fin 1024) (j : Fin 384), a (ix2 k ⟨j, by omega⟩) = x1 (ix2 k ⟨384 * p + j, by omega⟩)) (r : Fin 512) (j : Fin 384) :
    k0_pay24 (k0_pay1 x0) a (ix2 r j) = mult x0 x1 (ix2 r ⟨384 * p + j, by omega⟩) := by
  pointwise [k0_pay24, k0_pay23, k0_pay1, mult, hid, gelu]
  simp only [ha]

/-- The first half's columns of an odd pair of groups. -/
theorem u_odd (x0 : Vec Ideal S512x1024 .f32) (x1 : Vec Ideal S1024x6144 .bf16) (a : Vec Ideal S1024x768 .bf16) (p : ℕ) (hp : p < 8)
    (ha : ∀ (k : Fin 1024) (j : Fin 384), a (ix2 k ⟨384 + j, by omega⟩) = x1 (ix2 k ⟨384 * p + j, by omega⟩)) (r : Fin 512) (j : Fin 384) :
    k0_pay37 (k0_pay23 (k0_pay1 x0) a) (ix2 r j) = mult x0 x1 (ix2 r ⟨384 * p + j, by omega⟩) := by
  pointwise [k0_pay37, k0_pay23, k0_pay1, mult, hid, gelu]
  simp only [ha]

/-- One entry of a tile: its multiplier, its mixed positions and its offset make the gated entry. -/
theorem entry (H VN : Vec Ideal S512x3072 .f32) (x4 : Vec Ideal S16x128x128 .f32) (x5 : Vec Ideal S128x3072 .f32)
    (w0 w1 : Vec Ideal S1x128x128 .f32) (b : Vec Ideal S128x384 .f32) (n p : ℕ) (hn : n < 4) (hp : p < 8) (r : Fin 512) (q : Fin 3072) (t : Fin 128) (j : Fin 384)
    (h0 : r.val = 128 * n + t) (h1 : q.val = 384 * p + j) (u o : EReal)
    (hu : u = H (ix2 r q)) (ho : o = x5 (ix2 t q))
    (hw0 : ∀ a c : Fin 128, w0 (ix3 0 a c) = x4 (ix3 ⟨2 * p, by omega⟩ a c))
    (hw1 : ∀ a c : Fin 128, w1 (ix3 0 a c) = x4 (ix3 ⟨2 * p + 1, by omega⟩ a c))
    (hb : ∀ s : Fin 128, b (ix2 s j) = VN (ix2 ⟨128 * n + s, by omega⟩ q)) :
    u * (spv w0 w1 b t j + o) = act H VN x4 x5 r q := by
  subst hu ho
  have et : (⟨r.val % 128, Nat.mod_lt _ (by decide)⟩ : Fin 128) = t := Fin.ext (by show r.val % 128 = t.val; omega)
  have er : ∀ s : Fin 128, (⟨r.val / 128 * 128 + s, by omega⟩ : Fin 512) = ⟨128 * n + s, by omega⟩ :=
    fun s => Fin.ext (by show r.val / 128 * 128 + s.val = 128 * n + s.val; omega)
  unfold act spv
  simp only [et, er, hb, hw0, hw1]
  by_cases h : j.val < 192
  · have eg : (⟨q.val / 192, by omega⟩ : Fin 16) = ⟨2 * p, by omega⟩ := Fin.ext (by show q.val / 192 = 2 * p; omega)
    rw [if_pos h, eg]
  · have eg : (⟨q.val / 192, by omega⟩ : Fin 16) = ⟨2 * p + 1, by omega⟩ := Fin.ext (by show q.val / 192 = 2 * p + 1; omega)
    rw [if_neg h, eg]

/-- An index of a block is the pair of its coordinates. -/
theorem at_pair {α : Type} (P : S128x384.Idx → α) (Q : S512x3072.Idx → α) (x : S128x384.Idx) (y : S512x3072.Idx)
    (h : P (ix2 (x 0) (x 1)) = Q (ix2 (y 0) (y 1))) : P x = Q y := by
  have hx : ix2 (x 0) (x 1) = x := by funext a; fin_cases a <;> rfl
  have hy : ix2 (y 0) (y 1) = y := by funext a; fin_cases a <;> rfl
  exact (congrArg P hx).symm.trans (h.trans (congrArg Q hy))

/-- One entry of a tile of chunk 0. -/
theorem pay0 (w0 w1 : Vec Ideal S1x128x128 .f32) (b0 b1 b2 b3 o : Vec Ideal S128x384 .f32) (U : FVec Ideal S512x384 .f32) (t : Fin 128) (j : Fin 384) :
    k0_pay42 (k0_pay41 k0_pay19 (k0_pay36 k0_pay18 w0 w1) U (k0_pay38 o) (k0_pay39 k0_pay19 b0) b1 b2 b3) (ix2 t j) = U (ix2 ⟨t, by omega⟩ j) * (spv w0 w1 b0 t j + o (ix2 t j)) := by
  pointwise [k0_pay42, k0_pay41, k0_pay38]
  exact congrArg (fun z => U _ * (z + o _)) (sp0 w0 w1 b0 b1 b2 b3 t j)

/-- A tile of chunk 0. -/
theorem tile0 (H VN : Vec Ideal S512x3072 .f32) (x4 : Vec Ideal S16x128x128 .f32) (x5 : Vec Ideal S128x3072 .f32)
    (w0 w1 : Vec Ideal S1x128x128 .f32) (b0 b1 b2 b3 o : Vec Ideal S128x384 .f32) (U : FVec Ideal S512x384 .f32) (p : ℕ) (hp : p < 8)
    (y : S512x3072.Idx) (x : S128x384.Idx) (h0 : (y 0 : ℕ) = 128 * 0 + x 0) (h1 : (y 1 : ℕ) = 384 * p + x 1)
    (hu : ∀ (r : Fin 512) (j : Fin 384), U (ix2 r j) = H (ix2 r ⟨384 * p + j, by omega⟩))
    (ho : ∀ (t : Fin 128) (j : Fin 384), o (ix2 t j) = x5 (ix2 t ⟨384 * p + j, by omega⟩))
    (hw0 : ∀ a c : Fin 128, w0 (ix3 0 a c) = x4 (ix3 ⟨2 * p, by omega⟩ a c))
    (hw1 : ∀ a c : Fin 128, w1 (ix3 0 a c) = x4 (ix3 ⟨2 * p + 1, by omega⟩ a c))
    (hb : ∀ (s : Fin 128) (j : Fin 384), b0 (ix2 s j) = VN (ix2 ⟨128 * 0 + s, by omega⟩ ⟨384 * p + j, by omega⟩)) :
    k0_pay42 (k0_pay41 k0_pay19 (k0_pay36 k0_pay18 w0 w1) U (k0_pay38 o) (k0_pay39 k0_pay19 b0) b1 b2 b3) x = acts H VN x4 x5 y := by
  have key : ∀ (r : Fin 512) (q : Fin 3072) (t : Fin 128) (j : Fin 384), r.val = 128 * 0 + t → q.val = 384 * p + j →
      k0_pay42 (k0_pay41 k0_pay19 (k0_pay36 k0_pay18 w0 w1) U (k0_pay38 o) (k0_pay39 k0_pay19 b0) b1 b2 b3) (ix2 t j) = act H VN x4 x5 r q := by
    intro r q t j hr hq
    have eq : (⟨384 * p + j, by omega⟩ : Fin 3072) = q := Fin.ext hq.symm
    have er : (⟨t, by omega⟩ : Fin 512) = r := Fin.ext (by show t.val = r.val; omega)
    refine (pay0 w0 w1 b0 b1 b2 b3 o U t j).trans (entry H VN x4 x5 w0 w1 b0 0 p (by decide) hp r q t j hr hq _ _ ?_ ?_ hw0 hw1 fun s => ?_)
    · rw [hu, eq, er]
    · rw [ho, eq]
    · rw [hb, eq]
  exact at_pair _ _ x y (key (y 0) (y 1) (x 0) (x 1) h0 h1)

/-- One entry of a tile of chunk 1. -/
theorem pay1 (w0 w1 : Vec Ideal S1x128x128 .f32) (b0 b1 b2 b3 o : Vec Ideal S128x384 .f32) (U : FVec Ideal S512x384 .f32) (t : Fin 128) (j : Fin 384) :
    k0_pay43 U (k0_pay38 o) (k0_pay40 k0_pay19 (k0_pay36 k0_pay18 w0 w1) (k0_pay39 k0_pay19 b0) b1 b2 b3) (ix2 t j) = U (ix2 ⟨128 + t, by omega⟩ j) * (spv w0 w1 b1 t j + o (ix2 t j)) := by
  pointwise [k0_pay43, k0_pay38]
  exact congrArg (fun z => U _ * (z + o _)) (sp1 w0 w1 b0 b1 b2 b3 t j)

/-- A tile of chunk 1. -/
theorem tile1 (H VN : Vec Ideal S512x3072 .f32) (x4 : Vec Ideal S16x128x128 .f32) (x5 : Vec Ideal S128x3072 .f32)
    (w0 w1 : Vec Ideal S1x128x128 .f32) (b0 b1 b2 b3 o : Vec Ideal S128x384 .f32) (U : FVec Ideal S512x384 .f32) (p : ℕ) (hp : p < 8)
    (y : S512x3072.Idx) (x : S128x384.Idx) (h0 : (y 0 : ℕ) = 128 * 1 + x 0) (h1 : (y 1 : ℕ) = 384 * p + x 1)
    (hu : ∀ (r : Fin 512) (j : Fin 384), U (ix2 r j) = H (ix2 r ⟨384 * p + j, by omega⟩))
    (ho : ∀ (t : Fin 128) (j : Fin 384), o (ix2 t j) = x5 (ix2 t ⟨384 * p + j, by omega⟩))
    (hw0 : ∀ a c : Fin 128, w0 (ix3 0 a c) = x4 (ix3 ⟨2 * p, by omega⟩ a c))
    (hw1 : ∀ a c : Fin 128, w1 (ix3 0 a c) = x4 (ix3 ⟨2 * p + 1, by omega⟩ a c))
    (hb : ∀ (s : Fin 128) (j : Fin 384), b1 (ix2 s j) = VN (ix2 ⟨128 * 1 + s, by omega⟩ ⟨384 * p + j, by omega⟩)) :
    k0_pay43 U (k0_pay38 o) (k0_pay40 k0_pay19 (k0_pay36 k0_pay18 w0 w1) (k0_pay39 k0_pay19 b0) b1 b2 b3) x = acts H VN x4 x5 y := by
  have key : ∀ (r : Fin 512) (q : Fin 3072) (t : Fin 128) (j : Fin 384), r.val = 128 * 1 + t → q.val = 384 * p + j →
      k0_pay43 U (k0_pay38 o) (k0_pay40 k0_pay19 (k0_pay36 k0_pay18 w0 w1) (k0_pay39 k0_pay19 b0) b1 b2 b3) (ix2 t j) = act H VN x4 x5 r q := by
    intro r q t j hr hq
    have eq : (⟨384 * p + j, by omega⟩ : Fin 3072) = q := Fin.ext hq.symm
    have er : (⟨128 + t, by omega⟩ : Fin 512) = r := Fin.ext (by show 128 + t.val = r.val; omega)
    refine (pay1 w0 w1 b0 b1 b2 b3 o U t j).trans (entry H VN x4 x5 w0 w1 b1 1 p (by decide) hp r q t j hr hq _ _ ?_ ?_ hw0 hw1 fun s => ?_)
    · rw [hu, eq, er]
    · rw [ho, eq]
    · rw [hb, eq]
  exact at_pair _ _ x y (key (y 0) (y 1) (x 0) (x 1) h0 h1)

/-- One entry of a tile of chunk 2. -/
theorem pay2 (w0 w1 : Vec Ideal S1x128x128 .f32) (b0 b1 b2 b3 o : Vec Ideal S128x384 .f32) (U : FVec Ideal S512x384 .f32) (t : Fin 128) (j : Fin 384) :
    k0_pay44 U (k0_pay38 o) (k0_pay40 k0_pay19 (k0_pay36 k0_pay18 w0 w1) (k0_pay39 k0_pay19 b0) b1 b2 b3) (ix2 t j) = U (ix2 ⟨256 + t, by omega⟩ j) * (spv w0 w1 b2 t j + o (ix2 t j)) := by
  pointwise [k0_pay44, k0_pay38]
  exact congrArg (fun z => U _ * (z + o _)) (sp2 w0 w1 b0 b1 b2 b3 t j)

/-- A tile of chunk 2. -/
theorem tile2 (H VN : Vec Ideal S512x3072 .f32) (x4 : Vec Ideal S16x128x128 .f32) (x5 : Vec Ideal S128x3072 .f32)
    (w0 w1 : Vec Ideal S1x128x128 .f32) (b0 b1 b2 b3 o : Vec Ideal S128x384 .f32) (U : FVec Ideal S512x384 .f32) (p : ℕ) (hp : p < 8)
    (y : S512x3072.Idx) (x : S128x384.Idx) (h0 : (y 0 : ℕ) = 128 * 2 + x 0) (h1 : (y 1 : ℕ) = 384 * p + x 1)
    (hu : ∀ (r : Fin 512) (j : Fin 384), U (ix2 r j) = H (ix2 r ⟨384 * p + j, by omega⟩))
    (ho : ∀ (t : Fin 128) (j : Fin 384), o (ix2 t j) = x5 (ix2 t ⟨384 * p + j, by omega⟩))
    (hw0 : ∀ a c : Fin 128, w0 (ix3 0 a c) = x4 (ix3 ⟨2 * p, by omega⟩ a c))
    (hw1 : ∀ a c : Fin 128, w1 (ix3 0 a c) = x4 (ix3 ⟨2 * p + 1, by omega⟩ a c))
    (hb : ∀ (s : Fin 128) (j : Fin 384), b2 (ix2 s j) = VN (ix2 ⟨128 * 2 + s, by omega⟩ ⟨384 * p + j, by omega⟩)) :
    k0_pay44 U (k0_pay38 o) (k0_pay40 k0_pay19 (k0_pay36 k0_pay18 w0 w1) (k0_pay39 k0_pay19 b0) b1 b2 b3) x = acts H VN x4 x5 y := by
  have key : ∀ (r : Fin 512) (q : Fin 3072) (t : Fin 128) (j : Fin 384), r.val = 128 * 2 + t → q.val = 384 * p + j →
      k0_pay44 U (k0_pay38 o) (k0_pay40 k0_pay19 (k0_pay36 k0_pay18 w0 w1) (k0_pay39 k0_pay19 b0) b1 b2 b3) (ix2 t j) = act H VN x4 x5 r q := by
    intro r q t j hr hq
    have eq : (⟨384 * p + j, by omega⟩ : Fin 3072) = q := Fin.ext hq.symm
    have er : (⟨256 + t, by omega⟩ : Fin 512) = r := Fin.ext (by show 256 + t.val = r.val; omega)
    refine (pay2 w0 w1 b0 b1 b2 b3 o U t j).trans (entry H VN x4 x5 w0 w1 b2 2 p (by decide) hp r q t j hr hq _ _ ?_ ?_ hw0 hw1 fun s => ?_)
    · rw [hu, eq, er]
    · rw [ho, eq]
    · rw [hb, eq]
  exact at_pair _ _ x y (key (y 0) (y 1) (x 0) (x 1) h0 h1)

/-- One entry of a tile of chunk 3. -/
theorem pay3 (w0 w1 : Vec Ideal S1x128x128 .f32) (b0 b1 b2 b3 o : Vec Ideal S128x384 .f32) (U : FVec Ideal S512x384 .f32) (t : Fin 128) (j : Fin 384) :
    k0_pay45 U (k0_pay38 o) (k0_pay40 k0_pay19 (k0_pay36 k0_pay18 w0 w1) (k0_pay39 k0_pay19 b0) b1 b2 b3) (ix2 t j) = U (ix2 ⟨384 + t, by omega⟩ j) * (spv w0 w1 b3 t j + o (ix2 t j)) := by
  pointwise [k0_pay45, k0_pay38]
  exact congrArg (fun z => U _ * (z + o _)) (sp3 w0 w1 b0 b1 b2 b3 t j)

/-- A tile of chunk 3. -/
theorem tile3 (H VN : Vec Ideal S512x3072 .f32) (x4 : Vec Ideal S16x128x128 .f32) (x5 : Vec Ideal S128x3072 .f32)
    (w0 w1 : Vec Ideal S1x128x128 .f32) (b0 b1 b2 b3 o : Vec Ideal S128x384 .f32) (U : FVec Ideal S512x384 .f32) (p : ℕ) (hp : p < 8)
    (y : S512x3072.Idx) (x : S128x384.Idx) (h0 : (y 0 : ℕ) = 128 * 3 + x 0) (h1 : (y 1 : ℕ) = 384 * p + x 1)
    (hu : ∀ (r : Fin 512) (j : Fin 384), U (ix2 r j) = H (ix2 r ⟨384 * p + j, by omega⟩))
    (ho : ∀ (t : Fin 128) (j : Fin 384), o (ix2 t j) = x5 (ix2 t ⟨384 * p + j, by omega⟩))
    (hw0 : ∀ a c : Fin 128, w0 (ix3 0 a c) = x4 (ix3 ⟨2 * p, by omega⟩ a c))
    (hw1 : ∀ a c : Fin 128, w1 (ix3 0 a c) = x4 (ix3 ⟨2 * p + 1, by omega⟩ a c))
    (hb : ∀ (s : Fin 128) (j : Fin 384), b3 (ix2 s j) = VN (ix2 ⟨128 * 3 + s, by omega⟩ ⟨384 * p + j, by omega⟩)) :
    k0_pay45 U (k0_pay38 o) (k0_pay40 k0_pay19 (k0_pay36 k0_pay18 w0 w1) (k0_pay39 k0_pay19 b0) b1 b2 b3) x = acts H VN x4 x5 y := by
  have key : ∀ (r : Fin 512) (q : Fin 3072) (t : Fin 128) (j : Fin 384), r.val = 128 * 3 + t → q.val = 384 * p + j →
      k0_pay45 U (k0_pay38 o) (k0_pay40 k0_pay19 (k0_pay36 k0_pay18 w0 w1) (k0_pay39 k0_pay19 b0) b1 b2 b3) (ix2 t j) = act H VN x4 x5 r q := by
    intro r q t j hr hq
    have eq : (⟨384 * p + j, by omega⟩ : Fin 3072) = q := Fin.ext hq.symm
    have er : (⟨384 + t, by omega⟩ : Fin 512) = r := Fin.ext (by show 384 + t.val = r.val; omega)
    refine (pay3 w0 w1 b0 b1 b2 b3 o U t j).trans (entry H VN x4 x5 w0 w1 b3 3 p (by decide) hp r q t j hr hq _ _ ?_ ?_ hw0 hw1 fun s => ?_)
    · rw [hu, eq, er]
    · rw [ho, eq]
    · rw [hb, eq]
  exact at_pair _ _ x y (key (y 0) (y 1) (x 0) (x 1) h0 h1)

/-- Two reads of one row at columns with the same number. -/
theorem col_eq {n m : ℕ} (X : (⟨2, ![n, m]⟩ : Shape).Idx → EReal) (k : Fin n) (u v : ℕ) (hu : u < m) (hv : v < m) (h : u = v) :
    X (ix2 k ⟨u, hu⟩) = X (ix2 k ⟨v, hv⟩) := by
  subst h; rfl

/-- The stores that fill the scratch of activated values, newest first. -/
def vparts (x0 : Vec Ideal S512x1024 .f32) (x1 : Vec Ideal S1024x6144 .bf16) : List (View.Piece (Elt Ideal) S512x3072 .f32) :=
  [⟨Rect.unit (s := S512x3072) ![0, 2816] ![512, 256] inb_S512x3072_S512x256_0_2816, k0_pay15 (k0_pay1 x0) (View.ld x1 (Rect.unit (s := S1024x6144) ![0, 5888] ![1024, 256] inb_S1024x6144_S1024x256_0_5888))⟩,
   ⟨Rect.unit (s := S512x3072) ![0, 2560] ![512, 256] inb_S512x3072_S512x256_0_2560, k0_pay14 (k0_pay1 x0) (k0_pay13 (View.ld x1 (Rect.unit (s := S1024x6144) ![0, 5632] ![1024, 256] inb_S1024x6144_S1024x256_0_5632))) (constant S512x256 FTy.f32 0#32)⟩,
   ⟨Rect.unit (s := S512x3072) ![0, 2304] ![512, 256] inb_S512x3072_S512x256_0_2304, k0_pay12 (k0_pay1 x0) (View.ld x1 (Rect.unit (s := S1024x6144) ![0, 5376] ![1024, 256] inb_S1024x6144_S1024x256_0_5376))⟩,
   ⟨Rect.unit (s := S512x3072) ![0, 2048] ![512, 256] inb_S512x3072_S512x256_0_2048, k0_pay11 (k0_pay1 x0) (View.ld x1 (Rect.unit (s := S1024x6144) ![0, 5120] ![1024, 256] inb_S1024x6144_S1024x256_0_5120))⟩,
   ⟨Rect.unit (s := S512x3072) ![0, 1792] ![512, 256] inb_S512x3072_S512x256_0_1792, k0_pay10 (k0_pay1 x0) (View.ld x1 (Rect.unit (s := S1024x6144) ![0, 4864] ![1024, 256] inb_S1024x6144_S1024x256_0_4864))⟩,
   ⟨Rect.unit (s := S512x3072) ![0, 1536] ![512, 256] inb_S512x3072_S512x256_0_1536, k0_pay9 (k0_pay1 x0) (View.ld x1 (Rect.unit (s := S1024x6144) ![0, 4608] ![1024, 256] inb_S1024x6144_S1024x256_0_4608))⟩,
   ⟨Rect.unit (s := S512x3072) ![0, 1280] ![512, 256] inb_S512x3072_S512x256_0_1280, k0_pay8 (k0_pay1 x0) (View.ld x1 (Rect.unit (s := S1024x6144) ![0, 4352] ![1024, 256] inb_S1024x6144_S1024x256_0_4352))⟩,
   ⟨Rect.unit (s := S512x3072) ![0, 1024] ![512, 256] inb_S512x3072_S512x256_0_1024, k0_pay7 (k0_pay1 x0) (View.ld x1 (Rect.unit (s := S1024x6144) ![0, 4096] ![1024, 256] inb_S1024x6144_S1024x256_0_4096))⟩,
   ⟨Rect.unit (s := S512x3072) ![0, 768] ![512, 256] inb_S512x3072_S512x256_0_768, k0_pay6 (k0_pay1 x0) (View.ld x1 (Rect.unit (s := S1024x6144) ![0, 3840] ![1024, 256] inb_S1024x6144_S1024x256_0_3840))⟩,
   ⟨Rect.unit (s := S512x3072) ![0, 512] ![512, 256] inb_S512x3072_S512x256_0_512, k0_pay5 (k0_pay1 x0) (View.ld x1 (Rect.unit (s := S1024x6144) ![0, 3584] ![1024, 256] inb_S1024x6144_S1024x256_0_3584))⟩,
   ⟨Rect.unit (s := S512x3072) ![0, 256] ![512, 256] inb_S512x3072_S512x256_0_256, k0_pay4 (k0_pay3 x0 (View.ld x1 (Rect.unit (s := S1024x6144) ![0, 3328] ![1024, 256] inb_S1024x6144_S1024x256_0_3328)))⟩,
   ⟨Rect.unit (s := S512x3072) ![0, 0] ![512, 256] inb_S512x3072_S512x256_0_0, k0_pay2 x0 (View.ld x1 (Rect.unit (s := S1024x6144) ![0, 3072] ![1024, 256] inb_S1024x6144_S1024x256_0_3072))⟩]

/-- The whole block as a rectangle. -/
theorem full_idx (y : S512x3072.Idx) : (Rect.unit (s := S512x3072) ![0, 0] ![512, 3072] inb_S512x3072_S512x3072_0_0).idx y = y := by
  funext a
  refine Fin.ext ?_
  rw [Rect.idx_unit_val]
  fin_cases a <;> exact Nat.zero_add _

/-- The activated values read back whole. -/
theorem vraw (x0 : Vec Ideal S512x1024 .f32) (x1 : Vec Ideal S1024x6144 .bf16) :
    (View.whole cc0_scratch0).readCov (vparts x0 x1) (Rect.unit (s := S512x3072) ![0, 0] ![512, 3072] inb_S512x3072_S512x3072_0_0).toLoadRect = vals x0 x1 := by
  unfold vparts
  rw [View.readCov_eq_canon']
  funext y
  show View.canon _ ((Rect.unit (s := S512x3072) ![0, 0] ![512, 3072] inb_S512x3072_S512x3072_0_0).idx y) = _
  rw [full_idx]
  canon_tiles x h
  all_goals refine vchunk _ _ _ y x h0 (fun k => ?_)
  all_goals pointwise
  all_goals exact col_eq x1 k _ _ _ _ (by omega)

/-- A load of the scratch after its normalised refill. -/
theorem blk (x0 : Vec Ideal S512x1024 .f32) (x1 : Vec Ideal S1024x6144 .bf16) (x2 x3 : Vec Ideal S1x3072 .f32) (r : Rect S512x3072) :
    (View.whole cc0_scratch0).readCov (⟨Rect.unit (s := S512x3072) ![0, 0] ![512, 3072] inb_S512x3072_S512x3072_0_0,
        k0_pay17 ((View.whole cc0_scratch0).readCov (vparts x0 x1) (Rect.unit (s := S512x3072) ![0, 0] ![512, 3072] inb_S512x3072_S512x3072_0_0).toLoadRect)
          (k0_pay16 x2) x3⟩ :: vparts x0 x1) r.toLoadRect = View.ld (nvals x0 x1 x2 x3) r := by
  rw [vraw]
  exact View.readCov_fill (View.whole cc0_scratch0) (s := S512x3072) (off := ![0, 0]) inb_S512x3072_S512x3072_0_0 (nvals x0 x1 x2 x3) (vparts x0 x1) r
    (by intro a; fin_cases a <;> rfl)

/-- A loaded tile at an index. -/
theorem ld_tile (X : Vec Ideal S512x3072 .f32) (a b : ℕ) (inb) (s : Fin 128) (j : Fin 384) (ha : a + s.val < 512) (hb : b + j.val < 3072) :
    View.ld (Val := Elt Ideal) (S := S512x3072) (e' := .f32) X (Rect.unit (s := S512x3072) ![a, b] ![128, 384] inb) (ix2 s j) = X (ix2 ⟨a + s, ha⟩ ⟨b + j, hb⟩) := by
  pointwise

variable (m : (ℓ : Loc nD τ sig) → Buf (Elt Ideal) ℓ)

/-- The normalised second half of a point. -/
def nv (c : Dev nD) (t : Fin cfg0.N) : Vec Ideal S512x3072 .f32 := nvals (iblk m c 0 t) (iblk m c 1 t) (iblk m c 2 t) (iblk m c 3 t)

/-- The gated rows of a point. -/
def ga (c : Dev nD) (t : Fin cfg0.N) : Vec Ideal S512x3072 .bf16 :=
  acts (mult (iblk m c 0 t) (iblk m c 1 t)) (nv m c t) (iblk m c 4 t) (iblk m c 5 t)

set_option maxHeartbeats 4000000 in
/-- What the body leaves in its output block: the last payload over the filled scratch. -/
theorem out_eq (c : Dev nD) (t : Fin cfg0.N) :
    outsAt0 m c t = k0_pay130 (iblk m c 0 t) (ga m c t) (iblk m c 6 t) (iblk m c 7 t) (iblk m c 8 t) := by
  unfold outsAt0
  frame_out
  congr 1
  rw [View.readCov_eq_canon']
  funext y
  show View.canon _ ((Rect.unit (s := S512x3072) ![0, 0] ![512, 3072] inb_S512x3072_S512x3072_0_0).idx y) = _
  rw [full_idx]
  canon_tiles x h
  · refine tile3 _ (nv m c t) (iblk m c 4 t) (iblk m c 5 t) _ _ _ _ _ _ _ _ 7 (by decide) y x (by omega) (by omega) (fun r j => ?_) (fun t' j => ?_) (fun a b => ?_) (fun a b => ?_) (fun s j => ?_)
    · refine u_odd (iblk m c 0 t) (iblk m c 1 t) _ 7 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile2 _ (nv m c t) (iblk m c 4 t) (iblk m c 5 t) _ _ _ _ _ _ _ _ 7 (by decide) y x (by omega) (by omega) (fun r j => ?_) (fun t' j => ?_) (fun a b => ?_) (fun a b => ?_) (fun s j => ?_)
    · refine u_odd (iblk m c 0 t) (iblk m c 1 t) _ 7 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile1 _ (nv m c t) (iblk m c 4 t) (iblk m c 5 t) _ _ _ _ _ _ _ _ 7 (by decide) y x (by omega) (by omega) (fun r j => ?_) (fun t' j => ?_) (fun a b => ?_) (fun a b => ?_) (fun s j => ?_)
    · refine u_odd (iblk m c 0 t) (iblk m c 1 t) _ 7 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile0 _ (nv m c t) (iblk m c 4 t) (iblk m c 5 t) _ _ _ _ _ _ _ _ 7 (by decide) y x (by omega) (by omega) (fun r j => ?_) (fun t' j => ?_) (fun a b => ?_) (fun a b => ?_) (fun s j => ?_)
    · refine u_odd (iblk m c 0 t) (iblk m c 1 t) _ 7 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile3 _ (nv m c t) (iblk m c 4 t) (iblk m c 5 t) _ _ _ _ _ _ _ _ 6 (by decide) y x (by omega) (by omega) (fun r j => ?_) (fun t' j => ?_) (fun a b => ?_) (fun a b => ?_) (fun s j => ?_)
    · refine u_even (iblk m c 0 t) (iblk m c 1 t) _ 6 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile2 _ (nv m c t) (iblk m c 4 t) (iblk m c 5 t) _ _ _ _ _ _ _ _ 6 (by decide) y x (by omega) (by omega) (fun r j => ?_) (fun t' j => ?_) (fun a b => ?_) (fun a b => ?_) (fun s j => ?_)
    · refine u_even (iblk m c 0 t) (iblk m c 1 t) _ 6 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile1 _ (nv m c t) (iblk m c 4 t) (iblk m c 5 t) _ _ _ _ _ _ _ _ 6 (by decide) y x (by omega) (by omega) (fun r j => ?_) (fun t' j => ?_) (fun a b => ?_) (fun a b => ?_) (fun s j => ?_)
    · refine u_even (iblk m c 0 t) (iblk m c 1 t) _ 6 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile0 _ (nv m c t) (iblk m c 4 t) (iblk m c 5 t) _ _ _ _ _ _ _ _ 6 (by decide) y x (by omega) (by omega) (fun r j => ?_) (fun t' j => ?_) (fun a b => ?_) (fun a b => ?_) (fun s j => ?_)
    · refine u_even (iblk m c 0 t) (iblk m c 1 t) _ 6 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile3 _ (nv m c t) (iblk m c 4 t) (iblk m c 5 t) _ _ _ _ _ _ _ _ 5 (by decide) y x (by omega) (by omega) (fun r j => ?_) (fun t' j => ?_) (fun a b => ?_) (fun a b => ?_) (fun s j => ?_)
    · refine u_odd (iblk m c 0 t) (iblk m c 1 t) _ 5 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile2 _ (nv m c t) (iblk m c 4 t) (iblk m c 5 t) _ _ _ _ _ _ _ _ 5 (by decide) y x (by omega) (by omega) (fun r j => ?_) (fun t' j => ?_) (fun a b => ?_) (fun a b => ?_) (fun s j => ?_)
    · refine u_odd (iblk m c 0 t) (iblk m c 1 t) _ 5 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile1 _ (nv m c t) (iblk m c 4 t) (iblk m c 5 t) _ _ _ _ _ _ _ _ 5 (by decide) y x (by omega) (by omega) (fun r j => ?_) (fun t' j => ?_) (fun a b => ?_) (fun a b => ?_) (fun s j => ?_)
    · refine u_odd (iblk m c 0 t) (iblk m c 1 t) _ 5 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile0 _ (nv m c t) (iblk m c 4 t) (iblk m c 5 t) _ _ _ _ _ _ _ _ 5 (by decide) y x (by omega) (by omega) (fun r j => ?_) (fun t' j => ?_) (fun a b => ?_) (fun a b => ?_) (fun s j => ?_)
    · refine u_odd (iblk m c 0 t) (iblk m c 1 t) _ 5 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile3 _ (nv m c t) (iblk m c 4 t) (iblk m c 5 t) _ _ _ _ _ _ _ _ 4 (by decide) y x (by omega) (by omega) (fun r j => ?_) (fun t' j => ?_) (fun a b => ?_) (fun a b => ?_) (fun s j => ?_)
    · refine u_even (iblk m c 0 t) (iblk m c 1 t) _ 4 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile2 _ (nv m c t) (iblk m c 4 t) (iblk m c 5 t) _ _ _ _ _ _ _ _ 4 (by decide) y x (by omega) (by omega) (fun r j => ?_) (fun t' j => ?_) (fun a b => ?_) (fun a b => ?_) (fun s j => ?_)
    · refine u_even (iblk m c 0 t) (iblk m c 1 t) _ 4 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile1 _ (nv m c t) (iblk m c 4 t) (iblk m c 5 t) _ _ _ _ _ _ _ _ 4 (by decide) y x (by omega) (by omega) (fun r j => ?_) (fun t' j => ?_) (fun a b => ?_) (fun a b => ?_) (fun s j => ?_)
    · refine u_even (iblk m c 0 t) (iblk m c 1 t) _ 4 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile0 _ (nv m c t) (iblk m c 4 t) (iblk m c 5 t) _ _ _ _ _ _ _ _ 4 (by decide) y x (by omega) (by omega) (fun r j => ?_) (fun t' j => ?_) (fun a b => ?_) (fun a b => ?_) (fun s j => ?_)
    · refine u_even (iblk m c 0 t) (iblk m c 1 t) _ 4 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile3 _ (nv m c t) (iblk m c 4 t) (iblk m c 5 t) _ _ _ _ _ _ _ _ 3 (by decide) y x (by omega) (by omega) (fun r j => ?_) (fun t' j => ?_) (fun a b => ?_) (fun a b => ?_) (fun s j => ?_)
    · refine u_odd (iblk m c 0 t) (iblk m c 1 t) _ 3 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile2 _ (nv m c t) (iblk m c 4 t) (iblk m c 5 t) _ _ _ _ _ _ _ _ 3 (by decide) y x (by omega) (by omega) (fun r j => ?_) (fun t' j => ?_) (fun a b => ?_) (fun a b => ?_) (fun s j => ?_)
    · refine u_odd (iblk m c 0 t) (iblk m c 1 t) _ 3 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile1 _ (nv m c t) (iblk m c 4 t) (iblk m c 5 t) _ _ _ _ _ _ _ _ 3 (by decide) y x (by omega) (by omega) (fun r j => ?_) (fun t' j => ?_) (fun a b => ?_) (fun a b => ?_) (fun s j => ?_)
    · refine u_odd (iblk m c 0 t) (iblk m c 1 t) _ 3 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile0 _ (nv m c t) (iblk m c 4 t) (iblk m c 5 t) _ _ _ _ _ _ _ _ 3 (by decide) y x (by omega) (by omega) (fun r j => ?_) (fun t' j => ?_) (fun a b => ?_) (fun a b => ?_) (fun s j => ?_)
    · refine u_odd (iblk m c 0 t) (iblk m c 1 t) _ 3 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile3 _ (nv m c t) (iblk m c 4 t) (iblk m c 5 t) _ _ _ _ _ _ _ _ 2 (by decide) y x (by omega) (by omega) (fun r j => ?_) (fun t' j => ?_) (fun a b => ?_) (fun a b => ?_) (fun s j => ?_)
    · refine u_even (iblk m c 0 t) (iblk m c 1 t) _ 2 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile2 _ (nv m c t) (iblk m c 4 t) (iblk m c 5 t) _ _ _ _ _ _ _ _ 2 (by decide) y x (by omega) (by omega) (fun r j => ?_) (fun t' j => ?_) (fun a b => ?_) (fun a b => ?_) (fun s j => ?_)
    · refine u_even (iblk m c 0 t) (iblk m c 1 t) _ 2 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile1 _ (nv m c t) (iblk m c 4 t) (iblk m c 5 t) _ _ _ _ _ _ _ _ 2 (by decide) y x (by omega) (by omega) (fun r j => ?_) (fun t' j => ?_) (fun a b => ?_) (fun a b => ?_) (fun s j => ?_)
    · refine u_even (iblk m c 0 t) (iblk m c 1 t) _ 2 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile0 _ (nv m c t) (iblk m c 4 t) (iblk m c 5 t) _ _ _ _ _ _ _ _ 2 (by decide) y x (by omega) (by omega) (fun r j => ?_) (fun t' j => ?_) (fun a b => ?_) (fun a b => ?_) (fun s j => ?_)
    · refine u_even (iblk m c 0 t) (iblk m c 1 t) _ 2 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile3 _ (nv m c t) (iblk m c 4 t) (iblk m c 5 t) _ _ _ _ _ _ _ _ 1 (by decide) y x (by omega) (by omega) (fun r j => ?_) (fun t' j => ?_) (fun a b => ?_) (fun a b => ?_) (fun s j => ?_)
    · refine u_odd (iblk m c 0 t) (iblk m c 1 t) _ 1 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile2 _ (nv m c t) (iblk m c 4 t) (iblk m c 5 t) _ _ _ _ _ _ _ _ 1 (by decide) y x (by omega) (by omega) (fun r j => ?_) (fun t' j => ?_) (fun a b => ?_) (fun a b => ?_) (fun s j => ?_)
    · refine u_odd (iblk m c 0 t) (iblk m c 1 t) _ 1 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile1 _ (nv m c t) (iblk m c 4 t) (iblk m c 5 t) _ _ _ _ _ _ _ _ 1 (by decide) y x (by omega) (by omega) (fun r j => ?_) (fun t' j => ?_) (fun a b => ?_) (fun a b => ?_) (fun s j => ?_)
    · refine u_odd (iblk m c 0 t) (iblk m c 1 t) _ 1 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile0 _ (nv m c t) (iblk m c 4 t) (iblk m c 5 t) _ _ _ _ _ _ _ _ 1 (by decide) y x (by omega) (by omega) (fun r j => ?_) (fun t' j => ?_) (fun a b => ?_) (fun a b => ?_) (fun s j => ?_)
    · refine u_odd (iblk m c 0 t) (iblk m c 1 t) _ 1 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile3 _ (nv m c t) (iblk m c 4 t) (iblk m c 5 t) _ _ _ _ _ _ _ _ 0 (by decide) y x (by omega) (by omega) (fun r j => ?_) (fun t' j => ?_) (fun a b => ?_) (fun a b => ?_) (fun s j => ?_)
    · refine u_even (iblk m c 0 t) (iblk m c 1 t) _ 0 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile2 _ (nv m c t) (iblk m c 4 t) (iblk m c 5 t) _ _ _ _ _ _ _ _ 0 (by decide) y x (by omega) (by omega) (fun r j => ?_) (fun t' j => ?_) (fun a b => ?_) (fun a b => ?_) (fun s j => ?_)
    · refine u_even (iblk m c 0 t) (iblk m c 1 t) _ 0 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile1 _ (nv m c t) (iblk m c 4 t) (iblk m c 5 t) _ _ _ _ _ _ _ _ 0 (by decide) y x (by omega) (by omega) (fun r j => ?_) (fun t' j => ?_) (fun a b => ?_) (fun a b => ?_) (fun s j => ?_)
    · refine u_even (iblk m c 0 t) (iblk m c 1 t) _ 0 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _
  · refine tile0 _ (nv m c t) (iblk m c 4 t) (iblk m c 5 t) _ _ _ _ _ _ _ _ 0 (by decide) y x (by omega) (by omega) (fun r j => ?_) (fun t' j => ?_) (fun a b => ?_) (fun a b => ?_) (fun s j => ?_)
    · refine u_even (iblk m c 0 t) (iblk m c 1 t) _ 0 (by decide) (fun k j => ?_) r j
      pointwise <;> exact col_eq (iblk m c 1 t) k _ _ _ _ (by omega)
    · pointwise <;> exact col_eq (iblk m c 5 t) t' _ _ _ _ (by omega)
    · pointwise
    · pointwise
    · refine (congrFun (blk (iblk m c 0 t) (iblk m c 1 t) (iblk m c 2 t) (iblk m c 3 t) _) _).trans ?_
      exact ld_tile _ _ _ _ _ _ _ _

/-- The last payload of the body: the second projection, the scaled residual and the normalisation. -/
theorem last (x0 : Vec Ideal S512x1024 .f32) (a : Vec Ideal S512x3072 .bf16) (x6 : Vec Ideal S3072x1024 .bf16)
    (x7 x8 : Vec Ideal S1x1024 .f32) (y : S512x1024.Idx) :
    k0_pay130 x0 a x6 x7 x8 y
      = Spec.norm (fun q => Ideal.ofBits .f32 0x3FB504F3#32 * x0 (ix2 (y 0) q) + ∑ j : Fin 3072, a (ix2 (y 0) j) * x6 (ix2 j q))
          (fun k => x7 (ix2 0 k)) (fun k => x8 (ix2 0 k)) (y 1) := by
  pointwise [k0_pay130, Spec.norm, Spec.mean]

/-- An entry of the normalised second half. -/
theorem nvals_ix (x0 : Vec Ideal S512x1024 .f32) (x1 : Vec Ideal S1024x6144 .bf16) (x2 x3 : Vec Ideal S1x3072 .f32) (r : Fin 512) (q : Fin 3072) :
    nvals x0 x1 x2 x3 (ix2 r q)
      = wnorm (fun k => hid (fun k => x0 (ix2 r k)) (fun k j => x1 (ix2 k j)) ⟨3072 + k, by omega⟩) (fun k => x2 (ix2 0 k)) (fun k => x3 (ix2 0 k)) q := by
  pointwise [nvals, k0_pay17, k0_pay16, wnorm, wmean, vals]

/-- An entry of the multipliers. -/
theorem mult_ix (x0 : Vec Ideal S512x1024 .f32) (x1 : Vec Ideal S1024x6144 .bf16) (r : Fin 512) (q : Fin 3072) :
    mult x0 x1 (ix2 r q) = hid (fun k => x0 (ix2 r k)) (fun k j => x1 (ix2 k j)) ⟨q, by omega⟩ := rfl

/-- Window 0's block index at a point. -/
theorem e0 : ∀ t : Fin cfg0.N, win0_0.index t = ![(grid0.coords t 0).val, 0] := (by decide +kernel : ∀ t : Fin grid0.N, _)
/-- Window 1's block index at a point. -/
theorem e1 : ∀ t : Fin cfg0.N, win0_1.index t = ![0, 0] := (by decide +kernel : ∀ t : Fin grid0.N, _)
/-- Window 2's block index at a point. -/
theorem e2 : ∀ t : Fin cfg0.N, win0_2.index t = ![0, 0] := (by decide +kernel : ∀ t : Fin grid0.N, _)
/-- Window 3's block index at a point. -/
theorem e3 : ∀ t : Fin cfg0.N, win0_3.index t = ![0, 0] := (by decide +kernel : ∀ t : Fin grid0.N, _)
/-- Window 4's block index at a point. -/
theorem e4 : ∀ t : Fin cfg0.N, win0_4.index t = ![0, 0, 0] := (by decide +kernel : ∀ t : Fin grid0.N, _)
/-- Window 5's block index at a point. -/
theorem e5 : ∀ t : Fin cfg0.N, win0_5.index t = ![0, 0] := (by decide +kernel : ∀ t : Fin grid0.N, _)
/-- Window 6's block index at a point. -/
theorem e6 : ∀ t : Fin cfg0.N, win0_6.index t = ![0, 0] := (by decide +kernel : ∀ t : Fin grid0.N, _)
/-- Window 7's block index at a point. -/
theorem e7 : ∀ t : Fin cfg0.N, win0_7.index t = ![0, 0] := (by decide +kernel : ∀ t : Fin grid0.N, _)
/-- Window 8's block index at a point. -/
theorem e8 : ∀ t : Fin cfg0.N, win0_8.index t = ![0, 0] := (by decide +kernel : ∀ t : Fin grid0.N, _)
/-- Window 9's block index at a point. -/
theorem e9 : ∀ t : Fin cfg0.N, win0_9.index t = ![(grid0.coords t 0).val, 0] := (by decide +kernel : ∀ t : Fin grid0.N, _)
/-- A point's number. -/
theorem co : ∀ t : Fin cfg0.N, (grid0.coords t 0).val < 64 := (by decide +kernel : ∀ t : Fin grid0.N, _)

/-- The row of the result that row `r` of a point's block is. -/
def row (t : Fin cfg0.N) (r : Fin 512) : Fin 32768 := ⟨(grid0.coords t 0).val * 512 + r, by have := co t; omega⟩

/-- The staged rows. -/
theorem blk0 (c : Dev nD) (t : Fin cfg0.N) (r : Fin 512) (k : Fin 1024) :
    iblk m c 0 t (ix2 r k) = m ((c : Thread nD τ).loc main_arg0) (ix2 (row t r) k) := by
  blk_ext! [iblk, V, e0 t, row]

/-- The staged matrix is argument 1. -/
theorem blk1 (c : Dev nD) (t : Fin cfg0.N) (j : Fin 1024) (k : Fin 6144) :
    iblk m c 1 t (ix2 j k) = m ((c : Thread nD τ).loc main_arg1) (ix2 j k) := by
  blk_ext! [iblk, V, e1 t]

/-- The staged matrix is argument 6. -/
theorem blk6 (c : Dev nD) (t : Fin cfg0.N) (j : Fin 3072) (k : Fin 1024) :
    iblk m c 6 t (ix2 j k) = m ((c : Thread nD τ).loc main_arg6) (ix2 j k) := by
  blk_ext! [iblk, V, e6 t]

/-- The staged row is argument 2. -/
theorem blk2 (c : Dev nD) (t : Fin cfg0.N) (k : Fin 3072) :
    iblk m c 2 t (ix2 0 k) = m ((c : Thread nD τ).loc main_arg2) (ix1 k) := by
  blk_ext! [iblk, V, e2 t]

/-- The staged row is argument 3. -/
theorem blk3 (c : Dev nD) (t : Fin cfg0.N) (k : Fin 3072) :
    iblk m c 3 t (ix2 0 k) = m ((c : Thread nD τ).loc main_arg3) (ix1 k) := by
  blk_ext! [iblk, V, e3 t]

/-- The staged row is argument 7. -/
theorem blk7 (c : Dev nD) (t : Fin cfg0.N) (k : Fin 1024) :
    iblk m c 7 t (ix2 0 k) = m ((c : Thread nD τ).loc main_arg7) (ix1 k) := by
  blk_ext! [iblk, V, e7 t]

/-- The staged row is argument 8. -/
theorem blk8 (c : Dev nD) (t : Fin cfg0.N) (k : Fin 1024) :
    iblk m c 8 t (ix2 0 k) = m ((c : Thread nD τ).loc main_arg8) (ix1 k) := by
  blk_ext! [iblk, V, e8 t]

/-- The staged weights on positions are argument 4. -/
theorem blk4 (c : Dev nD) (t : Fin cfg0.N) (g : Fin 16) (a b : Fin 128) :
    iblk m c 4 t (ix3 g a b) = m ((c : Thread nD τ).loc main_arg4) (ix3 g a b) := by
  blk_ext! [iblk, V, e4 t]

/-- The staged offsets are argument 5, each group's repeated over its lanes. -/
theorem blk5 (c : Dev nD) (t : Fin cfg0.N) (a : Fin 128) (k : Fin 3072) :
    iblk m c 5 t (ix2 a k) = m ((c : Thread nD τ).loc main_arg5) (ix2 ⟨k.val / 192, by omega⟩ a) := by
  blk_ext! [iblk, V, e5 t]

/-- A written block's rows. -/
theorem emb9r (t : Fin cfg0.N) (y : S512x1024.Idx) : ((View.whole main_v9).slice (win0_9.rect t)).emb y 0 = row t (y 0) := by
  refine Fin.ext ?_
  blk_simp [e9 t, row]

/-- A written block spans whole rows. -/
theorem emb9 (t : Fin cfg0.N) (y : S512x1024.Idx) : ((View.whole main_v9).slice (win0_9.rect t)).emb y 1 = y 1 := by
  refine Fin.ext ?_
  blk_simp [e9 t]

/-- An entry of the gated rows of a point. -/
theorem ga_eq (c : Dev nD) (t : Fin cfg0.N) (r : Fin 512) (j : Fin 3072) :
    ga m c t (ix2 r j)
      = gact (fun r k => (m ((c : Thread nD τ).loc main_arg0)) (ix2 r k)) (fun k j => (m ((c : Thread nD τ).loc main_arg1)) (ix2 k j)) (fun k => (m ((c : Thread nD τ).loc main_arg2)) (ix1 k)) (fun k => (m ((c : Thread nD τ).loc main_arg3)) (ix1 k))
          (fun g a b => (m ((c : Thread nD τ).loc main_arg4)) (ix3 g a b)) (fun g a => (m ((c : Thread nD τ).loc main_arg5)) (ix2 g a)) (row t r) j := by
  have hm : (⟨(row t r).val % 128, Nat.mod_lt _ (by decide)⟩ : Fin 128) = ⟨r.val % 128, Nat.mod_lt _ (by decide)⟩ :=
    Fin.ext (by show ((grid0.coords t 0).val * 512 + r.val) % 128 = r.val % 128; omega)
  have hs : ∀ s : Fin 128, (⟨(row t r).val / 128 * 128 + s, by omega⟩ : Fin 32768) = row t ⟨r.val / 128 * 128 + s, by omega⟩ :=
    fun s => Fin.ext (by show ((grid0.coords t 0).val * 512 + r.val) / 128 * 128 + s.val = (grid0.coords t 0).val * 512 + (r.val / 128 * 128 + s.val); omega)
  refine (show ga m c t (ix2 r j) = act (mult (iblk m c 0 t) (iblk m c 1 t)) (nv m c t) (iblk m c 4 t) (iblk m c 5 t) r j from rfl).trans ?_
  unfold act nv gact
  rw [mult_ix, hm]
  simp only [nvals_ix, hs, blk0, blk1, blk2, blk3, blk4, blk5]

/-- One written entry is the function's entry at the place it is written to. -/
theorem point (c : Dev nD) (t : Fin cfg0.N) (y : S512x1024.Idx) :
    outsAt0 m c t y = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      (((View.whole main_v9).slice (win0_9.rect t)).emb y) := by
  rw [out_eq, last]
  unfold G mixed
  rw [emb9 t y, emb9r t y]
  have h0 := blk0 m c t (y 0)
  have h1 := ga_eq m c t (y 0)
  simp only [h0, h1, blk6, blk7, blk8]

/-- The result array after the run. -/
theorem final (c : Dev nD) :
    (dats m 0 c).arrAt 9 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  exact point m c t y

end Kernel

section Reference

open Cert.Reference4Ideal Cert.Reference4Ideal.Gen Cert.Reference4Ideal.Read

/-- The reference's activated first projection. -/
theorem ref_hid (x0 : Vec Ideal S32768x1024 .f32) (x1 : Vec Ideal S1024x6144 .f32) (r : Fin 32768) (q : Fin 6144) :
    val_main_v15 (F := Ideal) x0 x1 (ix2 r q) = hid (fun k => x0 (ix2 r k)) (fun k j => x1 (ix2 k j)) q := by
  pointwise [hid, gelu, val_main_v15, val_main_v14, val_main_v13, val_main_v12, val_main_v11, val_main_v10, val_main_v9, val_main_v8, val_main_v7, val_main_v6, val_main_v5, val_main_v4, val_main_v3, val_main_v2, val_main_cst_0, val_main_cst_1, val_main_cst_2, val_main_cst_3]
  ac_rfl

/-- The reference's normalised second half. -/
theorem ref_vn (x0 : Vec Ideal S32768x1024 .f32) (x1 : Vec Ideal S1024x6144 .f32) (x2 x3 : Vec Ideal S3072 .f32) (r : Fin 32768) (q : Fin 3072) :
    val_main_v41 (F := Ideal) x0 x1 x2 x3 (ix2 r q)
      = wnorm (fun k => hid (fun k => x0 (ix2 r k)) (fun k j => x1 (ix2 k j)) ⟨3072 + k, by omega⟩) (fun k => x2 (ix1 k)) (fun k => x3 (ix1 k)) q := by
  pointwise [wnorm, wmean, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst_4, val_main_cst_5, val_main_cst_6, val_main_cst_7, val_main_cst_8]
  simp only [ref_hid]

/-- The reference's masked weights on positions. -/
theorem ref_tri (x4 : Vec Ideal S16x128x128 .f32) (g : Fin 16) (t s : Fin 128) :
    val_main_v45 (F := Ideal) x4 (ix3 g t s) = tri (fun a b => x4 (ix3 g a b)) t s := by
  pointwise [tri, val_main_v45, val_main_call1_v2, val_main_call1_v1, val_main_call1_v0, val_main_c_9, val_main_v44, val_main_call0_v5, val_main_call0_c_0, val_main_call0_v4, val_main_call0_v3, val_main_call0_v2, val_main_call0_v1, val_main_call0_c, val_main_call0_v0, val_main_v43, val_main_c]
  have hz : (FloatOps.sitofp (F := Ideal) FTy.f32 0#32) = (0 : EReal) := by
    show (((0#32 : BitVec 32).toInt : ℝ) : EReal) = 0
    simp
  have ha : IntOp.addi (BitVec.ofNat 32 t.val) 0#32 = BitVec.ofNat 32 t.val := BitVec.add_zero _
  rw [hz, ha, WordCmp.cmpi_sge_ofNat (by omega) (by omega)]
  by_cases h : s.val ≤ t.val <;> simp [h, ValueIdx.select_one, ValueIdx.select_zero]

/-- The reference's gated product. -/
theorem ref_gate (x0 : Vec Ideal S32768x1024 .f32) (x1 : Vec Ideal S1024x6144 .f32) (x2 x3 : Vec Ideal S3072 .f32) (x4 : Vec Ideal S16x128x128 .f32) (x5 : Vec Ideal S16x128 .f32) (r : Fin 32768) (j : Fin 3072) :
    val_main_v54 (F := Ideal) x0 x1 x2 x3 x4 x5 (ix2 r j)
      = gact (fun r k => x0 (ix2 r k)) (fun k j => x1 (ix2 k j)) (fun k => x2 (ix1 k)) (fun k => x3 (ix1 k)) (fun g a b => x4 (ix3 g a b)) (fun g a => x5 (ix2 g a)) r j := by
  pointwise [val_main_v54, val_main_v53, val_main_v52, val_main_v51, val_main_v50, val_main_v49, val_main_v48, val_main_v47, val_main_v46, val_main_v42, val_main_v16]
  unfold gact
  simp only [ref_hid, ref_vn, ref_tri]
  congr 1
  congr 1
  exact Finset.sum_congr rfl fun s _ => mul_comm _ _

/-- The reference's rows before the last normalisation. -/
theorem ref_mix (x0 : Vec Ideal S32768x1024 .f32) (x1 : Vec Ideal S1024x6144 .f32) (x2 x3 : Vec Ideal S3072 .f32) (x4 : Vec Ideal S16x128x128 .f32) (x5 : Vec Ideal S16x128 .f32) (x6 : Vec Ideal S3072x1024 .f32) (r : Fin 32768) (q : Fin 1024) :
    val_main_v56 (F := Ideal) x0 x1 x2 x3 x4 x5 x6 (ix2 r q)
      = mixed (fun k => x0 (ix2 r k)) (fun j => val_main_v54 (F := Ideal) x0 x1 x2 x3 x4 x5 (ix2 r j)) (fun j k => x6 (ix2 j k)) q := by
  pointwise [mixed, val_main_v56, val_main_v55, val_main_v1, val_main_v0, val_main_cst]

/-- The reference's last normalisation. -/
theorem ref_tail (x0 : Vec Ideal S32768x1024 .f32) (x1 : Vec Ideal S1024x6144 .f32) (x2 x3 : Vec Ideal S3072 .f32) (x4 : Vec Ideal S16x128x128 .f32) (x5 : Vec Ideal S16x128 .f32) (x6 : Vec Ideal S3072x1024 .f32)
    (x7 x8 : Vec Ideal S1024 .f32) (y : S32768x1024.Idx) :
    val_main_v80 (F := Ideal) x0 x1 x2 x3 x4 x5 x6 x7 x8 y
      = Spec.norm (fun k => val_main_v56 (F := Ideal) x0 x1 x2 x3 x4 x5 x6 (ix2 (y 0) k)) (fun k => x7 (ix1 k)) (fun k => x8 (ix1 k)) (y 1) := by
  pointwise [Spec.norm, Spec.mean, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_cst_14, val_main_cst_13, val_main_cst_12, val_main_cst_11, val_main_cst_10]

/-- The reference's result is the same function of the arguments. -/
theorem ref_eq (x0 : Vec Ideal S32768x1024 .f32) (x1 : Vec Ideal S1024x6144 .f32) (x2 x3 : Vec Ideal S3072 .f32) (x4 : Vec Ideal S16x128x128 .f32)
    (x5 : Vec Ideal S16x128 .f32) (x6 : Vec Ideal S3072x1024 .f32) (x7 x8 : Vec Ideal S1024 .f32) :
    val_main_v80 (F := Ideal) x0 x1 x2 x3 x4 x5 x6 x7 x8 = G x0 x1 x2 x3 x4 x5 x6 x7 x8 := by
  funext y
  rw [ref_tail]
  unfold G
  have h0 := ref_mix x0 x1 x2 x3 x4 x5 x6 (y 0)
  have h1 := ref_gate x0 x1 x2 x3 x4 x5 (y 0)
  simp only [h0, h1]

end Reference

/-- Both programs run, and from equal arguments their results are equal. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Kernel4Ideal.Gen.dats m 0 c).arrAt 9 (Pipeline.Cfg.N _), Cert.Kernel4Ideal.Value.run_blocks m g, ?_⟩
  refine (θ_run (Cert.Reference4Ideal.defs (F := Ideal)) _ _).mono (fun r h c => ?_) (Cert.Reference4Ideal.Value.run m' g')
  obtain ⟨hv, h0, h1, h2, h3, h4, h5, h6, h7, h8⟩ := h c
  obtain ⟨a0, a1, a2, a3, a4, a5, a6, a7, a8⟩ := hargs c
  refine ⟨hv.trans ?_, h0, h1, h2, h3, h4, h5, h6, h7, h8⟩
  rw [Cert.Reference4Ideal.Read.val_main_v80_eq, ref_eq, a0, a1, a2, a3, a4, a5, a6, a7, a8]
  exact (final m c).symm

end Cert.Proof.Gmlp

end
-- ==== Proof.NsaSpec.lean ====
/-
  Hand-written. The projection call's results as functions of its arguments.
-/
module

public import proofs.«01_k».proof.Defs
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

/-- The activations. -/
abbrev X := Vec Ideal ⟨3, ![2, 16384, 1024]⟩ .f32

/-- The projection's weights. -/
abbrev W := Vec Ideal ⟨2, ![1024, 2608]⟩ .f32

/-- One entry of a product: row `p` of batch `b` against column `c`. -/
def proj (x : X) (w : W) (b : Fin 2) (p : Fin 16384) (c : Fin 2608) : EReal :=
  ∑ k : Fin 1024, x (ix3 b p k) * w (ix2 k c)

/-- The rotation of a row of 64 entries by 32 angles, the first half paired with the second. -/
def rot (y : Fin 64 → EReal) (cs sn : Fin 32 → EReal) (d : Fin 64) : EReal :=
  if h : d.val < 32 then y d * cs ⟨d.val, h⟩ - y ⟨32 + d.val, by omega⟩ * sn ⟨d.val, h⟩
  else y d * cs ⟨d.val - 32, by omega⟩ + y ⟨d.val - 32, by omega⟩ * sn ⟨d.val - 32, by omega⟩

/-- The columns of one head, from an offset. -/
def head (x : X) (w : W) (o : ℕ) (ho : o ≤ 2304) (b : Fin 2) (g : Fin 4) (p : Fin 16384) (e : Fin 64) : EReal :=
  proj x w b p ⟨o + (g.val * 64 + e.val), by omega⟩

/-- The columns of one query head. -/
def qhead (x : X) (w : W) (b : Fin 2) (h : Fin 16) (p : Fin 16384) (e : Fin 64) : EReal :=
  proj x w b p ⟨h.val * 64 + e.val, by omega⟩

/-- One entry of a block of sixteen positions. -/
def fb (x : X) (w : W) (o : ℕ) (ho : o ≤ 2304) (b : Fin 2) (g : Fin 4) (n c : Fin 1024) : EReal :=
  head x w o ho b g ⟨n.val * 16 + c.val / 64, by omega⟩ ⟨c.val % 64, Nat.mod_lt _ (by decide)⟩

/-- One entry of a group's values over its row of ones. -/
def fv (x : X) (w : W) (o : ℕ) (ho : o ≤ 2304) (b : Fin 2) (g : Fin 4) (p : Fin 16384) (r : Fin 80) : EReal :=
  if h : r.val < 64 then head x w o ho b g p ⟨r.val, h⟩ else if r.val = 64 then 1 else 0

/-- One entry of the padded gate weights. -/
def wg (w : W) (k : Fin 1024) (c : Fin 64) : EReal :=
  if h : c.val % 16 < 12 then w (ix2 k ⟨2560 + (c.val / 16 * 12 + c.val % 16), by omega⟩) else 0

/-- One entry of the gates. -/
def fg (x : X) (w : W) (b : Fin 2) (c : Fin 64) (p : Fin 16384) : EReal :=
  Ideal.logistic (∑ k : Fin 1024, x (ix3 b p k) * wg w k c)

/-- The angle of a position at a frequency. -/
def ang (p : Fin 16384) (f : Fin 32) : EReal :=
  FloatOps.sitofp (F := Ideal) .f32 (BitVec.ofNat 32 p.val)
    * Ideal.pow (Ideal.ofBits .f32 1176256512#32)
      (Ideal.div (-FloatOps.sitofp (F := Ideal) .f32 (BitVec.ofNat 32 f.val)) (Ideal.ofBits .f32 1107296256#32))

/-- The cosines of a position. -/
def cs (p : Fin 16384) (f : Fin 32) : EReal := Ideal.cos (ang p f)

/-- The sines of a position. -/
def sn (p : Fin 16384) (f : Fin 32) : EReal := Ideal.sin (ang p f)

/-- One entry of the queries. -/
def fq (x : X) (w : W) (b : Fin 2) (h : Fin 16) (d : Fin 64) (p : Fin 16384) : EReal :=
  rot (qhead x w b h p) (cs p) (sn p) d * Ideal.ofBits .f32 0x3E38AA3B#32

/-- One entry of a group's rotated keys, zero past the head. -/
def fk (x : X) (w : W) (o : ℕ) (ho : o ≤ 2304) (b : Fin 2) (g : Fin 4) (p : Fin 16384) (l : Fin 128) : EReal :=
  if h : l.val < 64 then rot (head x w o ho b g p) (cs p) (sn p) ⟨l.val, h⟩ else 0

/-- The block number of a position, as one entry of its mark. -/
def oneh (p : Fin 16384) (l : Fin 128) : EReal := if p.val / 64 % 128 = l.val then 1 else 0

/-- One entry of a group's rotated keys after their marks. -/
def fm (x : X) (w : W) (o : ℕ) (ho : o ≤ 2304) (b : Fin 2) (g : Fin 4) (p : Fin 16384) (l : Fin 256) : EReal :=
  if h : l.val < 128 then oneh p ⟨l.val, h⟩ else fk x w o ho b g p ⟨l.val - 128, by omega⟩

end Cert.Proof.Nsa

end
-- ==== Proof.NsaPay.lean ====
/-
  Hand-written. The projection call's stored tiles over the extended reals, entry by entry: the rotated pairs, the transposed values
  with their row of ones, the interleaved blocks, the gates.
-/
module

public import proofs.«01_k».proof.Defs
public import proofs.«01_k».proof.Proof.NsaSpec
public import proofs.«01_k».proof.Proof.Gen.Kernel5Ideal.Skeleton
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

open Cert.Kernel5Ideal Cert.Kernel5Ideal.Gen

/-- The lanes of the first half of each head. -/
theorem first_at (r : Fin 512) (l : Fin 128) : k0_pay16 (ix2 r l) = if l.val % 64 < 32 then 1#1 else 0#1 := by
  pointwise [k0_pay16]
  revert l
  decide +kernel

/-- The lanes of the first head. -/
theorem low_at (l : Fin 128) : k0_pay6 (ix2 0 l) = if l.val < 64 then 1#1 else 0#1 := by
  pointwise [k0_pay6]
  revert l
  decide +kernel

/-- Each lane's partner. -/
def part (y : FVec Ideal S512x128 .f32) : FVec Ideal S512x128 .f32 :=
  select k0_pay16 (dynamicRotate 1 96#32 none y rotates_S512x128_d1) (dynamicRotate 1 32#32 none y rotates_S512x128_d1)

/-- The rotated tile. -/
def turn (y c s : FVec Ideal S512x128 .f32) : FVec Ideal S512x128 .f32 := addf (mulf y c) (mulf (part y) s)

theorem part_lo (y : FVec Ideal S512x128 .f32) (r : Fin 512) (l : Fin 128) (h : l.val % 64 < 32) :
    part y (ix2 r l) = y (ix2 r ⟨l.val + 32, by omega⟩) := by
  pointwise [part]
  rw [first_at, if_pos h, ValueIdx.select_one]
  exact congrArg (fun z => y (ix2 r z)) (Fin.ext (by show (l.val + 128 - 96) % 128 = l.val + 32; omega))

theorem part_hi (y : FVec Ideal S512x128 .f32) (r : Fin 512) (l : Fin 128) (h : ¬ l.val % 64 < 32) :
    part y (ix2 r l) = y (ix2 r ⟨l.val - 32, by omega⟩) := by
  pointwise [part]
  rw [first_at, if_neg h, ValueIdx.select_zero]
  exact congrArg (fun z => y (ix2 r z)) (Fin.ext (by show (l.val + 128 - 32) % 128 = l.val - 32; omega))

/-- One entry of a rotated tile is the rotation of its head's row. -/
theorem turn_at (y c s : FVec Ideal S512x128 .f32) (r : Fin 512) (j : ℕ) (hj : j < 2) (d : Fin 64) (cs sn : Fin 32 → EReal)
    (hc : ∀ l : Fin 128, c (ix2 r l) = cs ⟨l.val % 32, Nat.mod_lt _ (by decide)⟩)
    (hs : ∀ l : Fin 128, s (ix2 r l) = if l.val % 64 < 32 then - sn ⟨l.val % 32, Nat.mod_lt _ (by decide)⟩ else sn ⟨l.val % 32, Nat.mod_lt _ (by decide)⟩) :
    turn y c s (ix2 r ⟨64 * j + d.val, by omega⟩) = rot (fun e => y (ix2 r ⟨64 * j + e.val, by omega⟩)) cs sn d := by
  unfold turn rot
  show y _ * c _ + part y _ * s _ = _
  by_cases h : d.val < 32
  · have h' : (64 * j + d.val) % 64 < 32 := by omega
    have e : (⟨(64 * j + d.val) % 32, Nat.mod_lt _ (by decide)⟩ : Fin 32) = ⟨d.val, h⟩ := Fin.ext (by show (64 * j + d.val) % 32 = d.val; omega)
    rw [part_lo _ _ _ h', hc, hs, if_pos h', dif_pos h]
    simp only [e]
    rw [mul_neg, ← sub_eq_add_neg]
    have e2 : (⟨64 * j + d.val + 32, by omega⟩ : Fin 128) = ⟨64 * j + (32 + d.val), by omega⟩ := Fin.ext (by show 64 * j + d.val + 32 = 64 * j + (32 + d.val); omega)
    rw [e2]
  · have h' : ¬ (64 * j + d.val) % 64 < 32 := by omega
    have e : (⟨(64 * j + d.val) % 32, Nat.mod_lt _ (by decide)⟩ : Fin 32) = ⟨d.val - 32, by omega⟩ := Fin.ext (by show (64 * j + d.val) % 32 = d.val - 32; omega)
    rw [part_hi _ _ _ h', hc, hs, if_neg h', dif_neg h]
    simp only [e]
    have e2 : (⟨64 * j + d.val - 32, by omega⟩ : Fin 128) = ⟨64 * j + (d.val - 32), by omega⟩ := Fin.ext (by show 64 * j + d.val - 32 = 64 * j + (d.val - 32); omega)
    rw [e2]

/-- The lower head of a query tile. -/
theorem q_lo (y c s : FVec Ideal S512x128 .f32) (d : Fin 64) (r : Fin 512) :
    k0_pay11 c s y (part y) (ix4 0 0 d r) = turn y c s (ix2 r ⟨64 * 0 + d.val, by omega⟩) * Ideal.ofBits .f32 0x3E38AA3B#32 := by
  have e : (⟨64 * 0 + d.val, by omega⟩ : Fin 128) = ⟨d.val, by omega⟩ := Fin.ext (by show 64 * 0 + d.val = d.val; omega)
  rw [e]
  pointwise [k0_pay11, k0_pay10, turn]

/-- The upper head of a query tile. -/
theorem q_hi (y c s : FVec Ideal S512x128 .f32) (d : Fin 64) (r : Fin 512) :
    k0_pay12 c s y (part y) (ix4 0 0 d r) = turn y c s (ix2 r ⟨64 * 1 + d.val, by omega⟩) * Ideal.ofBits .f32 0x3E38AA3B#32 := by
  pointwise [k0_pay12, k0_pay10, turn]

/-- A tile with its upper lanes at zero. -/
def keep (z : FVec Ideal S512x128 .f32) : FVec Ideal S512x128 .f32 :=
  select (broadcastTo S512x128 (shapeCast S1x128 k0_pay6 shapeCasts_S1x128_S1x128) broadcasts_S1x128_S512x128) z
    (broadcast S512x128 (Scalar.ofBits .f32 0x00000000#32))

/-- A tile with its two heads exchanged. -/
def up (z : FVec Ideal S512x128 .f32) : FVec Ideal S512x128 .f32 := dynamicRotate 1 64#32 none z rotates_S512x128_d1

theorem keep_at (z : FVec Ideal S512x128 .f32) (r : Fin 512) (l : Fin 128) : keep z (ix2 r l) = if l.val < 64 then z (ix2 r l) else 0 := by
  pointwise [keep]
  rw [low_at]
  by_cases h : l.val < 64 <;> simp [h, ValueIdx.select_one, ValueIdx.select_zero]

theorem keep_up (z : FVec Ideal S512x128 .f32) (r : Fin 512) (l : Fin 128) :
    keep (up z) (ix2 r l) = if h : l.val < 64 then z (ix2 r ⟨64 * 1 + l.val, by omega⟩) else 0 := by
  rw [keep_at]
  by_cases h : l.val < 64
  · rw [if_pos h, dif_pos h]
    pointwise [up]
    exact congrArg (fun w => z (ix2 r w)) (Fin.ext (by show (l.val + 128 - 64) % 128 = 64 * 1 + l.val; omega))
  · rw [if_neg h, dif_neg h]

theorem keep_lo (z : FVec Ideal S512x128 .f32) (r : Fin 512) (l : Fin 128) :
    keep z (ix2 r l) = if h : l.val < 64 then z (ix2 r ⟨64 * 0 + l.val, by omega⟩) else 0 := by
  rw [keep_at]
  by_cases h : l.val < 64
  · rw [if_pos h, dif_pos h]
    exact congrArg (fun w => z (ix2 r w)) (Fin.ext (by show l.val = 64 * 0 + l.val; omega))
  · rw [if_neg h, dif_neg h]

/-- A stored window key tile. -/
def wtile (z : FVec Ideal S512x128 .f32) : FVec Ideal S1x1x512x128 .bf16 :=
  shapeCast S1x1x512x128 (truncf .bf16 z bitsLt_bf16_f32) shapeCasts_S512x128_S1x1x512x128

theorem wtile_at (z : FVec Ideal S512x128 .f32) (r : Fin 512) (l : Fin 128) : wtile z (ix4 0 0 r l) = z (ix2 r l) := by
  pointwise [wtile]

/-- A stored marked key tile. -/
theorem mtile_at (o : FVec Ideal S512x128 .bf16) (z : FVec Ideal S512x128 .f32) (r : Fin 512) (l : Fin 256) :
    k0_pay107 o z (ix4 0 0 r l) = if h : l.val < 128 then o (ix2 r ⟨l.val, h⟩) else z (ix2 r ⟨l.val - 128, by omega⟩) := by
  pointwise [k0_pay107]

/-- The row of ones over rows of zeros. -/
theorem ones_at (r : Fin 16) (t : Fin 512) : k0_pay120 (F := Ideal) (ix2 r t) = if r.val = 0 then 1 else 0 := by
  pointwise [k0_pay120]
  have : IntOp.cmpi CmpIPredicate.eq (BitVec.ofNat 32 r.val) 0#32 = if r.val = 0 then 1#1 else 0#1 := by
    revert r
    decide +kernel
  rw [this]
  by_cases h : r.val = 0 <;> simp [h, ValueIdx.select_one, ValueIdx.select_zero]

/-- The lower head of a value tile over its row of ones. -/
def vlo (y : FVec Ideal S512x128 .f32) : FVec Ideal S80x512 .bf16 :=
  truncf .bf16 (concatenate S80x512 0 [⟨S64x512, extractStridedSlice S64x512 ![0, 0] (transpose S128x512 [1, 0] y transposes_S512x128_p1_0_S128x512)
    slices_S128x512_o0_0_S64x512⟩, ⟨S16x512, k0_pay120 (F := Ideal)⟩] concatenates_S64x512_S16x512_S80x512_d0) bitsLt_bf16_f32

/-- The upper head of a value tile over its row of ones. -/
def vhi (y : FVec Ideal S512x128 .f32) : FVec Ideal S80x512 .bf16 :=
  truncf .bf16 (concatenate S80x512 0 [⟨S64x512, extractStridedSlice S64x512 ![64, 0] (transpose S128x512 [1, 0] y transposes_S512x128_p1_0_S128x512)
    slices_S128x512_o64_0_S64x512⟩, ⟨S16x512, k0_pay120 (F := Ideal)⟩] concatenates_S64x512_S16x512_S80x512_d0) bitsLt_bf16_f32

theorem vlo_at (y : FVec Ideal S512x128 .f32) (r : Fin 80) (t : Fin 512) :
    vlo y (ix2 r t) = if h : r.val < 64 then y (ix2 t ⟨64 * 0 + r.val, by omega⟩) else if r.val = 64 then 1 else 0 := by
  pointwise [vlo]
  by_cases h : r.val < 64
  · rw [dif_pos h, dif_pos h]
  · rw [dif_neg h, dif_neg h, ones_at]
    by_cases h' : r.val = 64
    · rw [if_pos h', if_pos (by show r.val - 64 = 0; omega)]
    · rw [if_neg h', if_neg (by show ¬ r.val - 64 = 0; omega)]

theorem vhi_at (y : FVec Ideal S512x128 .f32) (r : Fin 80) (t : Fin 512) :
    vhi y (ix2 r t) = if h : r.val < 64 then y (ix2 t ⟨64 * 1 + r.val, by omega⟩) else if r.val = 64 then 1 else 0 := by
  pointwise [vhi]
  by_cases h : r.val < 64
  · rw [dif_pos h, dif_pos h]
  · rw [dif_neg h, dif_neg h, ones_at]
    by_cases h' : r.val = 64
    · rw [if_pos h', if_pos (by show r.val - 64 = 0; omega)]
    · rw [if_neg h', if_neg (by show ¬ r.val - 64 = 0; omega)]

/-- A stored tile of 512 values. -/
theorem vtile_at (z : FVec Ideal S80x512 .bf16) (r : Fin 80) (t : Fin 512) : k0_pay123 z (ix5 0 0 0 r t) = z (ix2 r t) := by
  pointwise [k0_pay123]

/-- A stored tile of 128 values. -/
theorem vtile128_at (z : FVec Ideal S80x128 .bf16) (r : Fin 80) (t : Fin 128) : k0_pay132 z (ix5 0 0 0 r t) = z (ix2 r t) := by
  pointwise [k0_pay132]

theorem row_lt (n : Fin 32) (a : ℕ) (ha : a < 16) : 16 * n.val + a < 512 := by omega

/-- A row of every sixteen. -/
def tok (y : FVec Ideal S512x128 .f32) (a : ℕ) (ha : a < 16) : FVec Ideal S32x128 .f32 :=
  fun i => y (ix2 ⟨16 * (i 0).val + a, row_lt (i 0) a ha⟩ (i 1))

theorem tok_at (y : FVec Ideal S512x128 .f32) (a : ℕ) (ha : a < 16) (n : Fin 32) (l : Fin 128) :
    tok y a ha (ix2 n l) = y (ix2 ⟨16 * n.val + a, row_lt n a ha⟩ l) := rfl

/-- The lower halves of two rows side by side. -/
def pairlo (a b : FVec Ideal S32x128 .f32) : FVec Ideal S32x128 .f32 :=
  select (broadcastTo S32x128 (shapeCast S1x128 k0_pay6 shapeCasts_S1x128_S1x128) broadcasts_S1x128_S32x128) a
    (dynamicRotate 1 64#32 none b rotates_S32x128_d1)

/-- The upper halves of two rows side by side. -/
def pairhi (a b : FVec Ideal S32x128 .f32) : FVec Ideal S32x128 .f32 :=
  select (broadcastTo S32x128 (shapeCast S1x128 k0_pay6 shapeCasts_S1x128_S1x128) broadcasts_S1x128_S32x128)
    (dynamicRotate 1 64#32 none a rotates_S32x128_d1) b

theorem pairlo_at (y : FVec Ideal S512x128 .f32) (a b : ℕ) (ha : a < 16) (hb : b < 16) (n : Fin 32) (l : Fin 128) :
    pairlo (tok y a ha) (tok y b hb) (ix2 n l)
      = y (ix2 ⟨16 * n.val + (if l.val < 64 then a else b), row_lt n _ (by split <;> assumption)⟩ ⟨64 * 0 + l.val % 64, by omega⟩) := by
  pointwise [pairlo]
  rw [low_at, tok_at, tok_at]
  by_cases h : l.val < 64
  · simp only [if_pos h, ValueIdx.select_one]
    exact congrArg (fun z => y (ix2 _ z)) (Fin.ext (by show l.val = l.val % 64; omega))
  · simp only [if_neg h, ValueIdx.select_zero]
    exact congrArg (fun z => y (ix2 _ z)) (Fin.ext (by show (l.val + 128 - 64) % 128 = l.val % 64; omega))

theorem pairhi_at (y : FVec Ideal S512x128 .f32) (a b : ℕ) (ha : a < 16) (hb : b < 16) (n : Fin 32) (l : Fin 128) :
    pairhi (tok y a ha) (tok y b hb) (ix2 n l)
      = y (ix2 ⟨16 * n.val + (if l.val < 64 then a else b), row_lt n _ (by split <;> assumption)⟩ ⟨64 * 1 + l.val % 64, by omega⟩) := by
  pointwise [pairhi]
  rw [low_at, tok_at, tok_at]
  by_cases h : l.val < 64
  · simp only [if_pos h, ValueIdx.select_one]
    exact congrArg (fun z => y (ix2 _ z)) (Fin.ext (by show (l.val + 128 - 64) % 128 = 64 + l.val % 64; omega))
  · simp only [if_neg h, ValueIdx.select_zero]
    exact congrArg (fun z => y (ix2 _ z)) (Fin.ext (by show l.val = 64 + l.val % 64; omega))

/-- Eight pairs side by side. -/
def btile (p0 p1 p2 p3 p4 p5 p6 p7 : FVec Ideal S32x128 .f32) : FVec Ideal S1x1x32x1024 .bf16 :=
  shapeCast S1x1x32x1024 (truncf .bf16 (concatenate S32x1024 1 [⟨S32x128, p0⟩, ⟨S32x128, p1⟩, ⟨S32x128, p2⟩, ⟨S32x128, p3⟩, ⟨S32x128, p4⟩,
    ⟨S32x128, p5⟩, ⟨S32x128, p6⟩, ⟨S32x128, p7⟩]
    concatenates_S32x128_S32x128_S32x128_S32x128_S32x128_S32x128_S32x128_S32x128_S32x1024_d1) bitsLt_bf16_f32) shapeCasts_S32x1024_S1x1x32x1024

/-- One entry of eight pairs side by side, each pair at one function of its place. -/
theorem btile_at (p0 p1 p2 p3 p4 p5 p6 p7 : FVec Ideal S32x128 .f32) (n : Fin 32) (c : Fin 1024) (g : ℕ → ℕ → EReal)
    (h0 : ∀ l : Fin 128, p0 (ix2 n l) = g (2 * 0 + l.val / 64) (l.val % 64)) (h1 : ∀ l : Fin 128, p1 (ix2 n l) = g (2 * 1 + l.val / 64) (l.val % 64))
    (h2 : ∀ l : Fin 128, p2 (ix2 n l) = g (2 * 2 + l.val / 64) (l.val % 64)) (h3 : ∀ l : Fin 128, p3 (ix2 n l) = g (2 * 3 + l.val / 64) (l.val % 64))
    (h4 : ∀ l : Fin 128, p4 (ix2 n l) = g (2 * 4 + l.val / 64) (l.val % 64)) (h5 : ∀ l : Fin 128, p5 (ix2 n l) = g (2 * 5 + l.val / 64) (l.val % 64))
    (h6 : ∀ l : Fin 128, p6 (ix2 n l) = g (2 * 6 + l.val / 64) (l.val % 64)) (h7 : ∀ l : Fin 128, p7 (ix2 n l) = g (2 * 7 + l.val / 64) (l.val % 64)) :
    btile p0 p1 p2 p3 p4 p5 p6 p7 (ix4 0 0 n c) = g (c.val / 64) (c.val % 64) := by
  pointwise [btile]
  simp only [h0, h1, h2, h3, h4, h5, h6, h7]
  repeat' split
  all_goals exact congrArg₂ g (by omega) (by omega)

/-- One entry of the gates. -/
theorem gates_at (x0 : Vec Ideal S1x512x1024 .f32) (x3 : Vec Ideal S1024x128 .bf16) (c : Fin 64) (r : Fin 512) :
    k0_pay2 (k0_pay3 x0) x3 (ix3 0 c r) = Ideal.logistic (∑ k : Fin 1024, x0 (ix3 0 r k) * x3 (ix2 k ⟨c.val, by omega⟩)) := by
  pointwise [k0_pay2, k0_pay3]

/-- One entry of the first product's tile. -/
theorem yq_at (x0 : Vec Ideal S1x512x1024 .f32) (x1 : Vec Ideal S1024x1024 .bf16) (r : Fin 512) (c : Fin 1024) :
    k0_pay7 x0 x1 (ix2 r c) = ∑ k : Fin 1024, x0 (ix3 0 r k) * x1 (ix2 k c) := by
  pointwise [k0_pay7, k0_pay3]

/-- One entry of the second product's tile. -/
theorem ykv_at (x0 : Vec Ideal S1x512x1024 .f32) (x2 : Vec Ideal S1024x1536 .bf16) (r : Fin 512) (c : Fin 1536) :
    k0_pay56 (k0_pay3 x0) x2 (ix2 r c) = ∑ k : Fin 1024, x0 (ix3 0 r k) * x2 (ix2 k c) := by
  pointwise [k0_pay56, k0_pay3]

end Cert.Proof.Nsa

end
-- ==== Proof.NsaTile.lean ====
/-
  Hand-written. The projection call's stored tiles as entries of its results, for blocks that hold the arguments' entries of one point.
-/
module

public import proofs.«01_k».proof.Defs
public import proofs.«01_k».proof.Proof.NsaPay
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

open Cert.Kernel5Ideal Cert.Kernel5Ideal.Gen

/-- Position `r` of chunk `i`. -/
def pos (i : Fin 32) (r : Fin 512) : Fin 16384 := ⟨i.val * 512 + r.val, by omega⟩

/-- The input blocks of chunk `i` of batch `b`. -/
structure Blk (x : X) (w : W) (b : Fin 2) (i : Fin 32) (x0 : Vec Ideal S1x512x1024 .f32) (x1 : Vec Ideal S1024x1024 .bf16) (x2 : Vec Ideal S1024x1536 .bf16)
    (x3 : Vec Ideal S1024x128 .bf16) (x4 x5 : Vec Ideal S512x128 .f32) : Prop where
  h0 : ∀ (r : Fin 512) (k : Fin 1024), x0 (ix3 0 r k) = x (ix3 b (pos i r) k)
  h1 : ∀ (k c : Fin 1024), x1 (ix2 k c) = w (ix2 k ⟨c.val, by omega⟩)
  h2 : ∀ (k : Fin 1024) (c : Fin 1536), x2 (ix2 k c) = w (ix2 k ⟨1024 + c.val, by omega⟩)
  h3 : ∀ (k : Fin 1024) (c : Fin 64), x3 (ix2 k ⟨c.val, by omega⟩) = wg w k c
  h4 : ∀ (r : Fin 512) (l : Fin 128), x4 (ix2 r l) = cs (pos i r) ⟨l.val % 32, Nat.mod_lt _ (by decide)⟩
  h5 : ∀ (r : Fin 512) (l : Fin 128), x5 (ix2 r l)
    = if l.val % 64 < 32 then - sn (pos i r) ⟨l.val % 32, Nat.mod_lt _ (by decide)⟩ else sn (pos i r) ⟨l.val % 32, Nat.mod_lt _ (by decide)⟩

section Tiles

variable {x : X} {w : W} {b : Fin 2} {i : Fin 32} {x0 : Vec Ideal S1x512x1024 .f32} {x1 : Vec Ideal S1024x1024 .bf16} {x2 : Vec Ideal S1024x1536 .bf16}
  {x3 : Vec Ideal S1024x128 .bf16} {x4 x5 : Vec Ideal S512x128 .f32}

theorem yq (H : Blk x w b i x0 x1 x2 x3 x4 x5) (r : Fin 512) (c : Fin 1024) : k0_pay7 x0 x1 (ix2 r c) = proj x w b (pos i r) ⟨c.val, by omega⟩ := by
  rw [yq_at]
  simp only [H.h0, H.h1]
  rfl

theorem ykv (H : Blk x w b i x0 x1 x2 x3 x4 x5) (r : Fin 512) (c : Fin 1536) :
    k0_pay56 (k0_pay3 x0) x2 (ix2 r c) = proj x w b (pos i r) ⟨1024 + c.val, by omega⟩ := by
  rw [ykv_at]
  simp only [H.h0, H.h2]
  rfl

/-- The gates' tile. -/
theorem t_gt (H : Blk x w b i x0 x1 x2 x3 x4 x5) (c : Fin 64) (r : Fin 512) : k0_pay2 (k0_pay3 x0) x3 (ix3 0 c r) = fg x w b c (pos i r) := by
  rw [gates_at]
  simp only [H.h0, H.h3]
  rfl

theorem hC (H : Blk x w b i x0 x1 x2 x3 x4 x5) (r : Fin 512) (l : Fin 128) : k0_pay4 x4 (ix2 r l) = cs (pos i r) ⟨l.val % 32, Nat.mod_lt _ (by decide)⟩ := by
  pointwise [k0_pay4]
  exact H.h4 r l

theorem hS (H : Blk x w b i x0 x1 x2 x3 x4 x5) (r : Fin 512) (l : Fin 128) : k0_pay5 x5 (ix2 r l)
    = if l.val % 64 < 32 then - sn (pos i r) ⟨l.val % 32, Nat.mod_lt _ (by decide)⟩ else sn (pos i r) ⟨l.val % 32, Nat.mod_lt _ (by decide)⟩ := by
  pointwise [k0_pay5]
  exact H.h5 r l

/-- A lower query tile. -/
theorem t_qlo (H : Blk x w b i x0 x1 x2 x3 x4 x5) (y : FVec Ideal S512x128 .f32) (a : ℕ) (ha : a < 8)
    (hy : ∀ (r : Fin 512) (l : Fin 128), y (ix2 r l) = k0_pay7 x0 x1 (ix2 r ⟨128 * a + l.val, by omega⟩)) (d : Fin 64) (r : Fin 512) :
    k0_pay11 (k0_pay4 x4) (k0_pay5 x5) y (part y) (ix4 0 0 d r) = fq x w b ⟨2 * a, by omega⟩ d (pos i r) := by
  rw [q_lo, turn_at y _ _ r 0 (by decide) d _ _ (hC H r) (hS H r)]
  simp only [hy, yq H]
  unfold fq
  congr 2
  funext e
  exact congrArg (proj x w b (pos i r)) (Fin.ext (by show 128 * a + (64 * 0 + e.val) = 2 * a * 64 + e.val; omega))

/-- An upper query tile. -/
theorem t_qhi (H : Blk x w b i x0 x1 x2 x3 x4 x5) (y : FVec Ideal S512x128 .f32) (a : ℕ) (ha : a < 8)
    (hy : ∀ (r : Fin 512) (l : Fin 128), y (ix2 r l) = k0_pay7 x0 x1 (ix2 r ⟨128 * a + l.val, by omega⟩)) (d : Fin 64) (r : Fin 512) :
    k0_pay12 (k0_pay4 x4) (k0_pay5 x5) y (part y) (ix4 0 0 d r) = fq x w b ⟨2 * a + 1, by omega⟩ d (pos i r) := by
  rw [q_hi, turn_at y _ _ r 1 (by decide) d _ _ (hC H r) (hS H r)]
  simp only [hy, yq H]
  unfold fq
  congr 2
  funext e
  exact congrArg (proj x w b (pos i r)) (Fin.ext (by show 128 * a + (64 * 1 + e.val) = (2 * a + 1) * 64 + e.val; omega))

/-- The kept lower lanes of a rotated tile. -/
theorem t_klo (H : Blk x w b i x0 x1 x2 x3 x4 x5) (y : FVec Ideal S512x128 .f32) (o : ℕ) (ho : o ≤ 2304) (a : ℕ) (ha : a < 2)
    (hy : ∀ (r : Fin 512) (l : Fin 128), y (ix2 r l) = proj x w b (pos i r) ⟨o + (128 * a + l.val), by omega⟩) (r : Fin 512) (l : Fin 128) :
    keep (turn y (k0_pay4 x4) (k0_pay5 x5)) (ix2 r l) = fk x w o ho b ⟨2 * a, by omega⟩ (pos i r) l := by
  rw [keep_lo]
  unfold fk
  by_cases h : l.val < 64
  · rw [dif_pos h, dif_pos h]
    refine (turn_at y _ _ r 0 (by decide) ⟨l.val, h⟩ _ _ (hC H r) (hS H r)).trans ?_
    simp only [hy]
    congr 1
    funext e
    exact congrArg (proj x w b (pos i r)) (Fin.ext (by show o + (128 * a + (64 * 0 + e.val)) = o + (2 * a * 64 + e.val); omega))
  · rw [dif_neg h, dif_neg h]

/-- The kept upper lanes of a rotated tile. -/
theorem t_khi (H : Blk x w b i x0 x1 x2 x3 x4 x5) (y : FVec Ideal S512x128 .f32) (o : ℕ) (ho : o ≤ 2304) (a : ℕ) (ha : a < 2)
    (hy : ∀ (r : Fin 512) (l : Fin 128), y (ix2 r l) = proj x w b (pos i r) ⟨o + (128 * a + l.val), by omega⟩) (r : Fin 512) (l : Fin 128) :
    keep (up (turn y (k0_pay4 x4) (k0_pay5 x5))) (ix2 r l) = fk x w o ho b ⟨2 * a + 1, by omega⟩ (pos i r) l := by
  rw [keep_up]
  unfold fk
  by_cases h : l.val < 64
  · rw [dif_pos h, dif_pos h]
    refine (turn_at y _ _ r 1 (by decide) ⟨l.val, h⟩ _ _ (hC H r) (hS H r)).trans ?_
    simp only [hy]
    congr 1
    funext e
    exact congrArg (proj x w b (pos i r)) (Fin.ext (by show o + (128 * a + (64 * 1 + e.val)) = o + ((2 * a + 1) * 64 + e.val); omega))
  · rw [dif_neg h, dif_neg h]

/-- A lower window key tile. -/
theorem t_wlo (H : Blk x w b i x0 x1 x2 x3 x4 x5) (y : FVec Ideal S512x128 .f32) (o : ℕ) (ho : o ≤ 2304) (a : ℕ) (ha : a < 2)
    (hy : ∀ (r : Fin 512) (l : Fin 128), y (ix2 r l) = proj x w b (pos i r) ⟨o + (128 * a + l.val), by omega⟩) (r : Fin 512) (l : Fin 128) :
    wtile (keep (turn y (k0_pay4 x4) (k0_pay5 x5))) (ix4 0 0 r l) = fk x w o ho b ⟨2 * a, by omega⟩ (pos i r) l := by
  rw [wtile_at, t_klo H y o ho a ha hy]

/-- An upper window key tile. -/
theorem t_whi (H : Blk x w b i x0 x1 x2 x3 x4 x5) (y : FVec Ideal S512x128 .f32) (o : ℕ) (ho : o ≤ 2304) (a : ℕ) (ha : a < 2)
    (hy : ∀ (r : Fin 512) (l : Fin 128), y (ix2 r l) = proj x w b (pos i r) ⟨o + (128 * a + l.val), by omega⟩) (r : Fin 512) (l : Fin 128) :
    wtile (keep (up (turn y (k0_pay4 x4) (k0_pay5 x5)))) (ix4 0 0 r l) = fk x w o ho b ⟨2 * a + 1, by omega⟩ (pos i r) l := by
  rw [wtile_at, t_khi H y o ho a ha hy]

/-- The block numbers of a chunk's positions, as words. -/
theorem word_at (i : Fin 32) (r : Fin 512) (l : Fin 128) : k0_pay97 (BitVec.ofNat 32 i.val) (ix2 r l) = BitVec.ofNat 32 ((i.val * 512 + r.val) / 64 % 128) := by
  pointwise [k0_pay97]
  revert r
  revert i
  decide +kernel

/-- Equality of a lane with a small number, as words. -/
theorem word_eq' (a : ℕ) (ha : a < 128) (l : Fin 128) : IntOp.cmpi CmpIPredicate.eq (BitVec.ofNat 32 a) (BitVec.ofNat 32 l.val) = if a = l.val then 1#1 else 0#1 := by
  rw [show a = (⟨a, ha⟩ : Fin 128).val from rfl]
  generalize (⟨a, ha⟩ : Fin 128) = a'
  revert l
  revert a'
  decide +kernel

/-- The marks of a chunk. -/
def marks (i : Fin 32) : FVec Ideal S512x128 .bf16 :=
  k0_pay99 (k0_pay97 (BitVec.ofNat 32 i.val)) (k0_pay98 (iota .tc S1x128 32 [1] iota_S1x128_d1_w32))

theorem marks_at (i : Fin 32) (r : Fin 512) (l : Fin 128) : marks i (ix2 r l) = oneh (pos i r) l := by
  pointwise [marks, k0_pay99, k0_pay98]
  rw [word_at, word_eq' _ (Nat.mod_lt _ (by decide))]
  unfold oneh pos
  by_cases h : (i.val * 512 + r.val) / 64 % 128 = l.val <;> simp [h, ValueIdx.select_one, ValueIdx.select_zero]

/-- A marked tile. -/
theorem t_mark (z : FVec Ideal S512x128 .f32) (o : ℕ) (ho : o ≤ 2304) (g : Fin 4)
    (hz : ∀ (r : Fin 512) (l : Fin 128), z (ix2 r l) = fk x w o ho b g (pos i r) l) (r : Fin 512) (l : Fin 256) :
    k0_pay107 (marks i) z (ix4 0 0 r l) = fm x w o ho b g (pos i r) l := by
  rw [mtile_at]
  unfold fm
  simp only [marks_at, hz]

/-- Block `n` of chunk `i`. -/
def blkno (i : Fin 32) (n : Fin 32) : Fin 1024 := ⟨i.val * 32 + n.val, by omega⟩

/-- A row of every sixteen, read back from the scratch. -/
theorem rc (P : FVec Ideal S512x128 .f32) (L) (a : ℕ) (ha : a < 16) (inb) (inb') :
    (View.whole cc0_scratch0).readCov (Val := Elt Ideal) (⟨Rect.unit (s := S512x128) ![0, 0] ![512, 128] inb, P⟩ :: L)
      { off := ![a, 0], size := ![32, 128], stride := ![16, 1], inb := inb' } = tok P a ha := by
  rw [View.readCov_eq_canon', View.canon_cons_unit_lit inb P L (by intro a; fin_cases a <;> rfl)]
  funext j
  unfold tok
  refine congrArg P (funext fun c => Fin.ext ?_)
  fin_cases c
  · show a + 16 * (j 0).val = 16 * (j 0).val + a
    omega
  · show 0 + 1 * (j 1).val = (j 1).val
    omega

/-- The lower blocks of a tile. -/
theorem t_blo (P : FVec Ideal S512x128 .f32) (o : ℕ) (ho : o ≤ 2304) (a : ℕ) (ha : a < 2)
    (hy : ∀ (r : Fin 512) (l : Fin 128), P (ix2 r l) = proj x w b (pos i r) ⟨o + (128 * a + l.val), by omega⟩) (n : Fin 32) (c : Fin 1024) :
    btile (pairlo (tok P 0 (by decide)) (tok P 1 (by decide))) (pairlo (tok P 2 (by decide)) (tok P 3 (by decide))) (pairlo (tok P 4 (by decide)) (tok P 5 (by decide))) (pairlo (tok P 6 (by decide)) (tok P 7 (by decide))) (pairlo (tok P 8 (by decide)) (tok P 9 (by decide))) (pairlo (tok P 10 (by decide)) (tok P 11 (by decide))) (pairlo (tok P 12 (by decide)) (tok P 13 (by decide))) (pairlo (tok P 14 (by decide)) (tok P 15 (by decide))) (ix4 0 0 n c) = fb x w o ho b ⟨2 * a, by omega⟩ (blkno i n) c := by
  have hp : ∀ (q : ℕ) (hq : q < 8) (l : Fin 128), P (ix2 ⟨16 * n.val + (if l.val < 64 then 2 * q else 2 * q + 1), row_lt n _ (by split <;> omega)⟩ ⟨64 * 0 + l.val % 64, by omega⟩)
      = (fun u v => if h : u < 16 ∧ v < 64 then P (ix2 ⟨16 * n.val + u, by omega⟩ ⟨v, by omega⟩) else 0) (2 * q + l.val / 64) (l.val % 64) := by
    intro q hq l
    show _ = dite _ _ _
    rw [dif_pos ⟨by omega, by omega⟩]
    have e1 : (⟨16 * n.val + (if l.val < 64 then 2 * q else 2 * q + 1), row_lt n _ (by split <;> omega)⟩ : Fin 512) = ⟨16 * n.val + (2 * q + l.val / 64), by omega⟩ :=
      Fin.ext (by show 16 * n.val + (if l.val < 64 then 2 * q else 2 * q + 1) = 16 * n.val + (2 * q + l.val / 64); split <;> omega)
    have e2 : (⟨64 * 0 + l.val % 64, by omega⟩ : Fin 128) = ⟨l.val % 64, by omega⟩ := Fin.ext (by show 64 * 0 + l.val % 64 = l.val % 64; omega)
    rw [e1, e2]
  refine (btile_at _ _ _ _ _ _ _ _ n c (fun u v => if h : u < 16 ∧ v < 64 then P (ix2 ⟨16 * n.val + u, by omega⟩ ⟨v, by omega⟩) else 0)
    (fun l => (pairlo_at P 0 1 (by decide) (by decide) n l).trans (hp 0 (by decide) l))
    (fun l => (pairlo_at P 2 3 (by decide) (by decide) n l).trans (hp 1 (by decide) l))
    (fun l => (pairlo_at P 4 5 (by decide) (by decide) n l).trans (hp 2 (by decide) l))
    (fun l => (pairlo_at P 6 7 (by decide) (by decide) n l).trans (hp 3 (by decide) l))
    (fun l => (pairlo_at P 8 9 (by decide) (by decide) n l).trans (hp 4 (by decide) l))
    (fun l => (pairlo_at P 10 11 (by decide) (by decide) n l).trans (hp 5 (by decide) l))
    (fun l => (pairlo_at P 12 13 (by decide) (by decide) n l).trans (hp 6 (by decide) l))
    (fun l => (pairlo_at P 14 15 (by decide) (by decide) n l).trans (hp 7 (by decide) l))).trans ?_
  show dite _ _ _ = _
  rw [dif_pos ⟨by omega, by omega⟩, hy]
  unfold fb head
  have e1 : pos i ⟨16 * n.val + c.val / 64, by omega⟩ = ⟨(blkno i n).val * 16 + c.val / 64, by omega⟩ :=
    Fin.ext (by show i.val * 512 + (16 * n.val + c.val / 64) = (i.val * 32 + n.val) * 16 + c.val / 64; omega)
  rw [e1]
  exact congrArg (proj x w b _) (Fin.ext (by show o + (128 * a + c.val % 64) = o + (2 * a * 64 + c.val % 64); omega))

/-- The upper blocks of a tile. -/
theorem t_bhi (P : FVec Ideal S512x128 .f32) (o : ℕ) (ho : o ≤ 2304) (a : ℕ) (ha : a < 2)
    (hy : ∀ (r : Fin 512) (l : Fin 128), P (ix2 r l) = proj x w b (pos i r) ⟨o + (128 * a + l.val), by omega⟩) (n : Fin 32) (c : Fin 1024) :
    btile (pairhi (tok P 0 (by decide)) (tok P 1 (by decide))) (pairhi (tok P 2 (by decide)) (tok P 3 (by decide))) (pairhi (tok P 4 (by decide)) (tok P 5 (by decide))) (pairhi (tok P 6 (by decide)) (tok P 7 (by decide))) (pairhi (tok P 8 (by decide)) (tok P 9 (by decide))) (pairhi (tok P 10 (by decide)) (tok P 11 (by decide))) (pairhi (tok P 12 (by decide)) (tok P 13 (by decide))) (pairhi (tok P 14 (by decide)) (tok P 15 (by decide))) (ix4 0 0 n c) = fb x w o ho b ⟨2 * a + 1, by omega⟩ (blkno i n) c := by
  have hp : ∀ (q : ℕ) (hq : q < 8) (l : Fin 128), P (ix2 ⟨16 * n.val + (if l.val < 64 then 2 * q else 2 * q + 1), row_lt n _ (by split <;> omega)⟩ ⟨64 * 1 + l.val % 64, by omega⟩)
      = (fun u v => if h : u < 16 ∧ v < 64 then P (ix2 ⟨16 * n.val + u, by omega⟩ ⟨64 * 1 + v, by omega⟩) else 0) (2 * q + l.val / 64) (l.val % 64) := by
    intro q hq l
    show _ = dite _ _ _
    rw [dif_pos ⟨by omega, by omega⟩]
    have e1 : (⟨16 * n.val + (if l.val < 64 then 2 * q else 2 * q + 1), row_lt n _ (by split <;> omega)⟩ : Fin 512) = ⟨16 * n.val + (2 * q + l.val / 64), by omega⟩ :=
      Fin.ext (by show 16 * n.val + (if l.val < 64 then 2 * q else 2 * q + 1) = 16 * n.val + (2 * q + l.val / 64); split <;> omega)
    rw [e1]
  refine (btile_at _ _ _ _ _ _ _ _ n c (fun u v => if h : u < 16 ∧ v < 64 then P (ix2 ⟨16 * n.val + u, by omega⟩ ⟨64 * 1 + v, by omega⟩) else 0)
    (fun l => (pairhi_at P 0 1 (by decide) (by decide) n l).trans (hp 0 (by decide) l))
    (fun l => (pairhi_at P 2 3 (by decide) (by decide) n l).trans (hp 1 (by decide) l))
    (fun l => (pairhi_at P 4 5 (by decide) (by decide) n l).trans (hp 2 (by decide) l))
    (fun l => (pairhi_at P 6 7 (by decide) (by decide) n l).trans (hp 3 (by decide) l))
    (fun l => (pairhi_at P 8 9 (by decide) (by decide) n l).trans (hp 4 (by decide) l))
    (fun l => (pairhi_at P 10 11 (by decide) (by decide) n l).trans (hp 5 (by decide) l))
    (fun l => (pairhi_at P 12 13 (by decide) (by decide) n l).trans (hp 6 (by decide) l))
    (fun l => (pairhi_at P 14 15 (by decide) (by decide) n l).trans (hp 7 (by decide) l))).trans ?_
  show dite _ _ _ = _
  rw [dif_pos ⟨by omega, by omega⟩, hy]
  unfold fb head
  have e1 : pos i ⟨16 * n.val + c.val / 64, by omega⟩ = ⟨(blkno i n).val * 16 + c.val / 64, by omega⟩ :=
    Fin.ext (by show i.val * 512 + (16 * n.val + c.val / 64) = (i.val * 32 + n.val) * 16 + c.val / 64; omega)
  rw [e1]
  exact congrArg (proj x w b _) (Fin.ext (by show o + (128 * a + (64 * 1 + c.val % 64)) = o + ((2 * a + 1) * 64 + c.val % 64); omega))

/-- The tail of a value tile: a row of ones over rows of zeros. -/
theorem tail_at (r : Fin 80) (t : Fin 512) (h : ¬ r.val < 64) (h' : r.val - 64 < 16) : k0_pay120 (F := Ideal) (ix2 ⟨r.val - 64, h'⟩ t) = if r.val = 64 then 1 else 0 := by
  rw [ones_at]
  by_cases hr : r.val = 64
  · rw [if_pos hr, if_pos (by show r.val - 64 = 0; omega)]
  · rw [if_neg hr, if_neg (by show ¬ r.val - 64 = 0; omega)]

end Tiles

/-- An entry of a stored tile of one head of the queries. -/
theorem glue_q (P : S1x1x64x512.Idx → EReal) (Q : Fin 16 → Fin 64 → Fin 512 → EReal) (a : ℕ) (ha : a < 16) (h : ∀ d r, P (ix4 0 0 d r) = Q ⟨a, ha⟩ d r)
    (x : S1x1x64x512.Idx) (y : S1x16x64x512.Idx) (h1 : (y 1 : ℕ) = a + x 1) (h2 : (y 2 : ℕ) = x 2) (h3 : (y 3 : ℕ) = x 3) : P x = Q (y 1) (y 2) (y 3) := by
  have l0 : (x 0).val < 1 := (x 0).isLt
  have l1 : (x 1).val < 1 := (x 1).isLt
  have hx : ix4 0 0 (x 2) (x 3) = x := by
    funext c
    fin_cases c
    · exact Fin.ext (by show 0 = (x 0).val; omega)
    · exact Fin.ext (by show 0 = (x 1).val; omega)
    · rfl
    · rfl
  have e1 : y 1 = ⟨a, ha⟩ := Fin.ext (by show (y 1).val = a; omega)
  have e2 : y 2 = x 2 := Fin.ext h2
  have e3 : y 3 = x 3 := Fin.ext h3
  rw [e1, e2, e3]
  exact (congrArg P hx).symm.trans (h (x 2) (x 3))

theorem glue_b (P : S1x1x32x1024.Idx → EReal) (Q : Fin 4 → Fin 32 → Fin 1024 → EReal) (a : ℕ) (ha : a < 4) (h : ∀ d r, P (ix4 0 0 d r) = Q ⟨a, ha⟩ d r)
    (x : S1x1x32x1024.Idx) (y : S1x4x32x1024.Idx) (h1 : (y 1 : ℕ) = a + x 1) (h2 : (y 2 : ℕ) = x 2) (h3 : (y 3 : ℕ) = x 3) : P x = Q (y 1) (y 2) (y 3) := by
  have l0 : (x 0).val < 1 := (x 0).isLt
  have l1 : (x 1).val < 1 := (x 1).isLt
  have hx : ix4 0 0 (x 2) (x 3) = x := by
    funext c
    fin_cases c
    · exact Fin.ext (by show 0 = (x 0).val; omega)
    · exact Fin.ext (by show 0 = (x 1).val; omega)
    · rfl
    · rfl
  have e1 : y 1 = ⟨a, ha⟩ := Fin.ext (by show (y 1).val = a; omega)
  have e2 : y 2 = x 2 := Fin.ext h2
  have e3 : y 3 = x 3 := Fin.ext h3
  rw [e1, e2, e3]
  exact (congrArg P hx).symm.trans (h (x 2) (x 3))

theorem glue_m (P : S1x1x512x256.Idx → EReal) (Q : Fin 4 → Fin 512 → Fin 256 → EReal) (a : ℕ) (ha : a < 4) (h : ∀ d r, P (ix4 0 0 d r) = Q ⟨a, ha⟩ d r)
    (x : S1x1x512x256.Idx) (y : S1x4x512x256.Idx) (h1 : (y 1 : ℕ) = a + x 1) (h2 : (y 2 : ℕ) = x 2) (h3 : (y 3 : ℕ) = x 3) : P x = Q (y 1) (y 2) (y 3) := by
  have l0 : (x 0).val < 1 := (x 0).isLt
  have l1 : (x 1).val < 1 := (x 1).isLt
  have hx : ix4 0 0 (x 2) (x 3) = x := by
    funext c
    fin_cases c
    · exact Fin.ext (by show 0 = (x 0).val; omega)
    · exact Fin.ext (by show 0 = (x 1).val; omega)
    · rfl
    · rfl
  have e1 : y 1 = ⟨a, ha⟩ := Fin.ext (by show (y 1).val = a; omega)
  have e2 : y 2 = x 2 := Fin.ext h2
  have e3 : y 3 = x 3 := Fin.ext h3
  rw [e1, e2, e3]
  exact (congrArg P hx).symm.trans (h (x 2) (x 3))

theorem glue_w (P : S1x1x512x128.Idx → EReal) (Q : Fin 4 → Fin 512 → Fin 128 → EReal) (a : ℕ) (ha : a < 4) (h : ∀ d r, P (ix4 0 0 d r) = Q ⟨a, ha⟩ d r)
    (x : S1x1x512x128.Idx) (y : S1x4x512x128.Idx) (h1 : (y 1 : ℕ) = a + x 1) (h2 : (y 2 : ℕ) = x 2) (h3 : (y 3 : ℕ) = x 3) : P x = Q (y 1) (y 2) (y 3) := by
  have l0 : (x 0).val < 1 := (x 0).isLt
  have l1 : (x 1).val < 1 := (x 1).isLt
  have hx : ix4 0 0 (x 2) (x 3) = x := by
    funext c
    fin_cases c
    · exact Fin.ext (by show 0 = (x 0).val; omega)
    · exact Fin.ext (by show 0 = (x 1).val; omega)
    · rfl
    · rfl
  have e1 : y 1 = ⟨a, ha⟩ := Fin.ext (by show (y 1).val = a; omega)
  have e2 : y 2 = x 2 := Fin.ext h2
  have e3 : y 3 = x 3 := Fin.ext h3
  rw [e1, e2, e3]
  exact (congrArg P hx).symm.trans (h (x 2) (x 3))

theorem glue_v (P : S1x1x1x80x512.Idx → EReal) (Q : Fin 4 → Fin 1 → Fin 80 → Fin 512 → EReal) (a : ℕ) (ha : a < 4) (e : ℕ) (he : e < 1) (h : ∀ d r, P (ix5 0 0 0 d r) = Q ⟨a, ha⟩ ⟨e, he⟩ d r)
    (x : S1x1x1x80x512.Idx) (y : S1x4x1x80x512.Idx) (h1 : (y 1 : ℕ) = a + x 1) (h2 : (y 2 : ℕ) = e + x 2) (h3 : (y 3 : ℕ) = x 3) (h4 : (y 4 : ℕ) = x 4) : P x = Q (y 1) (y 2) (y 3) (y 4) := by
  have l0 : (x 0).val < 1 := (x 0).isLt
  have l1 : (x 1).val < 1 := (x 1).isLt
  have l2 : (x 2).val < 1 := (x 2).isLt
  have hx : ix5 0 0 0 (x 3) (x 4) = x := by
    funext c
    fin_cases c
    · exact Fin.ext (by show 0 = (x 0).val; omega)
    · exact Fin.ext (by show 0 = (x 1).val; omega)
    · exact Fin.ext (by show 0 = (x 2).val; omega)
    · rfl
    · rfl
  have e1 : y 1 = ⟨a, ha⟩ := Fin.ext (by show (y 1).val = a; omega)
  have e2 : y 2 = ⟨e, he⟩ := Fin.ext (by show (y 2).val = e; omega)
  have e3 : y 3 = x 3 := Fin.ext h3
  have e4 : y 4 = x 4 := Fin.ext h4
  rw [e1, e2, e3, e4]
  exact (congrArg P hx).symm.trans (h (x 3) (x 4))

theorem glue_u (P : S1x1x1x80x128.Idx → EReal) (Q : Fin 4 → Fin 4 → Fin 80 → Fin 128 → EReal) (a : ℕ) (ha : a < 4) (e : ℕ) (he : e < 4) (h : ∀ d r, P (ix5 0 0 0 d r) = Q ⟨a, ha⟩ ⟨e, he⟩ d r)
    (x : S1x1x1x80x128.Idx) (y : S1x4x4x80x128.Idx) (h1 : (y 1 : ℕ) = a + x 1) (h2 : (y 2 : ℕ) = e + x 2) (h3 : (y 3 : ℕ) = x 3) (h4 : (y 4 : ℕ) = x 4) : P x = Q (y 1) (y 2) (y 3) (y 4) := by
  have l0 : (x 0).val < 1 := (x 0).isLt
  have l1 : (x 1).val < 1 := (x 1).isLt
  have l2 : (x 2).val < 1 := (x 2).isLt
  have hx : ix5 0 0 0 (x 3) (x 4) = x := by
    funext c
    fin_cases c
    · exact Fin.ext (by show 0 = (x 0).val; omega)
    · exact Fin.ext (by show 0 = (x 1).val; omega)
    · exact Fin.ext (by show 0 = (x 2).val; omega)
    · rfl
    · rfl
  have e1 : y 1 = ⟨a, ha⟩ := Fin.ext (by show (y 1).val = a; omega)
  have e2 : y 2 = ⟨e, he⟩ := Fin.ext (by show (y 2).val = e; omega)
  have e3 : y 3 = x 3 := Fin.ext h3
  have e4 : y 4 = x 4 := Fin.ext h4
  rw [e1, e2, e3, e4]
  exact (congrArg P hx).symm.trans (h (x 3) (x 4))

end Cert.Proof.Nsa

end
-- ==== Proof.NsaEqA.lean ====
/-
  Hand-written. The queries' tiles in one form.
-/
module

public import proofs.«01_k».proof.Defs
public import proofs.«01_k».proof.Proof.NsaTile
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

open Cert.Kernel5Ideal Cert.Kernel5Ideal.Gen

theorem q15 (C S : FVec Ideal S512x128 .f32) (Y : FVec Ideal S512x1024 .f32) : k0_pay55 C S (k0_pay51 Y) k0_pay52 = k0_pay12 C S (extractStridedSlice S512x128 ![0, 896] Y slices_S512x1024_o0_896_S512x128) (part (extractStridedSlice S512x128 ![0, 896] Y slices_S512x1024_o0_896_S512x128)) := rfl
theorem q14 (C S : FVec Ideal S512x128 .f32) (Y : FVec Ideal S512x1024 .f32) : k0_pay54 C S (k0_pay51 Y) k0_pay52 = k0_pay11 C S (extractStridedSlice S512x128 ![0, 896] Y slices_S512x1024_o0_896_S512x128) (part (extractStridedSlice S512x128 ![0, 896] Y slices_S512x1024_o0_896_S512x128)) := rfl
theorem q13 (C S : FVec Ideal S512x128 .f32) (Y : FVec Ideal S512x1024 .f32) : k0_pay50 C S (k0_pay46 Y) k0_pay47 96#32 = k0_pay12 C S (extractStridedSlice S512x128 ![0, 768] Y slices_S512x1024_o0_768_S512x128) (part (extractStridedSlice S512x128 ![0, 768] Y slices_S512x1024_o0_768_S512x128)) := rfl
theorem q12 (C S : FVec Ideal S512x128 .f32) (Y : FVec Ideal S512x1024 .f32) : k0_pay49 C S (k0_pay46 Y) k0_pay47 96#32 = k0_pay11 C S (extractStridedSlice S512x128 ![0, 768] Y slices_S512x1024_o0_768_S512x128) (part (extractStridedSlice S512x128 ![0, 768] Y slices_S512x1024_o0_768_S512x128)) := rfl
theorem q11 (C S : FVec Ideal S512x128 .f32) (Y : FVec Ideal S512x1024 .f32) : k0_pay45 C S (k0_pay40 Y) k0_pay41 (k0_pay42 Y) = k0_pay12 C S (extractStridedSlice S512x128 ![0, 640] Y slices_S512x1024_o0_640_S512x128) (part (extractStridedSlice S512x128 ![0, 640] Y slices_S512x1024_o0_640_S512x128)) := rfl
theorem q10 (C S : FVec Ideal S512x128 .f32) (Y : FVec Ideal S512x1024 .f32) : k0_pay44 C S (k0_pay40 Y) k0_pay41 (k0_pay42 Y) = k0_pay11 C S (extractStridedSlice S512x128 ![0, 640] Y slices_S512x1024_o0_640_S512x128) (part (extractStridedSlice S512x128 ![0, 640] Y slices_S512x1024_o0_640_S512x128)) := rfl
theorem q9 (C S : FVec Ideal S512x128 .f32) (Y : FVec Ideal S512x1024 .f32) : k0_pay39 C S (k0_pay34 Y) k0_pay35 (k0_pay36 Y) 32#32 = k0_pay12 C S (extractStridedSlice S512x128 ![0, 512] Y slices_S512x1024_o0_512_S512x128) (part (extractStridedSlice S512x128 ![0, 512] Y slices_S512x1024_o0_512_S512x128)) := rfl
theorem q8 (C S : FVec Ideal S512x128 .f32) (Y : FVec Ideal S512x1024 .f32) : k0_pay38 C S (k0_pay34 Y) k0_pay35 (k0_pay36 Y) 32#32 = k0_pay11 C S (extractStridedSlice S512x128 ![0, 512] Y slices_S512x1024_o0_512_S512x128) (part (extractStridedSlice S512x128 ![0, 512] Y slices_S512x1024_o0_512_S512x128)) := rfl
theorem q7 (C S : FVec Ideal S512x128 .f32) (Y : FVec Ideal S512x1024 .f32) : k0_pay33 C S (k0_pay27 Y) k0_pay28 (k0_pay29 Y) (k0_pay30 Y) = k0_pay12 C S (extractStridedSlice S512x128 ![0, 384] Y slices_S512x1024_o0_384_S512x128) (part (extractStridedSlice S512x128 ![0, 384] Y slices_S512x1024_o0_384_S512x128)) := rfl
theorem q6 (C S : FVec Ideal S512x128 .f32) (Y : FVec Ideal S512x1024 .f32) : k0_pay32 C S (k0_pay27 Y) k0_pay28 (k0_pay29 Y) (k0_pay30 Y) = k0_pay11 C S (extractStridedSlice S512x128 ![0, 384] Y slices_S512x1024_o0_384_S512x128) (part (extractStridedSlice S512x128 ![0, 384] Y slices_S512x1024_o0_384_S512x128)) := rfl
theorem q5 (C S : FVec Ideal S512x128 .f32) (Y : FVec Ideal S512x1024 .f32) : k0_pay26 C S (k0_pay20 Y) (k0_pay21 Y) (k0_pay22 Y) k0_pay23 = k0_pay12 C S (extractStridedSlice S512x128 ![0, 256] Y slices_S512x1024_o0_256_S512x128) (part (extractStridedSlice S512x128 ![0, 256] Y slices_S512x1024_o0_256_S512x128)) := rfl
theorem q4 (C S : FVec Ideal S512x128 .f32) (Y : FVec Ideal S512x1024 .f32) : k0_pay25 C S (k0_pay20 Y) (k0_pay21 Y) (k0_pay22 Y) k0_pay23 = k0_pay11 C S (extractStridedSlice S512x128 ![0, 256] Y slices_S512x1024_o0_256_S512x128) (part (extractStridedSlice S512x128 ![0, 256] Y slices_S512x1024_o0_256_S512x128)) := rfl
theorem q3 (C S : FVec Ideal S512x128 .f32) (Y : FVec Ideal S512x1024 .f32) : k0_pay19 C S (k0_pay13 Y) (k0_pay14 Y) (k0_pay15 Y) k0_pay16 = k0_pay12 C S (extractStridedSlice S512x128 ![0, 128] Y slices_S512x1024_o0_128_S512x128) (part (extractStridedSlice S512x128 ![0, 128] Y slices_S512x1024_o0_128_S512x128)) := rfl
theorem q2 (C S : FVec Ideal S512x128 .f32) (Y : FVec Ideal S512x1024 .f32) : k0_pay18 C S (k0_pay13 Y) (k0_pay14 Y) (k0_pay15 Y) k0_pay16 = k0_pay11 C S (extractStridedSlice S512x128 ![0, 128] Y slices_S512x1024_o0_128_S512x128) (part (extractStridedSlice S512x128 ![0, 128] Y slices_S512x1024_o0_128_S512x128)) := rfl
theorem q1 (C S : FVec Ideal S512x128 .f32) (x0 : FVec Ideal S1x512x1024 .f32) (x1 : FVec Ideal S1024x1024 .bf16) : k0_pay12 C S (k0_pay8 x0 x1) (k0_pay9 x0 x1) = k0_pay12 C S (extractStridedSlice S512x128 ![0, 0] (k0_pay7 x0 x1) slices_S512x1024_o0_0_S512x128) (part (extractStridedSlice S512x128 ![0, 0] (k0_pay7 x0 x1) slices_S512x1024_o0_0_S512x128)) := rfl
theorem q0 (C S : FVec Ideal S512x128 .f32) (x0 : FVec Ideal S1x512x1024 .f32) (x1 : FVec Ideal S1024x1024 .bf16) : k0_pay11 C S (k0_pay8 x0 x1) (k0_pay9 x0 x1) = k0_pay11 C S (extractStridedSlice S512x128 ![0, 0] (k0_pay7 x0 x1) slices_S512x1024_o0_0_S512x128) (part (extractStridedSlice S512x128 ![0, 0] (k0_pay7 x0 x1) slices_S512x1024_o0_0_S512x128)) := rfl

end Cert.Proof.Nsa

end
-- ==== Proof.NsaOutA.lean ====
/-
  Hand-written. The queries' block of one point.
-/
module

public import proofs.«01_k».proof.Defs
public import proofs.«01_k».proof.Proof.NsaEqA
public import proofs.«01_k».proof.Proof.Gen.Kernel5Ideal.Value
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

open Cert.Kernel5Ideal Cert.Kernel5Ideal.Gen

variable (m : (ℓ : Loc nD τ sig) → Buf (Elt Ideal) ℓ) {x : X} {w : W} {b : Fin 2} {i : Fin 32}

/-- The queries' block. -/
theorem out_q (c : Dev nD) (t : Fin cfg0.N) (H : Blk x w b i (iblk m c 0 t) (iblk m c 1 t) (iblk m c 2 t) (iblk m c 3 t) (iblk m c 4 t) (iblk m c 5 t)) : (outsAt0 m c t).1 = fun y => fq x w b (y 1) (y 2) (pos i (y 3)) := by
  unfold outsAt0
  frame_out
  funext y
  canon_tiles z h
  · refine (congrFun (q15 _ _ _) z).trans ?_
    exact glue_q _ (fun h d r => fq x w b h d (pos i r)) 15 (by decide)
      (t_qhi H _ 7 (by decide) fun r l => by pointwise) z y (by omega) (by omega) (by omega)
  · refine (congrFun (q14 _ _ _) z).trans ?_
    exact glue_q _ (fun h d r => fq x w b h d (pos i r)) 14 (by decide)
      (t_qlo H _ 7 (by decide) fun r l => by pointwise) z y (by omega) (by omega) (by omega)
  · refine (congrFun (q13 _ _ _) z).trans ?_
    exact glue_q _ (fun h d r => fq x w b h d (pos i r)) 13 (by decide)
      (t_qhi H _ 6 (by decide) fun r l => by pointwise) z y (by omega) (by omega) (by omega)
  · refine (congrFun (q12 _ _ _) z).trans ?_
    exact glue_q _ (fun h d r => fq x w b h d (pos i r)) 12 (by decide)
      (t_qlo H _ 6 (by decide) fun r l => by pointwise) z y (by omega) (by omega) (by omega)
  · refine (congrFun (q11 _ _ _) z).trans ?_
    exact glue_q _ (fun h d r => fq x w b h d (pos i r)) 11 (by decide)
      (t_qhi H _ 5 (by decide) fun r l => by pointwise) z y (by omega) (by omega) (by omega)
  · refine (congrFun (q10 _ _ _) z).trans ?_
    exact glue_q _ (fun h d r => fq x w b h d (pos i r)) 10 (by decide)
      (t_qlo H _ 5 (by decide) fun r l => by pointwise) z y (by omega) (by omega) (by omega)
  · refine (congrFun (q9 _ _ _) z).trans ?_
    exact glue_q _ (fun h d r => fq x w b h d (pos i r)) 9 (by decide)
      (t_qhi H _ 4 (by decide) fun r l => by pointwise) z y (by omega) (by omega) (by omega)
  · refine (congrFun (q8 _ _ _) z).trans ?_
    exact glue_q _ (fun h d r => fq x w b h d (pos i r)) 8 (by decide)
      (t_qlo H _ 4 (by decide) fun r l => by pointwise) z y (by omega) (by omega) (by omega)
  · refine (congrFun (q7 _ _ _) z).trans ?_
    exact glue_q _ (fun h d r => fq x w b h d (pos i r)) 7 (by decide)
      (t_qhi H _ 3 (by decide) fun r l => by pointwise) z y (by omega) (by omega) (by omega)
  · refine (congrFun (q6 _ _ _) z).trans ?_
    exact glue_q _ (fun h d r => fq x w b h d (pos i r)) 6 (by decide)
      (t_qlo H _ 3 (by decide) fun r l => by pointwise) z y (by omega) (by omega) (by omega)
  · refine (congrFun (q5 _ _ _) z).trans ?_
    exact glue_q _ (fun h d r => fq x w b h d (pos i r)) 5 (by decide)
      (t_qhi H _ 2 (by decide) fun r l => by pointwise) z y (by omega) (by omega) (by omega)
  · refine (congrFun (q4 _ _ _) z).trans ?_
    exact glue_q _ (fun h d r => fq x w b h d (pos i r)) 4 (by decide)
      (t_qlo H _ 2 (by decide) fun r l => by pointwise) z y (by omega) (by omega) (by omega)
  · refine (congrFun (q3 _ _ _) z).trans ?_
    exact glue_q _ (fun h d r => fq x w b h d (pos i r)) 3 (by decide)
      (t_qhi H _ 1 (by decide) fun r l => by pointwise) z y (by omega) (by omega) (by omega)
  · refine (congrFun (q2 _ _ _) z).trans ?_
    exact glue_q _ (fun h d r => fq x w b h d (pos i r)) 2 (by decide)
      (t_qlo H _ 1 (by decide) fun r l => by pointwise) z y (by omega) (by omega) (by omega)
  · refine (congrFun (q1 _ _ _ _) z).trans ?_
    exact glue_q _ (fun h d r => fq x w b h d (pos i r)) 1 (by decide)
      (t_qhi H _ 0 (by decide) fun r l => by pointwise) z y (by omega) (by omega) (by omega)
  · refine (congrFun (q0 _ _ _ _) z).trans ?_
    exact glue_q _ (fun h d r => fq x w b h d (pos i r)) 0 (by decide)
      (t_qlo H _ 0 (by decide) fun r l => by pointwise) z y (by omega) (by omega) (by omega)

/-- The gates' block. -/
theorem out_g (c : Dev nD) (t : Fin cfg0.N) (H : Blk x w b i (iblk m c 0 t) (iblk m c 1 t) (iblk m c 2 t) (iblk m c 3 t) (iblk m c 4 t) (iblk m c 5 t)) : (outsAt0 m c t).2.1 = fun y => fg x w b (y 1) (pos i (y 2)) := by
  unfold outsAt0
  frame_out
  funext y
  have hy : ix3 0 (y 1) (y 2) = y := by
    have l0 : (y 0).val < 1 := (y 0).isLt
    funext a
    fin_cases a
    · exact Fin.ext (by show 0 = (y 0).val; omega)
    · rfl
    · rfl
  exact (congrArg _ hy).symm.trans (t_gt H (y 1) (y 2))

end Cert.Proof.Nsa

end
-- ==== Proof.NsaKv.lean ====
/-
  Hand-written. The second product's tile of one point.
-/
module

public import proofs.«01_k».proof.Defs
public import proofs.«01_k».proof.Proof.NsaTile
public import proofs.«01_k».proof.Proof.Gen.Kernel5Ideal.Value
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

open Cert.Kernel5Ideal Cert.Kernel5Ideal.Gen

variable (m : (ℓ : Loc nD τ sig) → Buf (Elt Ideal) ℓ) {x : X} {w : W} {b : Fin 2} {i : Fin 32}

/-- One entry of the second product's tile, at equal places. -/
theorem kv_eq (c : Dev nD) (t : Fin cfg0.N) (H : Blk x w b i (iblk m c 0 t) (iblk m c 1 t) (iblk m c 2 t) (iblk m c 3 t) (iblk m c 4 t) (iblk m c 5 t))
    (r r' : Fin 512) (q : Fin 1536) (q' : Fin 2608) (hr : r.val = r'.val) (hq : 1024 + q.val = q'.val) :
    k0_pay56 (k0_pay3 (iblk m c 0 t)) (iblk m c 2 t) (ix2 r q) = proj x w b (pos i r') q' := by
  have e : r = r' := Fin.ext hr
  have e' : (⟨1024 + q.val, by omega⟩ : Fin 2608) = q' := Fin.ext hq
  rw [ykv H, e', e]

end Cert.Proof.Nsa

end
-- ==== Proof.NsaEqB.lean ====
/-
  Hand-written. The blocks' tiles in one form.
-/
module

public import proofs.«01_k».proof.Defs
public import proofs.«01_k».proof.Proof.NsaTile
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

open Cert.Kernel5Ideal Cert.Kernel5Ideal.Gen

theorem p57 (a : FVec Ideal S512x1024 .bf16) (b : FVec Ideal S1024x1536 .bf16) : k0_pay57 a b = shapeCast S512x128 (extractStridedSlice S512x128 ![0, 0] (k0_pay56 a b) slices_S512x1536_o0_0_S512x128) shapeCasts_S512x128_S512x128 := rfl
theorem p72 (Y : FVec Ideal S512x1536 .f32) : k0_pay72 Y = shapeCast S512x128 (extractStridedSlice S512x128 ![0, 128] Y slices_S512x1536_o0_128_S512x128) shapeCasts_S512x128_S512x128 := rfl
theorem p75 (Y : FVec Ideal S512x1536 .f32) : k0_pay75 Y = shapeCast S512x128 (extractStridedSlice S512x128 ![0, 256] Y slices_S512x1536_o0_256_S512x128) shapeCasts_S512x128_S512x128 := rfl
theorem p86 (Y : FVec Ideal S512x1536 .f32) : k0_pay86 Y = shapeCast S512x128 (extractStridedSlice S512x128 ![0, 384] Y slices_S512x1536_o0_384_S512x128) shapeCasts_S512x128_S512x128 := rfl

/-- A strided read of a tile just written, through any view of the buffer. -/
theorem rcv {k : Kind} {sp : Space} (v : View sig k sp S512x128 .f32) (P : FVec Ideal S512x128 .f32) (L) (a : ℕ) (ha : a < 16) (inb) (inb') :
    v.readCov (Val := Elt Ideal) (⟨Rect.unit (s := S512x128) ![0, 0] ![512, 128] inb, P⟩ :: L)
      { off := ![a, 0], size := ![32, 128], stride := ![16, 1], inb := inb' } = tok P a ha := by
  rw [View.readCov_eq_canon', View.canon_cons_unit_lit inb P L (by intro a; fin_cases a <;> rfl)]
  funext j
  unfold tok
  refine congrArg P (funext fun c => Fin.ext ?_)
  fin_cases c
  · show a + 16 * (j 0).val = 16 * (j 0).val + a
    omega
  · show 0 + 1 * (j 1).val = (j 1).val
    omega

theorem k3 (P : FVec Ideal S512x128 .f32) (R0 R1 R2 R3 R4 R5 R6 R7 R8 R9 R10 R11 R12 R13 R14 R15 : FVec Ideal S32x128 .f32) (h0 : R0 = (tok P 0 (by decide))) (h1 : R1 = (tok P 1 (by decide))) (h2 : R2 = (tok P 2 (by decide))) (h3 : R3 = (tok P 3 (by decide))) (h4 : R4 = (tok P 4 (by decide))) (h5 : R5 = (tok P 5 (by decide))) (h6 : R6 = (tok P 6 (by decide))) (h7 : R7 = (tok P 7 (by decide))) (h8 : R8 = (tok P 8 (by decide))) (h9 : R9 = (tok P 9 (by decide))) (h10 : R10 = (tok P 10 (by decide))) (h11 : R11 = (tok P 11 (by decide))) (h12 : R12 = (tok P 12 (by decide))) (h13 : R13 = (tok P 13 (by decide))) (h14 : R14 = (tok P 14 (by decide))) (h15 : R15 = (tok P 15 (by decide)))  : k0_pay74 k0_pay6 R0 R1 R2 R3 R4 R5 R6 R7 R8 R9 R10 R11 R12 R13 R14 R15  = btile (pairhi (tok P 0 (by decide)) (tok P 1 (by decide))) (pairhi (tok P 2 (by decide)) (tok P 3 (by decide))) (pairhi (tok P 4 (by decide)) (tok P 5 (by decide))) (pairhi (tok P 6 (by decide)) (tok P 7 (by decide))) (pairhi (tok P 8 (by decide)) (tok P 9 (by decide))) (pairhi (tok P 10 (by decide)) (tok P 11 (by decide))) (pairhi (tok P 12 (by decide)) (tok P 13 (by decide))) (pairhi (tok P 14 (by decide)) (tok P 15 (by decide))) := by
  subst h0 h1 h2 h3 h4 h5 h6 h7 h8 h9 h10 h11 h12 h13 h14 h15
  rfl
theorem k2 (P : FVec Ideal S512x128 .f32) (R0 R1 R2 R3 R4 R5 R6 R7 R8 R9 R10 R11 R12 R13 R14 R15 : FVec Ideal S32x128 .f32) (h0 : R0 = (tok P 0 (by decide))) (h1 : R1 = (tok P 1 (by decide))) (h2 : R2 = (tok P 2 (by decide))) (h3 : R3 = (tok P 3 (by decide))) (h4 : R4 = (tok P 4 (by decide))) (h5 : R5 = (tok P 5 (by decide))) (h6 : R6 = (tok P 6 (by decide))) (h7 : R7 = (tok P 7 (by decide))) (h8 : R8 = (tok P 8 (by decide))) (h9 : R9 = (tok P 9 (by decide))) (h10 : R10 = (tok P 10 (by decide))) (h11 : R11 = (tok P 11 (by decide))) (h12 : R12 = (tok P 12 (by decide))) (h13 : R13 = (tok P 13 (by decide))) (h14 : R14 = (tok P 14 (by decide))) (h15 : R15 = (tok P 15 (by decide)))  : k0_pay73 k0_pay6 R0 R1 R2 R3 R4 R5 R6 R7 R8 R9 R10 R11 R12 R13 R14 R15  = btile (pairlo (tok P 0 (by decide)) (tok P 1 (by decide))) (pairlo (tok P 2 (by decide)) (tok P 3 (by decide))) (pairlo (tok P 4 (by decide)) (tok P 5 (by decide))) (pairlo (tok P 6 (by decide)) (tok P 7 (by decide))) (pairlo (tok P 8 (by decide)) (tok P 9 (by decide))) (pairlo (tok P 10 (by decide)) (tok P 11 (by decide))) (pairlo (tok P 12 (by decide)) (tok P 13 (by decide))) (pairlo (tok P 14 (by decide)) (tok P 15 (by decide))) := by
  subst h0 h1 h2 h3 h4 h5 h6 h7 h8 h9 h10 h11 h12 h13 h14 h15
  rfl
theorem k1 (P : FVec Ideal S512x128 .f32) (R14 R15 : FVec Ideal S32x128 .f32) (p0 p1 p2 p3 p4 p5 p6 : FVec Ideal S32x128 .f32) (h14 : R14 = (tok P 14 (by decide))) (h15 : R15 = (tok P 15 (by decide))) (g0 : p0 = pairhi (tok P 0 (by decide)) (tok P 1 (by decide))) (g1 : p1 = pairhi (tok P 2 (by decide)) (tok P 3 (by decide))) (g2 : p2 = pairhi (tok P 4 (by decide)) (tok P 5 (by decide))) (g3 : p3 = pairhi (tok P 6 (by decide)) (tok P 7 (by decide))) (g4 : p4 = pairhi (tok P 8 (by decide)) (tok P 9 (by decide))) (g5 : p5 = pairhi (tok P 10 (by decide)) (tok P 11 (by decide))) (g6 : p6 = pairhi (tok P 12 (by decide)) (tok P 13 (by decide))) : k0_pay71 k0_pay6 R14 R15 p0 p1 p2 p3 p4 p5 p6 = btile (pairhi (tok P 0 (by decide)) (tok P 1 (by decide))) (pairhi (tok P 2 (by decide)) (tok P 3 (by decide))) (pairhi (tok P 4 (by decide)) (tok P 5 (by decide))) (pairhi (tok P 6 (by decide)) (tok P 7 (by decide))) (pairhi (tok P 8 (by decide)) (tok P 9 (by decide))) (pairhi (tok P 10 (by decide)) (tok P 11 (by decide))) (pairhi (tok P 12 (by decide)) (tok P 13 (by decide))) (pairhi (tok P 14 (by decide)) (tok P 15 (by decide))) := by
  subst h14 h15 g0 g1 g2 g3 g4 g5 g6
  rfl
theorem k0 (P : FVec Ideal S512x128 .f32) (R10 R11 R12 R13 R14 R15 : FVec Ideal S32x128 .f32) (p0 p1 p2 p3 p4 : FVec Ideal S32x128 .f32) (h10 : R10 = (tok P 10 (by decide))) (h11 : R11 = (tok P 11 (by decide))) (h12 : R12 = (tok P 12 (by decide))) (h13 : R13 = (tok P 13 (by decide))) (h14 : R14 = (tok P 14 (by decide))) (h15 : R15 = (tok P 15 (by decide))) (g0 : p0 = pairlo (tok P 0 (by decide)) (tok P 1 (by decide))) (g1 : p1 = pairlo (tok P 2 (by decide)) (tok P 3 (by decide))) (g2 : p2 = pairlo (tok P 4 (by decide)) (tok P 5 (by decide))) (g3 : p3 = pairlo (tok P 6 (by decide)) (tok P 7 (by decide))) (g4 : p4 = pairlo (tok P 8 (by decide)) (tok P 9 (by decide))) : k0_pay63 k0_pay6 R10 R11 R12 R13 R14 R15 p0 p1 p2 p3 p4 = btile (pairlo (tok P 0 (by decide)) (tok P 1 (by decide))) (pairlo (tok P 2 (by decide)) (tok P 3 (by decide))) (pairlo (tok P 4 (by decide)) (tok P 5 (by decide))) (pairlo (tok P 6 (by decide)) (tok P 7 (by decide))) (pairlo (tok P 8 (by decide)) (tok P 9 (by decide))) (pairlo (tok P 10 (by decide)) (tok P 11 (by decide))) (pairlo (tok P 12 (by decide)) (tok P 13 (by decide))) (pairlo (tok P 14 (by decide)) (tok P 15 (by decide))) := by
  subst h10 h11 h12 h13 h14 h15 g0 g1 g2 g3 g4
  rfl
theorem v3 (P : FVec Ideal S512x128 .f32) (R0 R1 R2 R3 R4 R5 R6 R7 R8 R9 R10 R11 R12 R13 R14 R15 : FVec Ideal S32x128 .f32) (h0 : R0 = (tok P 0 (by decide))) (h1 : R1 = (tok P 1 (by decide))) (h2 : R2 = (tok P 2 (by decide))) (h3 : R3 = (tok P 3 (by decide))) (h4 : R4 = (tok P 4 (by decide))) (h5 : R5 = (tok P 5 (by decide))) (h6 : R6 = (tok P 6 (by decide))) (h7 : R7 = (tok P 7 (by decide))) (h8 : R8 = (tok P 8 (by decide))) (h9 : R9 = (tok P 9 (by decide))) (h10 : R10 = (tok P 10 (by decide))) (h11 : R11 = (tok P 11 (by decide))) (h12 : R12 = (tok P 12 (by decide))) (h13 : R13 = (tok P 13 (by decide))) (h14 : R14 = (tok P 14 (by decide))) (h15 : R15 = (tok P 15 (by decide)))  : k0_pay96 k0_pay6 R0 R1 R2 R3 R4 R5 R6 R7 R8 R9 R10 R11 R12 R13 R14 R15  = btile (pairhi (tok P 0 (by decide)) (tok P 1 (by decide))) (pairhi (tok P 2 (by decide)) (tok P 3 (by decide))) (pairhi (tok P 4 (by decide)) (tok P 5 (by decide))) (pairhi (tok P 6 (by decide)) (tok P 7 (by decide))) (pairhi (tok P 8 (by decide)) (tok P 9 (by decide))) (pairhi (tok P 10 (by decide)) (tok P 11 (by decide))) (pairhi (tok P 12 (by decide)) (tok P 13 (by decide))) (pairhi (tok P 14 (by decide)) (tok P 15 (by decide))) := by
  subst h0 h1 h2 h3 h4 h5 h6 h7 h8 h9 h10 h11 h12 h13 h14 h15
  rfl
theorem v2 (P : FVec Ideal S512x128 .f32) (p0 p1 p2 p3 p4 p5 p6 p7 : FVec Ideal S32x128 .f32)  (g0 : p0 = pairlo (tok P 0 (by decide)) (tok P 1 (by decide))) (g1 : p1 = pairlo (tok P 2 (by decide)) (tok P 3 (by decide))) (g2 : p2 = pairlo (tok P 4 (by decide)) (tok P 5 (by decide))) (g3 : p3 = pairlo (tok P 6 (by decide)) (tok P 7 (by decide))) (g4 : p4 = pairlo (tok P 8 (by decide)) (tok P 9 (by decide))) (g5 : p5 = pairlo (tok P 10 (by decide)) (tok P 11 (by decide))) (g6 : p6 = pairlo (tok P 12 (by decide)) (tok P 13 (by decide))) (g7 : p7 = pairlo (tok P 14 (by decide)) (tok P 15 (by decide))) : k0_pay95  p0 p1 p2 p3 p4 p5 p6 p7 = btile (pairlo (tok P 0 (by decide)) (tok P 1 (by decide))) (pairlo (tok P 2 (by decide)) (tok P 3 (by decide))) (pairlo (tok P 4 (by decide)) (tok P 5 (by decide))) (pairlo (tok P 6 (by decide)) (tok P 7 (by decide))) (pairlo (tok P 8 (by decide)) (tok P 9 (by decide))) (pairlo (tok P 10 (by decide)) (tok P 11 (by decide))) (pairlo (tok P 12 (by decide)) (tok P 13 (by decide))) (pairlo (tok P 14 (by decide)) (tok P 15 (by decide))) := by
  subst g0 g1 g2 g3 g4 g5 g6 g7
  rfl
theorem v1 (P : FVec Ideal S512x128 .f32) (R10 R11 R12 R13 R14 R15 : FVec Ideal S32x128 .f32) (p0 p1 p2 p3 p4 : FVec Ideal S32x128 .f32) (h10 : R10 = (tok P 10 (by decide))) (h11 : R11 = (tok P 11 (by decide))) (h12 : R12 = (tok P 12 (by decide))) (h13 : R13 = (tok P 13 (by decide))) (h14 : R14 = (tok P 14 (by decide))) (h15 : R15 = (tok P 15 (by decide))) (g0 : p0 = pairhi (tok P 0 (by decide)) (tok P 1 (by decide))) (g1 : p1 = pairhi (tok P 2 (by decide)) (tok P 3 (by decide))) (g2 : p2 = pairhi (tok P 4 (by decide)) (tok P 5 (by decide))) (g3 : p3 = pairhi (tok P 6 (by decide)) (tok P 7 (by decide))) (g4 : p4 = pairhi (tok P 8 (by decide)) (tok P 9 (by decide))) : k0_pay85 k0_pay6 R10 R11 R12 R13 R14 R15 p0 p1 p2 p3 p4 = btile (pairhi (tok P 0 (by decide)) (tok P 1 (by decide))) (pairhi (tok P 2 (by decide)) (tok P 3 (by decide))) (pairhi (tok P 4 (by decide)) (tok P 5 (by decide))) (pairhi (tok P 6 (by decide)) (tok P 7 (by decide))) (pairhi (tok P 8 (by decide)) (tok P 9 (by decide))) (pairhi (tok P 10 (by decide)) (tok P 11 (by decide))) (pairhi (tok P 12 (by decide)) (tok P 13 (by decide))) (pairhi (tok P 14 (by decide)) (tok P 15 (by decide))) := by
  subst h10 h11 h12 h13 h14 h15 g0 g1 g2 g3 g4
  rfl
theorem v0 (P : FVec Ideal S512x128 .f32) (R6 R7 R8 R9 R10 R11 R12 R13 R14 R15 : FVec Ideal S32x128 .f32) (p0 p1 p2 : FVec Ideal S32x128 .f32) (h6 : R6 = (tok P 6 (by decide))) (h7 : R7 = (tok P 7 (by decide))) (h8 : R8 = (tok P 8 (by decide))) (h9 : R9 = (tok P 9 (by decide))) (h10 : R10 = (tok P 10 (by decide))) (h11 : R11 = (tok P 11 (by decide))) (h12 : R12 = (tok P 12 (by decide))) (h13 : R13 = (tok P 13 (by decide))) (h14 : R14 = (tok P 14 (by decide))) (h15 : R15 = (tok P 15 (by decide))) (g0 : p0 = pairlo (tok P 0 (by decide)) (tok P 1 (by decide))) (g1 : p1 = pairlo (tok P 2 (by decide)) (tok P 3 (by decide))) (g2 : p2 = pairlo (tok P 4 (by decide)) (tok P 5 (by decide))) : k0_pay79 k0_pay6 R6 R7 R8 R9 R10 R11 R12 R13 R14 R15 p0 p1 p2 = btile (pairlo (tok P 0 (by decide)) (tok P 1 (by decide))) (pairlo (tok P 2 (by decide)) (tok P 3 (by decide))) (pairlo (tok P 4 (by decide)) (tok P 5 (by decide))) (pairlo (tok P 6 (by decide)) (tok P 7 (by decide))) (pairlo (tok P 8 (by decide)) (tok P 9 (by decide))) (pairlo (tok P 10 (by decide)) (tok P 11 (by decide))) (pairlo (tok P 12 (by decide)) (tok P 13 (by decide))) (pairlo (tok P 14 (by decide)) (tok P 15 (by decide))) := by
  subst h6 h7 h8 h9 h10 h11 h12 h13 h14 h15 g0 g1 g2
  rfl

end Cert.Proof.Nsa

end
-- ==== Proof.NsaOutB.lean ====
/-
  Hand-written. The key blocks' block of one point.
-/
module

public import proofs.«01_k».proof.Defs
public import proofs.«01_k».proof.Proof.NsaKv
public import proofs.«01_k».proof.Proof.NsaEqB
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

open Cert.Kernel5Ideal Cert.Kernel5Ideal.Gen

variable (m : (ℓ : Loc nD τ sig) → Buf (Elt Ideal) ℓ) {x : X} {w : W} {b : Fin 2} {i : Fin 32}

/-- The blocks' block. -/
theorem out_kc (c : Dev nD) (t : Fin cfg0.N) (H : Blk x w b i (iblk m c 0 t) (iblk m c 1 t) (iblk m c 2 t) (iblk m c 3 t) (iblk m c 4 t) (iblk m c 5 t)) : (outsAt0 m c t).2.2.1 = fun y => fb x w 1024 (by decide) b (y 1) (blkno i (y 2)) (y 3) := by
  unfold outsAt0
  frame_out
  funext y
  canon_tiles z h
  · have hk := t_bhi (x := x) (w := w) (b := b) (i := i) (k0_pay72 (k0_pay56 (k0_pay3 (iblk m c 0 t)) (iblk m c 2 t))) 1024 (by decide) 1 (by decide) (fun r l => by rw [p72]; pointwise; exact kv_eq m c t H _ _ _ _ rfl (by dsimp only <;> omega))
    refine (congrFun (k3 (k0_pay72 (k0_pay56 (k0_pay3 (iblk m c 0 t)) (iblk m c 2 t))) _ _ _ _ _ _ _ _ _ _ _ _ _ _ _ _ ?_ ?_ ?_ ?_ ?_ ?_ ?_ ?_ ?_ ?_ ?_ ?_ ?_ ?_ ?_ ?_) z).trans ?_
    · rw [rcv _ _ _ 0 (by decide)]
    · rw [rcv _ _ _ 1 (by decide)]
    · rw [rcv _ _ _ 2 (by decide)]
    · rw [rcv _ _ _ 3 (by decide)]
    · rw [rcv _ _ _ 4 (by decide)]
    · rw [rcv _ _ _ 5 (by decide)]
    · rw [rcv _ _ _ 6 (by decide)]
    · rw [rcv _ _ _ 7 (by decide)]
    · rw [rcv _ _ _ 8 (by decide)]
    · rw [rcv _ _ _ 9 (by decide)]
    · rw [rcv _ _ _ 10 (by decide)]
    · rw [rcv _ _ _ 11 (by decide)]
    · rw [rcv _ _ _ 12 (by decide)]
    · rw [rcv _ _ _ 13 (by decide)]
    · rw [rcv _ _ _ 14 (by decide)]
    · rw [rcv _ _ _ 15 (by decide)]
    exact glue_b _ (fun g n e => fb x w 1024 (by decide) b g (blkno i n) e) 3 (by decide) hk z y (by omega) (by omega) (by omega)
  · have hk := t_blo (x := x) (w := w) (b := b) (i := i) (k0_pay72 (k0_pay56 (k0_pay3 (iblk m c 0 t)) (iblk m c 2 t))) 1024 (by decide) 1 (by decide) (fun r l => by rw [p72]; pointwise; exact kv_eq m c t H _ _ _ _ rfl (by dsimp only <;> omega))
    refine (congrFun (k2 (k0_pay72 (k0_pay56 (k0_pay3 (iblk m c 0 t)) (iblk m c 2 t))) _ _ _ _ _ _ _ _ _ _ _ _ _ _ _ _ ?_ ?_ ?_ ?_ ?_ ?_ ?_ ?_ ?_ ?_ ?_ ?_ ?_ ?_ ?_ ?_) z).trans ?_
    · rw [rcv _ _ _ 0 (by decide)]
    · rw [rcv _ _ _ 1 (by decide)]
    · rw [rcv _ _ _ 2 (by decide)]
    · rw [rcv _ _ _ 3 (by decide)]
    · rw [rcv _ _ _ 4 (by decide)]
    · rw [rcv _ _ _ 5 (by decide)]
    · rw [rcv _ _ _ 6 (by decide)]
    · rw [rcv _ _ _ 7 (by decide)]
    · rw [rcv _ _ _ 8 (by decide)]
    · rw [rcv _ _ _ 9 (by decide)]
    · rw [rcv _ _ _ 10 (by decide)]
    · rw [rcv _ _ _ 11 (by decide)]
    · rw [rcv _ _ _ 12 (by decide)]
    · rw [rcv _ _ _ 13 (by decide)]
    · rw [rcv _ _ _ 14 (by decide)]
    · rw [rcv _ _ _ 15 (by decide)]
    exact glue_b _ (fun g n e => fb x w 1024 (by decide) b g (blkno i n) e) 2 (by decide) hk z y (by omega) (by omega) (by omega)
  · have hk := t_bhi (x := x) (w := w) (b := b) (i := i) (k0_pay57 (k0_pay3 (iblk m c 0 t)) (iblk m c 2 t)) 1024 (by decide) 0 (by decide) (fun r l => by rw [p57]; pointwise; exact kv_eq m c t H _ _ _ _ rfl (by dsimp only <;> omega))
    refine (congrFun (k1 (k0_pay57 (k0_pay3 (iblk m c 0 t)) (iblk m c 2 t)) _ _ _ _ _ _ _ _ _ ?_ ?_ ?_ ?_ ?_ ?_ ?_ ?_ ?_) z).trans ?_
    · rw [rcv _ _ _ 14 (by decide)]
    · rw [rcv _ _ _ 15 (by decide)]
    · rw [rcv _ _ _ 0 (by decide), rcv _ _ _ 1 (by decide)]
      rfl
    · rw [rcv _ _ _ 2 (by decide), rcv _ _ _ 3 (by decide)]
      rfl
    · rw [rcv _ _ _ 4 (by decide), rcv _ _ _ 5 (by decide)]
      rfl
    · rw [rcv _ _ _ 6 (by decide), rcv _ _ _ 7 (by decide)]
      rfl
    · rw [rcv _ _ _ 8 (by decide), rcv _ _ _ 9 (by decide)]
      rfl
    · rw [rcv _ _ _ 10 (by decide), rcv _ _ _ 11 (by decide)]
      rfl
    · rw [rcv _ _ _ 12 (by decide), rcv _ _ _ 13 (by decide)]
      rfl
    exact glue_b _ (fun g n e => fb x w 1024 (by decide) b g (blkno i n) e) 1 (by decide) hk z y (by omega) (by omega) (by omega)
  · have hk := t_blo (x := x) (w := w) (b := b) (i := i) (k0_pay57 (k0_pay3 (iblk m c 0 t)) (iblk m c 2 t)) 1024 (by decide) 0 (by decide) (fun r l => by rw [p57]; pointwise; exact kv_eq m c t H _ _ _ _ rfl (by dsimp only <;> omega))
    refine (congrFun (k0 (k0_pay57 (k0_pay3 (iblk m c 0 t)) (iblk m c 2 t)) _ _ _ _ _ _ _ _ _ _ _ ?_ ?_ ?_ ?_ ?_ ?_ ?_ ?_ ?_ ?_ ?_) z).trans ?_
    · rw [rcv _ _ _ 10 (by decide)]
    · rw [rcv _ _ _ 11 (by decide)]
    · rw [rcv _ _ _ 12 (by decide)]
    · rw [rcv _ _ _ 13 (by decide)]
    · rw [rcv _ _ _ 14 (by decide)]
    · rw [rcv _ _ _ 15 (by decide)]
    · rw [rcv _ _ _ 0 (by decide), rcv _ _ _ 1 (by decide)]
      rfl
    · rw [rcv _ _ _ 2 (by decide), rcv _ _ _ 3 (by decide)]
      rfl
    · rw [rcv _ _ _ 4 (by decide), rcv _ _ _ 5 (by decide)]
      rfl
    · rw [rcv _ _ _ 6 (by decide), rcv _ _ _ 7 (by decide)]
      rfl
    · rw [rcv _ _ _ 8 (by decide), rcv _ _ _ 9 (by decide)]
      rfl
    exact glue_b _ (fun g n e => fb x w 1024 (by decide) b g (blkno i n) e) 0 (by decide) hk z y (by omega) (by omega) (by omega)

end Cert.Proof.Nsa

end
-- ==== Proof.NsaEqC.lean ====
/-
  Hand-written. The keys' tiles in one form.
-/
module

public import proofs.«01_k».proof.Defs
public import proofs.«01_k».proof.Proof.NsaTile
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

open Cert.Kernel5Ideal Cert.Kernel5Ideal.Gen

theorem s3 (C S : FVec Ideal S512x128 .f32) (Y : FVec Ideal S512x1536 .f32) (M : FVec Ideal S512x128 .bf16) : k0_pay108 k0_pay6 M (k0_pay105 C S Y) = k0_pay107 M (keep (up (turn (extractStridedSlice S512x128 ![0, 640] Y slices_S512x1536_o0_640_S512x128) C S))) := rfl
theorem s2 (C S : FVec Ideal S512x128 .f32) (Y : FVec Ideal S512x1536 .f32) (M : FVec Ideal S512x128 .bf16) : k0_pay107 M (k0_pay106 C S k0_pay6 Y) = k0_pay107 M (keep (turn (extractStridedSlice S512x128 ![0, 640] Y slices_S512x1536_o0_640_S512x128) C S)) := rfl
theorem s1 (C S : FVec Ideal S512x128 .f32) (Y : FVec Ideal S512x1536 .f32) (M : FVec Ideal S512x128 .bf16) : k0_pay103 k0_pay6 M (k0_pay101 C S Y) = k0_pay107 M (keep (up (turn (extractStridedSlice S512x128 ![0, 512] Y slices_S512x1536_o0_512_S512x128) C S))) := rfl
theorem s0 (C S : FVec Ideal S512x128 .f32) (Y : FVec Ideal S512x1536 .f32) (A B : IVec S512x128 32) : k0_pay102 C S k0_pay6 Y A B = k0_pay107 (k0_pay99 A B) (keep (turn (extractStridedSlice S512x128 ![0, 512] Y slices_S512x1536_o0_512_S512x128) C S)) := rfl
theorem w0 (C S : FVec Ideal S512x128 .f32) (Y : FVec Ideal S512x1536 .f32) : k0_pay113 S k0_pay6 (k0_pay110 Y) (k0_pay111 C Y) = wtile (keep (turn (extractStridedSlice S512x128 ![0, 1024] Y slices_S512x1536_o0_1024_S512x128) C S)) := rfl
theorem w1 (C S : FVec Ideal S512x128 .f32) (Y : FVec Ideal S512x1536 .f32) : k0_pay114 S k0_pay6 (k0_pay110 Y) (k0_pay111 C Y) = wtile (keep (up (turn (extractStridedSlice S512x128 ![0, 1024] Y slices_S512x1536_o0_1024_S512x128) C S))) := rfl
theorem w2 (C S : FVec Ideal S512x128 .f32) (Y : FVec Ideal S512x1536 .f32) : k0_pay118 C S k0_pay6 (k0_pay115 Y) k0_pay116 96#32 = wtile (keep (turn (extractStridedSlice S512x128 ![0, 1152] Y slices_S512x1536_o0_1152_S512x128) C S)) := rfl
theorem w3 (C S : FVec Ideal S512x128 .f32) (Y : FVec Ideal S512x1536 .f32) : k0_pay119 C S k0_pay6 (k0_pay115 Y) k0_pay116 96#32 = wtile (keep (up (turn (extractStridedSlice S512x128 ![0, 1152] Y slices_S512x1536_o0_1152_S512x128) C S))) := rfl

end Cert.Proof.Nsa

end
-- ==== Proof.NsaOutC.lean ====
/-
  Hand-written. The marked keys' block of one point.
-/
module

public import proofs.«01_k».proof.Defs
public import proofs.«01_k».proof.Proof.NsaKv
public import proofs.«01_k».proof.Proof.NsaEqC
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

open Cert.Kernel5Ideal Cert.Kernel5Ideal.Gen

variable (m : (ℓ : Loc nD τ sig) → Buf (Elt Ideal) ℓ) {x : X} {w : W} {b : Fin 2} {i : Fin 32}

/-- The marked keys' block. -/
theorem out_ks (c : Dev nD) (t : Fin cfg0.N) (H : Blk x w b i (iblk m c 0 t) (iblk m c 1 t) (iblk m c 2 t) (iblk m c 3 t) (iblk m c 4 t) (iblk m c 5 t)) (hi : (grid0.coords t 1).val = i.val) :
    (outsAt0 m c t).2.2.2.2.1 = fun y => fm x w 1536 (by decide) b (y 1) (pos i (y 2)) (y 3) := by
  unfold outsAt0
  frame_out
  funext y
  canon_tiles z h
  · rw [hi]
    have hk := t_khi H (extractStridedSlice S512x128 ![0, 640] (k0_pay56 (k0_pay3 (iblk m c 0 t)) (iblk m c 2 t)) slices_S512x1536_o0_640_S512x128) 1536 (by decide) 1 (by decide) (fun r l => by pointwise; exact kv_eq m c t H _ _ _ _ rfl (by dsimp only <;> omega))
    have hj := t_mark _ 1536 (by decide) _ hk
    refine (congrFun (s3 _ _ _ _) z).trans ?_
    exact glue_m _ (fun g r l => fm x w 1536 (by decide) b g (pos i r) l) 3 (by decide) hj z y (by omega) (by omega) (by omega)
  · rw [hi]
    have hk := t_klo H (extractStridedSlice S512x128 ![0, 640] (k0_pay56 (k0_pay3 (iblk m c 0 t)) (iblk m c 2 t)) slices_S512x1536_o0_640_S512x128) 1536 (by decide) 1 (by decide) (fun r l => by pointwise; exact kv_eq m c t H _ _ _ _ rfl (by dsimp only <;> omega))
    have hj := t_mark _ 1536 (by decide) _ hk
    refine (congrFun (s2 _ _ _ _) z).trans ?_
    exact glue_m _ (fun g r l => fm x w 1536 (by decide) b g (pos i r) l) 2 (by decide) hj z y (by omega) (by omega) (by omega)
  · rw [hi]
    have hk := t_khi H (extractStridedSlice S512x128 ![0, 512] (k0_pay56 (k0_pay3 (iblk m c 0 t)) (iblk m c 2 t)) slices_S512x1536_o0_512_S512x128) 1536 (by decide) 0 (by decide) (fun r l => by pointwise; exact kv_eq m c t H _ _ _ _ rfl (by dsimp only <;> omega))
    have hj := t_mark _ 1536 (by decide) _ hk
    refine (congrFun (s1 _ _ _ _) z).trans ?_
    exact glue_m _ (fun g r l => fm x w 1536 (by decide) b g (pos i r) l) 1 (by decide) hj z y (by omega) (by omega) (by omega)
  · rw [hi]
    have hk := t_klo H (extractStridedSlice S512x128 ![0, 512] (k0_pay56 (k0_pay3 (iblk m c 0 t)) (iblk m c 2 t)) slices_S512x1536_o0_512_S512x128) 1536 (by decide) 0 (by decide) (fun r l => by pointwise; exact kv_eq m c t H _ _ _ _ rfl (by dsimp only <;> omega))
    have hj := t_mark _ 1536 (by decide) _ hk
    refine (congrFun (s0 _ _ _ _ _) z).trans ?_
    exact glue_m _ (fun g r l => fm x w 1536 (by decide) b g (pos i r) l) 0 (by decide) hj z y (by omega) (by omega) (by omega)

end Cert.Proof.Nsa

end
-- ==== Proof.NsaOutD.lean ====
/-
  Hand-written. The selected values' block of one point.
-/
module

public import proofs.«01_k».proof.Defs
public import proofs.«01_k».proof.Proof.NsaKv
public import proofs.«01_k».proof.Proof.Gen.Kernel5Ideal.Value
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

open Cert.Kernel5Ideal Cert.Kernel5Ideal.Gen

variable (m : (ℓ : Loc nD τ sig) → Buf (Elt Ideal) ℓ) {x : X} {w : W} {b : Fin 2} {i : Fin 32}

set_option maxHeartbeats 4000000 in
/-- The selected values' block. -/
theorem out_vst (c : Dev nD) (t : Fin cfg0.N) (H : Blk x w b i (iblk m c 0 t) (iblk m c 1 t) (iblk m c 2 t) (iblk m c 3 t) (iblk m c 4 t) (iblk m c 5 t)) :
    (outsAt0 m c t).2.2.2.2.2.1 = fun y => fv x w 1792 (by decide) b (y 1) (pos i (y 4)) (y 3) := by
  unfold outsAt0
  frame_out
  funext y
  canon_tiles z h
  · refine glue_v _ (fun g _ r j => fv x w 1792 (by decide) b g (pos i j) r) 3 (by decide) 0 (by decide) (fun d r => ?_) z y (by omega) (by omega) (by omega) (by omega)
    unfold fv
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_v _ (fun g _ r j => fv x w 1792 (by decide) b g (pos i j) r) 2 (by decide) 0 (by decide) (fun d r => ?_) z y (by omega) (by omega) (by omega) (by omega)
    unfold fv
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_v _ (fun g _ r j => fv x w 1792 (by decide) b g (pos i j) r) 1 (by decide) 0 (by decide) (fun d r => ?_) z y (by omega) (by omega) (by omega) (by omega)
    unfold fv
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_v _ (fun g _ r j => fv x w 1792 (by decide) b g (pos i j) r) 0 (by decide) 0 (by decide) (fun d r => ?_) z y (by omega) (by omega) (by omega) (by omega)
    unfold fv
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _

end Cert.Proof.Nsa

end
-- ==== Proof.NsaOutE.lean ====
/-
  Hand-written. The value blocks' block of one point.
-/
module

public import proofs.«01_k».proof.Defs
public import proofs.«01_k».proof.Proof.NsaKv
public import proofs.«01_k».proof.Proof.NsaEqB
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

open Cert.Kernel5Ideal Cert.Kernel5Ideal.Gen

variable (m : (ℓ : Loc nD τ sig) → Buf (Elt Ideal) ℓ) {x : X} {w : W} {b : Fin 2} {i : Fin 32}

/-- The blocks' block. -/
theorem out_vc (c : Dev nD) (t : Fin cfg0.N) (H : Blk x w b i (iblk m c 0 t) (iblk m c 1 t) (iblk m c 2 t) (iblk m c 3 t) (iblk m c 4 t) (iblk m c 5 t)) : (outsAt0 m c t).2.2.2.1 = fun y => fb x w 1280 (by decide) b (y 1) (blkno i (y 2)) (y 3) := by
  unfold outsAt0
  frame_out
  funext y
  canon_tiles z h
  · have hk := t_bhi (x := x) (w := w) (b := b) (i := i) (k0_pay86 (k0_pay56 (k0_pay3 (iblk m c 0 t)) (iblk m c 2 t))) 1280 (by decide) 1 (by decide) (fun r l => by rw [p86]; pointwise; exact kv_eq m c t H _ _ _ _ rfl (by dsimp only <;> omega))
    refine (congrFun (v3 (k0_pay86 (k0_pay56 (k0_pay3 (iblk m c 0 t)) (iblk m c 2 t))) _ _ _ _ _ _ _ _ _ _ _ _ _ _ _ _ ?_ ?_ ?_ ?_ ?_ ?_ ?_ ?_ ?_ ?_ ?_ ?_ ?_ ?_ ?_ ?_) z).trans ?_
    · rw [rcv _ _ _ 0 (by decide)]
    · rw [rcv _ _ _ 1 (by decide)]
    · rw [rcv _ _ _ 2 (by decide)]
    · rw [rcv _ _ _ 3 (by decide)]
    · rw [rcv _ _ _ 4 (by decide)]
    · rw [rcv _ _ _ 5 (by decide)]
    · rw [rcv _ _ _ 6 (by decide)]
    · rw [rcv _ _ _ 7 (by decide)]
    · rw [rcv _ _ _ 8 (by decide)]
    · rw [rcv _ _ _ 9 (by decide)]
    · rw [rcv _ _ _ 10 (by decide)]
    · rw [rcv _ _ _ 11 (by decide)]
    · rw [rcv _ _ _ 12 (by decide)]
    · rw [rcv _ _ _ 13 (by decide)]
    · rw [rcv _ _ _ 14 (by decide)]
    · rw [rcv _ _ _ 15 (by decide)]
    exact glue_b _ (fun g n e => fb x w 1280 (by decide) b g (blkno i n) e) 3 (by decide) hk z y (by omega) (by omega) (by omega)
  · have hk := t_blo (x := x) (w := w) (b := b) (i := i) (k0_pay86 (k0_pay56 (k0_pay3 (iblk m c 0 t)) (iblk m c 2 t))) 1280 (by decide) 1 (by decide) (fun r l => by rw [p86]; pointwise; exact kv_eq m c t H _ _ _ _ rfl (by dsimp only <;> omega))
    refine (congrFun (v2 (k0_pay86 (k0_pay56 (k0_pay3 (iblk m c 0 t)) (iblk m c 2 t))) _ _ _ _ _ _ _ _ ?_ ?_ ?_ ?_ ?_ ?_ ?_ ?_) z).trans ?_
    · rw [rcv _ _ _ 0 (by decide), rcv _ _ _ 1 (by decide)]
      rfl
    · rw [rcv _ _ _ 2 (by decide), rcv _ _ _ 3 (by decide)]
      rfl
    · rw [rcv _ _ _ 4 (by decide), rcv _ _ _ 5 (by decide)]
      rfl
    · rw [rcv _ _ _ 6 (by decide), rcv _ _ _ 7 (by decide)]
      rfl
    · rw [rcv _ _ _ 8 (by decide), rcv _ _ _ 9 (by decide)]
      rfl
    · rw [rcv _ _ _ 10 (by decide), rcv _ _ _ 11 (by decide)]
      rfl
    · rw [rcv _ _ _ 12 (by decide), rcv _ _ _ 13 (by decide)]
      rfl
    · rw [rcv _ _ _ 14 (by decide), rcv _ _ _ 15 (by decide)]
      rfl
    exact glue_b _ (fun g n e => fb x w 1280 (by decide) b g (blkno i n) e) 2 (by decide) hk z y (by omega) (by omega) (by omega)
  · have hk := t_bhi (x := x) (w := w) (b := b) (i := i) (k0_pay75 (k0_pay56 (k0_pay3 (iblk m c 0 t)) (iblk m c 2 t))) 1280 (by decide) 0 (by decide) (fun r l => by rw [p75]; pointwise; exact kv_eq m c t H _ _ _ _ rfl (by dsimp only <;> omega))
    refine (congrFun (v1 (k0_pay75 (k0_pay56 (k0_pay3 (iblk m c 0 t)) (iblk m c 2 t))) _ _ _ _ _ _ _ _ _ _ _ ?_ ?_ ?_ ?_ ?_ ?_ ?_ ?_ ?_ ?_ ?_) z).trans ?_
    · rw [rcv _ _ _ 10 (by decide)]
    · rw [rcv _ _ _ 11 (by decide)]
    · rw [rcv _ _ _ 12 (by decide)]
    · rw [rcv _ _ _ 13 (by decide)]
    · rw [rcv _ _ _ 14 (by decide)]
    · rw [rcv _ _ _ 15 (by decide)]
    · rw [rcv _ _ _ 0 (by decide), rcv _ _ _ 1 (by decide)]
      rfl
    · rw [rcv _ _ _ 2 (by decide), rcv _ _ _ 3 (by decide)]
      rfl
    · rw [rcv _ _ _ 4 (by decide), rcv _ _ _ 5 (by decide)]
      rfl
    · rw [rcv _ _ _ 6 (by decide), rcv _ _ _ 7 (by decide)]
      rfl
    · rw [rcv _ _ _ 8 (by decide), rcv _ _ _ 9 (by decide)]
      rfl
    exact glue_b _ (fun g n e => fb x w 1280 (by decide) b g (blkno i n) e) 1 (by decide) hk z y (by omega) (by omega) (by omega)
  · have hk := t_blo (x := x) (w := w) (b := b) (i := i) (k0_pay75 (k0_pay56 (k0_pay3 (iblk m c 0 t)) (iblk m c 2 t))) 1280 (by decide) 0 (by decide) (fun r l => by rw [p75]; pointwise; exact kv_eq m c t H _ _ _ _ rfl (by dsimp only <;> omega))
    refine (congrFun (v0 (k0_pay75 (k0_pay56 (k0_pay3 (iblk m c 0 t)) (iblk m c 2 t))) _ _ _ _ _ _ _ _ _ _ _ _ _ ?_ ?_ ?_ ?_ ?_ ?_ ?_ ?_ ?_ ?_ ?_ ?_ ?_) z).trans ?_
    · rw [rcv _ _ _ 6 (by decide)]
    · rw [rcv _ _ _ 7 (by decide)]
    · rw [rcv _ _ _ 8 (by decide)]
    · rw [rcv _ _ _ 9 (by decide)]
    · rw [rcv _ _ _ 10 (by decide)]
    · rw [rcv _ _ _ 11 (by decide)]
    · rw [rcv _ _ _ 12 (by decide)]
    · rw [rcv _ _ _ 13 (by decide)]
    · rw [rcv _ _ _ 14 (by decide)]
    · rw [rcv _ _ _ 15 (by decide)]
    · rw [rcv _ _ _ 0 (by decide), rcv _ _ _ 1 (by decide)]
      rfl
    · rw [rcv _ _ _ 2 (by decide), rcv _ _ _ 3 (by decide)]
      rfl
    · rw [rcv _ _ _ 4 (by decide), rcv _ _ _ 5 (by decide)]
      rfl
    exact glue_b _ (fun g n e => fb x w 1280 (by decide) b g (blkno i n) e) 0 (by decide) hk z y (by omega) (by omega) (by omega)

end Cert.Proof.Nsa

end
-- ==== Proof.NsaOutF.lean ====
/-
  Hand-written. The window values' block of one point.
-/
module

public import proofs.«01_k».proof.Defs
public import proofs.«01_k».proof.Proof.NsaKv
public import proofs.«01_k».proof.Proof.Gen.Kernel5Ideal.Value
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

open Cert.Kernel5Ideal Cert.Kernel5Ideal.Gen

variable (m : (ℓ : Loc nD τ sig) → Buf (Elt Ideal) ℓ) {x : X} {w : W} {b : Fin 2} {i : Fin 32}

/-- Position `j` of part `n` of a chunk. -/
def part128 (n : Fin 4) (j : Fin 128) : Fin 512 := ⟨n.val * 128 + j.val, by omega⟩

set_option maxHeartbeats 4000000 in
/-- The window values' block. -/
theorem out_vwt (c : Dev nD) (t : Fin cfg0.N) (H : Blk x w b i (iblk m c 0 t) (iblk m c 1 t) (iblk m c 2 t) (iblk m c 3 t) (iblk m c 4 t) (iblk m c 5 t)) :
    (outsAt0 m c t).2.2.2.2.2.2.2 = fun y => fv x w 2304 (by decide) b (y 1) (pos i (part128 (y 2) (y 4))) (y 3) := by
  unfold outsAt0
  frame_out
  funext y
  canon_tiles z h
  · refine glue_u _ (fun g n r j => fv x w 2304 (by decide) b g (pos i (part128 n j)) r) 3 (by decide) 3 (by decide) (fun d r => ?_) z y (by omega) (by omega) (by omega) (by omega)
    unfold fv part128
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_u _ (fun g n r j => fv x w 2304 (by decide) b g (pos i (part128 n j)) r) 3 (by decide) 2 (by decide) (fun d r => ?_) z y (by omega) (by omega) (by omega) (by omega)
    unfold fv part128
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_u _ (fun g n r j => fv x w 2304 (by decide) b g (pos i (part128 n j)) r) 3 (by decide) 1 (by decide) (fun d r => ?_) z y (by omega) (by omega) (by omega) (by omega)
    unfold fv part128
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_u _ (fun g n r j => fv x w 2304 (by decide) b g (pos i (part128 n j)) r) 3 (by decide) 0 (by decide) (fun d r => ?_) z y (by omega) (by omega) (by omega) (by omega)
    unfold fv part128
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_u _ (fun g n r j => fv x w 2304 (by decide) b g (pos i (part128 n j)) r) 2 (by decide) 3 (by decide) (fun d r => ?_) z y (by omega) (by omega) (by omega) (by omega)
    unfold fv part128
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_u _ (fun g n r j => fv x w 2304 (by decide) b g (pos i (part128 n j)) r) 2 (by decide) 2 (by decide) (fun d r => ?_) z y (by omega) (by omega) (by omega) (by omega)
    unfold fv part128
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_u _ (fun g n r j => fv x w 2304 (by decide) b g (pos i (part128 n j)) r) 2 (by decide) 1 (by decide) (fun d r => ?_) z y (by omega) (by omega) (by omega) (by omega)
    unfold fv part128
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_u _ (fun g n r j => fv x w 2304 (by decide) b g (pos i (part128 n j)) r) 2 (by decide) 0 (by decide) (fun d r => ?_) z y (by omega) (by omega) (by omega) (by omega)
    unfold fv part128
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_u _ (fun g n r j => fv x w 2304 (by decide) b g (pos i (part128 n j)) r) 1 (by decide) 3 (by decide) (fun d r => ?_) z y (by omega) (by omega) (by omega) (by omega)
    unfold fv part128
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_u _ (fun g n r j => fv x w 2304 (by decide) b g (pos i (part128 n j)) r) 1 (by decide) 2 (by decide) (fun d r => ?_) z y (by omega) (by omega) (by omega) (by omega)
    unfold fv part128
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_u _ (fun g n r j => fv x w 2304 (by decide) b g (pos i (part128 n j)) r) 1 (by decide) 1 (by decide) (fun d r => ?_) z y (by omega) (by omega) (by omega) (by omega)
    unfold fv part128
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_u _ (fun g n r j => fv x w 2304 (by decide) b g (pos i (part128 n j)) r) 1 (by decide) 0 (by decide) (fun d r => ?_) z y (by omega) (by omega) (by omega) (by omega)
    unfold fv part128
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_u _ (fun g n r j => fv x w 2304 (by decide) b g (pos i (part128 n j)) r) 0 (by decide) 3 (by decide) (fun d r => ?_) z y (by omega) (by omega) (by omega) (by omega)
    unfold fv part128
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_u _ (fun g n r j => fv x w 2304 (by decide) b g (pos i (part128 n j)) r) 0 (by decide) 2 (by decide) (fun d r => ?_) z y (by omega) (by omega) (by omega) (by omega)
    unfold fv part128
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_u _ (fun g n r j => fv x w 2304 (by decide) b g (pos i (part128 n j)) r) 0 (by decide) 1 (by decide) (fun d r => ?_) z y (by omega) (by omega) (by omega) (by omega)
    unfold fv part128
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _
  · refine glue_u _ (fun g n r j => fv x w 2304 (by decide) b g (pos i (part128 n j)) r) 0 (by decide) 0 (by decide) (fun d r => ?_) z y (by omega) (by omega) (by omega) (by omega)
    unfold fv part128
    pointwise [k0_pay1, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152]
    by_cases hd : d.val < 64
    · rw [dif_pos hd, dif_pos hd]
      exact kv_eq m c t H _ _ _ _ (by dsimp only <;> omega) (by dsimp only <;> omega)
    · rw [dif_neg hd, dif_neg hd]
      exact tail_at d _ hd _

end Cert.Proof.Nsa

end
-- ==== Proof.NsaOutG.lean ====
/-
  Hand-written. The window keys' block of one point.
-/
module

public import proofs.«01_k».proof.Defs
public import proofs.«01_k».proof.Proof.NsaKv
public import proofs.«01_k».proof.Proof.NsaEqC
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

open Cert.Kernel5Ideal Cert.Kernel5Ideal.Gen

variable (m : (ℓ : Loc nD τ sig) → Buf (Elt Ideal) ℓ) {x : X} {w : W} {b : Fin 2} {i : Fin 32}

/-- The window keys' block. -/
theorem out_kw (c : Dev nD) (t : Fin cfg0.N) (H : Blk x w b i (iblk m c 0 t) (iblk m c 1 t) (iblk m c 2 t) (iblk m c 3 t) (iblk m c 4 t) (iblk m c 5 t)) :
    (outsAt0 m c t).2.2.2.2.2.2.1 = fun y => fk x w 2048 (by decide) b (y 1) (pos i (y 2)) (y 3) := by
  unfold outsAt0
  frame_out
  funext y
  canon_tiles z h
  · have hk := t_whi H (extractStridedSlice S512x128 ![0, 1152] (k0_pay56 (k0_pay3 (iblk m c 0 t)) (iblk m c 2 t)) slices_S512x1536_o0_1152_S512x128) 2048 (by decide) 1 (by decide) (fun r l => by pointwise; exact kv_eq m c t H _ _ _ _ rfl (by dsimp only <;> omega))
    refine (congrFun (w3 _ _ _) z).trans ?_
    exact glue_w _ (fun g r l => fk x w 2048 (by decide) b g (pos i r) l) 3 (by decide) hk z y (by omega) (by omega) (by omega)
  · have hk := t_wlo H (extractStridedSlice S512x128 ![0, 1152] (k0_pay56 (k0_pay3 (iblk m c 0 t)) (iblk m c 2 t)) slices_S512x1536_o0_1152_S512x128) 2048 (by decide) 1 (by decide) (fun r l => by pointwise; exact kv_eq m c t H _ _ _ _ rfl (by dsimp only <;> omega))
    refine (congrFun (w2 _ _ _) z).trans ?_
    exact glue_w _ (fun g r l => fk x w 2048 (by decide) b g (pos i r) l) 2 (by decide) hk z y (by omega) (by omega) (by omega)
  · have hk := t_whi H (extractStridedSlice S512x128 ![0, 1024] (k0_pay56 (k0_pay3 (iblk m c 0 t)) (iblk m c 2 t)) slices_S512x1536_o0_1024_S512x128) 2048 (by decide) 0 (by decide) (fun r l => by pointwise; exact kv_eq m c t H _ _ _ _ rfl (by dsimp only <;> omega))
    refine (congrFun (w1 _ _ _) z).trans ?_
    exact glue_w _ (fun g r l => fk x w 2048 (by decide) b g (pos i r) l) 1 (by decide) hk z y (by omega) (by omega) (by omega)
  · have hk := t_wlo H (extractStridedSlice S512x128 ![0, 1024] (k0_pay56 (k0_pay3 (iblk m c 0 t)) (iblk m c 2 t)) slices_S512x1536_o0_1024_S512x128) 2048 (by decide) 0 (by decide) (fun r l => by pointwise; exact kv_eq m c t H _ _ _ _ rfl (by dsimp only <;> omega))
    refine (congrFun (w0 _ _ _) z).trans ?_
    exact glue_w _ (fun g r l => fk x w 2048 (by decide) b g (pos i r) l) 0 (by decide) hk z y (by omega) (by omega) (by omega)

end Cert.Proof.Nsa

end
-- ==== Proof.NsaBlk.lean ====
/-
  Hand-written. A point's staged blocks.
-/
module

public import proofs.«01_k».proof.Defs
public import proofs.«01_k».proof.Proof.NsaTile
public import proofs.«01_k».proof.Proof.Gen.Kernel5Ideal.Value
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

open Cert.Kernel5Ideal Cert.Kernel5Ideal.Gen

variable (m : (ℓ : Loc nD τ sig) → Buf (Elt Ideal) ℓ)

/-- The tokens. -/
abbrev mx (c : Dev nD) : X := m ((c : Thread nD τ).loc main_arg0)

/-- The weights. -/
abbrev mw (c : Dev nD) : W := m ((c : Thread nD τ).loc main_arg1)

/-- Window 0's block index at a point. -/
theorem e0 : ∀ t : Fin cfg0.N, win0_0.index t = ![(grid0.coords t 0).val, (grid0.coords t 1).val, 0] := (by decide +kernel : ∀ t : Fin grid0.N, _)
/-- Window 1's block index at a point. -/
theorem e1 : ∀ t : Fin cfg0.N, win0_1.index t = ![0, 0] := (by decide +kernel : ∀ t : Fin grid0.N, _)
/-- Window 2's block index at a point. -/
theorem e2 : ∀ t : Fin cfg0.N, win0_2.index t = ![0, 0] := (by decide +kernel : ∀ t : Fin grid0.N, _)
/-- Window 3's block index at a point. -/
theorem e3 : ∀ t : Fin cfg0.N, win0_3.index t = ![0, 0] := (by decide +kernel : ∀ t : Fin grid0.N, _)
/-- Window 4's block index at a point. -/
theorem e4 : ∀ t : Fin cfg0.N, win0_4.index t = ![(grid0.coords t 1).val, 0] := (by decide +kernel : ∀ t : Fin grid0.N, _)
/-- Window 5's block index at a point. -/
theorem e5 : ∀ t : Fin cfg0.N, win0_5.index t = ![(grid0.coords t 1).val, 0] := (by decide +kernel : ∀ t : Fin grid0.N, _)
/-- Window 6's block index at a point. -/
theorem e6 : ∀ t : Fin cfg0.N, win0_6.index t = ![(grid0.coords t 0).val, 0, 0, (grid0.coords t 1).val] := (by decide +kernel : ∀ t : Fin grid0.N, _)
/-- Window 7's block index at a point. -/
theorem e7 : ∀ t : Fin cfg0.N, win0_7.index t = ![(grid0.coords t 0).val, 0, (grid0.coords t 1).val] := (by decide +kernel : ∀ t : Fin grid0.N, _)
/-- Window 8's block index at a point. -/
theorem e8 : ∀ t : Fin cfg0.N, win0_8.index t = ![(grid0.coords t 0).val, 0, (grid0.coords t 1).val, 0] := (by decide +kernel : ∀ t : Fin grid0.N, _)
/-- Window 9's block index at a point. -/
theorem e9 : ∀ t : Fin cfg0.N, win0_9.index t = ![(grid0.coords t 0).val, 0, (grid0.coords t 1).val, 0] := (by decide +kernel : ∀ t : Fin grid0.N, _)
/-- Window 10's block index at a point. -/
theorem e10 : ∀ t : Fin cfg0.N, win0_10.index t = ![(grid0.coords t 0).val, 0, (grid0.coords t 1).val, 0] := (by decide +kernel : ∀ t : Fin grid0.N, _)
/-- Window 11's block index at a point. -/
theorem e11 : ∀ t : Fin cfg0.N, win0_11.index t = ![(grid0.coords t 0).val, 0, (grid0.coords t 1).val, 0, 0] := (by decide +kernel : ∀ t : Fin grid0.N, _)
/-- Window 12's block index at a point. -/
theorem e12 : ∀ t : Fin cfg0.N, win0_12.index t = ![(grid0.coords t 0).val, 0, (grid0.coords t 1).val, 0] := (by decide +kernel : ∀ t : Fin grid0.N, _)
/-- Window 13's block index at a point. -/
theorem e13 : ∀ t : Fin cfg0.N, win0_13.index t = ![(grid0.coords t 0).val, 0, (grid0.coords t 1).val, 0, 0] := (by decide +kernel : ∀ t : Fin grid0.N, _)
theorem co0 : ∀ t : Fin cfg0.N, (grid0.coords t 0).val < 2 := (by decide +kernel : ∀ t : Fin grid0.N, _)
theorem co1 : ∀ t : Fin cfg0.N, (grid0.coords t 1).val < 32 := (by decide +kernel : ∀ t : Fin grid0.N, _)

/-- A point's batch. -/
def bt (t : Fin cfg0.N) : Fin 2 := ⟨(grid0.coords t 0).val, co0 t⟩

/-- A point's chunk. -/
def ch (t : Fin cfg0.N) : Fin 32 := ⟨(grid0.coords t 1).val, co1 t⟩

theorem blk0 (c : Dev nD) (t : Fin cfg0.N) (r : Fin 512) (k : Fin 1024) : iblk m c 0 t (ix3 0 r k) = mx m c (ix3 (bt t) (pos (ch t) r) k) := by
  blk_ext! [iblk, V, e0 t, bt, ch, pos]

theorem blk1 (c : Dev nD) (t : Fin cfg0.N) (k j : Fin 1024) : iblk m c 1 t (ix2 k j) = mw m c (ix2 k ⟨j.val, by omega⟩) := by
  have em : ((View.whole main_v1).slice (win0_1.rect t)).emb (ix2 k j) = ix2 k j := by blk_ext [e1 t, ch, pos]
  blk_simp [iblk, V]
  simp only [hostOps0, hostOps0_1, hostOps0_2, hostOps0_3, hostOps0_4, List.flatten_cons, List.flatten_nil, List.cons_append, List.nil_append, List.append_nil]
  entry_read
  rw [em]
  pointwise

theorem blk2 (c : Dev nD) (t : Fin cfg0.N) (k : Fin 1024) (j : Fin 1536) : iblk m c 2 t (ix2 k j) = mw m c (ix2 k ⟨1024 + j.val, by omega⟩) := by
  have em : ((View.whole main_v3).slice (win0_2.rect t)).emb (ix2 k j) = ix2 k j := by blk_ext [e2 t, ch, pos]
  blk_simp [iblk, V]
  simp only [hostOps0, hostOps0_1, hostOps0_2, hostOps0_3, hostOps0_4, List.flatten_cons, List.flatten_nil, List.cons_append, List.nil_append, List.append_nil]
  entry_read
  rw [em]
  pointwise

theorem zero_word0 : FloatOps.sitofp (F := Ideal) FTy.f32 0#32 = (0 : EReal) := by
  show (((0#32 : BitVec 32).toInt : ℝ) : EReal) = 0
  simp

theorem pad_if {a b : Prop} [Decidable a] [Decidable b] (e : a ↔ b) (A : a → EReal) (B : b → EReal) (z : EReal) (hz : z = 0)
    (hAB : ∀ ha hb, A ha = B hb) : (if h : a then A h else z) = if h : b then B h else 0 := by
  by_cases h : a
  · rw [dif_pos h, dif_pos (e.mp h)]
    exact hAB _ _
  · rw [dif_neg h, dif_neg (fun q => h (e.mpr q))]
    exact hz

theorem blk3 (c : Dev nD) (t : Fin cfg0.N) (k : Fin 1024) (j : Fin 64) : iblk m c 3 t (ix2 k ⟨j.val, by omega⟩) = wg (mw m c) k j := by
  have hi : (j.val / 16 < 4 ∧ j.val % 16 < 12) ↔ j.val % 16 < 12 := ⟨fun h => h.2, fun h => ⟨by omega, h⟩⟩
  have em : ((View.whole main_v9).slice (win0_3.rect t)).emb (ix2 k ⟨j.val, by omega⟩) = (ix2 k ⟨j.val, by omega⟩ : S1024x128.Idx) := by blk_ext [e3 t, ch, pos]
  blk_simp [iblk, V]
  simp only [hostOps0, hostOps0_1, hostOps0_2, hostOps0_3, hostOps0_4, List.flatten_cons, List.flatten_nil, List.cons_append, List.nil_append, List.append_nil]
  entry_read
  rw [em]
  simp -implicitDefEqProofs only [StableHlo.TRef.toBuf, StableHlo.TRef.ofBuf, cast_cast, cast_eq]
  pointwise [wg]
  exact pad_if hi _ _ _ zero_word0 (fun _ _ => rfl)

theorem blk4 (c : Dev nD) (t : Fin cfg0.N) (r : Fin 512) (l : Fin 128) : iblk m c 4 t (ix2 r l) = cs (pos (ch t) r) ⟨l.val % 32, Nat.mod_lt _ (by decide)⟩ := by
  have em : ((View.whole main_v27).slice (win0_4.rect t)).emb (ix2 r l) = ix2 (pos (ch t) r) l := by blk_ext [e4 t, ch, pos]
  blk_simp [iblk, V]
  simp only [hostOps0, hostOps0_1, hostOps0_2, hostOps0_3, hostOps0_4, List.flatten_cons, List.flatten_nil, List.cons_append, List.nil_append, List.append_nil]
  entry_read
  rw [em]
  pointwise [cs, ang]

theorem blk5 (c : Dev nD) (t : Fin cfg0.N) (r : Fin 512) (l : Fin 128) : iblk m c 5 t (ix2 r l)
    = if l.val % 64 < 32 then - sn (pos (ch t) r) ⟨l.val % 32, Nat.mod_lt _ (by decide)⟩ else sn (pos (ch t) r) ⟨l.val % 32, Nat.mod_lt _ (by decide)⟩ := by
  have em : ((View.whole main_v32).slice (win0_5.rect t)).emb (ix2 r l) = ix2 (pos (ch t) r) l := by blk_ext [e5 t, ch, pos]
  blk_simp [iblk, V]
  simp only [hostOps0, hostOps0_1, hostOps0_2, hostOps0_3, hostOps0_4, List.flatten_cons, List.flatten_nil, List.cons_append, List.nil_append, List.append_nil]
  entry_read
  rw [em]
  pointwise [sn, ang]
  by_cases h : l.val % 64 < 32
  · have e : l.val % 64 = l.val % 32 := by omega
    rw [dif_pos h, if_pos h, e]
  · have e : l.val % 64 - 32 = l.val % 32 := by omega
    rw [dif_neg h, if_neg h, e]

/-- A point's blocks are those of its batch and chunk. -/
theorem blks (c : Dev nD) (t : Fin cfg0.N) : Blk (mx m c) (mw m c) (bt t) (ch t) (iblk m c 0 t) (iblk m c 1 t) (iblk m c 2 t) (iblk m c 3 t) (iblk m c 4 t) (iblk m c 5 t) :=
  ⟨blk0 m c t, blk1 m c t, blk2 m c t, blk3 m c t, blk4 m c t, blk5 m c t⟩

end Cert.Proof.Nsa

end
-- ==== Proof.NsaFin.lean ====
/-
  Hand-written. The results after the run.
-/
module

public import proofs.«01_k».proof.Defs
public import proofs.«01_k».proof.Proof.NsaOutA
public import proofs.«01_k».proof.Proof.NsaOutB
public import proofs.«01_k».proof.Proof.NsaOutC
public import proofs.«01_k».proof.Proof.NsaOutD
public import proofs.«01_k».proof.Proof.NsaOutE
public import proofs.«01_k».proof.Proof.NsaOutF
public import proofs.«01_k».proof.Proof.NsaOutG
public import proofs.«01_k».proof.Proof.NsaBlk
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

open Cert.Kernel5Ideal Cert.Kernel5Ideal.Gen

variable (m : (ℓ : Loc nD τ sig) → Buf (Elt Ideal) ℓ)

/-- Position `j` of chunk `n`. -/
def at512 (n : Fin 32) (j : Fin 512) : Fin 16384 := ⟨n.val * 512 + j.val, by omega⟩

/-- Position `j` of the `n`th 128 positions. -/
def at128 (n : Fin 128) (j : Fin 128) : Fin 16384 := ⟨n.val * 128 + j.val, by omega⟩

/-- What result 0 holds. -/
def G6 (x : X) (w : W) : S2x16x64x16384.Idx → EReal := fun y => fq x w (y 0) (y 1) (y 2) (y 3)

/-- What result 1 holds. -/
def G7 (x : X) (w : W) : S2x64x16384.Idx → EReal := fun y => fg x w (y 0) (y 1) (y 2)

/-- What result 2 holds. -/
def G8 (x : X) (w : W) : S2x4x1024x1024.Idx → EReal := fun y => fb x w 1024 (by decide) (y 0) (y 1) (y 2) (y 3)

/-- What result 3 holds. -/
def G9 (x : X) (w : W) : S2x4x1024x1024.Idx → EReal := fun y => fb x w 1280 (by decide) (y 0) (y 1) (y 2) (y 3)

/-- What result 4 holds. -/
def G10 (x : X) (w : W) : S2x4x16384x256.Idx → EReal := fun y => fm x w 1536 (by decide) (y 0) (y 1) (y 2) (y 3)

/-- What result 5 holds. -/
def G11 (x : X) (w : W) : S2x4x32x80x512.Idx → EReal := fun y => fv x w 1792 (by decide) (y 0) (y 1) (at512 (y 2) (y 4)) (y 3)

/-- What result 6 holds. -/
def G12 (x : X) (w : W) : S2x4x16384x128.Idx → EReal := fun y => fk x w 2048 (by decide) (y 0) (y 1) (y 2) (y 3)

/-- What result 7 holds. -/
def G13 (x : X) (w : W) : S2x4x128x80x128.Idx → EReal := fun y => fv x w 2304 (by decide) (y 0) (y 1) (at128 (y 2) (y 4)) (y 3)

/-- The `n`th quarter of chunk `i`. -/
def at4 (i : Fin 32) (n : Fin 4) : Fin 128 := ⟨i.val * 4 + n.val, by omega⟩

theorem at4_part (i : Fin 32) (n : Fin 4) (j : Fin 128) : at128 (at4 i n) j = pos i (part128 n j) :=
  Fin.ext (by show (i.val * 4 + n.val) * 128 + j.val = i.val * 512 + (n.val * 128 + j.val); omega)

theorem m6_0 (t : Fin cfg0.N) (y : S1x16x64x512.Idx) : (((View.whole main_v33_0).slice (win0_6.rect t)).emb y) 0 = bt t := by
  have l0 : (y 0).val < 1 := (y 0).isLt
  refine Fin.ext ?_
  blk_simp [e6 t, bt, ch, pos, blkno, at4]
  all_goals omega

theorem m6_1 (t : Fin cfg0.N) (y : S1x16x64x512.Idx) : (((View.whole main_v33_0).slice (win0_6.rect t)).emb y) 1 = y 1 := by
  have l0 : (y 0).val < 1 := (y 0).isLt
  refine Fin.ext ?_
  blk_simp [e6 t, bt, ch, pos, blkno, at4]
  all_goals omega

theorem m6_2 (t : Fin cfg0.N) (y : S1x16x64x512.Idx) : (((View.whole main_v33_0).slice (win0_6.rect t)).emb y) 2 = y 2 := by
  have l0 : (y 0).val < 1 := (y 0).isLt
  refine Fin.ext ?_
  blk_simp [e6 t, bt, ch, pos, blkno, at4]
  all_goals omega

theorem m6_3 (t : Fin cfg0.N) (y : S1x16x64x512.Idx) : (((View.whole main_v33_0).slice (win0_6.rect t)).emb y) 3 = pos (ch t) (y 3) := by
  have l0 : (y 0).val < 1 := (y 0).isLt
  refine Fin.ext ?_
  blk_simp [e6 t, bt, ch, pos, blkno, at4]
  all_goals omega

/-- Result 0 after the run. -/
theorem final6 (c : Dev nD) : (dats m 0 c).arrAt 6 cfg0.N = G6 (mx m c) (mw m c) := by
  refine (dats m 0 c).arrAt_eq_of_covers 6 _ (by decide +kernel) fun t hf y => ?_
  blk_simp
  rw [after0_6, out_q m c t (blks m c t)]
  unfold G6
  rw [m6_0 t y, m6_1 t y, m6_2 t y, m6_3 t y]

theorem m7_0 (t : Fin cfg0.N) (y : S1x64x512.Idx) : (((View.whole main_v33_1).slice (win0_7.rect t)).emb y) 0 = bt t := by
  have l0 : (y 0).val < 1 := (y 0).isLt
  refine Fin.ext ?_
  blk_simp [e7 t, bt, ch, pos, blkno, at4]
  all_goals omega

theorem m7_1 (t : Fin cfg0.N) (y : S1x64x512.Idx) : (((View.whole main_v33_1).slice (win0_7.rect t)).emb y) 1 = y 1 := by
  have l0 : (y 0).val < 1 := (y 0).isLt
  refine Fin.ext ?_
  blk_simp [e7 t, bt, ch, pos, blkno, at4]
  all_goals omega

theorem m7_2 (t : Fin cfg0.N) (y : S1x64x512.Idx) : (((View.whole main_v33_1).slice (win0_7.rect t)).emb y) 2 = pos (ch t) (y 2) := by
  have l0 : (y 0).val < 1 := (y 0).isLt
  refine Fin.ext ?_
  blk_simp [e7 t, bt, ch, pos, blkno, at4]
  all_goals omega

/-- Result 1 after the run. -/
theorem final7 (c : Dev nD) : (dats m 0 c).arrAt 7 cfg0.N = G7 (mx m c) (mw m c) := by
  refine (dats m 0 c).arrAt_eq_of_covers 7 _ (by decide +kernel) fun t hf y => ?_
  blk_simp
  rw [after0_7, out_g m c t (blks m c t)]
  unfold G7
  rw [m7_0 t y, m7_1 t y, m7_2 t y]

theorem m8_0 (t : Fin cfg0.N) (y : S1x4x32x1024.Idx) : (((View.whole main_v33_2).slice (win0_8.rect t)).emb y) 0 = bt t := by
  have l0 : (y 0).val < 1 := (y 0).isLt
  refine Fin.ext ?_
  blk_simp [e8 t, bt, ch, pos, blkno, at4]
  all_goals omega

theorem m8_1 (t : Fin cfg0.N) (y : S1x4x32x1024.Idx) : (((View.whole main_v33_2).slice (win0_8.rect t)).emb y) 1 = y 1 := by
  have l0 : (y 0).val < 1 := (y 0).isLt
  refine Fin.ext ?_
  blk_simp [e8 t, bt, ch, pos, blkno, at4]
  all_goals omega

theorem m8_2 (t : Fin cfg0.N) (y : S1x4x32x1024.Idx) : (((View.whole main_v33_2).slice (win0_8.rect t)).emb y) 2 = blkno (ch t) (y 2) := by
  have l0 : (y 0).val < 1 := (y 0).isLt
  refine Fin.ext ?_
  blk_simp [e8 t, bt, ch, pos, blkno, at4]
  all_goals omega

theorem m8_3 (t : Fin cfg0.N) (y : S1x4x32x1024.Idx) : (((View.whole main_v33_2).slice (win0_8.rect t)).emb y) 3 = y 3 := by
  have l0 : (y 0).val < 1 := (y 0).isLt
  refine Fin.ext ?_
  blk_simp [e8 t, bt, ch, pos, blkno, at4]
  all_goals omega

/-- Result 2 after the run. -/
theorem final8 (c : Dev nD) : (dats m 0 c).arrAt 8 cfg0.N = G8 (mx m c) (mw m c) := by
  refine (dats m 0 c).arrAt_eq_of_covers 8 _ (by decide +kernel) fun t hf y => ?_
  blk_simp
  rw [after0_8, out_kc m c t (blks m c t)]
  unfold G8
  rw [m8_0 t y, m8_1 t y, m8_2 t y, m8_3 t y]

theorem m9_0 (t : Fin cfg0.N) (y : S1x4x32x1024.Idx) : (((View.whole main_v33_3).slice (win0_9.rect t)).emb y) 0 = bt t := by
  have l0 : (y 0).val < 1 := (y 0).isLt
  refine Fin.ext ?_
  blk_simp [e9 t, bt, ch, pos, blkno, at4]
  all_goals omega

theorem m9_1 (t : Fin cfg0.N) (y : S1x4x32x1024.Idx) : (((View.whole main_v33_3).slice (win0_9.rect t)).emb y) 1 = y 1 := by
  have l0 : (y 0).val < 1 := (y 0).isLt
  refine Fin.ext ?_
  blk_simp [e9 t, bt, ch, pos, blkno, at4]
  all_goals omega

theorem m9_2 (t : Fin cfg0.N) (y : S1x4x32x1024.Idx) : (((View.whole main_v33_3).slice (win0_9.rect t)).emb y) 2 = blkno (ch t) (y 2) := by
  have l0 : (y 0).val < 1 := (y 0).isLt
  refine Fin.ext ?_
  blk_simp [e9 t, bt, ch, pos, blkno, at4]
  all_goals omega

theorem m9_3 (t : Fin cfg0.N) (y : S1x4x32x1024.Idx) : (((View.whole main_v33_3).slice (win0_9.rect t)).emb y) 3 = y 3 := by
  have l0 : (y 0).val < 1 := (y 0).isLt
  refine Fin.ext ?_
  blk_simp [e9 t, bt, ch, pos, blkno, at4]
  all_goals omega

/-- Result 3 after the run. -/
theorem final9 (c : Dev nD) : (dats m 0 c).arrAt 9 cfg0.N = G9 (mx m c) (mw m c) := by
  refine (dats m 0 c).arrAt_eq_of_covers 9 _ (by decide +kernel) fun t hf y => ?_
  blk_simp
  rw [after0_9, out_vc m c t (blks m c t)]
  unfold G9
  rw [m9_0 t y, m9_1 t y, m9_2 t y, m9_3 t y]

theorem m10_0 (t : Fin cfg0.N) (y : S1x4x512x256.Idx) : (((View.whole main_v33_4).slice (win0_10.rect t)).emb y) 0 = bt t := by
  have l0 : (y 0).val < 1 := (y 0).isLt
  refine Fin.ext ?_
  blk_simp [e10 t, bt, ch, pos, blkno, at4]
  all_goals omega

theorem m10_1 (t : Fin cfg0.N) (y : S1x4x512x256.Idx) : (((View.whole main_v33_4).slice (win0_10.rect t)).emb y) 1 = y 1 := by
  have l0 : (y 0).val < 1 := (y 0).isLt
  refine Fin.ext ?_
  blk_simp [e10 t, bt, ch, pos, blkno, at4]
  all_goals omega

theorem m10_2 (t : Fin cfg0.N) (y : S1x4x512x256.Idx) : (((View.whole main_v33_4).slice (win0_10.rect t)).emb y) 2 = pos (ch t) (y 2) := by
  have l0 : (y 0).val < 1 := (y 0).isLt
  refine Fin.ext ?_
  blk_simp [e10 t, bt, ch, pos, blkno, at4]
  all_goals omega

theorem m10_3 (t : Fin cfg0.N) (y : S1x4x512x256.Idx) : (((View.whole main_v33_4).slice (win0_10.rect t)).emb y) 3 = y 3 := by
  have l0 : (y 0).val < 1 := (y 0).isLt
  refine Fin.ext ?_
  blk_simp [e10 t, bt, ch, pos, blkno, at4]
  all_goals omega

/-- Result 4 after the run. -/
theorem final10 (c : Dev nD) : (dats m 0 c).arrAt 10 cfg0.N = G10 (mx m c) (mw m c) := by
  refine (dats m 0 c).arrAt_eq_of_covers 10 _ (by decide +kernel) fun t hf y => ?_
  blk_simp
  rw [after0_10, out_ks m c t (blks m c t) rfl]
  unfold G10
  rw [m10_0 t y, m10_1 t y, m10_2 t y, m10_3 t y]

theorem m11_0 (t : Fin cfg0.N) (y : S1x4x1x80x512.Idx) : (((View.whole main_v33_5).slice (win0_11.rect t)).emb y) 0 = bt t := by
  have l0 : (y 0).val < 1 := (y 0).isLt
  have l2 : (y 2).val < 1 := (y 2).isLt
  refine Fin.ext ?_
  blk_simp [e11 t, bt, ch, pos, blkno, at4]
  all_goals omega

theorem m11_1 (t : Fin cfg0.N) (y : S1x4x1x80x512.Idx) : (((View.whole main_v33_5).slice (win0_11.rect t)).emb y) 1 = y 1 := by
  have l0 : (y 0).val < 1 := (y 0).isLt
  have l2 : (y 2).val < 1 := (y 2).isLt
  refine Fin.ext ?_
  blk_simp [e11 t, bt, ch, pos, blkno, at4]
  all_goals omega

theorem m11_2 (t : Fin cfg0.N) (y : S1x4x1x80x512.Idx) : (((View.whole main_v33_5).slice (win0_11.rect t)).emb y) 2 = ch t := by
  have l0 : (y 0).val < 1 := (y 0).isLt
  have l2 : (y 2).val < 1 := (y 2).isLt
  refine Fin.ext ?_
  blk_simp [e11 t, bt, ch, pos, blkno, at4]
  all_goals omega

theorem m11_3 (t : Fin cfg0.N) (y : S1x4x1x80x512.Idx) : (((View.whole main_v33_5).slice (win0_11.rect t)).emb y) 3 = y 3 := by
  have l0 : (y 0).val < 1 := (y 0).isLt
  have l2 : (y 2).val < 1 := (y 2).isLt
  refine Fin.ext ?_
  blk_simp [e11 t, bt, ch, pos, blkno, at4]
  all_goals omega

theorem m11_4 (t : Fin cfg0.N) (y : S1x4x1x80x512.Idx) : (((View.whole main_v33_5).slice (win0_11.rect t)).emb y) 4 = y 4 := by
  have l0 : (y 0).val < 1 := (y 0).isLt
  have l2 : (y 2).val < 1 := (y 2).isLt
  refine Fin.ext ?_
  blk_simp [e11 t, bt, ch, pos, blkno, at4]
  all_goals omega

/-- Result 5 after the run. -/
theorem final11 (c : Dev nD) : (dats m 0 c).arrAt 11 cfg0.N = G11 (mx m c) (mw m c) := by
  refine (dats m 0 c).arrAt_eq_of_covers 11 _ (by decide +kernel) fun t hf y => ?_
  blk_simp
  rw [after0_11, out_vst m c t (blks m c t)]
  unfold G11
  rw [m11_0 t y, m11_1 t y, m11_2 t y, m11_3 t y, m11_4 t y]
  rfl

theorem m12_0 (t : Fin cfg0.N) (y : S1x4x512x128.Idx) : (((View.whole main_v33_6).slice (win0_12.rect t)).emb y) 0 = bt t := by
  have l0 : (y 0).val < 1 := (y 0).isLt
  refine Fin.ext ?_
  blk_simp [e12 t, bt, ch, pos, blkno, at4]
  all_goals omega

theorem m12_1 (t : Fin cfg0.N) (y : S1x4x512x128.Idx) : (((View.whole main_v33_6).slice (win0_12.rect t)).emb y) 1 = y 1 := by
  have l0 : (y 0).val < 1 := (y 0).isLt
  refine Fin.ext ?_
  blk_simp [e12 t, bt, ch, pos, blkno, at4]
  all_goals omega

theorem m12_2 (t : Fin cfg0.N) (y : S1x4x512x128.Idx) : (((View.whole main_v33_6).slice (win0_12.rect t)).emb y) 2 = pos (ch t) (y 2) := by
  have l0 : (y 0).val < 1 := (y 0).isLt
  refine Fin.ext ?_
  blk_simp [e12 t, bt, ch, pos, blkno, at4]
  all_goals omega

theorem m12_3 (t : Fin cfg0.N) (y : S1x4x512x128.Idx) : (((View.whole main_v33_6).slice (win0_12.rect t)).emb y) 3 = y 3 := by
  have l0 : (y 0).val < 1 := (y 0).isLt
  refine Fin.ext ?_
  blk_simp [e12 t, bt, ch, pos, blkno, at4]
  all_goals omega

/-- Result 6 after the run. -/
theorem final12 (c : Dev nD) : (dats m 0 c).arrAt 12 cfg0.N = G12 (mx m c) (mw m c) := by
  refine (dats m 0 c).arrAt_eq_of_covers 12 _ (by decide +kernel) fun t hf y => ?_
  blk_simp
  rw [after0_12, out_kw m c t (blks m c t)]
  unfold G12
  rw [m12_0 t y, m12_1 t y, m12_2 t y, m12_3 t y]

theorem m13_0 (t : Fin cfg0.N) (y : S1x4x4x80x128.Idx) : (((View.whole main_v33_7).slice (win0_13.rect t)).emb y) 0 = bt t := by
  have l0 : (y 0).val < 1 := (y 0).isLt
  refine Fin.ext ?_
  blk_simp [e13 t, bt, ch, pos, blkno, at4]
  all_goals omega

theorem m13_1 (t : Fin cfg0.N) (y : S1x4x4x80x128.Idx) : (((View.whole main_v33_7).slice (win0_13.rect t)).emb y) 1 = y 1 := by
  have l0 : (y 0).val < 1 := (y 0).isLt
  refine Fin.ext ?_
  blk_simp [e13 t, bt, ch, pos, blkno, at4]
  all_goals omega

theorem m13_2 (t : Fin cfg0.N) (y : S1x4x4x80x128.Idx) : (((View.whole main_v33_7).slice (win0_13.rect t)).emb y) 2 = at4 (ch t) (y 2) := by
  have l0 : (y 0).val < 1 := (y 0).isLt
  refine Fin.ext ?_
  blk_simp [e13 t, bt, ch, pos, blkno, at4]
  all_goals omega

theorem m13_3 (t : Fin cfg0.N) (y : S1x4x4x80x128.Idx) : (((View.whole main_v33_7).slice (win0_13.rect t)).emb y) 3 = y 3 := by
  have l0 : (y 0).val < 1 := (y 0).isLt
  refine Fin.ext ?_
  blk_simp [e13 t, bt, ch, pos, blkno, at4]
  all_goals omega

theorem m13_4 (t : Fin cfg0.N) (y : S1x4x4x80x128.Idx) : (((View.whole main_v33_7).slice (win0_13.rect t)).emb y) 4 = y 4 := by
  have l0 : (y 0).val < 1 := (y 0).isLt
  refine Fin.ext ?_
  blk_simp [e13 t, bt, ch, pos, blkno, at4]
  all_goals omega

/-- Result 7 after the run. -/
theorem final13 (c : Dev nD) : (dats m 0 c).arrAt 13 cfg0.N = G13 (mx m c) (mw m c) := by
  refine (dats m 0 c).arrAt_eq_of_covers 13 _ (by decide +kernel) fun t hf y => ?_
  blk_simp
  rw [after0_13, out_vwt m c t (blks m c t)]
  unfold G13
  rw [m13_0 t y, m13_1 t y, m13_2 t y, m13_3 t y, m13_4 t y]
  exact congrArg (fun p => fv _ _ 2304 _ _ _ p _) (at4_part _ _ _).symm

end Cert.Proof.Nsa

end
-- ==== Proof.NsaRef.lean ====
/-
  Hand-written. The reference's results of the projection call over the extended reals, entry by entry.
-/
module

public import proofs.«01_k».proof.Defs
public import proofs.«01_k».proof.Proof.NsaSpec
public import proofs.«01_k».proof.Proof.Gen.Reference5Ideal.Read
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem

open Cert.Reference5Ideal Cert.Reference5Ideal.Gen Cert.Reference5Ideal.Read

variable (x : X) (w : W)

theorem r_cos (p : Fin 16384) (f : Fin 32) : val_main_v16 (F := Ideal) (ix2 p f) = cs p f := by
  pointwise [val_main_v16, val_main_v15, val_main_v14, val_main_v13, val_main_v12, val_main_v11, val_main_v10, val_main_v9, val_main_v8, val_main_v7, val_main_v6, val_main_v5, val_main_v4, val_main_v0, val_main_cst, val_main_cst_0, cs, ang]

theorem r_sin (p : Fin 16384) (f : Fin 32) : val_main_v18 (F := Ideal) (ix2 p f) = sn p f := by
  pointwise [val_main_v18, val_main_v15, val_main_v14, val_main_v13, val_main_v12, val_main_v11, val_main_v10, val_main_v9, val_main_v8, val_main_v7, val_main_v6, val_main_v5, val_main_v4, val_main_v0, val_main_cst, val_main_cst_0, sn, ang]

/-- The second table is the first. -/
theorem r_cos2 (p : Fin 16384) (f : Fin 32) : val_main_v93 (F := Ideal) (ix2 p f) = cs p f := (r_cos p f : _)

theorem r_sin2 (p : Fin 16384) (f : Fin 32) : val_main_v95 (F := Ideal) (ix2 p f) = sn p f := (r_sin p f : _)

/-- The third table is the first. -/
theorem r_cos3 (p : Fin 16384) (f : Fin 32) : val_main_v142 (F := Ideal) (ix2 p f) = cs p f := (r_cos p f : _)

theorem r_sin3 (p : Fin 16384) (f : Fin 32) : val_main_v144 (F := Ideal) (ix2 p f) = sn p f := (r_sin p f : _)

theorem r_q (b : Fin 2) (p : Fin 16384) (h : Fin 16) (e : Fin 64) : val_main_v3 (F := Ideal) x w (ix4 b p h e) = qhead x w b h p e := by
  pointwise [val_main_v3, val_main_v2, val_main_v1, qhead, proj]

theorem r_rot (b : Fin 2) (p : Fin 16384) (h : Fin 16) (d : Fin 64) : val_main_v36 (F := Ideal) x w (ix4 b p h d)
    = rot (qhead x w b h p) (cs p) (sn p) d := by
  unfold rot
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v17]
  simp only [r_q, r_cos, r_sin]
  by_cases hd : d.val < 32
  · rw [dif_pos hd, dif_pos hd]
  · have e : (⟨32 + (d.val - 32), by omega⟩ : Fin 64) = d := Fin.ext (by show 32 + (d.val - 32) = d.val; omega)
    rw [dif_neg hd, dif_neg hd, e]

/-- The queries. -/
theorem r_qt (b : Fin 2) (h : Fin 16) (d : Fin 64) (p : Fin 16384) : val_main_v51 (F := Ideal) x w (ix4 b h d p) = fq x w b h d p := by
  unfold fq
  pointwise [val_main_v51, val_main_v50, val_main_v38, val_main_v37, val_main_cst_1]
  rw [r_rot]

/-- The gates. -/
theorem r_gt (b : Fin 2) (c : Fin 64) (p : Fin 16384) : val_main_v52 (F := Ideal) x w (ix3 b c p) = fg x w b c p := by
  unfold fg wg
  pointwise [val_main_v49, val_main_v48, val_main_v47, val_main_v46, val_main_v45, val_main_v44, val_main_v43, val_main_v42, val_main_v41, val_main_v40, val_main_v39, val_main_v52, val_main_cst_2, val_main_cst_3, val_main_call0_v0, val_main_c, Ideal.logistic]
  have h0 : FloatOps.sitofp (F := Ideal) .f32 (0#32) = (0 : EReal) := by show (((0#32 : BitVec 32).toInt : ℝ) : EReal) = 0; norm_num
  have hk : ∀ k : Fin 1024, (if h : c.val / 16 < 4 ∧ c.val % 16 < 12 then w (ix2 k ⟨2560 + (c.val / 16 * 12 + c.val % 16), by omega⟩)
      else FloatOps.sitofp (F := Ideal) .f32 (0#32)) = (if h : c.val % 16 < 12 then w (ix2 k ⟨2560 + (c.val / 16 * 12 + c.val % 16), by omega⟩) else 0 : EReal) := by
    intro k
    by_cases h : c.val % 16 < 12
    · rw [dif_pos h, dif_pos ⟨by omega, h⟩]
    · rw [dif_neg h, dif_neg (fun h' => h h'.2), h0]
  simp only [hk]

/-- The key blocks. -/
theorem r_kc (b : Fin 2) (g : Fin 4) (n c : Fin 1024) : val_main_v59 (F := Ideal) x w (ix4 b g n c) = fb x w 1024 (by decide) b g n c := by
  pointwise [val_main_v59, val_main_v58, val_main_v57, val_main_v56, val_main_v55, val_main_v54, val_main_v53, fb, head, proj]

/-- The value blocks. -/
theorem r_vc (b : Fin 2) (g : Fin 4) (n c : Fin 1024) : val_main_v66 (F := Ideal) x w (ix4 b g n c) = fb x w 1280 (by decide) b g n c := by
  pointwise [val_main_v66, val_main_v65, val_main_v64, val_main_v63, val_main_v62, val_main_v61, val_main_v60, fb, head, proj]

/-- The block number of a position given by its two digits, as a word. -/
theorem r_digits (a b : Fin 128) : val_main_v71 (F := Ideal) (ix1 ⟨128 * a.val + b.val, by omega⟩) = BitVec.ofNat 32 ((128 * a.val + b.val) / 64 % 128) := by
  pointwise [val_main_v71, val_main_call2_v14, val_main_call2_v13, val_main_call2_v12, val_main_call2_v11, val_main_call2_v10, val_main_call2_v9, val_main_call2_v8, val_main_call2_v7, val_main_call2_v6, val_main_call2_v5, val_main_call2_v4, val_main_call2_v3, val_main_call2_v2, val_main_call2_v1, val_main_call2_v0, val_main_call2_c, val_main_call2_c_0, val_main_call2_c_1, val_main_call2_c_2, val_main_call2_c_3, val_main_v70, val_main_c_4, val_main_c_5, val_main_call1_v13, val_main_call1_v12, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_c, val_main_call1_c_0, val_main_v0]
  revert b
  revert a
  decide +kernel

/-- The block number of a position, as a word. -/
theorem r_word (p : Fin 16384) : val_main_v71 (F := Ideal) (ix1 p) = BitVec.ofNat 32 (p.val / 64 % 128) := by
  have e : 128 * (p.val / 128) + p.val % 128 = p.val := by omega
  have h := r_digits ⟨p.val / 128, by omega⟩ ⟨p.val % 128, by omega⟩
  have ep : (⟨128 * (p.val / 128) + p.val % 128, by omega⟩ : Fin 16384) = p := Fin.ext e
  have h' : val_main_v71 (F := Ideal) (ix1 ⟨128 * (p.val / 128) + p.val % 128, by omega⟩) = BitVec.ofNat 32 ((128 * (p.val / 128) + p.val % 128) / 64 % 128) := h
  rw [ep, e] at h'
  exact h'

/-- Equality of a lane with a small number, as words. -/
theorem word_eq (a : ℕ) (ha : a < 128) (l : Fin 128) : IntOp.cmpi CmpIPredicate.eq (BitVec.ofNat 32 a) (BitVec.ofNat 32 l.val) = if a = l.val then 1#1 else 0#1 := by
  rw [show a = (⟨a, ha⟩ : Fin 128).val from rfl]
  generalize (⟨a, ha⟩ : Fin 128) = a'
  revert l
  revert a'
  decide +kernel

/-- The marks. -/
theorem r_mark (b : Fin 2) (g : Fin 4) (p : Fin 16384) (l : Fin 128) : val_main_v80 (F := Ideal) (ix4 b g p l) = oneh p l := by
  pointwise [val_main_v80, val_main_v79, val_main_v78, val_main_v77, val_main_v76, val_main_v75, val_main_v74, val_main_v73, val_main_v72, val_main_cst_6, val_main_cst_7, val_main_call3_v0, val_main_call3_v1]
  rw [r_word, word_eq _ (Nat.mod_lt _ (by decide))]
  unfold oneh
  by_cases h : p.val / 64 % 128 = l.val <;> simp [h, ValueIdx.select_one, ValueIdx.select_zero]

theorem r_k2 (b : Fin 2) (p : Fin 16384) (g : Fin 4) (e : Fin 64) : val_main_v69 (F := Ideal) x w (ix4 b p g e) = head x w 1536 (by decide) b g p e := by
  pointwise [val_main_v69, val_main_v68, val_main_v67, head, proj]

theorem r_k4 (b : Fin 2) (p : Fin 16384) (g : Fin 4) (e : Fin 64) : val_main_v129 (F := Ideal) x w (ix4 b p g e) = head x w 2048 (by decide) b g p e := by
  pointwise [val_main_v129, val_main_v128, val_main_v127, head, proj]

theorem r_rot2 (b : Fin 2) (p : Fin 16384) (h : Fin 4) (d : Fin 64) : val_main_v113 (F := Ideal) x w (ix4 b p h d)
    = rot (head x w 1536 (by decide) b h p) (cs p) (sn p) d := by
  unfold rot
  pointwise [val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v94]
  simp only [r_k2, r_cos2, r_sin2]
  by_cases hd : d.val < 32
  · rw [dif_pos hd, dif_pos hd]
  · have e : (⟨32 + (d.val - 32), by omega⟩ : Fin 64) = d := Fin.ext (by show 32 + (d.val - 32) = d.val; omega)
    rw [dif_neg hd, dif_neg hd, e]

theorem r_rot4 (b : Fin 2) (p : Fin 16384) (h : Fin 4) (d : Fin 64) : val_main_v162 (F := Ideal) x w (ix4 b p h d)
    = rot (head x w 2048 (by decide) b h p) (cs p) (sn p) d := by
  unfold rot
  pointwise [val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v143]
  simp only [r_k4, r_cos3, r_sin3]
  by_cases hd : d.val < 32
  · rw [dif_pos hd, dif_pos hd]
  · have e : (⟨32 + (d.val - 32), by omega⟩ : Fin 64) = d := Fin.ext (by show 32 + (d.val - 32) = d.val; omega)
    rw [dif_neg hd, dif_neg hd, e]

theorem zero_word : FloatOps.sitofp (F := Ideal) .f32 (0#32) = (0 : EReal) := by
  show (((0#32 : BitVec 32).toInt : ℝ) : EReal) = 0
  norm_num

/-- The marked keys. -/
theorem r_ks (b : Fin 2) (g : Fin 4) (p : Fin 16384) (l : Fin 256) : val_main_v117 (F := Ideal) x w (ix4 b g p l) = fm x w 1536 (by decide) b g p l := by
  unfold fm fk
  pointwise [val_main_v117, val_main_v116, val_main_v115, val_main_v114, val_main_call4_v0, val_main_c_10]
  simp only [r_mark, r_rot2, zero_word]

/-- The window keys. -/
theorem r_kw (b : Fin 2) (g : Fin 4) (p : Fin 16384) (l : Fin 128) : val_main_v165 (F := Ideal) x w (ix4 b g p l) = fk x w 2048 (by decide) b g p l := by
  unfold fk
  pointwise [val_main_v165, val_main_v164, val_main_v163, val_main_call5_v0, val_main_c_15]
  simp only [r_rot4, zero_word]

/-- The selected values. -/
theorem r_vst (b : Fin 2) (g : Fin 4) (n : Fin 32) (r : Fin 80) (j : Fin 512) :
    val_main_v126 (F := Ideal) x w (ix5 b g n r j) = fv x w 1792 (by decide) b g ⟨n.val * 512 + j.val, by omega⟩ r := by
  unfold fv
  pointwise [val_main_v126, val_main_v125, val_main_v124, val_main_v123, val_main_v122, val_main_v121, val_main_v120, val_main_v119, val_main_v118, val_main_cst_11, val_main_cst_12, head, proj]
  by_cases h : r.val < 64
  · rw [dif_pos h, dif_pos h]
  · rw [dif_neg h, dif_neg h]
    by_cases h' : r.val = 64
    · rw [if_pos h', dif_pos (by omega)]
    · rw [if_neg h', dif_neg (by omega)]

/-- The window values. -/
theorem r_vwt (b : Fin 2) (g : Fin 4) (n : Fin 128) (r : Fin 80) (j : Fin 128) :
    val_main_v174 (F := Ideal) x w (ix5 b g n r j) = fv x w 2304 (by decide) b g ⟨n.val * 128 + j.val, by omega⟩ r := by
  unfold fv
  pointwise [val_main_v174, val_main_v173, val_main_v172, val_main_v171, val_main_v170, val_main_v169, val_main_v168, val_main_v167, val_main_v166, val_main_cst_16, val_main_cst_17, head, proj]
  by_cases h : r.val < 64
  · rw [dif_pos h, dif_pos h]
  · rw [dif_neg h, dif_neg h]
    by_cases h' : r.val = 64
    · rw [if_pos h', dif_pos (by omega)]
    · rw [if_neg h', dif_neg (by omega)]

end Cert.Proof.Nsa

end
-- ==== Proof.NsaAlg.lean ====
/-
  Hand-written. The projection call's value claim.
-/
module

public import proofs.«01_k».proof.Defs
public import proofs.«01_k».proof.Proof.NsaFin
public import proofs.«01_k».proof.Proof.NsaRef
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ReadBack
public import Idealize.ShloMosaic.Lib.Pointwise
public import Idealize.ShloMosaic.Lib.WordCmp

@[expose] public section

set_option maxRecDepth 16384

noncomputable section

namespace Cert.Proof.Nsa

open Idealize.ShloMosaic Idealize.ShloMosaic.TcCoe Idealize.SL.Sem
section Reference

open Cert.Reference5Ideal Cert.Reference5Ideal.Gen Cert.Reference5Ideal.Read

/-- The reference's result 0. -/
theorem ref6 (x : X) (w : W) : val_main_v51 (F := Ideal) x w = G6 x w := by
  funext y
  have hy : ix4 (y 0) (y 1) (y 2) (y 3) = y := by
    funext a
    fin_cases a <;> rfl
  exact (congrArg _ hy).symm.trans (r_qt x w (y 0) (y 1) (y 2) (y 3))

/-- The reference's result 1. -/
theorem ref7 (x : X) (w : W) : val_main_v52 (F := Ideal) x w = G7 x w := by
  funext y
  have hy : ix3 (y 0) (y 1) (y 2) = y := by
    funext a
    fin_cases a <;> rfl
  exact (congrArg _ hy).symm.trans (r_gt x w (y 0) (y 1) (y 2))

/-- The reference's result 2. -/
theorem ref8 (x : X) (w : W) : val_main_v59 (F := Ideal) x w = G8 x w := by
  funext y
  have hy : ix4 (y 0) (y 1) (y 2) (y 3) = y := by
    funext a
    fin_cases a <;> rfl
  exact (congrArg _ hy).symm.trans (r_kc x w (y 0) (y 1) (y 2) (y 3))

/-- The reference's result 3. -/
theorem ref9 (x : X) (w : W) : val_main_v66 (F := Ideal) x w = G9 x w := by
  funext y
  have hy : ix4 (y 0) (y 1) (y 2) (y 3) = y := by
    funext a
    fin_cases a <;> rfl
  exact (congrArg _ hy).symm.trans (r_vc x w (y 0) (y 1) (y 2) (y 3))

/-- The reference's result 4. -/
theorem ref10 (x : X) (w : W) : val_main_v117 (F := Ideal) x w = G10 x w := by
  funext y
  have hy : ix4 (y 0) (y 1) (y 2) (y 3) = y := by
    funext a
    fin_cases a <;> rfl
  exact (congrArg _ hy).symm.trans (r_ks x w (y 0) (y 1) (y 2) (y 3))

/-- The reference's result 5. -/
theorem ref11 (x : X) (w : W) : val_main_v126 (F := Ideal) x w = G11 x w := by
  funext y
  have hy : ix5 (y 0) (y 1) (y 2) (y 3) (y 4) = y := by
    funext a
    fin_cases a <;> rfl
  exact (congrArg _ hy).symm.trans (r_vst x w (y 0) (y 1) (y 2) (y 3) (y 4))

/-- The reference's result 6. -/
theorem ref12 (x : X) (w : W) : val_main_v165 (F := Ideal) x w = G12 x w := by
  funext y
  have hy : ix4 (y 0) (y 1) (y 2) (y 3) = y := by
    funext a
    fin_cases a <;> rfl
  exact (congrArg _ hy).symm.trans (r_kw x w (y 0) (y 1) (y 2) (y 3))

/-- The reference's result 7. -/
theorem ref13 (x : X) (w : W) : val_main_v174 (F := Ideal) x w = G13 x w := by
  funext y
  have hy : ix5 (y 0) (y 1) (y 2) (y 3) (y 4) = y := by
    funext a
    fin_cases a <;> rfl
  exact (congrArg _ hy).symm.trans (r_vwt x w (y 0) (y 1) (y 2) (y 3) (y 4))

end Reference

set_option maxHeartbeats 4000000 in
/-- Both programs run, and from equal arguments their results are equal. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 6 (Pipeline.Cfg.N _), fun c => (Cert.Kernel5Ideal.Gen.dats m 0 c).arrAt 7 (Pipeline.Cfg.N _), fun c => (Cert.Kernel5Ideal.Gen.dats m 0 c).arrAt 8 (Pipeline.Cfg.N _), fun c => (Cert.Kernel5Ideal.Gen.dats m 0 c).arrAt 9 (Pipeline.Cfg.N _), fun c => (Cert.Kernel5Ideal.Gen.dats m 0 c).arrAt 10 (Pipeline.Cfg.N _), fun c => (Cert.Kernel5Ideal.Gen.dats m 0 c).arrAt 11 (Pipeline.Cfg.N _), fun c => (Cert.Kernel5Ideal.Gen.dats m 0 c).arrAt 12 (Pipeline.Cfg.N _), fun c => (Cert.Kernel5Ideal.Gen.dats m 0 c).arrAt 13 (Pipeline.Cfg.N _), Cert.Kernel5Ideal.Value.run_blocks m g, ?_⟩
  refine (θ_run (Cert.Reference5Ideal.defs (F := Ideal)) _ _).mono (fun r h c => ?_) (Cert.Reference5Ideal.Value.run m' g')
  obtain ⟨v6, v7, v8, v9, v10, v11, v12, v13, h0, h1⟩ := h c
  have a0 : StableHlo.launchContents m' c (Proc.tc.devRef Cert.Reference5Ideal.main_arg0) = mx m c := (hargs c).1
  have a1 : StableHlo.launchContents m' c (Proc.tc.devRef Cert.Reference5Ideal.main_arg1) = mw m c := (hargs c).2
  refine ⟨v6.trans ?_, v7.trans ?_, v8.trans ?_, v9.trans ?_, v10.trans ?_, v11.trans ?_, v12.trans ?_, v13.trans ?_, h0, h1⟩
  · rw [Cert.Reference5Ideal.Read.val_main_v51_eq, ref6, a0, a1]
    exact (final6 m c).symm
  · rw [Cert.Reference5Ideal.Read.val_main_v52_eq, ref7, a0, a1]
    exact (final7 m c).symm
  · rw [Cert.Reference5Ideal.Read.val_main_v59_eq, ref8, a0, a1]
    exact (final8 m c).symm
  · rw [Cert.Reference5Ideal.Read.val_main_v66_eq, ref9, a0, a1]
    exact (final9 m c).symm
  · rw [Cert.Reference5Ideal.Read.val_main_v117_eq, ref10, a0, a1]
    exact (final10 m c).symm
  · rw [Cert.Reference5Ideal.Read.val_main_v126_eq, ref11, a0, a1]
    exact (final11 m c).symm
  · rw [Cert.Reference5Ideal.Read.val_main_v165_eq, ref12, a0, a1]
    exact (final12 m c).symm
  · rw [Cert.Reference5Ideal.Read.val_main_v174_eq, ref13, a0, a1]
    exact (final13 m c).symm

end Cert.Proof.Nsa

end
-- ==== Proof.lean ====
module

public import proofs.«01_k».proof.Defs
public import proofs.«01_k».proof.Proof.Gen.Kernel
public import proofs.«01_k».proof.Proof.Gen.KernelIdeal
public import proofs.«01_k».proof.Proof.Run
public import proofs.«01_k».proof.Proof.Ffn
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Mixed
public import proofs.«01_k».proof.Proof.Gmlp
public import proofs.«01_k».proof.Proof.NsaAlg
public import Idealize.ShloMosaic.Lib.Quiescent
public import Idealize.ShloMosaic.Lib.StableHlo.RunHlo
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal := fun m ρ _ => Cert.Attn.run_args (F := Ideal) m ρ

theorem rows_eq : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- The two programs' body tables are one. -/
theorem defs_eq : @Cert.Kernel.defs Bits _ _ = @Cert.KernelIdeal.defs Bits _ _ := by
  unfold Cert.Kernel.defs Cert.KernelIdeal.defs
  rw [rows_eq]
  rfl

theorem frame_kernel : Cert.quiescent_Kernel := by
  intro m ρ _
  rw [defs_eq]
  exact Cert.Attn.run_args (F := Bits) m ρ

/-- The plain feed-forward reference leaves its arguments as they were; it has no counters. -/
theorem frame_ref2 : Cert.quiescent_Reference2Ideal := fun m ρ _ =>
  θ_run_mono (Cert.Reference2Ideal.Value.run (F := Ideal) m ρ)
    fun r h => ⟨fun c => (h c).2, sem_eq_zero_of_no_sems (by decide) r.2⟩

/-- The mixed feed-forward reference leaves its arguments as they were; it has no counters. -/
theorem frame_ref3 : Cert.quiescent_Reference3Ideal := fun m ρ _ =>
  θ_run_mono (Cert.Reference3Ideal.Value.run (F := Ideal) m ρ)
    fun r h => ⟨fun c => (h c).2, sem_eq_zero_of_no_sems (by decide) r.2⟩

/-- The gating reference leaves its arguments as they were; it has no counters. -/
theorem frame_ref4 : Cert.quiescent_Reference4Ideal := fun m ρ _ =>
  θ_run_mono (Cert.Reference4Ideal.Value.run (F := Ideal) m ρ)
    fun r h => ⟨fun c => (h c).2, sem_eq_zero_of_no_sems (by decide) r.2⟩

/-- The projection reference leaves its arguments as they were; it has no counters. -/
theorem frame_ref5 : Cert.quiescent_Reference5Ideal := fun m ρ _ =>
  θ_run_mono (Cert.Reference5Ideal.Value.run (F := Ideal) m ρ)
    fun r h => ⟨fun c => (h c).2.2.2.2.2.2.2.2, sem_eq_zero_of_no_sems (by decide) r.2⟩

/-- The attention's frames, and the frames and values of the two feed-forward calls, the gating call and the projection call. -/
theorem claim : Cert.Claim :=
  ⟨Cert.Kernel.Gen.facts, Cert.KernelIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    frame_kernel, frame_ideal, fun m ρ _ => Cert.Kernel2.Gen.frame m ρ, fun m ρ _ => Cert.Kernel2Ideal.Gen.frame m ρ, frame_ref2,
    fun m ρ _ => Cert.Kernel3.Gen.frame m ρ, fun m ρ _ => Cert.Kernel3Ideal.Gen.frame m ρ, frame_ref3,
    fun m ρ _ => Cert.Kernel4.Gen.frame m ρ, fun m ρ _ => Cert.Kernel4Ideal.Gen.frame m ρ, frame_ref4,
    fun m ρ _ => Cert.Kernel5.Gen.frame m ρ, fun m ρ _ => Cert.Kernel5Ideal.Gen.frame m ρ, frame_ref5,
    trivial, trivial, Ffn.algebraic, trivial, Mixed.algebraic, trivial, Gmlp.algebraic, trivial, Nsa.algebraic⟩

end Cert.Proof

end
